-- ==== Defs.lean ====
def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_finite_inputs [hPre_finite_inputs : Cert.Pre_finite_inputs.Facts] (m : (ℓ : Loc Cert.MixInIdeal.nD Cert.MixInIdeal.τ Cert.MixInIdeal.sig) → Buf (Elt Ideal) ℓ) : Prop :=
  ∀ c : Dev Cert.MixInIdeal.nD,
    (Cert.Pre_finite_inputs.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5))).1 = (fun _ => 1#1)
    ∧ (Cert.Pre_finite_inputs.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5))).2.1 = (fun _ => 1#1)
    ∧ (Cert.Pre_finite_inputs.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5))).2.2.1 = (fun _ => 1#1)
    ∧ (Cert.Pre_finite_inputs.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5))).2.2.2 = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_finite_inputs [hPre_finite_inputs : Cert.Pre_finite_inputs.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_finite_inputs.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5))).1 = (fun _ => 1#1)
    ∧ (Cert.Pre_finite_inputs.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5))).2.1 = (fun _ => 1#1)
    ∧ (Cert.Pre_finite_inputs.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5))).2.2.1 = (fun _ => 1#1)
    ∧ (Cert.Pre_finite_inputs.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5))).2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfRefIdeal (m : (ℓ : Loc Cert.HalfRefIdeal.nD Cert.HalfRefIdeal.τ Cert.HalfRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_HeadLast (m : (ℓ : Loc Cert.HeadLast.nD Cert.HeadLast.τ Cert.HeadLast.sig) → Buf (Elt Bits) ℓ) : Prop :=
  True

def Pre_HeadLastIdeal (m : (ℓ : Loc Cert.HeadLastIdeal.nD Cert.HeadLastIdeal.τ Cert.HeadLastIdeal.sig) → Buf (Elt Ideal) ℓ) : Prop :=
  True

def Pre_HeadLastRefIdeal (m : (ℓ : Loc Cert.HeadLastRefIdeal.nD Cert.HeadLastRefIdeal.τ Cert.HeadLastRefIdeal.sig) → Buf (Elt Ideal) ℓ) : Prop :=
  True

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ r.2.sem = fun _ => 0)

def quiescent_MixInIdeal_pre_finite_inputs [hMixInIdeal : Cert.MixInIdeal.Facts] [hPre_finite_inputs : Cert.Pre_finite_inputs.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_finite_inputs m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5))
      ∧ r.2.sem = fun _ => 0)

def quiescent_MixInRefIdeal_pre_finite_inputs [hMixInRefIdeal : Cert.MixInRefIdeal.Facts] [hPre_finite_inputs : Cert.Pre_finite_inputs.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_finite_inputs m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3)
      ∧ r.2.mem ((c.tc : Thread Cert.Half.nD Cert.Half.τ).loc Cert.Half.main_arg4) = m ((c.tc : Thread Cert.Half.nD Cert.Half.τ).loc Cert.Half.main_arg4))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
      ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4))
      ∧ r.2.sem = fun _ => 0)

def quiescent_HalfRefIdeal [hHalfRefIdeal : Cert.HalfRefIdeal.Facts] : Prop :=
  ∀ (m : (ℓ : Loc Cert.HalfRefIdeal.nD Cert.HalfRefIdeal.τ Cert.HalfRefIdeal.sig) → Buf (Elt Ideal) ℓ) (g : Dev Cert.HalfRefIdeal.nD → PrngReg), Pre_HalfRefIdeal m →
    θ_run (Cert.HalfRefIdeal.defs (F := Ideal)) (onTc (τ := Cert.HalfRefIdeal.τ) (Cert.HalfRefIdeal.main (F := Ideal))) ⟨m, fun _ => 0, g⟩ (fun r => (∀ c : Dev Cert.HalfRefIdeal.nD,
      r.2.mem ((c.tc : Thread Cert.HalfRefIdeal.nD Cert.HalfRefIdeal.τ).loc Cert.HalfRefIdeal.main_arg0) = m ((c.tc : Thread Cert.HalfRefIdeal.nD Cert.HalfRefIdeal.τ).loc Cert.HalfRefIdeal.main_arg0)
      ∧ r.2.mem ((c.tc : Thread Cert.HalfRefIdeal.nD Cert.HalfRefIdeal.τ).loc Cert.HalfRefIdeal.main_arg1) = m ((c.tc : Thread Cert.HalfRefIdeal.nD Cert.HalfRefIdeal.τ).loc Cert.HalfRefIdeal.main_arg1)
      ∧ r.2.mem ((c.tc : Thread Cert.HalfRefIdeal.nD Cert.HalfRefIdeal.τ).loc Cert.HalfRefIdeal.main_arg2) = m ((c.tc : Thread Cert.HalfRefIdeal.nD Cert.HalfRefIdeal.τ).loc Cert.HalfRefIdeal.main_arg2)
      ∧ r.2.mem ((c.tc : Thread Cert.HalfRefIdeal.nD Cert.HalfRefIdeal.τ).loc Cert.HalfRefIdeal.main_arg3) = m ((c.tc : Thread Cert.HalfRefIdeal.nD Cert.HalfRefIdeal.τ).loc Cert.HalfRefIdeal.main_arg3)
      ∧ r.2.mem ((c.tc : Thread Cert.HalfRefIdeal.nD Cert.HalfRefIdeal.τ).loc Cert.HalfRefIdeal.main_arg4) = m ((c.tc : Thread Cert.HalfRefIdeal.nD Cert.HalfRefIdeal.τ).loc Cert.HalfRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3))
      ∧ r.2.sem = fun _ => 0)

def quiescent_HeadLast [hHeadLast : Cert.HeadLast.Facts] : Prop :=
  ∀ (m : (ℓ : Loc Cert.HeadLast.nD Cert.HeadLast.τ Cert.HeadLast.sig) → Buf (Elt Bits) ℓ) (g : Dev Cert.HeadLast.nD → PrngReg), Pre_HeadLast m →
    θ_run (Cert.HeadLast.defs (F := Bits)) (onTc (τ := Cert.HeadLast.τ) (Cert.HeadLast.main (F := Bits))) ⟨m, fun _ => 0, g⟩ (fun r => (∀ c : Dev Cert.HeadLast.nD,
      r.2.mem ((c.tc : Thread Cert.HeadLast.nD Cert.HeadLast.τ).loc Cert.HeadLast.main_arg0) = m ((c.tc : Thread Cert.HeadLast.nD Cert.HeadLast.τ).loc Cert.HeadLast.main_arg0)
      ∧ r.2.mem ((c.tc : Thread Cert.HeadLast.nD Cert.HeadLast.τ).loc Cert.HeadLast.main_arg1) = m ((c.tc : Thread Cert.HeadLast.nD Cert.HeadLast.τ).loc Cert.HeadLast.main_arg1)
      ∧ r.2.mem ((c.tc : Thread Cert.HeadLast.nD Cert.HeadLast.τ).loc Cert.HeadLast.main_arg2) = m ((c.tc : Thread Cert.HeadLast.nD Cert.HeadLast.τ).loc Cert.HeadLast.main_arg2)
      ∧ r.2.mem ((c.tc : Thread Cert.HeadLast.nD Cert.HeadLast.τ).loc Cert.HeadLast.main_arg3) = m ((c.tc : Thread Cert.HeadLast.nD Cert.HeadLast.τ).loc Cert.HeadLast.main_arg3)
      ∧ r.2.mem ((c.tc : Thread Cert.HeadLast.nD Cert.HeadLast.τ).loc Cert.HeadLast.main_arg4) = m ((c.tc : Thread Cert.HeadLast.nD Cert.HeadLast.τ).loc Cert.HeadLast.main_arg4))
      ∧ r.2.sem = fun _ => 0)

def quiescent_HeadLastIdeal [hHeadLastIdeal : Cert.HeadLastIdeal.Facts] : Prop :=
  ∀ (m : (ℓ : Loc Cert.HeadLastIdeal.nD Cert.HeadLastIdeal.τ Cert.HeadLastIdeal.sig) → Buf (Elt Ideal) ℓ) (g : Dev Cert.HeadLastIdeal.nD → PrngReg), Pre_HeadLastIdeal m →
    θ_run (Cert.HeadLastIdeal.defs (F := Ideal)) (onTc (τ := Cert.HeadLastIdeal.τ) (Cert.HeadLastIdeal.main (F := Ideal))) ⟨m, fun _ => 0, g⟩ (fun r => (∀ c : Dev Cert.HeadLastIdeal.nD,
      r.2.mem ((c.tc : Thread Cert.HeadLastIdeal.nD Cert.HeadLastIdeal.τ).loc Cert.HeadLastIdeal.main_arg0) = m ((c.tc : Thread Cert.HeadLastIdeal.nD Cert.HeadLastIdeal.τ).loc Cert.HeadLastIdeal.main_arg0)
      ∧ r.2.mem ((c.tc : Thread Cert.HeadLastIdeal.nD Cert.HeadLastIdeal.τ).loc Cert.HeadLastIdeal.main_arg1) = m ((c.tc : Thread Cert.HeadLastIdeal.nD Cert.HeadLastIdeal.τ).loc Cert.HeadLastIdeal.main_arg1)
      ∧ r.2.mem ((c.tc : Thread Cert.HeadLastIdeal.nD Cert.HeadLastIdeal.τ).loc Cert.HeadLastIdeal.main_arg2) = m ((c.tc : Thread Cert.HeadLastIdeal.nD Cert.HeadLastIdeal.τ).loc Cert.HeadLastIdeal.main_arg2)
      ∧ r.2.mem ((c.tc : Thread Cert.HeadLastIdeal.nD Cert.HeadLastIdeal.τ).loc Cert.HeadLastIdeal.main_arg3) = m ((c.tc : Thread Cert.HeadLastIdeal.nD Cert.HeadLastIdeal.τ).loc Cert.HeadLastIdeal.main_arg3)
      ∧ r.2.mem ((c.tc : Thread Cert.HeadLastIdeal.nD Cert.HeadLastIdeal.τ).loc Cert.HeadLastIdeal.main_arg4) = m ((c.tc : Thread Cert.HeadLastIdeal.nD Cert.HeadLastIdeal.τ).loc Cert.HeadLastIdeal.main_arg4))
      ∧ r.2.sem = fun _ => 0)

def quiescent_HeadLastRefIdeal [hHeadLastRefIdeal : Cert.HeadLastRefIdeal.Facts] : Prop :=
  ∀ (m : (ℓ : Loc Cert.HeadLastRefIdeal.nD Cert.HeadLastRefIdeal.τ Cert.HeadLastRefIdeal.sig) → Buf (Elt Ideal) ℓ) (g : Dev Cert.HeadLastRefIdeal.nD → PrngReg), Pre_HeadLastRefIdeal m →
    θ_run (Cert.HeadLastRefIdeal.defs (F := Ideal)) (onTc (τ := Cert.HeadLastRefIdeal.τ) (Cert.HeadLastRefIdeal.main (F := Ideal))) ⟨m, fun _ => 0, g⟩ (fun r => (∀ c : Dev Cert.HeadLastRefIdeal.nD,
      r.2.mem ((c.tc : Thread Cert.HeadLastRefIdeal.nD Cert.HeadLastRefIdeal.τ).loc Cert.HeadLastRefIdeal.main_arg0) = m ((c.tc : Thread Cert.HeadLastRefIdeal.nD Cert.HeadLastRefIdeal.τ).loc Cert.HeadLastRefIdeal.main_arg0)
      ∧ r.2.mem ((c.tc : Thread Cert.HeadLastRefIdeal.nD Cert.HeadLastRefIdeal.τ).loc Cert.HeadLastRefIdeal.main_arg1) = m ((c.tc : Thread Cert.HeadLastRefIdeal.nD Cert.HeadLastRefIdeal.τ).loc Cert.HeadLastRefIdeal.main_arg1)
      ∧ r.2.mem ((c.tc : Thread Cert.HeadLastRefIdeal.nD Cert.HeadLastRefIdeal.τ).loc Cert.HeadLastRefIdeal.main_arg2) = m ((c.tc : Thread Cert.HeadLastRefIdeal.nD Cert.HeadLastRefIdeal.τ).loc Cert.HeadLastRefIdeal.main_arg2)
      ∧ r.2.mem ((c.tc : Thread Cert.HeadLastRefIdeal.nD Cert.HeadLastRefIdeal.τ).loc Cert.HeadLastRefIdeal.main_arg3) = m ((c.tc : Thread Cert.HeadLastRefIdeal.nD Cert.HeadLastRefIdeal.τ).loc Cert.HeadLastRefIdeal.main_arg3)
      ∧ r.2.mem ((c.tc : Thread Cert.HeadLastRefIdeal.nD Cert.HeadLastRefIdeal.τ).loc Cert.HeadLastRefIdeal.main_arg4) = m ((c.tc : Thread Cert.HeadLastRefIdeal.nD Cert.HeadLastRefIdeal.τ).loc Cert.HeadLastRefIdeal.main_arg4))
      ∧ r.2.sem = fun _ => 0)

def preserves_MixIn_MixInIdeal : Prop :=
  True

def algebraic_MixInIdeal_MixInRefIdeal_pre_finite_inputs [hMixInIdeal : Cert.MixInIdeal.Facts] [hMixInRefIdeal : Cert.MixInRefIdeal.Facts] [hPre_finite_inputs : Cert.Pre_finite_inputs.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_finite_inputs m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)) →
    ∃ (v0 : (c : Dev Cert.MixInIdeal.nD) → Buf (Elt Ideal) ((c.tc : Thread Cert.MixInIdeal.nD Cert.MixInIdeal.τ).loc Cert.MixInIdeal.main_v12_0)) (v1 : (c : Dev Cert.MixInIdeal.nD) → Buf (Elt Ideal) ((c.tc : Thread Cert.MixInIdeal.nD Cert.MixInIdeal.τ).loc Cert.MixInIdeal.main_v12_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v12_0) = v0 c
          ∧ r.2.mem ((c.tc : Thread Cert.MixInIdeal.nD Cert.MixInIdeal.τ).loc Cert.MixInIdeal.main_v12_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v128) = v0 c
          ∧ r.2.mem ((c.tc : Thread Cert.MixInRefIdeal.nD Cert.MixInRefIdeal.τ).loc Cert.MixInRefIdeal.main_v129) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)) →
    ∃ (v0 : (c : Dev Cert.TailIdeal.nD) → Buf (Elt Ideal) ((c.tc : Thread Cert.TailIdeal.nD Cert.TailIdeal.τ).loc Cert.TailIdeal.main_v15)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v15) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v40) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5))

def preserves_Half_HalfIdeal : Prop :=
  True

def algebraic_HalfIdeal_HalfRefIdeal [hHalfIdeal : Cert.HalfIdeal.Facts] [hHalfRefIdeal : Cert.HalfRefIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfRefIdeal.nD Cert.HalfRefIdeal.τ Cert.HalfRefIdeal.sig) → Buf (Elt Ideal) ℓ) (g' : Dev Cert.HalfRefIdeal.nD → PrngReg), Pre_HalfIdeal m →
    (∀ c : Dev Cert.HalfIdeal.nD,
      m' ((c.tc : Thread Cert.HalfRefIdeal.nD Cert.HalfRefIdeal.τ).loc Cert.HalfRefIdeal.main_arg0) = m ((c.tc : Thread Cert.HalfIdeal.nD Cert.HalfIdeal.τ).loc Cert.HalfIdeal.main_arg0)
      ∧ m' ((c.tc : Thread Cert.HalfRefIdeal.nD Cert.HalfRefIdeal.τ).loc Cert.HalfRefIdeal.main_arg1) = m ((c.tc : Thread Cert.HalfIdeal.nD Cert.HalfIdeal.τ).loc Cert.HalfIdeal.main_arg1)
      ∧ m' ((c.tc : Thread Cert.HalfRefIdeal.nD Cert.HalfRefIdeal.τ).loc Cert.HalfRefIdeal.main_arg2) = m ((c.tc : Thread Cert.HalfIdeal.nD Cert.HalfIdeal.τ).loc Cert.HalfIdeal.main_arg2)
      ∧ m' ((c.tc : Thread Cert.HalfRefIdeal.nD Cert.HalfRefIdeal.τ).loc Cert.HalfRefIdeal.main_arg3) = m ((c.tc : Thread Cert.HalfIdeal.nD Cert.HalfIdeal.τ).loc Cert.HalfIdeal.main_arg3)
      ∧ m' ((c.tc : Thread Cert.HalfRefIdeal.nD Cert.HalfRefIdeal.τ).loc Cert.HalfRefIdeal.main_arg4) = m ((c.tc : Thread Cert.HalfIdeal.nD Cert.HalfIdeal.τ).loc Cert.HalfIdeal.main_arg4)) →
    ∃ (v0 : (c : Dev Cert.HalfIdeal.nD) → Buf (Elt Ideal) ((c.tc : Thread Cert.HalfIdeal.nD Cert.HalfIdeal.τ).loc Cert.HalfIdeal.main_v14)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v14) = v0 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
          ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4))
      ∧ θ_run (Cert.HalfRefIdeal.defs (F := Ideal)) (onTc (τ := Cert.HalfRefIdeal.τ) (Cert.HalfRefIdeal.main (F := Ideal))) ⟨m', fun _ => 0, g'⟩ (fun r => ∀ c : Dev Cert.HalfRefIdeal.nD,
          r.2.mem ((c.tc : Thread Cert.HalfRefIdeal.nD Cert.HalfRefIdeal.τ).loc Cert.HalfRefIdeal.main_v27) = v0 c
          ∧ r.2.mem ((c.tc : Thread Cert.HalfRefIdeal.nD Cert.HalfRefIdeal.τ).loc Cert.HalfRefIdeal.main_arg0) = m' ((c.tc : Thread Cert.HalfRefIdeal.nD Cert.HalfRefIdeal.τ).loc Cert.HalfRefIdeal.main_arg0)
          ∧ r.2.mem ((c.tc : Thread Cert.HalfRefIdeal.nD Cert.HalfRefIdeal.τ).loc Cert.HalfRefIdeal.main_arg1) = m' ((c.tc : Thread Cert.HalfRefIdeal.nD Cert.HalfRefIdeal.τ).loc Cert.HalfRefIdeal.main_arg1)
          ∧ r.2.mem ((c.tc : Thread Cert.HalfRefIdeal.nD Cert.HalfRefIdeal.τ).loc Cert.HalfRefIdeal.main_arg2) = m' ((c.tc : Thread Cert.HalfRefIdeal.nD Cert.HalfRefIdeal.τ).loc Cert.HalfRefIdeal.main_arg2)
          ∧ r.2.mem ((c.tc : Thread Cert.HalfRefIdeal.nD Cert.HalfRefIdeal.τ).loc Cert.HalfRefIdeal.main_arg3) = m' ((c.tc : Thread Cert.HalfRefIdeal.nD Cert.HalfRefIdeal.τ).loc Cert.HalfRefIdeal.main_arg3)
          ∧ r.2.mem ((c.tc : Thread Cert.HalfRefIdeal.nD Cert.HalfRefIdeal.τ).loc Cert.HalfRefIdeal.main_arg4) = m' ((c.tc : Thread Cert.HalfRefIdeal.nD Cert.HalfRefIdeal.τ).loc Cert.HalfRefIdeal.main_arg4))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)) →
    ∃ (v0 : (c : Dev Cert.HeadIdeal.nD) → Buf (Elt Ideal) ((c.tc : Thread Cert.HeadIdeal.nD Cert.HeadIdeal.τ).loc Cert.HeadIdeal.main_v5_0)) (v1 : (c : Dev Cert.HeadIdeal.nD) → Buf (Elt Ideal) ((c.tc : Thread Cert.HeadIdeal.nD Cert.HeadIdeal.τ).loc Cert.HeadIdeal.main_v5_1)) (v2 : (c : Dev Cert.HeadIdeal.nD) → Buf (Elt Ideal) ((c.tc : Thread Cert.HeadIdeal.nD Cert.HeadIdeal.τ).loc Cert.HeadIdeal.main_v5_2)) (v3 : (c : Dev Cert.HeadIdeal.nD) → Buf (Elt Ideal) ((c.tc : Thread Cert.HeadIdeal.nD Cert.HeadIdeal.τ).loc Cert.HeadIdeal.main_v5_3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v5_0) = v0 c
          ∧ r.2.mem ((c.tc : Thread Cert.HeadIdeal.nD Cert.HeadIdeal.τ).loc Cert.HeadIdeal.main_v5_1) = v1 c
          ∧ r.2.mem ((c.tc : Thread Cert.HeadIdeal.nD Cert.HeadIdeal.τ).loc Cert.HeadIdeal.main_v5_2) = v2 c
          ∧ r.2.mem ((c.tc : Thread Cert.HeadIdeal.nD Cert.HeadIdeal.τ).loc Cert.HeadIdeal.main_v5_3) = v3 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v29) = v0 c
          ∧ r.2.mem ((c.tc : Thread Cert.HeadRefIdeal.nD Cert.HeadRefIdeal.τ).loc Cert.HeadRefIdeal.main_v32) = v1 c
          ∧ r.2.mem ((c.tc : Thread Cert.HeadRefIdeal.nD Cert.HeadRefIdeal.τ).loc Cert.HeadRefIdeal.main_v35) = v2 c
          ∧ r.2.mem ((c.tc : Thread Cert.HeadRefIdeal.nD Cert.HeadRefIdeal.τ).loc Cert.HeadRefIdeal.main_v37) = v3 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3))

def preserves_HeadLast_HeadLastIdeal : Prop :=
  True

def algebraic_HeadLastIdeal_HeadLastRefIdeal [hHeadLastIdeal : Cert.HeadLastIdeal.Facts] [hHeadLastRefIdeal : Cert.HeadLastRefIdeal.Facts] : Prop :=
  ∀ (m : (ℓ : Loc Cert.HeadLastIdeal.nD Cert.HeadLastIdeal.τ Cert.HeadLastIdeal.sig) → Buf (Elt Ideal) ℓ) (g : Dev Cert.HeadLastIdeal.nD → PrngReg)
    (m' : (ℓ : Loc Cert.HeadLastRefIdeal.nD Cert.HeadLastRefIdeal.τ Cert.HeadLastRefIdeal.sig) → Buf (Elt Ideal) ℓ) (g' : Dev Cert.HeadLastRefIdeal.nD → PrngReg), Pre_HeadLastIdeal m →
    (∀ c : Dev Cert.HeadLastIdeal.nD,
      m' ((c.tc : Thread Cert.HeadLastRefIdeal.nD Cert.HeadLastRefIdeal.τ).loc Cert.HeadLastRefIdeal.main_arg0) = m ((c.tc : Thread Cert.HeadLastIdeal.nD Cert.HeadLastIdeal.τ).loc Cert.HeadLastIdeal.main_arg0)
      ∧ m' ((c.tc : Thread Cert.HeadLastRefIdeal.nD Cert.HeadLastRefIdeal.τ).loc Cert.HeadLastRefIdeal.main_arg1) = m ((c.tc : Thread Cert.HeadLastIdeal.nD Cert.HeadLastIdeal.τ).loc Cert.HeadLastIdeal.main_arg1)
      ∧ m' ((c.tc : Thread Cert.HeadLastRefIdeal.nD Cert.HeadLastRefIdeal.τ).loc Cert.HeadLastRefIdeal.main_arg2) = m ((c.tc : Thread Cert.HeadLastIdeal.nD Cert.HeadLastIdeal.τ).loc Cert.HeadLastIdeal.main_arg2)
      ∧ m' ((c.tc : Thread Cert.HeadLastRefIdeal.nD Cert.HeadLastRefIdeal.τ).loc Cert.HeadLastRefIdeal.main_arg3) = m ((c.tc : Thread Cert.HeadLastIdeal.nD Cert.HeadLastIdeal.τ).loc Cert.HeadLastIdeal.main_arg3)
      ∧ m' ((c.tc : Thread Cert.HeadLastRefIdeal.nD Cert.HeadLastRefIdeal.τ).loc Cert.HeadLastRefIdeal.main_arg4) = m ((c.tc : Thread Cert.HeadLastIdeal.nD Cert.HeadLastIdeal.τ).loc Cert.HeadLastIdeal.main_arg4)) →
    ∃ (v0 : (c : Dev Cert.HeadLastIdeal.nD) → Buf (Elt Ideal) ((c.tc : Thread Cert.HeadLastIdeal.nD Cert.HeadLastIdeal.τ).loc Cert.HeadLastIdeal.main_v6_0)) (v1 : (c : Dev Cert.HeadLastIdeal.nD) → Buf (Elt Ideal) ((c.tc : Thread Cert.HeadLastIdeal.nD Cert.HeadLastIdeal.τ).loc Cert.HeadLastIdeal.main_v6_1)) (v2 : (c : Dev Cert.HeadLastIdeal.nD) → Buf (Elt Ideal) ((c.tc : Thread Cert.HeadLastIdeal.nD Cert.HeadLastIdeal.τ).loc Cert.HeadLastIdeal.main_v6_2)) (v3 : (c : Dev Cert.HeadLastIdeal.nD) → Buf (Elt Ideal) ((c.tc : Thread Cert.HeadLastIdeal.nD Cert.HeadLastIdeal.τ).loc Cert.HeadLastIdeal.main_v6_3)),
      θ_run (Cert.HeadLastIdeal.defs (F := Ideal)) (onTc (τ := Cert.HeadLastIdeal.τ) (Cert.HeadLastIdeal.main (F := Ideal))) ⟨m, fun _ => 0, g⟩ (fun r => ∀ c : Dev Cert.HeadLastIdeal.nD,
          r.2.mem ((c.tc : Thread Cert.HeadLastIdeal.nD Cert.HeadLastIdeal.τ).loc Cert.HeadLastIdeal.main_v6_0) = v0 c
          ∧ r.2.mem ((c.tc : Thread Cert.HeadLastIdeal.nD Cert.HeadLastIdeal.τ).loc Cert.HeadLastIdeal.main_v6_1) = v1 c
          ∧ r.2.mem ((c.tc : Thread Cert.HeadLastIdeal.nD Cert.HeadLastIdeal.τ).loc Cert.HeadLastIdeal.main_v6_2) = v2 c
          ∧ r.2.mem ((c.tc : Thread Cert.HeadLastIdeal.nD Cert.HeadLastIdeal.τ).loc Cert.HeadLastIdeal.main_v6_3) = v3 c
          ∧ r.2.mem ((c.tc : Thread Cert.HeadLastIdeal.nD Cert.HeadLastIdeal.τ).loc Cert.HeadLastIdeal.main_arg0) = m ((c.tc : Thread Cert.HeadLastIdeal.nD Cert.HeadLastIdeal.τ).loc Cert.HeadLastIdeal.main_arg0)
          ∧ r.2.mem ((c.tc : Thread Cert.HeadLastIdeal.nD Cert.HeadLastIdeal.τ).loc Cert.HeadLastIdeal.main_arg1) = m ((c.tc : Thread Cert.HeadLastIdeal.nD Cert.HeadLastIdeal.τ).loc Cert.HeadLastIdeal.main_arg1)
          ∧ r.2.mem ((c.tc : Thread Cert.HeadLastIdeal.nD Cert.HeadLastIdeal.τ).loc Cert.HeadLastIdeal.main_arg2) = m ((c.tc : Thread Cert.HeadLastIdeal.nD Cert.HeadLastIdeal.τ).loc Cert.HeadLastIdeal.main_arg2)
          ∧ r.2.mem ((c.tc : Thread Cert.HeadLastIdeal.nD Cert.HeadLastIdeal.τ).loc Cert.HeadLastIdeal.main_arg3) = m ((c.tc : Thread Cert.HeadLastIdeal.nD Cert.HeadLastIdeal.τ).loc Cert.HeadLastIdeal.main_arg3)
          ∧ r.2.mem ((c.tc : Thread Cert.HeadLastIdeal.nD Cert.HeadLastIdeal.τ).loc Cert.HeadLastIdeal.main_arg4) = m ((c.tc : Thread Cert.HeadLastIdeal.nD Cert.HeadLastIdeal.τ).loc Cert.HeadLastIdeal.main_arg4))
      ∧ θ_run (Cert.HeadLastRefIdeal.defs (F := Ideal)) (onTc (τ := Cert.HeadLastRefIdeal.τ) (Cert.HeadLastRefIdeal.main (F := Ideal))) ⟨m', fun _ => 0, g'⟩ (fun r => ∀ c : Dev Cert.HeadLastRefIdeal.nD,
          r.2.mem ((c.tc : Thread Cert.HeadLastRefIdeal.nD Cert.HeadLastRefIdeal.τ).loc Cert.HeadLastRefIdeal.main_v42) = v0 c
          ∧ r.2.mem ((c.tc : Thread Cert.HeadLastRefIdeal.nD Cert.HeadLastRefIdeal.τ).loc Cert.HeadLastRefIdeal.main_v45) = v1 c
          ∧ r.2.mem ((c.tc : Thread Cert.HeadLastRefIdeal.nD Cert.HeadLastRefIdeal.τ).loc Cert.HeadLastRefIdeal.main_v48) = v2 c
          ∧ r.2.mem ((c.tc : Thread Cert.HeadLastRefIdeal.nD Cert.HeadLastRefIdeal.τ).loc Cert.HeadLastRefIdeal.main_v50) = v3 c
          ∧ r.2.mem ((c.tc : Thread Cert.HeadLastRefIdeal.nD Cert.HeadLastRefIdeal.τ).loc Cert.HeadLastRefIdeal.main_arg0) = m' ((c.tc : Thread Cert.HeadLastRefIdeal.nD Cert.HeadLastRefIdeal.τ).loc Cert.HeadLastRefIdeal.main_arg0)
          ∧ r.2.mem ((c.tc : Thread Cert.HeadLastRefIdeal.nD Cert.HeadLastRefIdeal.τ).loc Cert.HeadLastRefIdeal.main_arg1) = m' ((c.tc : Thread Cert.HeadLastRefIdeal.nD Cert.HeadLastRefIdeal.τ).loc Cert.HeadLastRefIdeal.main_arg1)
          ∧ r.2.mem ((c.tc : Thread Cert.HeadLastRefIdeal.nD Cert.HeadLastRefIdeal.τ).loc Cert.HeadLastRefIdeal.main_arg2) = m' ((c.tc : Thread Cert.HeadLastRefIdeal.nD Cert.HeadLastRefIdeal.τ).loc Cert.HeadLastRefIdeal.main_arg2)
          ∧ r.2.mem ((c.tc : Thread Cert.HeadLastRefIdeal.nD Cert.HeadLastRefIdeal.τ).loc Cert.HeadLastRefIdeal.main_arg3) = m' ((c.tc : Thread Cert.HeadLastRefIdeal.nD Cert.HeadLastRefIdeal.τ).loc Cert.HeadLastRefIdeal.main_arg3)
          ∧ r.2.mem ((c.tc : Thread Cert.HeadLastRefIdeal.nD Cert.HeadLastRefIdeal.τ).loc Cert.HeadLastRefIdeal.main_arg4) = m' ((c.tc : Thread Cert.HeadLastRefIdeal.nD Cert.HeadLastRefIdeal.τ).loc Cert.HeadLastRefIdeal.main_arg4))

def Claim : Prop :=
  ∃ (hMixIn : Cert.MixIn.Facts) (hMixInIdeal : Cert.MixInIdeal.Facts) (hMixInRefIdeal : Cert.MixInRefIdeal.Facts) (hTail : Cert.Tail.Facts) (hTailIdeal : Cert.TailIdeal.Facts) (hTailRefIdeal : Cert.TailRefIdeal.Facts) (hHalf : Cert.Half.Facts) (hHalfIdeal : Cert.HalfIdeal.Facts) (hHalfRefIdeal : Cert.HalfRefIdeal.Facts) (hHead : Cert.Head.Facts) (hHeadIdeal : Cert.HeadIdeal.Facts) (hHeadRefIdeal : Cert.HeadRefIdeal.Facts) (hHeadLast : Cert.HeadLast.Facts) (hHeadLastIdeal : Cert.HeadLastIdeal.Facts) (hHeadLastRefIdeal : Cert.HeadLastRefIdeal.Facts) (hPre_finite_inputs : Cert.Pre_finite_inputs.Facts),
    quiescent_MixIn (hMixIn := hMixIn)
    ∧ quiescent_MixInIdeal (hMixInIdeal := hMixInIdeal)
    ∧ quiescent_MixInIdeal_pre_finite_inputs (hMixInIdeal := hMixInIdeal) (hPre_finite_inputs := hPre_finite_inputs)
    ∧ quiescent_MixInRefIdeal (hMixInRefIdeal := hMixInRefIdeal)
    ∧ quiescent_MixInRefIdeal_pre_finite_inputs (hMixInRefIdeal := hMixInRefIdeal) (hPre_finite_inputs := hPre_finite_inputs)
    ∧ quiescent_Tail (hTail := hTail)
    ∧ quiescent_TailIdeal (hTailIdeal := hTailIdeal)
    ∧ quiescent_TailRefIdeal (hTailRefIdeal := hTailRefIdeal)
    ∧ quiescent_Half (hHalf := hHalf)
    ∧ quiescent_HalfIdeal (hHalfIdeal := hHalfIdeal)
    ∧ quiescent_HalfRefIdeal (hHalfRefIdeal := hHalfRefIdeal)
    ∧ quiescent_Head (hHead := hHead)
    ∧ quiescent_HeadIdeal (hHeadIdeal := hHeadIdeal)
    ∧ quiescent_HeadRefIdeal (hHeadRefIdeal := hHeadRefIdeal)
    ∧ quiescent_HeadLast (hHeadLast := hHeadLast)
    ∧ quiescent_HeadLastIdeal (hHeadLastIdeal := hHeadLastIdeal)
    ∧ quiescent_HeadLastRefIdeal (hHeadLastRefIdeal := hHeadLastRefIdeal)
    ∧ preserves_MixIn_MixInIdeal
    ∧ algebraic_MixInIdeal_MixInRefIdeal_pre_finite_inputs (hMixInIdeal := hMixInIdeal) (hMixInRefIdeal := hMixInRefIdeal) (hPre_finite_inputs := hPre_finite_inputs)
    ∧ preserves_Tail_TailIdeal
    ∧ algebraic_TailIdeal_TailRefIdeal (hTailIdeal := hTailIdeal) (hTailRefIdeal := hTailRefIdeal)
    ∧ preserves_Half_HalfIdeal
    ∧ algebraic_HalfIdeal_HalfRefIdeal (hHalfIdeal := hHalfIdeal) (hHalfRefIdeal := hHalfRefIdeal)
    ∧ preserves_Head_HeadIdeal
    ∧ algebraic_HeadIdeal_HeadRefIdeal (hHeadIdeal := hHeadIdeal) (hHeadRefIdeal := hHeadRefIdeal)
    ∧ preserves_HeadLast_HeadLastIdeal
    ∧ algebraic_HeadLastIdeal_HeadLastRefIdeal (hHeadLastIdeal := hHeadLastIdeal) (hHeadLastRefIdeal := hHeadLastRefIdeal)
-- ==== Pre_finite_inputs.lean ====
abbrev S4x4096x2048 : Shape := ⟨3, ![4, 4096, 2048]⟩
abbrev S1x2048 : Shape := ⟨2, ![1, 2048]⟩
abbrev S1x2048x7168 : Shape := ⟨3, ![1, 2048, 7168]⟩
abbrev S1x7168 : Shape := ⟨2, ![1, 7168]⟩
abbrev S1x4x256x256 : Shape := ⟨4, ![1, 4, 256, 256]⟩
abbrev S1x1024 : Shape := ⟨2, ![1, 1024]⟩
abbrev S_ : Shape := ⟨0, ![]⟩

class Facts : Prop where
  bcast_S_S4x4096x2048 : S_.BroadcastsInDim S4x4096x2048 (![] : Fin 0 → Fin S4x4096x2048.rank)
  bcast_S_S1x2048 : S_.BroadcastsInDim S1x2048 (![] : Fin 0 → Fin S1x2048.rank)
  bcast_S_S1x2048x7168 : S_.BroadcastsInDim S1x2048x7168 (![] : Fin 0 → Fin S1x2048x7168.rank)
  bcast_S_S1x7168 : S_.BroadcastsInDim S1x7168 (![] : Fin 0 → Fin S1x7168.rank)

variable [Facts]

def fn {F : FTy → Type} [FloatOps F] (main_arg0 : FVec F S4x4096x2048 .f32) (main_arg1 : FVec F S1x2048 .f32) (main_arg2 : FVec F S1x2048x7168 .f32) (main_arg3 : FVec F S1x7168 .f32) (main_arg4 : FVec F S1x4x256x256 .f32) (main_arg5 : FVec F S1x1024 .f32) : IVec S4x4096x2048 1 × IVec S1x2048 1 × IVec S1x2048x7168 1 × IVec S1x7168 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x7168 .f32 := Host.absf main_arg2
  let main_cst_1 : FVec F S_ .f32 := constant S_ .f32 0x7F800000#32
  let main_v7 : FVec F S1x2048x7168 .f32 := broadcastInDim S1x2048x7168 ![] bcast_S_S1x2048x7168 main_cst_1
  let main_v8 : IVec S1x2048x7168 1 := cmpf .olt main_v6 main_v7
  let main_v9 : FVec F S1x7168 .f32 := Host.absf main_arg3
  let main_cst_2 : FVec F S_ .f32 := constant S_ .f32 0x7F800000#32
  let main_v10 : FVec F S1x7168 .f32 := broadcastInDim S1x7168 ![] bcast_S_S1x7168 main_cst_2
  let main_v11 : IVec S1x7168 1 := cmpf .olt main_v9 main_v10
  (main_v2, main_v5, main_v8, main_v11)
-- ==== MixIn.lean ====
abbrev S4x4096x2048 : Shape := ⟨3, ![4, 4096, 2048]⟩
abbrev S1x2048 : Shape := ⟨2, ![1, 2048]⟩
abbrev S1x2048x7168 : Shape := ⟨3, ![1, 2048, 7168]⟩
abbrev S1x7168 : Shape := ⟨2, ![1, 7168]⟩
abbrev S1x4x256x256 : Shape := ⟨4, ![1, 4, 256, 256]⟩
abbrev S1x1024 : Shape := ⟨2, ![1, 1024]⟩
abbrev S16384x2048 : Shape := ⟨2, ![16384, 2048]⟩
abbrev S2048x7168 : Shape := ⟨2, ![2048, 7168]⟩
abbrev S2048 : Shape := ⟨1, ![2048]⟩
abbrev S7168 : Shape := ⟨1, ![7168]⟩
abbrev S3072 : Shape := ⟨1, ![3072]⟩
abbrev S1x3072 : Shape := ⟨2, ![1, 3072]⟩
abbrev S4x256x256 : Shape := ⟨3, ![4, 256, 256]⟩
abbrev S1024 : Shape := ⟨1, ![1024]⟩
abbrev S16384x1024 : Shape := ⟨2, ![16384, 1024]⟩
abbrev S512x2048 : Shape := ⟨2, ![512, 2048]⟩
abbrev S32x2048 : Shape := ⟨2, ![32, 2048]⟩
abbrev S2048x3072 : Shape := ⟨2, ![2048, 3072]⟩
abbrev S512x1024 : Shape := ⟨2, ![512, 1024]⟩
abbrev S544x2048 : Shape := ⟨2, ![544, 2048]⟩
abbrev S544x1024 : Shape := ⟨2, ![544, 1024]⟩
abbrev S32 : Shape := ⟨1, ![32]⟩
abbrev S32x1 : Shape := ⟨2, ![32, 1]⟩
abbrev S256x2048 : Shape := ⟨2, ![256, 2048]⟩
abbrev S256 : Shape := ⟨1, ![256]⟩
abbrev S256x1 : Shape := ⟨2, ![256, 1]⟩
abbrev S288x2048 : Shape := ⟨2, ![288, 2048]⟩
abbrev S2048x1024 : Shape := ⟨2, ![2048, 1024]⟩
abbrev S288x1024 : Shape := ⟨2, ![288, 1024]⟩
abbrev S32x1024 : Shape := ⟨2, ![32, 1024]⟩
abbrev S256x1024 : Shape := ⟨2, ![256, 1024]⟩
abbrev S512x1 : Shape := ⟨2, ![512, 1]⟩
abbrev S2048x256 : Shape := ⟨2, ![2048, 256]⟩
abbrev S512x256 : Shape := ⟨2, ![512, 256]⟩
abbrev S1x256 : Shape := ⟨2, ![1, 256]⟩
abbrev S536x256 : Shape := ⟨2, ![536, 256]⟩
abbrev S1x256x256 : Shape := ⟨3, ![1, 256, 256]⟩
abbrev S256x256 : Shape := ⟨2, ![256, 256]⟩
abbrev S528x256 : Shape := ⟨2, ![528, 256]⟩
abbrev S520x256 : Shape := ⟨2, ![520, 256]⟩

abbrev nBuf : Space → Nat
  | .hbm => 20
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x7168, .f32⟩
  | .hbm, ⟨3, _⟩ => ⟨S1x7168, .f32⟩
  | .hbm, ⟨4, _⟩ => ⟨S1x4x256x256, .f32⟩
  | .hbm, ⟨5, _⟩ => ⟨S1x1024, .f32⟩
  | .hbm, ⟨6, _⟩ => ⟨S16384x2048, .f32⟩
  | .hbm, ⟨7, _⟩ => ⟨S2048x7168, .f32⟩
  | .hbm, ⟨8, _⟩ => ⟨S2048x7168, .bf16⟩
  | .hbm, ⟨9, _⟩ => ⟨S2048, .f32⟩
  | .hbm, ⟨10, _⟩ => ⟨S1x2048, .f32⟩
  | .hbm, ⟨11, _⟩ => ⟨S7168, .f32⟩
  | .hbm, ⟨12, _⟩ => ⟨S3072, .f32⟩
  | .hbm, ⟨13, _⟩ => ⟨S1x3072, .f32⟩
  | .hbm, ⟨14, _⟩ => ⟨S4x256x256, .f32⟩
  | .hbm, ⟨15, _⟩ => ⟨S4x256x256, .bf16⟩
  | .hbm, ⟨16, _⟩ => ⟨S1024, .f32⟩
  | .hbm, ⟨17, _⟩ => ⟨S1x1024, .f32⟩
  | .hbm, ⟨18, _⟩ => ⟨S16384x1024, .bf16⟩
  | .hbm, ⟨19, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S32x2048, .f32⟩
  | .local _ .vmem, ⟨3, _⟩ => ⟨S32x2048, .f32⟩
  | .local _ .vmem, ⟨4, _⟩ => ⟨S1x2048, .f32⟩
  | .local _ .vmem, ⟨5, _⟩ => ⟨S2048x3072, .bf16⟩
  | .local _ .vmem, ⟨6, _⟩ => ⟨S1x3072, .f32⟩
  | .local _ .vmem, ⟨7, _⟩ => ⟨S4x256x256, .bf16⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S544x2048, .bf16⟩
  | .local _ .vmem, ⟨14, _⟩ => ⟨S544x1024, .f32⟩
  | .local _ .vmem, ⟨15, _⟩ => ⟨S544x1024, .f32⟩
  | .local _ .vmem, ⟨16, _⟩ => ⟨S544x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixInRefIdeal.lean ====
abbrev S4x4096x2048 : Shape := ⟨3, ![4, 4096, 2048]⟩
abbrev S1x2048 : Shape := ⟨2, ![1, 2048]⟩
abbrev S1x2048x7168 : Shape := ⟨3, ![1, 2048, 7168]⟩
abbrev S1x7168 : Shape := ⟨2, ![1, 7168]⟩
abbrev S1x4x256x256 : Shape := ⟨4, ![1, 4, 256, 256]⟩
abbrev S1x1024 : Shape := ⟨2, ![1, 1024]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x7168 : Shape := ⟨2, ![2048, 7168]⟩
abbrev S4x4096x7168 : Shape := ⟨3, ![4, 4096, 7168]⟩
abbrev S7168 : Shape := ⟨1, ![7168]⟩
abbrev S1x1x7168 : Shape := ⟨3, ![1, 1, 7168]⟩
abbrev S4x4096x1024 : Shape := ⟨3, ![4, 4096, 1024]⟩
abbrev S4x4097x1024 : Shape := ⟨3, ![4, 4097, 1024]⟩
abbrev S4096 : Shape := ⟨1, ![4096]⟩
abbrev S4x4096x256 : Shape := ⟨3, ![4, 4096, 256]⟩
abbrev S4x4097x256 : Shape := ⟨3, ![4, 4097, 256]⟩
abbrev S4096x1 : Shape := ⟨2, ![4096, 1]⟩
abbrev S1 : Shape := ⟨1, ![1]⟩
abbrev S1x1 : Shape := ⟨2, ![1, 1]⟩
abbrev S1x4096x1 : Shape := ⟨3, ![1, 4096, 1]⟩
abbrev S4x4096x1x256 : Shape := ⟨4, ![4, 4096, 1, 256]⟩
abbrev S4x4096x4x256 : Shape := ⟨4, ![4, 4096, 4, 256]⟩
abbrev S4x256x256 : Shape := ⟨3, ![4, 256, 256]⟩
abbrev S4x256x4x4096 : Shape := ⟨4, ![4, 256, 4, 4096]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 253
  | .vmem => 0
  | .smem => 0
  | _ => 0

abbrev hbmTy0_0 (i : Nat) : BufTy := match i % 128 with
  | 0 => ⟨S4x4096x2048, .f32⟩
  | 1 => ⟨S1x2048, .f32⟩
  | 2 => ⟨S1x2048x7168, .f32⟩
  | 3 => ⟨S1x7168, .f32⟩
  | 4 => ⟨S1x4x256x256, .f32⟩
  | 5 => ⟨S1x1024, .f32⟩
  | 6 => ⟨S2048, .f32⟩
  | 7 => ⟨S4x4096x2048, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x2048, .f32⟩
  | 19 => ⟨S4x4096x2048, .f32⟩
  | 20 => ⟨S1x1x2048, .f32⟩
  | 21 => ⟨S4x4096x2048, .f32⟩
  | 22 => ⟨S4x4096x2048, .f32⟩
  | 23 => ⟨S2048x7168, .f32⟩
  | 24 => ⟨S4x4096x7168, .f32⟩
  | 25 => ⟨S7168, .f32⟩
  | 26 => ⟨S1x1x7168, .f32⟩
  | 27 => ⟨S4x4096x7168, .f32⟩
  | 28 => ⟨S4x4096x7168, .f32⟩
  | 29 => ⟨S4x4096x1024, .f32⟩
  | 30 => ⟨S4x4096x2048, .f32⟩
  | 31 => ⟨S_, .f32⟩
  | 32 => ⟨S_, .f32⟩
  | 33 => ⟨S4x4096x1024, .f32⟩
  | 34 => ⟨S_, .i32⟩
  | 35 => ⟨S_, .f32⟩
  | 36 => ⟨S4x4097x1024, .f32⟩
  | 37 => ⟨S4096, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4x4096x256, .f32⟩
  | 48 => ⟨S4x4097x256, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S1, .i32⟩
  | 58 => ⟨S_, .i32⟩
  | 59 => ⟨S4096x1, .i32⟩
  | 60 => ⟨S4096x1, .i1⟩
  | 61 => ⟨S1x1, .i32⟩
  | 62 => ⟨S4096x1, .i32⟩
  | 63 => ⟨S4096x1, .i1⟩
  | 64 => ⟨S4096x1, .i1⟩
  | 65 => ⟨S_, .i1⟩
  | 66 => ⟨S4096, .i1⟩
  | 67 => ⟨S4x4096x256, .f32⟩
  | 68 => ⟨S4x4096x256, .i1⟩
  | 69 => ⟨S_, .f32⟩
  | 70 => ⟨S4x4096x256, .f32⟩
  | 71 => ⟨S4x4096x256, .f32⟩
  | 72 => ⟨S4x4096x256, .f32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S4096, .f32⟩
  | 80 => ⟨S1x4096x1, .f32⟩
  | 81 => ⟨S4x4096x256, .f32⟩
  | 82 => ⟨S4x4096x256, .f32⟩
  | 83 => ⟨S4x4096x256, .f32⟩
  | 84 => ⟨S4x4096x256, .f32⟩
  | 85 => ⟨S_, .i32⟩
  | 86 => ⟨S4096, .i32⟩
  | 87 => ⟨S4096, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S4x4096x256, .f32⟩
  | 95 => ⟨S4x4097x256, .f32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S1, .i32⟩
  | 105 => ⟨S_, .i32⟩
  | 106 => ⟨S4096x1, .i32⟩
  | 107 => ⟨S4096x1, .i1⟩
  | 108 => ⟨S1x1, .i32⟩
  | 109 => ⟨S4096x1, .i32⟩
  | 110 => ⟨S4096x1, .i1⟩
  | 111 => ⟨S4096x1, .i1⟩
  | 112 => ⟨S_, .i1⟩
  | 113 => ⟨S4096, .i1⟩
  | 114 => ⟨S4x4096x256, .f32⟩
  | 115 => ⟨S4x4096x256, .i1⟩
  | 116 => ⟨S_, .f32⟩
  | 117 => ⟨S4x4096x256, .f32⟩
  | 118 => ⟨S4x4096x256, .f32⟩
  | 119 => ⟨S4x4096x256, .f32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S4096, .f32⟩
  | 127 => ⟨S1x4096x1, .f32⟩
  | _ => ⟨S4x4096x2048, .f32⟩

abbrev hbmTy0_1 (i : Nat) : BufTy := match i % 128 with
  | 0 => ⟨S4x4096x256, .f32⟩
  | 1 => ⟨S4x4096x256, .f32⟩
  | 2 => ⟨S4x4096x256, .f32⟩
  | 3 => ⟨S4x4096x256, .f32⟩
  | 4 => ⟨S_, .i32⟩
  | 5 => ⟨S4096, .i32⟩
  | 6 => ⟨S4096, .i32⟩
  | 7 => ⟨S_, .i32⟩
  | 8 => ⟨S4096, .i32⟩
  | 9 => ⟨S4096, .i32⟩
  | 10 => ⟨S_, .i32⟩
  | 11 => ⟨S4096, .i32⟩
  | 12 => ⟨S4096, .i32⟩
  | 13 => ⟨S4x4096x256, .f32⟩
  | 14 => ⟨S4x4097x256, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S1, .i32⟩
  | 24 => ⟨S_, .i32⟩
  | 25 => ⟨S4096x1, .i32⟩
  | 26 => ⟨S4096x1, .i1⟩
  | 27 => ⟨S1x1, .i32⟩
  | 28 => ⟨S4096x1, .i32⟩
  | 29 => ⟨S4096x1, .i1⟩
  | 30 => ⟨S4096x1, .i1⟩
  | 31 => ⟨S_, .i1⟩
  | 32 => ⟨S4096, .i1⟩
  | 33 => ⟨S4x4096x256, .f32⟩
  | 34 => ⟨S4x4096x256, .i1⟩
  | 35 => ⟨S_, .f32⟩
  | 36 => ⟨S4x4096x256, .f32⟩
  | 37 => ⟨S4x4096x256, .f32⟩
  | 38 => ⟨S4x4096x256, .f32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096, .f32⟩
  | 46 => ⟨S1x4096x1, .f32⟩
  | 47 => ⟨S4x4096x256, .f32⟩
  | 48 => ⟨S4x4096x256, .f32⟩
  | 49 => ⟨S4x4096x256, .f32⟩
  | 50 => ⟨S4x4096x256, .f32⟩
  | 51 => ⟨S_, .i32⟩
  | 52 => ⟨S4096, .i32⟩
  | 53 => ⟨S4096, .i32⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S4x4096x256, .f32⟩
  | 61 => ⟨S4x4097x256, .f32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S1, .i32⟩
  | 71 => ⟨S_, .i32⟩
  | 72 => ⟨S4096x1, .i32⟩
  | 73 => ⟨S4096x1, .i1⟩
  | 74 => ⟨S1x1, .i32⟩
  | 75 => ⟨S4096x1, .i32⟩
  | 76 => ⟨S4096x1, .i1⟩
  | 77 => ⟨S4096x1, .i1⟩
  | 78 => ⟨S_, .i1⟩
  | 79 => ⟨S4096, .i1⟩
  | 80 => ⟨S4x4096x256, .f32⟩
  | 81 => ⟨S4x4096x256, .i1⟩
  | 82 => ⟨S_, .f32⟩
  | 83 => ⟨S4x4096x256, .f32⟩
  | 84 => ⟨S4x4096x256, .f32⟩
  | 85 => ⟨S4x4096x256, .f32⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S4096, .f32⟩
  | 93 => ⟨S1x4096x1, .f32⟩
  | 94 => ⟨S4x4096x256, .f32⟩
  | 95 => ⟨S4x4096x256, .f32⟩
  | 96 => ⟨S4x4096x256, .f32⟩
  | 97 => ⟨S4x4096x256, .f32⟩
  | 98 => ⟨S4x4096x1x256, .f32⟩
  | 99 => ⟨S4x4096x1x256, .f32⟩
  | 100 => ⟨S4x4096x1x256, .f32⟩
  | 101 => ⟨S4x4096x1x256, .f32⟩
  | 102 => ⟨S4x4096x4x256, .f32⟩
  | 103 => ⟨S4x256x256, .f32⟩
  | 104 => ⟨S4x256x4x4096, .f32⟩
  | 105 => ⟨S4x4096x4x256, .f32⟩
  | 106 => ⟨S4x4096x1024, .f32⟩
  | 107 => ⟨S1024, .f32⟩
  | 108 => ⟨S1x1x1024, .f32⟩
  | 109 => ⟨S4x4096x1024, .f32⟩
  | 110 => ⟨S4x4096x1024, .f32⟩
  | 111 => ⟨S4x4096x1024, .f32⟩
  | 112 => ⟨S4x4096x1024, .f32⟩
  | 113 => ⟨S4x4096x1024, .f32⟩
  | 114 => ⟨S4x4096x1024, .f32⟩
  | 115 => ⟨S_, .f32⟩
  | 116 => ⟨S4x4096x1024, .f32⟩
  | 117 => ⟨S4x4096x1024, .f32⟩
  | 118 => ⟨S_, .f32⟩
  | 119 => ⟨S4x4096x1024, .f32⟩
  | 120 => ⟨S4x4096x1024, .f32⟩
  | 121 => ⟨S4x4096x1024, .f32⟩
  | 122 => ⟨S16384x1024, .f32⟩
  | 123 => ⟨S16384x1024, .bf16⟩
  | 124 => ⟨S16384x1024, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_call0_cst : Ref sig .tc := ⟨.hbm, 31, rfl⟩
abbrev main_call0_call0_v0 : Ref sig .tc := ⟨.hbm, 32, rfl⟩
abbrev main_v22 : Ref sig .tc := ⟨.hbm, 33, rfl⟩
abbrev main_c : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_call2_cst : Ref sig .tc := ⟨.hbm, 69, rfl⟩
abbrev main_call2_v15 : Ref sig .tc := ⟨.hbm, 70, rfl⟩
abbrev main_v33 : Ref sig .tc := ⟨.hbm, 71, rfl⟩
abbrev main_v34 : Ref sig .tc := ⟨.hbm, 72, rfl⟩
abbrev main_c_5 : Ref sig .tc := ⟨.hbm, 73, rfl⟩
abbrev main_v35 : Ref sig .tc := ⟨.hbm, 74, rfl⟩
abbrev main_v36 : Ref sig .tc := ⟨.hbm, 75, rfl⟩
abbrev main_c_6 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_c_7 : Ref sig .tc := ⟨.hbm, 85, rfl⟩
abbrev main_v45 : Ref sig .tc := ⟨.hbm, 86, rfl⟩
abbrev main_v46 : Ref sig .tc := ⟨.hbm, 87, rfl⟩
abbrev main_c_8 : Ref sig .tc := ⟨.hbm, 88, rfl⟩
abbrev main_v47 : Ref sig .tc := ⟨.hbm, 89, rfl⟩
abbrev main_v48 : Ref sig .tc := ⟨.hbm, 90, rfl⟩
abbrev main_c_9 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v53 : Ref sig .tc := ⟨.hbm, 118, rfl⟩
abbrev main_v54 : Ref sig .tc := ⟨.hbm, 119, rfl⟩
abbrev main_c_10 : Ref sig .tc := ⟨.hbm, 120, rfl⟩
abbrev main_v55 : Ref sig .tc := ⟨.hbm, 121, rfl⟩
abbrev main_v56 : Ref sig .tc := ⟨.hbm, 122, rfl⟩
abbrev main_c_11 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_c_12 : Ref sig .tc := ⟨.hbm, 132, rfl⟩
abbrev main_v65 : Ref sig .tc := ⟨.hbm, 133, rfl⟩
abbrev main_v66 : Ref sig .tc := ⟨.hbm, 134, rfl⟩
abbrev main_c_13 : Ref sig .tc := ⟨.hbm, 135, rfl⟩
abbrev main_v67 : Ref sig .tc := ⟨.hbm, 136, rfl⟩
abbrev main_v68 : Ref sig .tc := ⟨.hbm, 137, rfl⟩
abbrev main_c_14 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_call4_c : Ref sig .tc := ⟨.hbm, 143, rfl⟩
abbrev main_call4_v0 : Ref sig .tc := ⟨.hbm, 144, rfl⟩
abbrev main_call4_v1 : Ref sig .tc := ⟨.hbm, 145, rfl⟩
abbrev main_call4_c_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_c_1 : Ref sig .tc := ⟨.hbm, 151, rfl⟩
abbrev main_call4_c_2 : Ref sig .tc := ⟨.hbm, 152, rfl⟩
abbrev main_call4_v6 : Ref sig .tc := ⟨.hbm, 153, rfl⟩
abbrev main_call4_v7 : Ref sig .tc := ⟨.hbm, 154, rfl⟩
abbrev main_call4_v8 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_c_3 : Ref sig .tc := ⟨.hbm, 159, rfl⟩
abbrev main_call4_v12 : Ref sig .tc := ⟨.hbm, 160, rfl⟩
abbrev main_call4_v13 : Ref sig .tc := ⟨.hbm, 161, rfl⟩
abbrev main_call4_v14 : Ref sig .tc := ⟨.hbm, 162, rfl⟩
abbrev main_call4_cst : Ref sig .tc := ⟨.hbm, 163, rfl⟩
abbrev main_call4_v15 : Ref sig .tc := ⟨.hbm, 164, rfl⟩
abbrev main_v73 : Ref sig .tc := ⟨.hbm, 165, rfl⟩
abbrev main_v74 : Ref sig .tc := ⟨.hbm, 166, rfl⟩
abbrev main_c_15 : Ref sig .tc := ⟨.hbm, 167, rfl⟩
abbrev main_v75 : Ref sig .tc := ⟨.hbm, 168, rfl⟩
abbrev main_v76 : Ref sig .tc := ⟨.hbm, 169, rfl⟩
abbrev main_c_16 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_c_17 : Ref sig .tc := ⟨.hbm, 179, rfl⟩
abbrev main_v85 : Ref sig .tc := ⟨.hbm, 180, rfl⟩
abbrev main_v86 : Ref sig .tc := ⟨.hbm, 181, rfl⟩
abbrev main_c_18 : Ref sig .tc := ⟨.hbm, 182, rfl⟩
abbrev main_v87 : Ref sig .tc := ⟨.hbm, 183, rfl⟩
abbrev main_v88 : Ref sig .tc := ⟨.hbm, 184, rfl⟩
abbrev main_c_19 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_call5_c : Ref sig .tc := ⟨.hbm, 190, rfl⟩
abbrev main_call5_v0 : Ref sig .tc := ⟨.hbm, 191, rfl⟩
abbrev main_call5_v1 : Ref sig .tc := ⟨.hbm, 192, rfl⟩
abbrev main_call5_c_0 : Ref sig .tc := ⟨.hbm, 193, rfl⟩
abbrev main_call5_v2 : Ref sig .tc := ⟨.hbm, 194, rfl⟩
abbrev main_call5_v3 : Ref sig .tc := ⟨.hbm, 195, rfl⟩
abbrev main_call5_v4 : Ref sig .tc := ⟨.hbm, 196, rfl⟩
abbrev main_call5_v5 : Ref sig .tc := ⟨.hbm, 197, rfl⟩
abbrev main_call5_c_1 : Ref sig .tc := ⟨.hbm, 198, rfl⟩
abbrev main_call5_c_2 : Ref sig .tc := ⟨.hbm, 199, rfl⟩
abbrev main_call5_v6 : Ref sig .tc := ⟨.hbm, 200, rfl⟩
abbrev main_call5_v7 : Ref sig .tc := ⟨.hbm, 201, rfl⟩
abbrev main_call5_v8 : Ref sig .tc := ⟨.hbm, 202, rfl⟩
abbrev main_call5_v9 : Ref sig .tc := ⟨.hbm, 203, rfl⟩
abbrev main_call5_v10 : Ref sig .tc := ⟨.hbm, 204, rfl⟩
abbrev main_call5_v11 : Ref sig .tc := ⟨.hbm, 205, rfl⟩
abbrev main_call5_c_3 : Ref sig .tc := ⟨.hbm, 206, rfl⟩
abbrev main_call5_v12 : Ref sig .tc := ⟨.hbm, 207, rfl⟩
abbrev main_call5_v13 : Ref sig .tc := ⟨.hbm, 208, rfl⟩
abbrev main_call5_v14 : Ref sig .tc := ⟨.hbm, 209, rfl⟩
abbrev main_call5_cst : Ref sig .tc := ⟨.hbm, 210, rfl⟩
abbrev main_call5_v15 : Ref sig .tc := ⟨.hbm, 211, rfl⟩
abbrev main_v93 : Ref sig .tc := ⟨.hbm, 212, rfl⟩
abbrev main_v94 : Ref sig .tc := ⟨.hbm, 213, rfl⟩
abbrev main_c_20 : Ref sig .tc := ⟨.hbm, 214, rfl⟩
abbrev main_v95 : Ref sig .tc := ⟨.hbm, 215, rfl⟩
abbrev main_v96 : Ref sig .tc := ⟨.hbm, 216, rfl⟩
abbrev main_c_21 : Ref sig .tc := ⟨.hbm, 217, rfl⟩
abbrev main_v97 : Ref sig .tc := ⟨.hbm, 218, rfl⟩
abbrev main_v98 : Ref sig .tc := ⟨.hbm, 219, rfl⟩
abbrev main_v99 : Ref sig .tc := ⟨.hbm, 220, rfl⟩
abbrev main_v100 : Ref sig .tc := ⟨.hbm, 221, rfl⟩
abbrev main_v101 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩
abbrev main_v105 : Ref sig .tc := ⟨.hbm, 226, rfl⟩
abbrev main_v106 : Ref sig .tc := ⟨.hbm, 227, rfl⟩
abbrev main_v107 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_v120 : Ref sig .tc := ⟨.hbm, 241, rfl⟩
abbrev main_v121 : Ref sig .tc := ⟨.hbm, 242, rfl⟩
abbrev main_cst_22 : Ref sig .tc := ⟨.hbm, 243, rfl⟩
abbrev main_v122 : Ref sig .tc := ⟨.hbm, 244, rfl⟩
abbrev main_v123 : Ref sig .tc := ⟨.hbm, 245, rfl⟩
abbrev main_cst_23 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩

abbrev nD : Nat := 1
abbrev τ : Topo := Topo.v7x

variable {F : FTy → Type} [FloatOps F]
-- ==== Tail.lean ====
abbrev S4x4096x2048 : Shape := ⟨3, ![4, 4096, 2048]⟩
abbrev S1024x2048 : Shape := ⟨2, ![1024, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S16384x2048 : Shape := ⟨2, ![16384, 2048]⟩
abbrev S2048x11264 : Shape := ⟨2, ![2048, 11264]⟩
abbrev S5632x2048 : Shape := ⟨2, ![5632, 2048]⟩
abbrev S2048x5632 : Shape := ⟨2, ![2048, 5632]⟩
abbrev S2048x22x256 : Shape := ⟨3, ![2048, 22, 256]⟩
abbrev S22x2048x256 : Shape := ⟨3, ![22, 2048, 256]⟩
abbrev S1024x256 : Shape := ⟨2, ![1024, 256]⟩
abbrev S2x2048x256 : Shape := ⟨3, ![2, 2048, 256]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S1x2048x256 : Shape := ⟨3, ![1, 2048, 256]⟩
abbrev S2048x256 : Shape := ⟨2, ![2048, 256]⟩
abbrev S256x256 : Shape := ⟨2, ![256, 256]⟩
abbrev S256x512 : Shape := ⟨2, ![256, 512]⟩
abbrev S512x512 : Shape := ⟨2, ![512, 512]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 22
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S1024x2048, .f32⟩
  | .hbm, ⟨2, _⟩ => ⟨S1x2048, .f32⟩
  | .hbm, ⟨3, _⟩ => ⟨S1x2048x11264, .f32⟩
  | .hbm, ⟨4, _⟩ => ⟨S1x5632x2048, .f32⟩
  | .hbm, ⟨5, _⟩ => ⟨S2048, .f32⟩
  | .hbm, ⟨6, _⟩ => ⟨S16384x2048, .f32⟩
  | .hbm, ⟨7, _⟩ => ⟨S2048, .f32⟩
  | .hbm, ⟨8, _⟩ => ⟨S2048x11264, .f32⟩
  | .hbm, ⟨9, _⟩ => ⟨S5632x2048, .f32⟩
  | .hbm, ⟨10, _⟩ => ⟨S1x2048, .f32⟩
  | .hbm, ⟨11, _⟩ => ⟨S2048x5632, .f32⟩
  | .hbm, ⟨12, _⟩ => ⟨S2048x22x256, .f32⟩
  | .hbm, ⟨13, _⟩ => ⟨S22x2048x256, .f32⟩
  | .hbm, ⟨14, _⟩ => ⟨S22x2048x256, .bf16⟩
  | .hbm, ⟨15, _⟩ => ⟨S2048x5632, .f32⟩
  | .hbm, ⟨16, _⟩ => ⟨S2048x22x256, .f32⟩
  | .hbm, ⟨17, _⟩ => ⟨S22x2048x256, .f32⟩
  | .hbm, ⟨18, _⟩ => ⟨S22x2048x256, .bf16⟩
  | .hbm, ⟨19, _⟩ => ⟨S5632x2048, .bf16⟩
  | .hbm, ⟨20, _⟩ => ⟨S1x2048, .f32⟩
  | .hbm, ⟨21, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1024x256, .f32⟩
  | .local _ .vmem, ⟨3, _⟩ => ⟨S1024x256, .f32⟩
  | .local _ .vmem, ⟨4, _⟩ => ⟨S1x2048, .f32⟩
  | .local _ .vmem, ⟨5, _⟩ => ⟨S2x2048x256, .bf16⟩
  | .local _ .vmem, ⟨6, _⟩ => ⟨S2x2048x256, .bf16⟩
  | .local _ .vmem, ⟨7, _⟩ => ⟨S2x2048x256, .bf16⟩
  | .local _ .vmem, ⟨8, _⟩ => ⟨S2x2048x256, .bf16⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 11], ![false, false]⟩

def k0_cond10 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond13 (i : grid0.Coords) : BitVec 1 :=
  let arg1 : BitVec 32 := BitVec.ofNat 32 (i 1).val
  let c10_i32_7 : BitVec 32 := 10#32
  let v14 : BitVec 1 := Scalar.cmpi .eq arg1 c10_i32_7
  let v15 : BitVec 32 := Scalar.extui v14
  let c0_i32_8 : BitVec 32 := 0#32
  let v16 : BitVec 1 := Scalar.cmpi .ne v15 c0_i32_8
  v16

@[reducible] def k0_t1_loop : Scf.Loop 32 :=
  let c0_i32_61 : BitVec 32 := 0#32
  let c8_i32 : BitVec 32 := 8#32
  let v87 : BitVec 32 := Scalar.addi c0_i32_61 c8_i32
  let c1_i32 : BitVec 32 := 1#32
  ⟨c0_i32_61, v87, c1_i32⟩
def k0_mult1 (k0_t1 : Fin k0_t1_loop.trips) : BitVec 32 :=
  let c0_i32_61 : BitVec 32 := 0#32
  let c1_i32 : BitVec 32 := 1#32
  let arg11 : BitVec 32 := Scf.iv c0_i32_61 c1_i32 k0_t1
  let c128_i32 : BitVec 32 := 128#32
  let v88 : BitVec 32 := Scalar.muli arg11 c128_i32
  v88
def k0_off1 (k0_t1 : Fin k0_t1_loop.trips) : Fin 2 → Nat :=
  let c0_i32_61 : BitVec 32 := 0#32
  let c1_i32 : BitVec 32 := 1#32
  let arg11 : BitVec 32 := Scf.iv c0_i32_61 c1_i32 k0_t1
  let c128_i32 : BitVec 32 := 128#32
  let v88 : BitVec 32 := Scalar.muli arg11 c128_i32
  let v89 : BitVec 32 := v88
  let v90 : Index := Scalar.indexCast v89
  let c0_63 : Index := 0#32
  ![v90.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_5 : BitVec 32 := 0#32
  let v11 : BitVec 1 := Scalar.cmpi .ne v10 c0_i32_5
  v11

def k0_cond4 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_6 : BitVec 32 := 0#32
  let v14 : BitVec 1 := Scalar.cmpi .ne v13 c0_i32_6
  v14

def k0_cond5 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def k0_cond6 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_8 : BitVec 32 := 0#32
  let v20 : BitVec 1 := Scalar.cmpi .ne v19 c0_i32_8
  v20

def k0_cond7 (i : grid0.Coords) : BitVec 1 :=
  let arg1 : BitVec 32 := BitVec.ofNat 32 (i 1).val
  let c5_i32 : BitVec 32 := 5#32
  let v21 : BitVec 1 := Scalar.cmpi .eq arg1 c5_i32
  let v22 : BitVec 32 := Scalar.extui v21
  let c0_i32_9 : BitVec 32 := 0#32
  let v23 : BitVec 1 := Scalar.cmpi .ne v22 c0_i32_9
  v23

def k0_cond8 (i : grid0.Coords) : BitVec 1 :=
  let arg1 : BitVec 32 := BitVec.ofNat 32 (i 1).val
  let c6_i32 : BitVec 32 := 6#32
  let v24 : BitVec 1 := Scalar.cmpi .eq arg1 c6_i32
  let v25 : BitVec 32 := Scalar.extui v24
  let c0_i32_10 : BitVec 32 := 0#32
  let v26 : BitVec 1 := Scalar.cmpi .ne v25 c0_i32_10
  v26

def k0_cond9 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_11 : BitVec 32 := 0#32
  let v29 : BitVec 1 := Scalar.cmpi .ne v28 c0_i32_11
  v29

def k0_cond11 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def k0_cond12 (i : grid0.Coords) : BitVec 1 :=
  let arg1 : BitVec 32 := BitVec.ofNat 32 (i 1).val
  let c0_i32_5 : BitVec 32 := 0#32
  let v9 : BitVec 1 := Scalar.cmpi .sgt arg1 c0_i32_5
  let c10_i32 : BitVec 32 := 10#32
  let v10 : BitVec 1 := Scalar.cmpi .slt arg1 c10_i32
  let v11 : BitVec 1 := Scalar.andi v9 v10
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.minsi arg1 c7_i32
  let c7_i32_0 : BitVec 32 := 7#32
  let v2 : BitVec 32 := Scalar.select v0 v1 c7_i32_0
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  ![v1.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== TailRefIdeal.lean ====
abbrev S4x4096x2048 : Shape := ⟨3, ![4, 4096, 2048]⟩
abbrev S1024x2048 : Shape := ⟨2, ![1024, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x11264 : Shape := ⟨2, ![2048, 11264]⟩
abbrev S5632x2048 : Shape := ⟨2, ![5632, 2048]⟩
abbrev S4x4096x11264 : Shape := ⟨3, ![4, 4096, 11264]⟩
abbrev S4x4096x5632 : Shape := ⟨3, ![4, 4096, 5632]⟩
abbrev S16384x2048 : Shape := ⟨2, ![16384, 2048]⟩
abbrev S15360x2048 : Shape := ⟨2, ![15360, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1024x2048, .f32⟩
  | .hbm, ⟨2, _⟩ => ⟨S1x2048, .f32⟩
  | .hbm, ⟨3, _⟩ => ⟨S1x2048x11264, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S2048x11264, .f32⟩
  | .hbm, ⟨24, _⟩ => ⟨S5632x2048, .f32⟩
  | .hbm, ⟨25, _⟩ => ⟨S4x4096x11264, .f32⟩
  | .hbm, ⟨26, _⟩ => ⟨S4x4096x5632, .f32⟩
  | .hbm, ⟨27, _⟩ => ⟨S4x4096x5632, .f32⟩
  | .hbm, ⟨28, _⟩ => ⟨S4x4096x5632, .f32⟩
  | .hbm, ⟨29, _⟩ => ⟨S4x4096x5632, .f32⟩
  | .hbm, ⟨30, _⟩ => ⟨S_, .f32⟩
  | .hbm, ⟨31, _⟩ => ⟨S4x4096x5632, .f32⟩
  | .hbm, ⟨32, _⟩ => ⟨S4x4096x5632, .f32⟩
  | .hbm, ⟨33, _⟩ => ⟨S_, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S4x4096x5632, .f32⟩
  | .hbm, ⟨38, _⟩ => ⟨S4x4096x2048, .f32⟩
  | .hbm, ⟨39, _⟩ => ⟨S_, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S16384x2048, .f32⟩
  | .hbm, ⟨60, _⟩ => ⟨S15360x2048, .f32⟩
  | .hbm, ⟨61, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Half.lean ====
abbrev S4x4096x2048 : Shape := ⟨3, ![4, 4096, 2048]⟩
abbrev S1024x2048 : Shape := ⟨2, ![1024, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S2048x5632 : Shape := ⟨2, ![2048, 5632]⟩
abbrev S2048x22x256 : Shape := ⟨3, ![2048, 22, 256]⟩
abbrev S22x2048x256 : Shape := ⟨3, ![22, 2048, 256]⟩
abbrev S1024x256 : Shape := ⟨2, ![1024, 256]⟩
abbrev S2x2048x256 : Shape := ⟨3, ![2, 2048, 256]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S1x2048x256 : Shape := ⟨3, ![1, 2048, 256]⟩
abbrev S2048x256 : Shape := ⟨2, ![2048, 256]⟩
abbrev S256x256 : Shape := ⟨2, ![256, 256]⟩
abbrev S256x512 : Shape := ⟨2, ![256, 512]⟩
abbrev S512x512 : Shape := ⟨2, ![512, 512]⟩
abbrev S1024x512 : Shape := ⟨2, ![1024, 512]⟩

abbrev nBuf : Space → Nat
  | .hbm => 20
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S1024x2048, .f32⟩
  | .hbm, ⟨2, _⟩ => ⟨S1x2048, .f32⟩
  | .hbm, ⟨3, _⟩ => ⟨S1x2048x11264, .f32⟩
  | .hbm, ⟨4, _⟩ => ⟨S1x5632x2048, .f32⟩
  | .hbm, ⟨5, _⟩ => ⟨S16384x2048, .f32⟩
  | .hbm, ⟨6, _⟩ => ⟨S2048, .f32⟩
  | .hbm, ⟨7, _⟩ => ⟨S2048x11264, .f32⟩
  | .hbm, ⟨8, _⟩ => ⟨S5632x2048, .f32⟩
  | .hbm, ⟨9, _⟩ => ⟨S1x2048, .f32⟩
  | .hbm, ⟨10, _⟩ => ⟨S2048x5632, .f32⟩
  | .hbm, ⟨11, _⟩ => ⟨S2048x22x256, .f32⟩
  | .hbm, ⟨12, _⟩ => ⟨S22x2048x256, .f32⟩
  | .hbm, ⟨13, _⟩ => ⟨S22x2048x256, .bf16⟩
  | .hbm, ⟨14, _⟩ => ⟨S2048x5632, .f32⟩
  | .hbm, ⟨15, _⟩ => ⟨S2048x22x256, .f32⟩
  | .hbm, ⟨16, _⟩ => ⟨S22x2048x256, .f32⟩
  | .hbm, ⟨17, _⟩ => ⟨S22x2048x256, .bf16⟩
  | .hbm, ⟨18, _⟩ => ⟨S5632x2048, .bf16⟩
  | .hbm, ⟨19, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1024x256, .f32⟩
  | .local _ .vmem, ⟨3, _⟩ => ⟨S1024x256, .f32⟩
  | .local _ .vmem, ⟨4, _⟩ => ⟨S1x2048, .f32⟩
  | .local _ .vmem, ⟨5, _⟩ => ⟨S2x2048x256, .bf16⟩
  | .local _ .vmem, ⟨6, _⟩ => ⟨S2x2048x256, .bf16⟩
  | .local _ .vmem, ⟨7, _⟩ => ⟨S2x2048x256, .bf16⟩
  | .local _ .vmem, ⟨8, _⟩ => ⟨S2x2048x256, .bf16⟩
  | .local _ .vmem, ⟨9, _⟩ => ⟨S512x2048, .bf16⟩
  | .local _ .vmem, ⟨10, _⟩ => ⟨S512x2048, .bf16⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_5 : BitVec 32 := 0#32
  let v11 : BitVec 1 := Scalar.cmpi .ne v10 c0_i32_5
  v11

def k0_cond4 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_6 : BitVec 32 := 0#32
  let v14 : BitVec 1 := Scalar.cmpi .ne v13 c0_i32_6
  v14

def k0_cond5 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def k0_cond6 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_8 : BitVec 32 := 0#32
  let v20 : BitVec 1 := Scalar.cmpi .ne v19 c0_i32_8
  v20

def k0_cond7 (i : grid0.Coords) : BitVec 1 :=
  let arg1 : BitVec 32 := BitVec.ofNat 32 (i 1).val
  let c5_i32 : BitVec 32 := 5#32
  let v21 : BitVec 1 := Scalar.cmpi .eq arg1 c5_i32
  let v22 : BitVec 32 := Scalar.extui v21
  let c0_i32_9 : BitVec 32 := 0#32
  let v23 : BitVec 1 := Scalar.cmpi .ne v22 c0_i32_9
  v23

def k0_cond8 (i : grid0.Coords) : BitVec 1 :=
  let arg1 : BitVec 32 := BitVec.ofNat 32 (i 1).val
  let c6_i32 : BitVec 32 := 6#32
  let v24 : BitVec 1 := Scalar.cmpi .eq arg1 c6_i32
  let v25 : BitVec 32 := Scalar.extui v24
  let c0_i32_10 : BitVec 32 := 0#32
  let v26 : BitVec 1 := Scalar.cmpi .ne v25 c0_i32_10
  v26

def k0_cond9 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_11 : BitVec 32 := 0#32
  let v29 : BitVec 1 := Scalar.cmpi .ne v28 c0_i32_11
  v29

def k0_cond10 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond11 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def k0_cond12 (i : grid0.Coords) : BitVec 1 :=
  let arg1 : BitVec 32 := BitVec.ofNat 32 (i 1).val
  let c0_i32_5 : BitVec 32 := 0#32
  let v9 : BitVec 1 := Scalar.cmpi .sgt arg1 c0_i32_5
  let c10_i32 : BitVec 32 := 10#32
  let v10 : BitVec 1 := Scalar.cmpi .slt arg1 c10_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond13 (i : grid0.Coords) : BitVec 1 :=
  let arg1 : BitVec 32 := BitVec.ofNat 32 (i 1).val
  let c10_i32_7 : BitVec 32 := 10#32
  let v14 : BitVec 1 := Scalar.cmpi .eq arg1 c10_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.minsi arg1 c7_i32
  let c7_i32_0 : BitVec 32 := 7#32
  let v2 : BitVec 32 := Scalar.select v0 v1 c7_i32_0
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  ![v1.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== HalfRefIdeal.lean ====
abbrev S4x4096x2048 : Shape := ⟨3, ![4, 4096, 2048]⟩
abbrev S1024x2048 : Shape := ⟨2, ![1024, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x11264 : Shape := ⟨2, ![2048, 11264]⟩
abbrev S5632x2048 : Shape := ⟨2, ![5632, 2048]⟩
abbrev S4x4096x11264 : Shape := ⟨3, ![4, 4096, 11264]⟩
abbrev S4x4096x5632 : Shape := ⟨3, ![4, 4096, 5632]⟩
abbrev S16384x2048 : Shape := ⟨2, ![16384, 2048]⟩
abbrev S15360x2048 : Shape := ⟨2, ![15360, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1024x2048, .f32⟩
  | .hbm, ⟨2, _⟩ => ⟨S1x2048, .f32⟩
  | .hbm, ⟨3, _⟩ => ⟨S1x2048x11264, .f32⟩
  | .hbm, ⟨4, _⟩ => ⟨S1x5632x2048, .f32⟩
  | .hbm, ⟨5, _⟩ => ⟨S2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S2048x11264, .f32⟩
  | .hbm, ⟨23, _⟩ => ⟨S5632x2048, .f32⟩
  | .hbm, ⟨24, _⟩ => ⟨S4x4096x11264, .f32⟩
  | .hbm, ⟨25, _⟩ => ⟨S4x4096x5632, .f32⟩
  | .hbm, ⟨26, _⟩ => ⟨S4x4096x5632, .f32⟩
  | .hbm, ⟨27, _⟩ => ⟨S4x4096x5632, .f32⟩
  | .hbm, ⟨28, _⟩ => ⟨S4x4096x5632, .f32⟩
  | .hbm, ⟨29, _⟩ => ⟨S_, .f32⟩
  | .hbm, ⟨30, _⟩ => ⟨S4x4096x5632, .f32⟩
  | .hbm, ⟨31, _⟩ => ⟨S4x4096x5632, .f32⟩
  | .hbm, ⟨32, _⟩ => ⟨S_, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S4x4096x2048, .f32⟩
  | .hbm, ⟨38, _⟩ => ⟨S_, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S16384x2048, .f32⟩
  | .hbm, ⟨43, _⟩ => ⟨S15360x2048, .f32⟩
  | .hbm, ⟨44, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Head.lean ====
abbrev S4x4096x2048 : Shape := ⟨3, ![4, 4096, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S1024x2048 : Shape := ⟨2, ![1024, 2048]⟩
abbrev S22x2048x256 : Shape := ⟨3, ![22, 2048, 256]⟩
abbrev S2048x256 : Shape := ⟨2, ![2048, 256]⟩
abbrev S256x2048 : Shape := ⟨2, ![256, 2048]⟩
abbrev S1x2048x256 : Shape := ⟨3, ![1, 2048, 256]⟩
abbrev S256 : Shape := ⟨1, ![256]⟩
abbrev S256x1 : Shape := ⟨2, ![256, 1]⟩
abbrev S256x256 : Shape := ⟨2, ![256, 256]⟩
abbrev S256x512 : Shape := ⟨2, ![256, 512]⟩
abbrev S1024x256 : Shape := ⟨2, ![1024, 256]⟩
abbrev S1024x512 : Shape := ⟨2, ![1024, 512]⟩

abbrev nBuf : Space → Nat
  | .hbm => 13
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S2048x11264, .f32⟩
  | .hbm, ⟨8, _⟩ => ⟨S5632x2048, .f32⟩
  | .hbm, ⟨9, _⟩ => ⟨S1024x2048, .f32⟩
  | .hbm, ⟨10, _⟩ => ⟨S22x2048x256, .bf16⟩
  | .hbm, ⟨11, _⟩ => ⟨S22x2048x256, .bf16⟩
  | .hbm, ⟨12, _⟩ => ⟨S5632x2048, .bf16⟩
  | .local _ .vmem, ⟨0, _⟩ => ⟨S1024x2048, .f32⟩
  | .local _ .vmem, ⟨1, _⟩ => ⟨S1x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1024x2048, .f32⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S256x2048, .bf16⟩
  | .local _ .vmem, ⟨14, _⟩ => ⟨S256x2048, .bf16⟩
  | .local _ .vmem, ⟨15, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_13 : BitVec 32 := 0#32
  let v18 : BitVec 1 := Scalar.cmpi .ne v17 c0_i32_13
  v18

def k0_cond2 (i : grid0.Coords) : BitVec 1 :=
  let arg0 : BitVec 32 := BitVec.ofNat 32 (i 0).val
  let c0_i32_14 : BitVec 32 := 0#32
  let v19 : BitVec 1 := Scalar.cmpi .sgt arg0 c0_i32_14
  let c21_i32 : BitVec 32 := 21#32
  let v20 : BitVec 1 := Scalar.cmpi .slt arg0 c21_i32
  let v21 : BitVec 1 := Scalar.andi v19 v20
  let v22 : BitVec 32 := Scalar.extui v21
  let c0_i32_15 : BitVec 32 := 0#32
  let v23 : BitVec 1 := Scalar.cmpi .ne v22 c0_i32_15
  v23

def k0_cond3 (i : grid0.Coords) : BitVec 1 :=
  let arg0 : BitVec 32 := BitVec.ofNat 32 (i 0).val
  let c21_i32_16 : BitVec 32 := 21#32
  let v24 : BitVec 1 := Scalar.cmpi .eq arg0 c21_i32_16
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HeadRefIdeal.lean ====
abbrev S4x4096x2048 : Shape := ⟨3, ![4, 4096, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048x11264 : Shape := ⟨2, ![2048, 11264]⟩
abbrev S2048x5632 : Shape := ⟨2, ![2048, 5632]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S5632x2048 : Shape := ⟨2, ![5632, 2048]⟩
abbrev S4x4096x11264 : Shape := ⟨3, ![4, 4096, 11264]⟩
abbrev S4x4096x5632 : Shape := ⟨3, ![4, 4096, 5632]⟩
abbrev S16384x2048 : Shape := ⟨2, ![16384, 2048]⟩
abbrev S1024x2048 : Shape := ⟨2, ![1024, 2048]⟩
abbrev S2048x22x256 : Shape := ⟨3, ![2048, 22, 256]⟩
abbrev S22x2048x256 : Shape := ⟨3, ![22, 2048, 256]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048x11264, .f32⟩
  | .hbm, ⟨5, _⟩ => ⟨S2048x5632, .f32⟩
  | .hbm, ⟨6, _⟩ => ⟨S2048x5632, .f32⟩
  | .hbm, ⟨7, _⟩ => ⟨S2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S2048x11264, .f32⟩
  | .hbm, ⟨25, _⟩ => ⟨S5632x2048, .f32⟩
  | .hbm, ⟨26, _⟩ => ⟨S4x4096x11264, .f32⟩
  | .hbm, ⟨27, _⟩ => ⟨S4x4096x5632, .f32⟩
  | .hbm, ⟨28, _⟩ => ⟨S4x4096x5632, .f32⟩
  | .hbm, ⟨29, _⟩ => ⟨S4x4096x5632, .f32⟩
  | .hbm, ⟨30, _⟩ => ⟨S4x4096x5632, .f32⟩
  | .hbm, ⟨31, _⟩ => ⟨S_, .f32⟩
  | .hbm, ⟨32, _⟩ => ⟨S4x4096x5632, .f32⟩
  | .hbm, ⟨33, _⟩ => ⟨S4x4096x5632, .f32⟩
  | .hbm, ⟨34, _⟩ => ⟨S_, .f32⟩
  | .hbm, ⟨35, _⟩ => ⟨S4x4096x5632, .f32⟩
  | .hbm, ⟨36, _⟩ => ⟨S4x4096x5632, .f32⟩
  | .hbm, ⟨37, _⟩ => ⟨S4x4096x5632, .f32⟩
  | .hbm, ⟨38, _⟩ => ⟨S4x4096x5632, .f32⟩
  | .hbm, ⟨39, _⟩ => ⟨S4x4096x2048, .f32⟩
  | .hbm, ⟨40, _⟩ => ⟨S_, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S16384x2048, .f32⟩
  | .hbm, ⟨45, _⟩ => ⟨S1024x2048, .f32⟩
  | .hbm, ⟨46, _⟩ => ⟨S2048x22x256, .f32⟩
  | .hbm, ⟨47, _⟩ => ⟨S22x2048x256, .f32⟩
  | .hbm, ⟨48, _⟩ => ⟨S22x2048x256, .bf16⟩
  | .hbm, ⟨49, _⟩ => ⟨S2048x22x256, .f32⟩
  | .hbm, ⟨50, _⟩ => ⟨S22x2048x256, .f32⟩
  | .hbm, ⟨51, _⟩ => ⟨S22x2048x256, .bf16⟩
  | .hbm, ⟨52, _⟩ => ⟨S5632x2048, .f32⟩
  | .hbm, ⟨53, _⟩ => ⟨S5632x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== HeadLast.lean ====
abbrev S4x4096x2048 : Shape := ⟨3, ![4, 4096, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S16384x2048 : Shape := ⟨2, ![16384, 2048]⟩
abbrev S2048x11264 : Shape := ⟨2, ![2048, 11264]⟩
abbrev S5632x2048 : Shape := ⟨2, ![5632, 2048]⟩
abbrev S1024x2048 : Shape := ⟨2, ![1024, 2048]⟩
abbrev S22x2048x256 : Shape := ⟨3, ![22, 2048, 256]⟩
abbrev S2048x256 : Shape := ⟨2, ![2048, 256]⟩
abbrev S256x2048 : Shape := ⟨2, ![256, 2048]⟩
abbrev S1x2048x256 : Shape := ⟨3, ![1, 2048, 256]⟩
abbrev S256 : Shape := ⟨1, ![256]⟩
abbrev S256x1 : Shape := ⟨2, ![256, 1]⟩
abbrev S256x256 : Shape := ⟨2, ![256, 256]⟩
abbrev S256x512 : Shape := ⟨2, ![256, 512]⟩
abbrev S1024x256 : Shape := ⟨2, ![1024, 256]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 15
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S2048x11264, .f32⟩
  | .hbm, ⟨9, _⟩ => ⟨S5632x2048, .f32⟩
  | .hbm, ⟨10, _⟩ => ⟨S1x2048, .f32⟩
  | .hbm, ⟨11, _⟩ => ⟨S1024x2048, .f32⟩
  | .hbm, ⟨12, _⟩ => ⟨S22x2048x256, .bf16⟩
  | .hbm, ⟨13, _⟩ => ⟨S22x2048x256, .bf16⟩
  | .hbm, ⟨14, _⟩ => ⟨S5632x2048, .bf16⟩
  | .local _ .vmem, ⟨0, _⟩ => ⟨S1024x2048, .f32⟩
  | .local _ .vmem, ⟨1, _⟩ => ⟨S1x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1024x2048, .f32⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S256x2048, .bf16⟩
  | .local _ .vmem, ⟨15, _⟩ => ⟨S256x2048, .bf16⟩
  | .local _ .vmem, ⟨16, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![22], ![false]⟩

def k0_cond3 (i : grid0.Coords) : BitVec 1 :=
  let arg0 : BitVec 32 := BitVec.ofNat 32 (i 0).val
  let c21_i32_16 : BitVec 32 := 21#32
  let v24 : BitVec 1 := Scalar.cmpi .eq arg0 c21_i32_16
  let v25 : BitVec 32 := Scalar.extui v24
  let c0_i32_17 : BitVec 32 := 0#32
  let v26 : BitVec 1 := Scalar.cmpi .ne v25 c0_i32_17
  v26

@[reducible] def k0_t1_loop : Scf.Loop 32 :=
  let c0_i32_64 : BitVec 32 := 0#32
  let c8_i32 : BitVec 32 := 8#32
  let v86 : BitVec 32 := Scalar.addi c0_i32_64 c8_i32
  let c1_i32 : BitVec 32 := 1#32
  ⟨c0_i32_64, v86, c1_i32⟩
def k0_mult1 (k0_t1 : Fin k0_t1_loop.trips) : BitVec 32 :=
  let c0_i32_64 : BitVec 32 := 0#32
  let c1_i32 : BitVec 32 := 1#32
  let arg12 : BitVec 32 := Scf.iv c0_i32_64 c1_i32 k0_t1
  let c128_i32 : BitVec 32 := 128#32
  let v87 : BitVec 32 := Scalar.muli arg12 c128_i32
  v87
def k0_off1 (k0_t1 : Fin k0_t1_loop.trips) : Fin 2 → Nat :=
  let c0_i32_64 : BitVec 32 := 0#32
  let c1_i32 : BitVec 32 := 1#32
  let arg12 : BitVec 32 := Scf.iv c0_i32_64 c1_i32 k0_t1
  let c128_i32 : BitVec 32 := 128#32
  let v87 : BitVec 32 := Scalar.muli arg12 c128_i32
  let v88 : BitVec 32 := v87
  let v89 : Index := Scalar.indexCast v88
  let c0_66 : Index := 0#32
  ![v89.toNat, 0]
def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_13 : BitVec 32 := 0#32
  let v18 : BitVec 1 := Scalar.cmpi .ne v17 c0_i32_13
  v18

def k0_cond2 (i : grid0.Coords) : BitVec 1 :=
  let arg0 : BitVec 32 := BitVec.ofNat 32 (i 0).val
  let c0_i32_14 : BitVec 32 := 0#32
  let v19 : BitVec 1 := Scalar.cmpi .sgt arg0 c0_i32_14
  let c21_i32 : BitVec 32 := 21#32
  let v20 : BitVec 1 := Scalar.cmpi .slt arg0 c21_i32
  let v21 : BitVec 1 := Scalar.andi v19 v20
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== HeadLastRefIdeal.lean ====
abbrev S4x4096x2048 : Shape := ⟨3, ![4, 4096, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x11264 : Shape := ⟨2, ![2048, 11264]⟩
abbrev S2048x5632 : Shape := ⟨2, ![2048, 5632]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S5632x2048 : Shape := ⟨2, ![5632, 2048]⟩
abbrev S4x4096x11264 : Shape := ⟨3, ![4, 4096, 11264]⟩
abbrev S4x4096x5632 : Shape := ⟨3, ![4, 4096, 5632]⟩
abbrev S16384x2048 : Shape := ⟨2, ![16384, 2048]⟩
abbrev S1024x2048 : Shape := ⟨2, ![1024, 2048]⟩
abbrev S2048x22x256 : Shape := ⟨3, ![2048, 22, 256]⟩
abbrev S22x2048x256 : Shape := ⟨3, ![22, 2048, 256]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S2048x11264, .f32⟩
  | .hbm, ⟨6, _⟩ => ⟨S2048x5632, .f32⟩
  | .hbm, ⟨7, _⟩ => ⟨S2048x5632, .f32⟩
  | .hbm, ⟨8, _⟩ => ⟨S2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S2048x11264, .f32⟩
  | .hbm, ⟨26, _⟩ => ⟨S5632x2048, .f32⟩
  | .hbm, ⟨27, _⟩ => ⟨S4x4096x11264, .f32⟩
  | .hbm, ⟨28, _⟩ => ⟨S4x4096x5632, .f32⟩
  | .hbm, ⟨29, _⟩ => ⟨S4x4096x5632, .f32⟩
  | .hbm, ⟨30, _⟩ => ⟨S4x4096x5632, .f32⟩
  | .hbm, ⟨31, _⟩ => ⟨S4x4096x5632, .f32⟩
  | .hbm, ⟨32, _⟩ => ⟨S_, .f32⟩
  | .hbm, ⟨33, _⟩ => ⟨S4x4096x5632, .f32⟩
  | .hbm, ⟨34, _⟩ => ⟨S4x4096x5632, .f32⟩
  | .hbm, ⟨35, _⟩ => ⟨S_, .f32⟩
  | .hbm, ⟨36, _⟩ => ⟨S4x4096x5632, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S4x4096x2048, .f32⟩
  | .hbm, ⟨41, _⟩ => ⟨S_, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x2048, .f32⟩
  | .hbm, ⟨57, _⟩ => ⟨S4x4096x2048, .f32⟩
  | .hbm, ⟨58, _⟩ => ⟨S1x1x2048, .f32⟩
  | .hbm, ⟨59, _⟩ => ⟨S4x4096x2048, .f32⟩
  | .hbm, ⟨60, _⟩ => ⟨S4x4096x2048, .f32⟩
  | .hbm, ⟨61, _⟩ => ⟨S16384x2048, .f32⟩
  | .hbm, ⟨62, _⟩ => ⟨S1024x2048, .f32⟩
  | .hbm, ⟨63, _⟩ => ⟨S2048x22x256, .f32⟩
  | .hbm, ⟨64, _⟩ => ⟨S22x2048x256, .f32⟩
  | .hbm, ⟨65, _⟩ => ⟨S22x2048x256, .bf16⟩
  | .hbm, ⟨66, _⟩ => ⟨S2048x22x256, .f32⟩
  | .hbm, ⟨67, _⟩ => ⟨S22x2048x256, .f32⟩
  | .hbm, ⟨68, _⟩ => ⟨S22x2048x256, .bf16⟩
  | .hbm, ⟨69, _⟩ => ⟨S5632x2048, .f32⟩
  | .hbm, ⟨70, _⟩ => ⟨S5632x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Proof.Pieces.lean ====
/- Reading a list of stored pieces of a rank-two buffer at an index. -/
module

public import Idealize.ShloMosaic.Lib.Pipeline.Value
public import Idealize.ShloMosaic.Lib.Pointwise
public import Idealize.ShloMosaic.Lib.WholeRead

@[expose] public section

set_option maxRecDepth 16384

noncomputable section

namespace Cert.Pieces

open Idealize.ShloMosaic Idealize.ShloMosaic.TcCoe Idealize.SL.Sem

variable {Val : EltTy → Type} {e : EltTy} {m n h w : ℕ}

/-- A unit-stride box of a rank-two shape places the local index `(r, c)` at `(o + r, p + c)`. -/
theorem emb_ix2 {o p : ℕ} (inb : ∀ a, (![o, p] : Fin 2 → ℕ) a + (![h, w] : Fin 2 → ℕ) a ≤ (⟨2, ![m, n]⟩ : Shape).size a)
    (r : Fin m) (c : Fin n) (r' : Fin h) (c' : Fin w) (hr : (r : ℕ) = o + r') (hc : (c : ℕ) = p + c') :
    (Rect.unit (s := (⟨2, ![m, n]⟩ : Shape)) ![o, p] ![h, w] inb).emb (ix2 r' c' : (⟨2, ![h, w]⟩ : Shape).Idx) = (ix2 r c : (⟨2, ![m, n]⟩ : Shape).Idx) := by
  funext a
  match a with
  | 0 => apply Fin.ext; show o + 1 * (r' : ℕ) = r; omega
  | 1 => apply Fin.ext; show p + 1 * (c' : ℕ) = c; omega

/-- An index inside the newest piece reads that piece's payload at the index's place in it. -/
theorem canon_hit [∀ e, Nonempty (Val e)] {o p : ℕ}
    (inb : ∀ a, (![o, p] : Fin 2 → ℕ) a + (![h, w] : Fin 2 → ℕ) a ≤ (⟨2, ![m, n]⟩ : Shape).size a)
    (P : (⟨2, ![h, w]⟩ : Shape).Idx → Val e) (L : List (View.Piece Val (⟨2, ![m, n]⟩ : Shape) e))
    (r : Fin m) (c : Fin n) (r' : Fin h) (c' : Fin w) (hr : (r : ℕ) = o + r') (hc : (c : ℕ) = p + c') :
    View.canon ((⟨Rect.unit (s := (⟨2, ![m, n]⟩ : Shape)) ![o, p] ![h, w] inb, P⟩ : View.Piece Val (⟨2, ![m, n]⟩ : Shape) e) :: L) (ix2 r c)
      = P (ix2 r' c') := by
  rw [← emb_ix2 inb r c r' c' hr hc]
  exact View.canon_cons_emb (Rect.unit (s := (⟨2, ![m, n]⟩ : Shape)) ![o, p] ![h, w] inb) P L _

/-- An index whose row or column lies outside the newest piece reads the older pieces. -/
theorem canon_miss [∀ e, Nonempty (Val e)] {o p : ℕ}
    (inb : ∀ a, (![o, p] : Fin 2 → ℕ) a + (![h, w] : Fin 2 → ℕ) a ≤ (⟨2, ![m, n]⟩ : Shape).size a)
    (P : (⟨2, ![h, w]⟩ : Shape).Idx → Val e) (L : List (View.Piece Val (⟨2, ![m, n]⟩ : Shape) e))
    (r : Fin m) (c : Fin n) (ho : (r : ℕ) < o ∨ o + h ≤ r ∨ (c : ℕ) < p ∨ p + w ≤ c) :
    View.canon ((⟨Rect.unit (s := (⟨2, ![m, n]⟩ : Shape)) ![o, p] ![h, w] inb, P⟩ : View.Piece Val (⟨2, ![m, n]⟩ : Shape) e) :: L) (ix2 r c)
      = View.canon L (ix2 r c) := by
  refine View.canon_cons_of_not_mem _ _ ?_
  intro hx
  have hx' := (Rect.mem_set_unit (inb := inb)).mp hx
  have h0 : o ≤ (r : ℕ) ∧ (r : ℕ) < o + h := hx' 0
  have h1 : p ≤ (c : ℕ) ∧ (c : ℕ) < p + w := hx' 1
  omega

/-- A load of a box of the buffer reads the pieces at the shifted index. -/
theorem readCov_at [∀ e, Nonempty (Val e)] {sig : RefSig} {κ : Kind} {sp : Space} (v : View sig κ sp (⟨2, ![m, n]⟩ : Shape) e) {o p : ℕ}
    (inb : ∀ a, (![o, p] : Fin 2 → ℕ) a + (![h, w] : Fin 2 → ℕ) a ≤ (⟨2, ![m, n]⟩ : Shape).size a)
    (L : List (View.Piece Val (⟨2, ![m, n]⟩ : Shape) e))
    (r : Fin m) (c : Fin n) (r' : Fin h) (c' : Fin w) (hr : (r : ℕ) = o + r') (hc : (c : ℕ) = p + c') :
    v.readCov L (Rect.unit (s := (⟨2, ![m, n]⟩ : Shape)) ![o, p] ![h, w] inb).toLoadRect (ix2 r' c' : (⟨2, ![h, w]⟩ : Shape).Idx)
      = View.canon L (ix2 r c) := by
  rw [View.readCov_eq_canon', ← emb_ix2 inb r c r' c' hr hc]
  rfl

/-- A load of a box of a whole buffer holding `X` reads `X` at the shifted index. -/
theorem readAt_at {sig : RefSig} {κ : Kind} {sp : Space} {M : Memref sig κ sp (⟨2, ![m, n]⟩ : Shape) e} (hM : M.IsWhole)
    (X : (⟨2, ![m, n]⟩ : Shape).Idx → Val e) {o p : ℕ}
    (inb : ∀ a, (![o, p] : Fin 2 → ℕ) a + (![h, w] : Fin 2 → ℕ) a ≤ (⟨2, ![m, n]⟩ : Shape).size a)
    (r : Fin m) (c : Fin n) (r' : Fin h) (c' : Fin w) (hr : (r : ℕ) = o + r') (hc : (c : ℕ) = p + c') :
    View.readAt Val M.view (Rect.unit (s := (⟨2, ![m, n]⟩ : Shape)) ![o, p] ![h, w] inb).toLoadRect (hM.unread X) (ix2 r' c' : (⟨2, ![h, w]⟩ : Shape).Idx)
      = X (ix2 r c) := by
  rw [hM.readAt_unread, ← emb_ix2 inb r c r' c' hr hc]
  rfl

end Cert.Pieces

end
-- ==== Proof.MixIn.Block.lean ====
/- What one grid point of the pooling call stores, as functions of the blocks it reads. -/
module

public import proofs.«01_k».proof.Proof.Gen.MixInIdeal.Value
public import Idealize.ShloMosaic.Lib.Pipeline.ValueKit
public import Idealize.ShloMosaic.Lib.Pointwise
public import proofs.«01_k».proof.Proof.Pieces

@[expose] public section

set_option maxRecDepth 16384

noncomputable section

namespace Cert.MixInIdeal.Block

open Cert.MixInIdeal Cert.MixInIdeal.Gen Idealize.ShloMosaic Idealize.ShloMosaic.TcCoe Idealize.SL.Sem

/-- A row divided by its root mean square and scaled by the gains. -/
def nrm (g v : Fin 2048 → EReal) (k : Fin 2048) : EReal :=
  v k * Ideal.rsqrt (Ideal.div (∑ l, v l * v l) (Ideal.ofBits .f32 0x45000000#32) + Ideal.ofBits .f32 0x358637BD#32) * g k

theorem pay2_at (v10 : FVec Ideal S32x2048 .f32) (v12 : FVec Ideal S1x2048 .f32) (r : Fin 32) (k : Fin 2048) :
    k0_pay2 (F := Ideal) v10 v12 (ix2 r k) = nrm (fun k => v12 (ix2 0 k)) (fun k => v10 (ix2 r k)) k := by
  pointwise [k0_pay2, nrm]

theorem pay6_at (v : FVec Ideal S256x2048 .f32) (g : FVec Ideal S1x2048 .f32) (r : Fin 256) (k : Fin 2048) :
    k0_pay6 (F := Ideal) (k0_pay3 v) (k0_pay4 g) (k0_pay5 v) (FloatOps.ofBits FTy.f32 1157627904#32) (ix2 r k)
      = nrm (fun k => g (ix2 0 k)) (fun k => v (ix2 r k)) k := by
  pointwise [k0_pay3, k0_pay4, k0_pay5, k0_pay6, nrm]

theorem pay13_at (v : FVec Ideal S256x2048 .f32) (g : FVec Ideal S1x2048 .f32) (r : Fin 256) (k : Fin 2048) :
    k0_pay13 (F := Ideal) (k0_pay10 v) (k0_pay11 g) (k0_pay12 v) (ix2 r k)
      = nrm (fun k => g (ix2 0 k)) (fun k => v (ix2 r k)) k := by
  pointwise [k0_pay10, k0_pay11, k0_pay12, k0_pay13, nrm]

theorem pay8_at (w9 : BitVec 32) (h : FVec Ideal S288x2048 .bf16) (w : FVec Ideal S2048x1024 .bf16) (b : FVec Ideal S1x1024 .f32)
    (r : Fin 32) (p : Fin 1024) :
    k0_pay8 (F := Ideal) w9 h w b (ix2 r p)
      = if w9 = 0#32 then 0 else (∑ k : Fin 2048, h (ix2 ⟨r, by omega⟩ k) * w (ix2 k p)) + b (ix2 0 p) := by
  pointwise [k0_pay8, k0_pay7]
  by_cases h0 : w9 = 0#32
  · simp [Scalar.select, Scalar.cmpi, IntOp.cmpi, h0]
  · simp [Scalar.select, Scalar.cmpi, IntOp.cmpi, h0, beq_eq_false_iff_ne.mpr h0]

theorem pay9_at (h : FVec Ideal S288x2048 .bf16) (w : FVec Ideal S2048x1024 .bf16) (b : FVec Ideal S1x1024 .f32)
    (r : Fin 256) (p : Fin 1024) :
    k0_pay9 (F := Ideal) h w b (ix2 r p)
      = (∑ k : Fin 2048, h (ix2 ⟨32 + r, by omega⟩ k) * w (ix2 k p)) + b (ix2 0 p) := by
  pointwise [k0_pay9, k0_pay7]

theorem pay14_at (h : FVec Ideal S256x2048 .bf16) (w : FVec Ideal S2048x1024 .bf16) (b : FVec Ideal S1x1024 .f32)
    (r : Fin 256) (p : Fin 1024) :
    k0_pay14 (F := Ideal) h w b (ix2 r p) = (∑ k : Fin 2048, h (ix2 r k) * w (ix2 k p)) + b (ix2 0 p) := by
  pointwise [k0_pay14]

/-- The two gate columns of the gated linear unit. -/
theorem pay18_at (h : FVec Ideal S512x2048 .bf16) (wa : FVec Ideal S2048x256 .bf16) (ba : FVec Ideal S1x256 .f32)
    (wg : FVec Ideal S2048x256 .bf16) (bg : FVec Ideal S1x256 .f32) (r : Fin 512) (p : Fin 256) :
    k0_pay18 (F := Ideal) h (k0_pay16 h wa) (k0_pay17 ba) wg bg (ix2 r p)
      = ((∑ k : Fin 2048, h (ix2 r k) * wa (ix2 k p)) + ba (ix2 0 p))
        * Ideal.logistic ((∑ k : Fin 2048, h (ix2 r k) * wg (ix2 k p)) + bg (ix2 0 p)) := by
  pointwise [k0_pay16, k0_pay17, k0_pay18]

theorem pay22_at (h : FVec Ideal S512x2048 .bf16) (wa : FVec Ideal S2048x256 .bf16) (ba : FVec Ideal S1x256 .f32)
    (wg : FVec Ideal S2048x256 .bf16) (bg : FVec Ideal S1x256 .f32) (r : Fin 512) (p : Fin 256) :
    k0_pay22 (F := Ideal) h wa ba wg bg (ix2 r p)
      = ((∑ k : Fin 2048, h (ix2 r k) * wa (ix2 k p)) + ba (ix2 0 p))
        * Ideal.logistic ((∑ k : Fin 2048, h (ix2 r k) * wg (ix2 k p)) + bg (ix2 0 p)) := by
  pointwise [k0_pay22]

theorem pay27_at (h : FVec Ideal S512x2048 .bf16) (wa : FVec Ideal S2048x256 .bf16) (ba : FVec Ideal S1x256 .f32)
    (wg : FVec Ideal S2048x256 .bf16) (bg : FVec Ideal S1x256 .f32) (r : Fin 512) (p : Fin 256) :
    k0_pay27 (F := Ideal) h (k0_pay26 h wa ba) wg bg (ix2 r p)
      = ((∑ k : Fin 2048, h (ix2 r k) * wa (ix2 k p)) + ba (ix2 0 p))
        * Ideal.logistic ((∑ k : Fin 2048, h (ix2 r k) * wg (ix2 k p)) + bg (ix2 0 p)) := by
  pointwise [k0_pay26, k0_pay27]

theorem pay33_at (h : FVec Ideal S512x2048 .bf16) (wa : FVec Ideal S2048x256 .bf16) (ba : FVec Ideal S1x256 .f32)
    (wg : FVec Ideal S2048x256 .bf16) (bg : FVec Ideal S1x256 .f32) (r : Fin 512) (p : Fin 256) :
    k0_pay33 (F := Ideal) h wa ba wg bg (ix2 r p)
      = ((∑ k : Fin 2048, h (ix2 r k) * wa (ix2 k p)) + ba (ix2 0 p))
        * Ideal.logistic ((∑ k : Fin 2048, h (ix2 r k) * wg (ix2 k p)) + bg (ix2 0 p)) := by
  pointwise [k0_pay33]

/-- The reciprocal of the number of rows a window of `w` rows holds at row `r` of a tile. -/
def invCount (w9 w : BitVec 32) (r : ℕ) : EReal :=
  Ideal.div 1 (Scalar.sitofp (F := Ideal) .f32 (Scalar.minsi (w9 * 512#32 + BitVec.ofNat 32 r + 1#32) w))

theorem pay21_at (w9 : BitVec 32) (s u : FVec Ideal S512x256 .f32) (w : FVec Ideal S1x256x256 .bf16) (c : FVec Ideal S1x256 .f32)
    (r : Fin 512) (p : Fin 256) :
    k0_pay21 (F := Ideal) (k0_pay20 (k0_pay15 w9) s u w) c (ix2 r p)
      = (∑ k : Fin 256, (s (ix2 r k) * invCount w9 2#32 r - u (ix2 r k)) * w (ix3 0 k p)) * c (ix2 0 p) := by
  pointwise [k0_pay15, k0_pay20, k0_pay21, invCount]
  try rfl

theorem pay25_at (w9 : BitVec 32) (s u : FVec Ideal S512x256 .f32) (w : FVec Ideal S1x256x256 .bf16) (c : FVec Ideal S1x256 .f32)
    (r : Fin 512) (p : Fin 256) :
    k0_pay25 (F := Ideal) (k0_pay15 w9) s u w c (ix2 r p)
      = (∑ k : Fin 256, (s (ix2 r k) * invCount w9 4#32 r - u (ix2 r k)) * w (ix3 0 k p)) * c (ix2 0 p) := by
  pointwise [k0_pay15, k0_pay25, invCount]
  try rfl

theorem pay32_at (w9 : BitVec 32) (s u : FVec Ideal S512x256 .f32) (w : FVec Ideal S1x256x256 .bf16) (c : FVec Ideal S1x256 .f32)
    (r : Fin 512) (p : Fin 256) :
    k0_pay32 (F := Ideal) (k0_pay31 (k0_pay15 w9)) s u w c (ix2 r p)
      = (∑ k : Fin 256, (s (ix2 r k) * invCount w9 8#32 r - u (ix2 r k)) * w (ix3 0 k p)) * c (ix2 0 p) := by
  pointwise [k0_pay15, k0_pay31, k0_pay32, invCount]
  try rfl

theorem pay1_at (w9 : BitVec 32) (s u : FVec Ideal S512x256 .f32) (w : FVec Ideal S1x256x256 .bf16) (c : FVec Ideal S1x256 .f32)
    (r : Fin 512) (p : Fin 256) :
    k0_pay1 (F := Ideal) (k0_pay38 (k0_pay15 w9)) s u w c (ix2 r p)
      = (∑ k : Fin 256, (s (ix2 r k) * invCount w9 16#32 r - u (ix2 r k)) * w (ix3 0 k p)) * c (ix2 0 p) := by
  pointwise [k0_pay15, k0_pay38, k0_pay1, invCount]
  try rfl

theorem pay19_at (a b : FVec Ideal S536x256 .f32) (r : Fin 536) (p : Fin 256) :
    k0_pay19 (F := Ideal) a b (ix2 r p) = a (ix2 r p) + b (ix2 r p) := by
  pointwise [k0_pay19]

theorem pay23_at (a b : FVec Ideal S536x256 .f32) (r : Fin 536) (p : Fin 256) :
    k0_pay23 (F := Ideal) a b (ix2 r p) = a (ix2 r p) + b (ix2 r p) := by
  pointwise [k0_pay23]

theorem pay24_at (a b : FVec Ideal S528x256 .f32) (r : Fin 528) (p : Fin 256) :
    k0_pay24 (F := Ideal) a b (ix2 r p) = a (ix2 r p) + b (ix2 r p) := by
  pointwise [k0_pay24]

theorem pay28_at (a b : FVec Ideal S536x256 .f32) (r : Fin 536) (p : Fin 256) :
    k0_pay28 (F := Ideal) a b (ix2 r p) = a (ix2 r p) + b (ix2 r p) := by
  pointwise [k0_pay28]

theorem pay29_at (a b : FVec Ideal S528x256 .f32) (r : Fin 528) (p : Fin 256) :
    k0_pay29 (F := Ideal) a b (ix2 r p) = a (ix2 r p) + b (ix2 r p) := by
  pointwise [k0_pay29]

theorem pay30_at (a b : FVec Ideal S520x256 .f32) (r : Fin 520) (p : Fin 256) :
    k0_pay30 (F := Ideal) a b (ix2 r p) = a (ix2 r p) + b (ix2 r p) := by
  pointwise [k0_pay30]

theorem pay34_at (a b : FVec Ideal S536x256 .f32) (r : Fin 536) (p : Fin 256) :
    k0_pay34 (F := Ideal) a b (ix2 r p) = a (ix2 r p) + b (ix2 r p) := by
  pointwise [k0_pay34]

theorem pay35_at (a b : FVec Ideal S528x256 .f32) (r : Fin 528) (p : Fin 256) :
    k0_pay35 (F := Ideal) a b (ix2 r p) = a (ix2 r p) + b (ix2 r p) := by
  pointwise [k0_pay35]

theorem pay36_at (a b : FVec Ideal S520x256 .f32) (r : Fin 520) (p : Fin 256) :
    k0_pay36 (F := Ideal) a b (ix2 r p) = a (ix2 r p) + b (ix2 r p) := by
  pointwise [k0_pay36]

theorem pay37_at (a b : FVec Ideal S512x256 .f32) (r : Fin 512) (p : Fin 256) :
    k0_pay37 (F := Ideal) a b (ix2 r p) = a (ix2 r p) + b (ix2 r p) := by
  pointwise [k0_pay37]

end Cert.MixInIdeal.Block

end
-- ==== Proof.MixIn.Spec.lean ====
/- The pooling call's two results as functions of the argument arrays: the gated linear unit, and the pooled and
   mixed rows with the pooling written as a sum over a window of rows. -/
module

public import proofs.«01_k».proof.Proof.MixIn.Block

@[expose] public section

set_option maxRecDepth 16384

noncomputable section

namespace Cert.MixSpec

open Cert.MixInIdeal Idealize.ShloMosaic
open Cert.MixInIdeal.Block (nrm)

variable (x : FVec Ideal S4x4096x2048 .f32) (g : FVec Ideal S1x2048 .f32) (w : FVec Ideal S1x2048x7168 .f32)
  (b : FVec Ideal S1x7168 .f32) (wg : FVec Ideal S1x4x256x256 .f32) (ps : FVec Ideal S1x1024 .f32)

/-- Token `s` of sequence `a`, normalized and scaled, at column `k`. -/
def normed (a : Fin 4) (s : Fin 4096) (k : Fin 2048) : EReal :=
  nrm (fun k => g (ix2 0 k)) (fun k => x (ix3 a s k)) k

/-- The input projection of token `s` of sequence `a` at column `p`. -/
def proj (a : Fin 4) (s : Fin 4096) (p : Fin 7168) : EReal :=
  (∑ k : Fin 2048, normed x g a s k * w (ix3 0 k p)) + b (ix2 0 p)

/-- The gated linear unit of token `s` of sequence `a` at column `q`. -/
def glu (a : Fin 4) (s : Fin 4096) (q : Fin 1024) : EReal :=
  proj x g w b a s ⟨1024 + q.val, by omega⟩ * Ideal.logistic (proj x g w b a s ⟨2048 + q.val, by omega⟩)

/-- The sum over the last `n` tokens up to `s`, as far as the sequence has them, of the projection at column `p`. -/
def win (n : ℕ) (a : Fin 4) (s : Fin 4096) (p : Fin 7168) : EReal :=
  ∑ j ∈ Finset.range n, if j ≤ s.val then proj x g w b a ⟨s.val - j, by omega⟩ p else 0

/-- How many tokens that sum has. -/
def count (n : ℕ) (s : Fin 4096) : EReal := ((((min (s.val + 1) n : ℕ) : ℝ)) : EReal)

/-- The causal mean over `n` tokens less the token itself, at column `k` of group `h`. -/
def pooled (h : Fin 4) (a : Fin 4) (s : Fin 4096) (k : Fin 256) : EReal :=
  win x g w b (2 ^ (h.val + 1)) a s ⟨256 * h.val + k.val, by omega⟩ * Ideal.div 1 (count (2 ^ (h.val + 1)) s)
    - proj x g w b a s ⟨256 * h.val + k.val, by omega⟩

/-- The pooled row mixed within group `h` and scaled, at the group's column `j`. -/
def mix (h : Fin 4) (a : Fin 4) (s : Fin 4096) (j : Fin 256) : EReal :=
  (∑ k : Fin 256, pooled x g w b h a s k * wg (ix4 0 h k j)) * ps (ix2 0 ⟨256 * h.val + j.val, by omega⟩)

/-- The gated linear unit of every token, the tokens of the four sequences one after the other. -/
def gluArr : FVec Ideal S16384x1024 .f32 := fun i =>
  glu x g w b ⟨(i 0).val / 4096, by have : (i 0).val < 16384 := (i 0).isLt; omega⟩ ⟨(i 0).val % 4096, by omega⟩ (i 1)

/-- The pooled and mixed row of every token. -/
def mixArr : FVec Ideal S16384x1024 .bf16 := fun i =>
  mix x g w b wg ps ⟨(i 1).val / 256, by have : (i 1).val < 1024 := (i 1).isLt; omega⟩
    ⟨(i 0).val / 4096, by have : (i 0).val < 16384 := (i 0).isLt; omega⟩ ⟨(i 0).val % 4096, by omega⟩ ⟨(i 1).val % 256, by omega⟩

end Cert.MixSpec

end
-- ==== Proof.MixIn.HostOps.lean ====
/- The reference's running sum and its gather along the sequence, read at an index. -/
module

public import Idealize.ShloMosaic.Lib.Pointwise
public import Idealize.ShloMosaic.Lib.ReduceAll
public import Idealize.ShloMosaic.Lib.ValueIdxCore
public import proofs.«01_k».proof.Proof.Gen.MixInRefIdeal

@[expose] public section

set_option maxRecDepth 16384

noncomputable section

namespace Cert.HostOps

open Cert.MixInRefIdeal Cert.MixInRefIdeal.Gen Idealize.ShloMosaic

/-- A left fold that adds `f n` for every `n` of a list is the start plus the list's sum. -/
theorem foldl_add {ι : Type} (f : ι → EReal) (l : List ι) (z : EReal) : l.foldl (fun r n => r + f n) z = z + (l.map f).sum := by
  induction l generalizing z with
  | nil => simp
  | cons a l ih => rw [List.foldl_cons, ih, List.map_cons, List.sum_cons, add_assoc]

/-- A window that ends at place `s` and begins before the row reads the row's first `s + 1` places. -/
theorem range_tail (G : ℕ → EReal) (s N : ℕ) (h : s < N) :
    (∑ m ∈ Finset.range N, if N - 1 ≤ s + m then G (s + m - (N - 1)) else 0) = ∑ j ∈ Finset.range (s + 1), G j := by
  obtain ⟨d, rfl⟩ : ∃ d, N = d + (s + 1) := ⟨N - (s + 1), by omega⟩
  rw [Finset.sum_range_add, Finset.sum_eq_zero, zero_add]
  · refine Finset.sum_congr rfl fun j _ => ?_
    rw [if_pos (by omega)]
    congr 1
    omega
  · intro j hj
    rw [if_neg (by have := Finset.mem_range.mp hj; omega)]

/-- The running sum along the sequence: at token `s` the sum of the tokens up to it. -/
theorem cumsum_at (X : FVec Ideal S4x4096x1024 .f32) (z : FVec Ideal S_ .f32) (hz : ∀ i, z i = 0)
    (h : S4x4096x1024.ReduceWindows ![1, 4096, 1] ![1, 1, 1] ![0, 4095, 0] ![0, 0, 0] S4x4096x1024) (hu : 0 < S_.numel)
    (a : Fin 4) (s : Fin 4096) (p : Fin 1024) :
    Host.reduceWindowAdd ![1, 4096, 1] ![1, 1, 1] ![0, 4095, 0] ![0, 0, 0] X z h hu (ix3 a s p)
      = ∑ j ∈ Finset.range (s.val + 1), if hj : j < 4096 then X (ix3 a ⟨j, hj⟩ p) else 0 := by
  unfold Host.reduceWindowAdd
  rw [Ideal.hostReduceWindowAdd_def, hz]
  unfold Ideal.hostReduceWindowAdd Host.reduceWindow
  dsimp only
  rw [foldl_add, zero_add, ← Fin.sum_univ_def]
  set G : ℕ → EReal := fun j => if hj : j < 4096 then X (ix3 a ⟨j, hj⟩ p) else 0 with hG
  refine (Finset.sum_congr rfl fun n _ => (?_ : _ = if 4095 ≤ s.val + ((⟨3, ![1, 4096, 1]⟩ : Shape).rowMajor.symm n 1).val
    then G (s.val + ((⟨3, ![1, 4096, 1]⟩ : Shape).rowMajor.symm n 1).val - 4095) else 0)).trans ?_
  · have h0 : ((⟨3, ![1, 4096, 1]⟩ : Shape).rowMajor.symm n 0).val < 1 := ((⟨3, ![1, 4096, 1]⟩ : Shape).rowMajor.symm n 0).isLt
    have h1 : ((⟨3, ![1, 4096, 1]⟩ : Shape).rowMajor.symm n 1).val < 4096 := ((⟨3, ![1, 4096, 1]⟩ : Shape).rowMajor.symm n 1).isLt
    have h2 : ((⟨3, ![1, 4096, 1]⟩ : Shape).rowMajor.symm n 2).val < 1 := ((⟨3, ![1, 4096, 1]⟩ : Shape).rowMajor.symm n 2).isLt
    by_cases hc : 4095 ≤ s.val + ((⟨3, ![1, 4096, 1]⟩ : Shape).rowMajor.symm n 1).val
    · rw [if_pos hc, hG]
      dsimp only
      rw [dif_pos (by omega : s.val + ((⟨3, ![1, 4096, 1]⟩ : Shape).rowMajor.symm n 1).val - 4095 < 4096), dif_pos]
      · refine congrArg X (funext fun b => Fin.ext ?_)
        match b with
        | 0 => show a.val * 1 + ((⟨3, ![1, 4096, 1]⟩ : Shape).rowMajor.symm n 0).val - 0 = a.val; omega
        | 1 => show s.val * 1 + ((⟨3, ![1, 4096, 1]⟩ : Shape).rowMajor.symm n 1).val - 4095 = s.val + ((⟨3, ![1, 4096, 1]⟩ : Shape).rowMajor.symm n 1).val - 4095; omega
        | 2 => show p.val * 1 + ((⟨3, ![1, 4096, 1]⟩ : Shape).rowMajor.symm n 2).val - 0 = p.val; omega
      · intro b
        match b with
        | 0 => show 0 ≤ a.val * 1 + ((⟨3, ![1, 4096, 1]⟩ : Shape).rowMajor.symm n 0).val ∧ a.val * 1 + ((⟨3, ![1, 4096, 1]⟩ : Shape).rowMajor.symm n 0).val - 0 < 4; omega
        | 1 => show 4095 ≤ s.val * 1 + ((⟨3, ![1, 4096, 1]⟩ : Shape).rowMajor.symm n 1).val ∧ s.val * 1 + ((⟨3, ![1, 4096, 1]⟩ : Shape).rowMajor.symm n 1).val - 4095 < 4096; omega
        | 2 => show 0 ≤ p.val * 1 + ((⟨3, ![1, 4096, 1]⟩ : Shape).rowMajor.symm n 2).val ∧ p.val * 1 + ((⟨3, ![1, 4096, 1]⟩ : Shape).rowMajor.symm n 2).val - 0 < 1024; omega
    · rw [if_neg hc, dif_neg]
      intro hin
      have : 4095 ≤ s.val * 1 + ((⟨3, ![1, 4096, 1]⟩ : Shape).rowMajor.symm n 1).val := (hin 1).1
      omega
  refine (Equiv.sum_comp (⟨3, ![1, 4096, 1]⟩ : Shape).rowMajor.symm
    (fun i => if 4095 ≤ s.val + (i 1).val then G (s.val + (i 1).val - 4095) else 0)).trans ?_
  rw [sum_idx3]
  simp only [Fin.sum_univ_one, Fin.isValue, ix3_1, Fin.sum_const, Finset.card_univ, Fintype.card_fin, one_smul]
  refine (Fin.sum_univ_eq_sum_range (fun m => if 4095 ≤ s.val + m then G (s.val + m - 4095) else 0) 4096).trans ?_
  exact range_tail G s.val 4096 s.isLt

/-- The gather along the sequence: result token `s` is the operand's token the index names. -/
theorem gather_at (C : FVec Ideal S4x4097x256 .f32) (idx : IVec S4096x1 32) (a : Fin 4) (s : Fin 4096) (k : Fin 256) (L : ℕ) (hL : L < 4097)
    (hi : idx (ix2 s 0) = BitVec.ofNat 32 L) :
    Host.gather gather_S4x4097x256_S4096x1_S4x4096x256_02_1_n_n_1_1_41256 C idx (ix3 a s k) = C (ix3 a ⟨L, hL⟩ k) := by
  unfold Host.gather
  congr 1
  funext b
  refine Fin.ext ?_
  show GatherDims.start _ _ idx b + GatherDims.batchCoord _ _ b + GatherDims.offCoord _ _ b = _
  rw [GatherDims.batchCoord_eq_zero _ _ _ List.not_mem_nil, add_zero]
  match b with
  | 0 =>
    unfold GatherDims.start
    rw [dif_neg (by decide)]
    unfold GatherDims.offCoord
    rw [dif_pos (by decide), Nat.zero_add]
    rfl
  | 1 =>
    rw [GatherDims.offCoord_eq_zero _ _ _ (by decide)]
    unfold GatherDims.start
    rw [dif_pos (by decide)]
    have hs : GatherDims.siIdx gather_S4x4097x256_S4096x1_S4x4096x256_02_1_n_n_1_1_41256 (ix3 a s k)
        ⟨List.idxOf (1 : Fin 3) gather_S4x4097x256_S4096x1_S4x4096x256_02_1_n_n_1_1_41256.startIndexMap,
          List.idxOf_lt_length_iff.2 (by decide)⟩ = ix2 s 0 := by
      funext b
      match b with
      | 0 => rfl
      | 1 => rfl
    rw [hs, hi]
    have : (BitVec.ofNat 32 L).toInt = (L : ℤ) := by
      rw [BitVec.toInt_eq_toNat_cond, BitVec.toNat_ofNat]; split <;> omega
    rw [this, Int.toNat_natCast]
    show min L (4097 - 1) + 0 = L
    omega
  | 2 =>
    unfold GatherDims.start
    rw [dif_neg (by decide)]
    unfold GatherDims.offCoord
    rw [dif_pos (by decide), Nat.zero_add]
    rfl

/-- The taken tokens: where every index is in range the mask is one, and the result is the operand's token. -/
theorem take_at (C : FVec Ideal S4x4097x256 .f32) (idx : IVec S4096x1 32) (M : IVec S4096x1 1) (one : IVec S_ 1) (z : FVec Ideal S4x4096x256 .f32)
    (hM : ∀ s : Fin 4096, M (ix2 s 0) = 1#1) (h1 : ∀ i, one i = 1#1)
    (a : Fin 4) (s : Fin 4096) (k : Fin 256) (L : ℕ) (hL : L < 4097) (hi : idx (ix2 s 0) = BitVec.ofNat 32 L) :
    select (broadcastInDim S4x4096x256 ![1] bcast_S4096_S4x4096x256_1 (Host.reduce IntOp.andi M one reducesTo_S4096x1_S4096_d1 h_S_))
        (Host.gather gather_S4x4097x256_S4096x1_S4x4096x256_02_1_n_n_1_1_41256 C idx) z (ix3 a s k)
      = C (ix3 a ⟨L, hL⟩ k) := by
  have hm : ∀ i, Host.reduce IntOp.andi M one reducesTo_S4096x1_S4096_d1 h_S_ i = 1#1 := fun i =>
    Host.reduce_andi_one _ _ _ _ _ (h1 _) fun j => by
      have e : j = ix2 (j 0) 0 := by
        funext b
        match b with
        | 0 => rfl
        | 1 => exact Fin.ext (by have : (j 1).val < 1 := (j 1).isLt; show (j 1).val = 0; omega)
      rw [e]; exact hM _
  have hb : broadcastInDim S4x4096x256 ![1] bcast_S4096_S4x4096x256_1 (Host.reduce IntOp.andi M one reducesTo_S4096x1_S4096_d1 h_S_) (ix3 a s k) = 1#1 := hm _
  refine Eq.trans ?_ (gather_at C idx a s k L hL hi)
  show (if broadcastInDim S4x4096x256 ![1] bcast_S4096_S4x4096x256_1 (Host.reduce IntOp.andi M one reducesTo_S4096x1_S4096_d1 h_S_) (ix3 a s k) = 1#1 then _ else _) = _
  rw [if_pos hb]

end Cert.HostOps

end
-- ==== Proof.MixIn.Ref.lean ====
/- The reference's results at an index: the gated linear unit, and the pooled and mixed rows with the pooling
   written as a difference of two running sums. -/
module

public import proofs.«01_k».proof.Proof.MixIn.Spec
public import proofs.«01_k».proof.Proof.MixIn.HostOps
public import proofs.«01_k».proof.Proof.Gen.MixInRefIdeal.Read
public import Idealize.ShloMosaic.Lib.Pipeline.ValueKit
public import Idealize.ShloMosaic.Lib.KernelVsHost

@[expose] public section

set_option maxRecDepth 16384

noncomputable section

namespace Cert.MixInRefIdeal.Ref

open Cert.MixInRefIdeal Cert.MixInRefIdeal.Gen Cert.MixInRefIdeal.Read Idealize.ShloMosaic Idealize.ShloMosaic.TcCoe Idealize.SL.Sem

variable (x : FVec Ideal S4x4096x2048 .f32) (g : FVec Ideal S1x2048 .f32) (w : FVec Ideal S1x2048x7168 .f32)
  (b : FVec Ideal S1x7168 .f32) (wg : FVec Ideal S1x4x256x256 .f32) (ps : FVec Ideal S1x1024 .f32)

/-- The word of one is the real one. -/
theorem ofBits_one : Ideal.ofBits .f32 0x3F800000#32 = 1 := by
  simp [Ideal.ofBits, Ideal.ieee, -EReal.coe_mul]
  norm_num

/-- The word of zero is zero. -/
theorem ofBits_zero : Ideal.ofBits .f32 0x00000000#32 = 0 := by
  simp [Ideal.ofBits, Ideal.ieee, -EReal.coe_mul]

/-- The projected rows. -/
theorem v19_at (a : Fin 4) (s : Fin 4096) (p : Fin 7168) : val_main_v19 (F := Ideal) x g w b (ix3 a s p) = MixSpec.proj x g w b a s p := by
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1, MixSpec.proj, MixSpec.normed, MixInIdeal.Block.nrm]

/-- The gated linear unit's array. -/
theorem v129_eq : val_main_v129 (F := Ideal) x g w b = MixSpec.gluArr x g w b := by
  funext i
  obtain ⟨r, q, rfl⟩ : ∃ (r : Fin 16384) (q : Fin 1024), i = ix2 r q := ⟨i 0, i 1, eq_ix2 i⟩
  pointwise [val_main_v129, val_main_v127, val_main_v126, val_main_v125, val_main_v124, val_main_v123, val_main_v122, val_main_v121,
    val_main_v120, val_main_v119, val_main_v118, val_main_v21, val_main_cst_22, val_main_cst_23]
  rw [v19_at, v19_at]
  exact Ideal.mul_congr rfl (congrArg Ideal.logistic (congrArg (MixSpec.proj x g w b _ _) (Fin.ext (by show 1024 + (1024 + q.val) = 2048 + q.val; omega))))

/-- The projection's first 1024 columns. -/
theorem v20_at (a : Fin 4) (s : Fin 4096) (p : Fin 1024) :
    val_main_v20 (F := Ideal) x g w b (ix3 a s p) = MixSpec.proj x g w b a s ⟨p.val, by omega⟩ := by
  pointwise [val_main_v20]
  exact v19_at x g w b a s _

/-- The sum of the projection at column `p` over the first `t` tokens. -/
def pre (a : Fin 4) (t : ℕ) (p : Fin 7168) : EReal :=
  ∑ j ∈ Finset.range t, if hj : j < 4096 then MixSpec.proj x g w b a ⟨j, hj⟩ p else 0

/-- The running sums with a zero before them. -/
theorem v23_at (a : Fin 4) (t : Fin 4097) (p : Fin 1024) :
    val_main_v23 (F := Ideal) x g w b (ix3 a t p) = pre x g w b a t.val ⟨p.val, by omega⟩ := by
  unfold val_main_v23
  by_cases h : t.val = 0
  · refine (pad_apply_of_not_inside _ _ _ _ _ _ _ _ (1 : Fin 3) (by
      show ¬ (1 ≤ t.val ∧ _); omega)).trans ?_
    unfold pre
    rw [h, Finset.range_zero, Finset.sum_empty]
    show (((0#32 : BitVec 32).toInt : ℝ) : EReal) = 0
    simp
  · refine (pad_apply_of_inside _ _ _ _ _ _ _ _ (ix3 a ⟨t.val - 1, by omega⟩ p) (fun e => ?_)).trans ?_
    · match e with
      | 0 => show a.val = 0 + a.val * (0 + 1); omega
      | 1 => show t.val = 1 + (t.val - 1) * (0 + 1); omega
      | 2 => show p.val = 0 + p.val * (0 + 1); omega
    · unfold val_main_v22
      refine (HostOps.cumsum_at _ _ (fun i => ?_) _ _ a ⟨t.val - 1, by omega⟩ p).trans ?_
      · exact ofBits_zero
      · unfold pre
        rw [show t.val - 1 + 1 = t.val by omega]
        refine Finset.sum_congr rfl fun j _ => ?_
        split
        · exact v20_at x g w b a _ p
        · rfl

/-- The first token of the window, as a word. -/
theorem lo_word (s n : ℕ) (hs : s < 4096) (hn : n ≤ 16) :
    IntOp.maxsi (IntOp.subi (IntOp.addi (BitVec.ofNat 32 s) 1#32) (BitVec.ofNat 32 n)) 0#32 = BitVec.ofNat 32 (s + 1 - n) := by
  unfold IntOp.maxsi IntOp.subi IntOp.addi
  have t0 : (0#32 : BitVec 32).toInt = 0 := rfl
  rw [BitVec.slt_eq_decide, t0]
  by_cases h : n ≤ s + 1
  · have e : BitVec.ofNat 32 s + 1#32 - BitVec.ofNat 32 n = BitVec.ofNat 32 (s + 1 - n) := by
      apply BitVec.eq_of_toNat_eq
      simp only [BitVec.toNat_sub, BitVec.toNat_add, BitVec.toNat_ofNat]
      omega
    have t1 : (BitVec.ofNat 32 (s + 1 - n)).toInt = ((s + 1 - n : ℕ) : ℤ) := by
      rw [BitVec.toInt_eq_toNat_cond, BitVec.toNat_ofNat]; split <;> omega
    rw [e, t1]
    by_cases h0 : s + 1 - n = 0
    · rw [h0]; simp
    · rw [if_pos (by simpa using by omega)]
  · have e : (BitVec.ofNat 32 s + 1#32 - BitVec.ofNat 32 n).toInt < 0 := by
      rw [BitVec.toInt_eq_toNat_cond]
      simp only [BitVec.toNat_sub, BitVec.toNat_add, BitVec.toNat_ofNat]
      split <;> omega
    rw [if_neg (by simpa using e.le), Nat.sub_eq_zero_of_le (by omega)]

/-- The number of tokens of a window, as a word. -/
theorem count_word (s n : ℕ) (hs : s < 4096) (hn : n ≤ 16) :
    (FloatOps.sitofp .f32 (IntOp.minsi (IntOp.addi (BitVec.ofNat 32 s) 1#32) (BitVec.ofNat 32 n)) : Ideal .f32) = MixSpec.count n ⟨s, hs⟩ := by
  have e1 : IntOp.addi (BitVec.ofNat 32 s) 1#32 = BitVec.ofNat 32 (s + 1) := by
    simp [IntOp.addi, BitVec.ofNat_add]
  have t1 : ∀ k : ℕ, k < 5000 → (BitVec.ofNat 32 k).toInt = (k : ℤ) := fun k hk => by
    rw [BitVec.toInt_eq_toNat_cond, BitVec.toNat_ofNat]; split <;> omega
  have e : IntOp.minsi (BitVec.ofNat 32 (s + 1)) (BitVec.ofNat 32 n) = BitVec.ofNat 32 (min (s + 1) n) := by
    unfold IntOp.minsi
    rw [BitVec.slt_eq_decide, t1 _ (by omega), t1 _ (by omega)]
    by_cases hh : s + 1 < n
    · rw [if_pos (by simpa using by omega), Nat.min_eq_left (by omega)]
    · rw [if_neg (by simpa using by omega), Nat.min_eq_right (by omega)]
  rw [e1, e]
  show (((BitVec.ofNat 32 (min (s + 1) n)).toInt : ℝ) : EReal) = _
  rw [t1 _ (by omega)]
  unfold MixSpec.count
  norm_cast

/-- A word that is no less than zero is taken as it stands. -/
theorem wrap_word (L : ℕ) (hL : L < 5000) :
    Scalar.select (IntOp.cmpi CmpIPredicate.slt (BitVec.ofNat 32 L) 0#32) (IntOp.addi (BitVec.ofNat 32 L) 4097#32) (BitVec.ofNat 32 L) = BitVec.ofNat 32 L := by
  have e : (BitVec.ofNat 32 L).slt 0#32 = false := by
    rw [BitVec.slt_eq_decide, BitVec.toInt_eq_toNat_cond, BitVec.toNat_ofNat]
    simp
    omega
  simp [Scalar.select, IntOp.cmpi, e]

/-- It is in range. -/
theorem mask_word (L : ℕ) (hL : L ≤ 4096) :
    IntOp.andi (IntOp.cmpi CmpIPredicate.sge (BitVec.ofNat 32 L) 0#32) (IntOp.cmpi CmpIPredicate.sle (BitVec.ofNat 32 L) 4096#32) = 1#1 := by
  have t1 : (BitVec.ofNat 32 L).toInt = (L : ℤ) := by
    rw [BitVec.toInt_eq_toNat_cond, BitVec.toNat_ofNat]; split <;> omega
  have e : (BitVec.ofNat 32 L).sle 4096#32 = true := by
    rw [BitVec.sle_eq_decide, t1]; simpa using hL
  have e' : (0#32 : BitVec 32).sle (BitVec.ofNat 32 L) = true := by
    rw [BitVec.sle_eq_decide, t1]; simp
  simp [IntOp.andi, IntOp.cmpi, e, e']

/-- The index of the first token of group 0's window. -/
theorem lo_at_0 (s : Fin 4096) : val_main_call2_v5 (F := Ideal) (ix2 s 0) = BitVec.ofNat 32 (s.val + 1 - 2) := by
  have hl := lo_word s.val 2 s.isLt (by norm_num)
  pointwise [val_main_call2_v5, val_main_call2_v4, val_main_call2_v3, val_main_call2_v2, val_main_call2_v1, val_main_call2_v0, val_main_call2_c, val_main_call2_c_0,
    val_main_v25, val_main_v26, val_main_v27, val_main_v28, val_main_v29, val_main_v30, val_main_v24, val_main_c_2, val_main_c_3, val_main_c_4]
  rw [hl]
  exact wrap_word _ (by omega)

/-- The index is in range. -/
theorem mask_at_0 (s : Fin 4096) : val_main_call2_v11 (F := Ideal) (ix2 s 0) = 1#1 := by
  pointwise [val_main_call2_v11, val_main_call2_v7, val_main_call2_v10, val_main_call2_v9, val_main_call2_v8, val_main_call2_v6, val_main_call2_c_1, val_main_call2_c_2]
  rw [lo_at_0]
  exact mask_word _ (by omega)

/-- The count of group 0's window. -/
theorem cnt_at_0 (a : Fin 4) (s : Fin 4096) (k : Fin 256) : val_main_v41 (F := Ideal) (ix3 a s k) = MixSpec.count 2 s := by
  pointwise [val_main_v35, val_main_v36, val_main_v37, val_main_v38, val_main_v39, val_main_v40, val_main_v41, val_main_v24, val_main_c_5, val_main_c_6]
  exact count_word s.val 2 s.isLt (by norm_num)

/-- The window sum of group 0: the difference of two running sums. -/
theorem sum_at_0 (a : Fin 4) (s : Fin 4096) (k : Fin 256) : val_main_v34 (F := Ideal) x g w b (ix3 a s k)
    = pre x g w b a (s.val + 1) ⟨k.val, by omega⟩ - pre x g w b a (s.val + 1 - 2) ⟨k.val, by omega⟩ := by
  refine congrArg₂ (· - ·) ?_ ?_
  · pointwise [val_main_v31]
    refine (v23_at x g w b a ⟨1 + s.val, by omega⟩ ⟨k.val, by omega⟩).trans ?_
    rw [Nat.add_comm s.val 1]
  · refine (HostOps.take_at _ _ _ _ _ mask_at_0 (fun _ => rfl) a s k (s.val + 1 - 2) (by omega) (lo_at_0 s)).trans ?_
    pointwise [val_main_v32]
    exact v23_at x g w b a _ _

/-- The pooled rows of group 0. -/
theorem pool_at_0 (a : Fin 4) (s : Fin 4096) (k : Fin 256) : val_main_v44 (F := Ideal) x g w b (ix3 a s k)
    = Ideal.div (pre x g w b a (s.val + 1) ⟨k.val, by omega⟩ - pre x g w b a (s.val + 1 - 2) ⟨k.val, by omega⟩) (MixSpec.count 2 s)
      - MixSpec.proj x g w b a s ⟨k.val, by omega⟩ := by
  refine congrArg₂ (· - ·) (congrArg₂ Ideal.div (sum_at_0 x g w b a s k) (cnt_at_0 a s k)) ?_
  pointwise [val_main_v43]
  exact v20_at x g w b a s _

/-- The index of the first token of group 1's window. -/
theorem lo_at_1 (s : Fin 4096) : val_main_call3_v5 (F := Ideal) (ix2 s 0) = BitVec.ofNat 32 (s.val + 1 - 4) := by
  have hl := lo_word s.val 4 s.isLt (by norm_num)
  pointwise [val_main_call3_v5, val_main_call3_v4, val_main_call3_v3, val_main_call3_v2, val_main_call3_v1, val_main_call3_v0, val_main_call3_c, val_main_call3_c_0,
    val_main_v45, val_main_v46, val_main_v47, val_main_v48, val_main_v49, val_main_v50, val_main_v24, val_main_c_7, val_main_c_8, val_main_c_9]
  rw [hl]
  exact wrap_word _ (by omega)

/-- The index is in range. -/
theorem mask_at_1 (s : Fin 4096) : val_main_call3_v11 (F := Ideal) (ix2 s 0) = 1#1 := by
  pointwise [val_main_call3_v11, val_main_call3_v7, val_main_call3_v10, val_main_call3_v9, val_main_call3_v8, val_main_call3_v6, val_main_call3_c_1, val_main_call3_c_2]
  rw [lo_at_1]
  exact mask_word _ (by omega)

/-- The count of group 1's window. -/
theorem cnt_at_1 (a : Fin 4) (s : Fin 4096) (k : Fin 256) : val_main_v61 (F := Ideal) (ix3 a s k) = MixSpec.count 4 s := by
  pointwise [val_main_v55, val_main_v56, val_main_v57, val_main_v58, val_main_v59, val_main_v60, val_main_v61, val_main_v24, val_main_c_10, val_main_c_11]
  exact count_word s.val 4 s.isLt (by norm_num)

/-- The window sum of group 1: the difference of two running sums. -/
theorem sum_at_1 (a : Fin 4) (s : Fin 4096) (k : Fin 256) : val_main_v54 (F := Ideal) x g w b (ix3 a s k)
    = pre x g w b a (s.val + 1) ⟨256 + k.val, by omega⟩ - pre x g w b a (s.val + 1 - 4) ⟨256 + k.val, by omega⟩ := by
  refine congrArg₂ (· - ·) ?_ ?_
  · pointwise [val_main_v51]
    refine (v23_at x g w b a ⟨1 + s.val, by omega⟩ ⟨256 + k.val, by omega⟩).trans ?_
    rw [Nat.add_comm s.val 1]
  · refine (HostOps.take_at _ _ _ _ _ mask_at_1 (fun _ => rfl) a s k (s.val + 1 - 4) (by omega) (lo_at_1 s)).trans ?_
    pointwise [val_main_v52]
    exact v23_at x g w b a _ _

/-- The pooled rows of group 1. -/
theorem pool_at_1 (a : Fin 4) (s : Fin 4096) (k : Fin 256) : val_main_v64 (F := Ideal) x g w b (ix3 a s k)
    = Ideal.div (pre x g w b a (s.val + 1) ⟨256 + k.val, by omega⟩ - pre x g w b a (s.val + 1 - 4) ⟨256 + k.val, by omega⟩) (MixSpec.count 4 s)
      - MixSpec.proj x g w b a s ⟨256 + k.val, by omega⟩ := by
  refine congrArg₂ (· - ·) (congrArg₂ Ideal.div (sum_at_1 x g w b a s k) (cnt_at_1 a s k)) ?_
  pointwise [val_main_v63]
  exact v20_at x g w b a s _

/-- The index of the first token of group 2's window. -/
theorem lo_at_2 (s : Fin 4096) : val_main_call4_v5 (F := Ideal) (ix2 s 0) = BitVec.ofNat 32 (s.val + 1 - 8) := by
  have hl := lo_word s.val 8 s.isLt (by norm_num)
  pointwise [val_main_call4_v5, val_main_call4_v4, val_main_call4_v3, val_main_call4_v2, val_main_call4_v1, val_main_call4_v0, val_main_call4_c, val_main_call4_c_0,
    val_main_v65, val_main_v66, val_main_v67, val_main_v68, val_main_v69, val_main_v70, val_main_v24, val_main_c_12, val_main_c_13, val_main_c_14]
  rw [hl]
  exact wrap_word _ (by omega)

/-- The index is in range. -/
theorem mask_at_2 (s : Fin 4096) : val_main_call4_v11 (F := Ideal) (ix2 s 0) = 1#1 := by
  pointwise [val_main_call4_v11, val_main_call4_v7, val_main_call4_v10, val_main_call4_v9, val_main_call4_v8, val_main_call4_v6, val_main_call4_c_1, val_main_call4_c_2]
  rw [lo_at_2]
  exact mask_word _ (by omega)

/-- The count of group 2's window. -/
theorem cnt_at_2 (a : Fin 4) (s : Fin 4096) (k : Fin 256) : val_main_v81 (F := Ideal) (ix3 a s k) = MixSpec.count 8 s := by
  pointwise [val_main_v75, val_main_v76, val_main_v77, val_main_v78, val_main_v79, val_main_v80, val_main_v81, val_main_v24, val_main_c_15, val_main_c_16]
  exact count_word s.val 8 s.isLt (by norm_num)

/-- The window sum of group 2: the difference of two running sums. -/
theorem sum_at_2 (a : Fin 4) (s : Fin 4096) (k : Fin 256) : val_main_v74 (F := Ideal) x g w b (ix3 a s k)
    = pre x g w b a (s.val + 1) ⟨512 + k.val, by omega⟩ - pre x g w b a (s.val + 1 - 8) ⟨512 + k.val, by omega⟩ := by
  refine congrArg₂ (· - ·) ?_ ?_
  · pointwise [val_main_v71]
    refine (v23_at x g w b a ⟨1 + s.val, by omega⟩ ⟨512 + k.val, by omega⟩).trans ?_
    rw [Nat.add_comm s.val 1]
  · refine (HostOps.take_at _ _ _ _ _ mask_at_2 (fun _ => rfl) a s k (s.val + 1 - 8) (by omega) (lo_at_2 s)).trans ?_
    pointwise [val_main_v72]
    exact v23_at x g w b a _ _

/-- The pooled rows of group 2. -/
theorem pool_at_2 (a : Fin 4) (s : Fin 4096) (k : Fin 256) : val_main_v84 (F := Ideal) x g w b (ix3 a s k)
    = Ideal.div (pre x g w b a (s.val + 1) ⟨512 + k.val, by omega⟩ - pre x g w b a (s.val + 1 - 8) ⟨512 + k.val, by omega⟩) (MixSpec.count 8 s)
      - MixSpec.proj x g w b a s ⟨512 + k.val, by omega⟩ := by
  refine congrArg₂ (· - ·) (congrArg₂ Ideal.div (sum_at_2 x g w b a s k) (cnt_at_2 a s k)) ?_
  pointwise [val_main_v83]
  exact v20_at x g w b a s _

/-- The index of the first token of group 3's window. -/
theorem lo_at_3 (s : Fin 4096) : val_main_call5_v5 (F := Ideal) (ix2 s 0) = BitVec.ofNat 32 (s.val + 1 - 16) := by
  have hl := lo_word s.val 16 s.isLt (by norm_num)
  pointwise [val_main_call5_v5, val_main_call5_v4, val_main_call5_v3, val_main_call5_v2, val_main_call5_v1, val_main_call5_v0, val_main_call5_c, val_main_call5_c_0,
    val_main_v85, val_main_v86, val_main_v87, val_main_v88, val_main_v89, val_main_v90, val_main_v24, val_main_c_17, val_main_c_18, val_main_c_19]
  rw [hl]
  exact wrap_word _ (by omega)

/-- The index is in range. -/
theorem mask_at_3 (s : Fin 4096) : val_main_call5_v11 (F := Ideal) (ix2 s 0) = 1#1 := by
  pointwise [val_main_call5_v11, val_main_call5_v7, val_main_call5_v10, val_main_call5_v9, val_main_call5_v8, val_main_call5_v6, val_main_call5_c_1, val_main_call5_c_2]
  rw [lo_at_3]
  exact mask_word _ (by omega)

/-- The count of group 3's window. -/
theorem cnt_at_3 (a : Fin 4) (s : Fin 4096) (k : Fin 256) : val_main_v101 (F := Ideal) (ix3 a s k) = MixSpec.count 16 s := by
  pointwise [val_main_v95, val_main_v96, val_main_v97, val_main_v98, val_main_v99, val_main_v100, val_main_v101, val_main_v24, val_main_c_20, val_main_c_21]
  exact count_word s.val 16 s.isLt (by norm_num)

/-- The window sum of group 3: the difference of two running sums. -/
theorem sum_at_3 (a : Fin 4) (s : Fin 4096) (k : Fin 256) : val_main_v94 (F := Ideal) x g w b (ix3 a s k)
    = pre x g w b a (s.val + 1) ⟨768 + k.val, by omega⟩ - pre x g w b a (s.val + 1 - 16) ⟨768 + k.val, by omega⟩ := by
  refine congrArg₂ (· - ·) ?_ ?_
  · pointwise [val_main_v91]
    refine (v23_at x g w b a ⟨1 + s.val, by omega⟩ ⟨768 + k.val, by omega⟩).trans ?_
    rw [Nat.add_comm s.val 1]
  · refine (HostOps.take_at _ _ _ _ _ mask_at_3 (fun _ => rfl) a s k (s.val + 1 - 16) (by omega) (lo_at_3 s)).trans ?_
    pointwise [val_main_v92]
    exact v23_at x g w b a _ _

/-- The pooled rows of group 3. -/
theorem pool_at_3 (a : Fin 4) (s : Fin 4096) (k : Fin 256) : val_main_v104 (F := Ideal) x g w b (ix3 a s k)
    = Ideal.div (pre x g w b a (s.val + 1) ⟨768 + k.val, by omega⟩ - pre x g w b a (s.val + 1 - 16) ⟨768 + k.val, by omega⟩) (MixSpec.count 16 s)
      - MixSpec.proj x g w b a s ⟨768 + k.val, by omega⟩ := by
  refine congrArg₂ (· - ·) (congrArg₂ Ideal.div (sum_at_3 x g w b a s k) (cnt_at_3 a s k)) ?_
  pointwise [val_main_v103]
  exact v20_at x g w b a s _

/-- The pooled rows, a group's window written as a difference of two running sums. -/
def pooledDiff (h : Fin 4) (a : Fin 4) (s : Fin 4096) (k : Fin 256) : EReal :=
  Ideal.div (pre x g w b a (s.val + 1) ⟨256 * h.val + k.val, by omega⟩ - pre x g w b a (s.val + 1 - 2 ^ (h.val + 1)) ⟨256 * h.val + k.val, by omega⟩)
      (MixSpec.count (2 ^ (h.val + 1)) s)
    - MixSpec.proj x g w b a s ⟨256 * h.val + k.val, by omega⟩

/-- The stack of the four groups' pooled rows. -/
theorem stack_at (h : Fin 4) (a : Fin 4) (s : Fin 4096) (k : Fin 256) :
    val_main_v109 (F := Ideal) x g w b (ix4 a s h k) = pooledDiff x g w b h a s k := by
  match h with
  | 0 =>
    pointwise [val_main_v109, val_main_v105]
    refine (pool_at_0 x g w b a s k).trans ?_
    unfold pooledDiff
    simp
  | 1 =>
    pointwise [val_main_v109, val_main_v106]
    exact pool_at_1 x g w b a s k
  | 2 =>
    pointwise [val_main_v109, val_main_v107]
    exact pool_at_2 x g w b a s k
  | 3 =>
    pointwise [val_main_v109, val_main_v108]
    exact pool_at_3 x g w b a s k

/-- The pooled and mixed rows, with the pooling as the reference has it. -/
theorem v128_at (r : Fin 16384) (q : Fin 1024) :
    val_main_v128 (F := Ideal) x g w b wg ps (ix2 r q)
      = (∑ k : Fin 256, pooledDiff x g w b ⟨q.val / 256, by omega⟩ ⟨r.val / 4096, by omega⟩ ⟨r.val % 4096, by omega⟩ k
            * wg (ix4 0 ⟨q.val / 256, by omega⟩ k ⟨q.val % 256, by omega⟩))
          * ps (ix2 0 ⟨256 * (q.val / 256) + q.val % 256, by omega⟩) := by
  simp only [← stack_at]
  pointwise [val_main_v128, val_main_v127, val_main_v117, val_main_v116, val_main_v115, val_main_v114, val_main_v113, val_main_v112, val_main_v111, val_main_v110]
  refine Ideal.mul_congr (Finset.sum_congr rfl fun k _ => EReal.mul_comm _ _) (congrArg ps (congrArg (ix2 0) (Fin.ext ?_)))
  show q.val = 256 * (q.val / 256) + q.val % 256
  omega

end Cert.MixInRefIdeal.Ref

end
-- ==== Proof.MixIn.Real.lean ====
/- With finite activations, weights and biases the difference of two running sums is the sum over the window. -/
module

public import proofs.«01_k».proof.Proof.MixIn.Spec
public import proofs.«01_k».proof.Proof.MixIn.Ref

@[expose] public section

set_option maxRecDepth 16384

noncomputable section

namespace Cert.MixReal

open Cert.MixInIdeal Idealize.ShloMosaic
open Cert.MixInIdeal.Block (nrm)

/-- A value that is a real number. -/
def Fin' (v : EReal) : Prop := ∃ r : ℝ, v = (r : EReal)

theorem fin_add {u v : EReal} (hu : Fin' u) (hv : Fin' v) : Fin' (u + v) := by
  obtain ⟨a, rfl⟩ := hu; obtain ⟨b, rfl⟩ := hv; exact ⟨a + b, (EReal.coe_add a b).symm⟩

theorem fin_mul {u v : EReal} (hu : Fin' u) (hv : Fin' v) : Fin' (u * v) := by
  obtain ⟨a, rfl⟩ := hu; obtain ⟨b, rfl⟩ := hv; exact ⟨a * b, (EReal.coe_mul a b).symm⟩

/-- A finite sum of reals is their sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem fin_sum {ι : Type} (s : Finset ι) (f : ι → EReal) (h : ∀ i, Fin' (f i)) : Fin' (∑ i ∈ s, f i) := by
  choose r hr using h
  exact ⟨∑ i ∈ s, r i, by rw [← coe_sum]; exact Finset.sum_congr rfl fun i _ => hr i⟩

/-- The word of 2048. -/
theorem ofBits_2048 : Ideal.ofBits .f32 0x45000000#32 = ((2048 : ℝ) : EReal) := by
  simp [Ideal.ofBits, Ideal.ieee, -EReal.coe_mul]
  norm_num

/-- The word of the norm's epsilon is a positive real. -/
theorem ofBits_eps : ∃ e : ℝ, 0 < e ∧ Ideal.ofBits .f32 0x358637BD#32 = (e : EReal) := by
  simp [Ideal.ofBits, Ideal.ieee, -EReal.coe_mul]

/-- A normalized row of reals is a row of reals. -/
theorem fin_nrm (g v : Fin 2048 → EReal) (hg : ∀ k, Fin' (g k)) (hv : ∀ k, Fin' (v k)) (k : Fin 2048) : Fin' (nrm g v k) := by
  choose r hr using hv
  obtain ⟨e, he, hE⟩ := ofBits_eps
  have hs : (∑ l, v l * v l) = ((∑ l, r l * r l : ℝ) : EReal) := by
    rw [← coe_sum]
    exact Finset.sum_congr rfl fun l _ => by rw [hr l, EReal.coe_mul]
  have h0 : 0 ≤ ∑ l, r l * r l := Finset.sum_nonneg fun l _ => mul_self_nonneg _
  unfold nrm
  refine fin_mul (fin_mul ⟨r k, hr k⟩ ?_) (hg k)
  rw [hs, ofBits_2048, hE, Ideal.div_coe (by norm_num), ← EReal.coe_mul, ← EReal.coe_add, Ideal.rsqrt_coe]
  have hp : 0 < (∑ l, r l * r l) * (1 / 2048) + e := by positivity
  rw [if_neg (not_lt.mpr hp.le), if_neg hp.ne']
  exact ⟨_, rfl⟩

/-- Over the reals, the difference of two running sums is the sum over the window. -/
theorem window (f : ℕ → ℝ) (s n : ℕ) :
    (∑ j ∈ Finset.range (s + 1), f j) - (∑ j ∈ Finset.range (s + 1 - n), f j) = ∑ j ∈ Finset.range n, if j ≤ s then f (s - j) else 0 := by
  induction n with
  | zero => simp
  | succ n ih =>
    rw [Finset.sum_range_succ (fun j => if j ≤ s then f (s - j) else 0), ← ih]
    by_cases h : n ≤ s
    · rw [if_pos h, show s + 1 - n = (s - n) + 1 by omega, show s + 1 - (n + 1) = s - n by omega, Finset.sum_range_succ _ (s - n)]
      ring
    · rw [if_neg h, show s + 1 - n = 0 by omega, show s + 1 - (n + 1) = 0 by omega, add_zero]

variable (x : FVec Ideal S4x4096x2048 .f32) (g : FVec Ideal S1x2048 .f32) (w : FVec Ideal S1x2048x7168 .f32)
  (b : FVec Ideal S1x7168 .f32) (wg : FVec Ideal S1x4x256x256 .f32) (ps : FVec Ideal S1x1024 .f32)

/-- The projected rows are real. -/
theorem fin_proj (hx : ∀ i, Fin' (x i)) (hg : ∀ i, Fin' (g i)) (hw : ∀ i, Fin' (w i)) (hb : ∀ i, Fin' (b i))
    (a : Fin 4) (s : Fin 4096) (p : Fin 7168) : Fin' (MixSpec.proj x g w b a s p) :=
  fin_add (fin_sum _ _ fun k => fin_mul (fin_nrm _ _ (fun _ => hg _) (fun _ => hx _) k) (hw _)) (hb _)

/-- The pooled rows as the reference has them are the pooled rows as the kernel has them. -/
theorem pooled_eq (hx : ∀ i, Fin' (x i)) (hg : ∀ i, Fin' (g i)) (hw : ∀ i, Fin' (w i)) (hb : ∀ i, Fin' (b i))
    (h : Fin 4) (a : Fin 4) (s : Fin 4096) (k : Fin 256) :
    MixInRefIdeal.Ref.pooledDiff x g w b h a s k = MixSpec.pooled x g w b h a s k := by
  unfold MixInRefIdeal.Ref.pooledDiff MixSpec.pooled
  generalize hp : (⟨256 * h.val + k.val, by omega⟩ : Fin 7168) = p
  have hn : 0 < 2 ^ (h.val + 1) := Nat.pow_pos (by norm_num)
  generalize 2 ^ (h.val + 1) = n at hn ⊢
  choose f hf using fun (s : Fin 4096) => fin_proj x g w b hx hg hw hb a s p
  have e : ∀ t, MixInRefIdeal.Ref.pre x g w b a t p = ((∑ j ∈ Finset.range t, (if hj : j < 4096 then f ⟨j, hj⟩ else 0) : ℝ) : EReal) := fun t => by
    unfold MixInRefIdeal.Ref.pre
    rw [← coe_sum]
    refine Finset.sum_congr rfl fun j _ => ?_
    split
    · exact hf _
    · simp
  have ew : MixSpec.win x g w b n a s p = ((∑ j ∈ Finset.range n, (if j ≤ s.val then (if hj : s.val - j < 4096 then f ⟨s.val - j, hj⟩ else 0) else 0) : ℝ) : EReal) := by
    unfold MixSpec.win
    rw [← coe_sum]
    refine Finset.sum_congr rfl fun j _ => ?_
    split
    · rw [dif_pos (by omega)]; exact hf _
    · simp
  have hc : (((min (s.val + 1) n : ℕ)) : ℝ) ≠ 0 := by
    have : 0 < min (s.val + 1) n := by omega
    exact_mod_cast this.ne'
  rw [e, e, ew, ← window (fun j => if hj : j < 4096 then f ⟨j, hj⟩ else 0) s.val n, ← EReal.coe_sub]
  unfold MixSpec.count
  rw [Ideal.div_coe hc, Ideal.div_coe hc, one_mul]

end Cert.MixReal

end
-- ==== Proof.MixIn.Scratches.lean ====
/- The contents of the pooling call's scratch buffers at one grid point: the normalized rows, the projected
   rows, and the windowed sums, each as a function of the row and the column. -/
module

public import proofs.«01_k».proof.Proof.MixIn.Block

@[expose] public section

set_option maxRecDepth 16384

noncomputable section

namespace Cert.MixInIdeal.Block

open Cert.MixInIdeal Cert.MixInIdeal.Gen Idealize.ShloMosaic Idealize.ShloMosaic.TcCoe Idealize.SL.Sem
open Cert.Pieces

/-- Row `r` of the tile with its thirty-two earlier rows before it. -/
def hrow (x0 : FVec Ideal S512x2048 .f32) (x1 : FVec Ideal S32x2048 .f32) (r : Fin 544) (k : Fin 2048) : EReal :=
  if h : r.val < 32 then x1 (ix2 ⟨r.val, h⟩ k) else x0 (ix2 ⟨r.val - 32, by omega⟩ k)

/-- The normalized row. -/
def HN (x0 : FVec Ideal S512x2048 .f32) (x1 : FVec Ideal S32x2048 .f32) (x2 : FVec Ideal S1x2048 .f32)
    (r : Fin 544) (k : Fin 2048) : EReal :=
  nrm (fun k => x2 (ix2 0 k)) (hrow x0 x1 r) k

/-- The projected row, zero before the sequence's beginning. -/
def UU (w9 : BitVec 32) (x0 : FVec Ideal S512x2048 .f32) (x1 : FVec Ideal S32x2048 .f32) (x2 : FVec Ideal S1x2048 .f32)
    (x3 : FVec Ideal S2048x3072 .bf16) (x4 : FVec Ideal S1x3072 .f32) (r : Fin 544) (p : Fin 1024) : EReal :=
  if r.val < 32 ∧ w9 = 0#32 then 0
  else (∑ k : Fin 2048, HN x0 x1 x2 r k * x3 (ix2 k ⟨p, by omega⟩)) + x4 (ix2 0 ⟨p, by omega⟩)

/-- The sum of the last `n` projected rows up to row `r`. -/
def WS (w9 : BitVec 32) (x0 : FVec Ideal S512x2048 .f32) (x1 : FVec Ideal S32x2048 .f32) (x2 : FVec Ideal S1x2048 .f32)
    (x3 : FVec Ideal S2048x3072 .bf16) (x4 : FVec Ideal S1x3072 .f32) (n : ℕ) (r : Fin 544) (p : Fin 1024) : EReal :=
  ∑ j ∈ Finset.range n, UU w9 x0 x1 x2 x3 x4 ⟨r.val - j, by omega⟩ p

variable (c : Dev nD) (i : grid0.Coords)
  (arg1 : Memref sig Kind.tc Space.vmem S512x2048 EltTy.f32) (harg1 : arg1.IsWhole)
  (arg2 : Memref sig Kind.tc Space.vmem S32x2048 EltTy.f32) (harg2 : arg2.IsWhole)
  (arg3 : Memref sig Kind.tc Space.vmem S1x2048 EltTy.f32) (harg3 : arg3.IsWhole)
  (arg4 : Memref sig Kind.tc Space.vmem S2048x3072 EltTy.bf16) (harg4 : arg4.IsWhole)
  (arg5 : Memref sig Kind.tc Space.vmem S1x3072 EltTy.f32) (harg5 : arg5.IsWhole)
  (arg10 : Memref sig Kind.tc Space.vmem S544x2048 EltTy.bf16)
  (arg11 arg12 arg13 : Memref sig Kind.tc Space.vmem S544x1024 EltTy.f32)
  (x0 : FVec Ideal S512x2048 .f32) (x1 : FVec Ideal S32x2048 .f32) (x2 : FVec Ideal S1x2048 .f32)
  (x3 : FVec Ideal S2048x3072 .bf16) (x4 : FVec Ideal S1x3072 .f32)

/-- The windowed sum of one row is the row. -/
theorem WS_one (w9 : BitVec 32) (r : Fin 544) (p : Fin 1024) :
    WS w9 x0 x1 x2 x3 x4 1 r p = UU w9 x0 x1 x2 x3 x4 r p := by
  simp [WS]

/-- A windowed sum of `2 n` rows is the sum of the two halves. -/
theorem WS_double (w9 : BitVec 32) (n : ℕ) (r r' : Fin 544) (hr : r.val = r'.val + n) (p : Fin 1024) :
    WS w9 x0 x1 x2 x3 x4 (n + n) r p = WS w9 x0 x1 x2 x3 x4 n r p + WS w9 x0 x1 x2 x3 x4 n r' p := by
  unfold WS
  rw [Finset.sum_range_add]
  congr 1
  refine Finset.sum_congr rfl fun j _ => ?_
  congr 2
  omega

/-- The normalized rows after the first two stores, at a row below 288. -/
theorem h2_low (r : Fin 544) (hr : r.val < 288) (k : Fin 2048) :
    View.canon (kernelRun0_A.sl.HS0_2 (F := Ideal) c arg1 harg1 arg2 harg2 arg3 harg3 x0 x1 x2) (ix2 r k) = HN x0 x1 x2 r k := by
  unfold kernelRun0_A.sl.HS0_2
  by_cases h : r.val < 32
  · refine (canon_miss _ _ _ r k (by omega)).trans ?_
    refine (canon_hit _ _ _ r k ⟨r.val, h⟩ k (by simp) (by simp)).trans ?_
    refine (pay2_at _ _ _ _).trans ?_
    unfold HN
    congr 1
    · funext l
      exact readAt_at (Val := Elt Ideal) harg3 x2 _ 0 l 0 l (by simp) (by simp)
    · funext l
      rw [hrow, dif_pos h]
      exact readAt_at (Val := Elt Ideal) harg2 x1 _ ⟨r.val, h⟩ l ⟨r.val, h⟩ l (by simp) (by simp)
  · refine (canon_hit _ _ _ r k ⟨r.val - 32, by omega⟩ k (by simp <;> omega) (by simp)).trans ?_
    refine (pay6_at _ _ _ _).trans ?_
    unfold HN
    congr 1
    · funext l
      exact readAt_at (Val := Elt Ideal) harg3 x2 _ 0 l 0 l (by simp) (by simp)
    · funext l
      rw [hrow, dif_neg h]
      exact readAt_at (Val := Elt Ideal) harg1 x0 _ ⟨r.val - 32, by omega⟩ l ⟨r.val - 32, by omega⟩ l (by simp) (by simp)

/-- The normalized rows after all three stores. -/
theorem h3_at (r : Fin 544) (k : Fin 2048) :
    View.canon (kernelRun0_A.sl.HS0_3 (F := Ideal) c arg1 harg1 arg2 harg2 arg3 harg3 x0 x1 x2) (ix2 r k) = HN x0 x1 x2 r k := by
  unfold kernelRun0_A.sl.HS0_3
  by_cases h : r.val < 288
  · refine (canon_miss _ _ _ r k (by omega)).trans ?_
    exact h2_low c arg1 harg1 arg2 harg2 arg3 harg3 x0 x1 x2 r h k
  · refine (canon_hit _ _ _ r k ⟨r.val - 288, by omega⟩ k (by simp <;> omega) (by simp)).trans ?_
    refine (pay13_at _ _ _ _).trans ?_
    unfold HN
    congr 1
    · funext l
      exact readAt_at (Val := Elt Ideal) harg3 x2 _ 0 l 0 l (by simp) (by simp)
    · funext l
      rw [hrow, dif_neg (by omega)]
      exact readAt_at (Val := Elt Ideal) harg1 x0 _ ⟨r.val - 32, by omega⟩ l ⟨r.val - 288, by omega⟩ l (by simp <;> omega) (by simp)

/-- The projected rows. -/
theorem u_at (r : Fin 544) (p : Fin 1024) :
    View.canon (kernelRun0_A.sl.HS1_3 (F := Ideal) c i arg1 harg1 arg2 harg2 arg3 harg3 arg4 harg4 arg5 harg5 arg10 x0 x1 x2 x3 x4) (ix2 r p) = UU (kernelRun0_A.sl.v9 i) x0 x1 x2 x3 x4 r p := by
  unfold kernelRun0_A.sl.HS1_3
  unfold UU
  by_cases h : r.val < 32
  · refine (canon_miss _ _ _ r p (by omega)).trans ?_
    refine (canon_miss _ _ _ r p (by omega)).trans ?_
    refine (canon_hit _ _ _ r p ⟨r.val, h⟩ p (by simp) (by simp)).trans ?_
    refine (pay8_at _ _ _ _ _ _).trans ?_
    by_cases h9 : kernelRun0_A.sl.v9 i = 0#32
    · rw [if_pos h9, if_pos ⟨h, h9⟩]
    · rw [if_neg h9, if_neg (fun hh => h9 hh.2)]
      refine Ideal.add_congr (Finset.sum_congr rfl fun k _ => Ideal.mul_congr ?_ (readAt_at (Val := Elt Ideal) harg4 x3 _ k ⟨p, by omega⟩ k p (by simp) (by simp))) (readAt_at (Val := Elt Ideal) harg5 x4 _ 0 ⟨p, by omega⟩ 0 p (by simp) (by simp))
      exact (readCov_at _ _ _ r k ⟨r.val, by omega⟩ k (by simp) (by simp)).trans
        (h2_low c arg1 harg1 arg2 harg2 arg3 harg3 x0 x1 x2 r (by omega) k)
  · rw [if_neg (fun hh => h hh.1)]
    by_cases h' : r.val < 288
    · refine (canon_miss _ _ _ r p (by omega)).trans ?_
      refine (canon_hit _ _ _ r p ⟨r.val - 32, by omega⟩ p (by simp <;> omega) (by simp)).trans ?_
      refine (pay9_at _ _ _ _ _).trans ?_
      refine Ideal.add_congr (Finset.sum_congr rfl fun k _ => Ideal.mul_congr ?_ (readAt_at (Val := Elt Ideal) harg4 x3 _ k ⟨p, by omega⟩ k p (by simp) (by simp))) (readAt_at (Val := Elt Ideal) harg5 x4 _ 0 ⟨p, by omega⟩ 0 p (by simp) (by simp))
      exact (readCov_at _ _ _ r k ⟨32 + (r.val - 32), by omega⟩ k (by simp <;> omega) (by simp)).trans
        (h2_low c arg1 harg1 arg2 harg2 arg3 harg3 x0 x1 x2 r (by omega) k)
    · refine (canon_hit _ _ _ r p ⟨r.val - 288, by omega⟩ p (by simp <;> omega) (by simp)).trans ?_
      refine (pay14_at _ _ _ _ _).trans ?_
      refine Ideal.add_congr (Finset.sum_congr rfl fun k _ => Ideal.mul_congr ?_ (readAt_at (Val := Elt Ideal) harg4 x3 _ k ⟨p, by omega⟩ k p (by simp) (by simp))) (readAt_at (Val := Elt Ideal) harg5 x4 _ 0 ⟨p, by omega⟩ 0 p (by simp) (by simp))
      exact (readCov_at _ _ _ r k ⟨r.val - 288, by omega⟩ k (by simp <;> omega) (by simp)).trans
        (h3_at c arg1 harg1 arg2 harg2 arg3 harg3 x0 x1 x2 r k)

/-- The sums of 2 rows, in column group 0. -/
theorem s2_1_at (r : Fin 544) (p : Fin 1024) (hr : 8 ≤ r.val) (hp : 0 ≤ p.val ∧ p.val < 256) :
    View.canon (kernelRun0_A.sl.HS2_1 (F := Ideal) c i arg1 harg1 arg2 harg2 arg3 harg3 arg4 harg4 arg5 harg5 arg10 arg11 x0 x1 x2 x3 x4) (ix2 r p) = WS (kernelRun0_A.sl.v9 i) x0 x1 x2 x3 x4 2 r p := by
  unfold kernelRun0_A.sl.HS2_1
  refine (canon_hit _ _ _ r p (⟨r.val - 8, by omega⟩ : Fin 536) (⟨p.val - 0, by omega⟩ : Fin 256) (by simp <;> omega) (by simp <;> omega)).trans ?_
  refine (pay19_at _ _ _ _).trans ?_
  refine Eq.trans ?_ (WS_double x0 x1 x2 x3 x4 _ 1 r ⟨r.val - 1, by omega⟩ (by simp <;> omega) p).symm
  refine Ideal.add_congr ?_ ?_
  · exact (readCov_at _ _ _ r p _ _ (by simp <;> omega) (by simp <;> omega)).trans ((u_at c i arg1 harg1 arg2 harg2 arg3 harg3 arg4 harg4 arg5 harg5 arg10 x0 x1 x2 x3 x4 r p).trans (WS_one x0 x1 x2 x3 x4 _ _ p).symm)
  · exact (readCov_at _ _ _ (⟨r.val - 1, by omega⟩ : Fin 544) p _ _ (by simp <;> omega) (by simp <;> omega)).trans ((u_at c i arg1 harg1 arg2 harg2 arg3 harg3 arg4 harg4 arg5 harg5 arg10 x0 x1 x2 x3 x4 _ p).trans (WS_one x0 x1 x2 x3 x4 _ _ p).symm)

/-- The sums of 2 rows, in column group 1. -/
theorem s2_2_at (r : Fin 544) (p : Fin 1024) (hr : 8 ≤ r.val) (hp : 256 ≤ p.val ∧ p.val < 512) :
    View.canon (kernelRun0_A.sl.HS2_2 (F := Ideal) c i arg1 harg1 arg2 harg2 arg3 harg3 arg4 harg4 arg5 harg5 arg10 arg11 x0 x1 x2 x3 x4) (ix2 r p) = WS (kernelRun0_A.sl.v9 i) x0 x1 x2 x3 x4 2 r p := by
  unfold kernelRun0_A.sl.HS2_2
  refine (canon_hit _ _ _ r p (⟨r.val - 8, by omega⟩ : Fin 536) (⟨p.val - 256, by omega⟩ : Fin 256) (by simp <;> omega) (by simp <;> omega)).trans ?_
  refine (pay23_at _ _ _ _).trans ?_
  refine Eq.trans ?_ (WS_double x0 x1 x2 x3 x4 _ 1 r ⟨r.val - 1, by omega⟩ (by simp <;> omega) p).symm
  refine Ideal.add_congr ?_ ?_
  · exact (readCov_at _ _ _ r p _ _ (by simp <;> omega) (by simp <;> omega)).trans ((u_at c i arg1 harg1 arg2 harg2 arg3 harg3 arg4 harg4 arg5 harg5 arg10 x0 x1 x2 x3 x4 r p).trans (WS_one x0 x1 x2 x3 x4 _ _ p).symm)
  · exact (readCov_at _ _ _ (⟨r.val - 1, by omega⟩ : Fin 544) p _ _ (by simp <;> omega) (by simp <;> omega)).trans ((u_at c i arg1 harg1 arg2 harg2 arg3 harg3 arg4 harg4 arg5 harg5 arg10 x0 x1 x2 x3 x4 _ p).trans (WS_one x0 x1 x2 x3 x4 _ _ p).symm)

/-- The sums of 4 rows, in column group 1. -/
theorem s3_1_at (r : Fin 544) (p : Fin 1024) (hr : 16 ≤ r.val) (hp : 256 ≤ p.val ∧ p.val < 512) :
    View.canon (kernelRun0_A.sl.HS3_1 (F := Ideal) c i arg1 harg1 arg2 harg2 arg3 harg3 arg4 harg4 arg5 harg5 arg10 arg11 arg12 x0 x1 x2 x3 x4) (ix2 r p) = WS (kernelRun0_A.sl.v9 i) x0 x1 x2 x3 x4 4 r p := by
  unfold kernelRun0_A.sl.HS3_1
  refine (canon_hit _ _ _ r p (⟨r.val - 16, by omega⟩ : Fin 528) (⟨p.val - 256, by omega⟩ : Fin 256) (by simp <;> omega) (by simp <;> omega)).trans ?_
  refine (pay24_at _ _ _ _).trans ?_
  refine Eq.trans ?_ (WS_double x0 x1 x2 x3 x4 _ 2 r ⟨r.val - 2, by omega⟩ (by simp <;> omega) p).symm
  refine Ideal.add_congr ?_ ?_
  · exact (readCov_at _ _ _ r p _ _ (by simp <;> omega) (by simp <;> omega)).trans (s2_2_at c i arg1 harg1 arg2 harg2 arg3 harg3 arg4 harg4 arg5 harg5 arg10 arg11 x0 x1 x2 x3 x4 r p (by omega) hp)
  · exact (readCov_at _ _ _ (⟨r.val - 2, by omega⟩ : Fin 544) p _ _ (by simp <;> omega) (by simp <;> omega)).trans (s2_2_at c i arg1 harg1 arg2 harg2 arg3 harg3 arg4 harg4 arg5 harg5 arg10 arg11 x0 x1 x2 x3 x4 _ p (by simp <;> omega) hp)

/-- The sums of 2 rows, in column group 2. -/
theorem s2_3_at (r : Fin 544) (p : Fin 1024) (hr : 8 ≤ r.val) (hp : 512 ≤ p.val ∧ p.val < 768) :
    View.canon (kernelRun0_A.sl.HS2_3 (F := Ideal) c i arg1 harg1 arg2 harg2 arg3 harg3 arg4 harg4 arg5 harg5 arg10 arg11 x0 x1 x2 x3 x4) (ix2 r p) = WS (kernelRun0_A.sl.v9 i) x0 x1 x2 x3 x4 2 r p := by
  unfold kernelRun0_A.sl.HS2_3
  refine (canon_hit _ _ _ r p (⟨r.val - 8, by omega⟩ : Fin 536) (⟨p.val - 512, by omega⟩ : Fin 256) (by simp <;> omega) (by simp <;> omega)).trans ?_
  refine (pay28_at _ _ _ _).trans ?_
  refine Eq.trans ?_ (WS_double x0 x1 x2 x3 x4 _ 1 r ⟨r.val - 1, by omega⟩ (by simp <;> omega) p).symm
  refine Ideal.add_congr ?_ ?_
  · exact (readCov_at _ _ _ r p _ _ (by simp <;> omega) (by simp <;> omega)).trans ((u_at c i arg1 harg1 arg2 harg2 arg3 harg3 arg4 harg4 arg5 harg5 arg10 x0 x1 x2 x3 x4 r p).trans (WS_one x0 x1 x2 x3 x4 _ _ p).symm)
  · exact (readCov_at _ _ _ (⟨r.val - 1, by omega⟩ : Fin 544) p _ _ (by simp <;> omega) (by simp <;> omega)).trans ((u_at c i arg1 harg1 arg2 harg2 arg3 harg3 arg4 harg4 arg5 harg5 arg10 x0 x1 x2 x3 x4 _ p).trans (WS_one x0 x1 x2 x3 x4 _ _ p).symm)

/-- The sums of 4 rows, in column group 2. -/
theorem s3_2_at (r : Fin 544) (p : Fin 1024) (hr : 16 ≤ r.val) (hp : 512 ≤ p.val ∧ p.val < 768) :
    View.canon (kernelRun0_A.sl.HS3_2 (F := Ideal) c i arg1 harg1 arg2 harg2 arg3 harg3 arg4 harg4 arg5 harg5 arg10 arg11 arg12 x0 x1 x2 x3 x4) (ix2 r p) = WS (kernelRun0_A.sl.v9 i) x0 x1 x2 x3 x4 4 r p := by
  unfold kernelRun0_A.sl.HS3_2
  refine (canon_hit _ _ _ r p (⟨r.val - 16, by omega⟩ : Fin 528) (⟨p.val - 512, by omega⟩ : Fin 256) (by simp <;> omega) (by simp <;> omega)).trans ?_
  refine (pay29_at _ _ _ _).trans ?_
  refine Eq.trans ?_ (WS_double x0 x1 x2 x3 x4 _ 2 r ⟨r.val - 2, by omega⟩ (by simp <;> omega) p).symm
  refine Ideal.add_congr ?_ ?_
  · exact (readCov_at _ _ _ r p _ _ (by simp <;> omega) (by simp <;> omega)).trans (s2_3_at c i arg1 harg1 arg2 harg2 arg3 harg3 arg4 harg4 arg5 harg5 arg10 arg11 x0 x1 x2 x3 x4 r p (by omega) hp)
  · exact (readCov_at _ _ _ (⟨r.val - 2, by omega⟩ : Fin 544) p _ _ (by simp <;> omega) (by simp <;> omega)).trans (s2_3_at c i arg1 harg1 arg2 harg2 arg3 harg3 arg4 harg4 arg5 harg5 arg10 arg11 x0 x1 x2 x3 x4 _ p (by simp <;> omega) hp)

/-- The sums of 8 rows, in column group 2. -/
theorem s2_4_at (r : Fin 544) (p : Fin 1024) (hr : 24 ≤ r.val) (hp : 512 ≤ p.val ∧ p.val < 768) :
    View.canon (kernelRun0_A.sl.HS2_4 (F := Ideal) c i arg1 harg1 arg2 harg2 arg3 harg3 arg4 harg4 arg5 harg5 arg10 arg11 arg12 arg13 x0 x1 x2 x3 x4) (ix2 r p) = WS (kernelRun0_A.sl.v9 i) x0 x1 x2 x3 x4 8 r p := by
  unfold kernelRun0_A.sl.HS2_4
  refine (canon_hit _ _ _ r p (⟨r.val - 24, by omega⟩ : Fin 520) (⟨p.val - 512, by omega⟩ : Fin 256) (by simp <;> omega) (by simp <;> omega)).trans ?_
  refine (pay30_at _ _ _ _).trans ?_
  refine Eq.trans ?_ (WS_double x0 x1 x2 x3 x4 _ 4 r ⟨r.val - 4, by omega⟩ (by simp <;> omega) p).symm
  refine Ideal.add_congr ?_ ?_
  · exact (readCov_at _ _ _ r p _ _ (by simp <;> omega) (by simp <;> omega)).trans (s3_2_at c i arg1 harg1 arg2 harg2 arg3 harg3 arg4 harg4 arg5 harg5 arg10 arg11 arg12 x0 x1 x2 x3 x4 r p (by omega) hp)
  · exact (readCov_at _ _ _ (⟨r.val - 4, by omega⟩ : Fin 544) p _ _ (by simp <;> omega) (by simp <;> omega)).trans (s3_2_at c i arg1 harg1 arg2 harg2 arg3 harg3 arg4 harg4 arg5 harg5 arg10 arg11 arg12 x0 x1 x2 x3 x4 _ p (by simp <;> omega) hp)

/-- The sums of 2 rows, in column group 3. -/
theorem s2_5_at (r : Fin 544) (p : Fin 1024) (hr : 8 ≤ r.val) (hp : 768 ≤ p.val ∧ p.val < 1024) :
    View.canon (kernelRun0_A.sl.HS2_5 (F := Ideal) c i arg1 harg1 arg2 harg2 arg3 harg3 arg4 harg4 arg5 harg5 arg10 arg11 arg12 arg13 x0 x1 x2 x3 x4) (ix2 r p) = WS (kernelRun0_A.sl.v9 i) x0 x1 x2 x3 x4 2 r p := by
  unfold kernelRun0_A.sl.HS2_5
  refine (canon_hit _ _ _ r p (⟨r.val - 8, by omega⟩ : Fin 536) (⟨p.val - 768, by omega⟩ : Fin 256) (by simp <;> omega) (by simp <;> omega)).trans ?_
  refine (pay34_at _ _ _ _).trans ?_
  refine Eq.trans ?_ (WS_double x0 x1 x2 x3 x4 _ 1 r ⟨r.val - 1, by omega⟩ (by simp <;> omega) p).symm
  refine Ideal.add_congr ?_ ?_
  · exact (readCov_at _ _ _ r p _ _ (by simp <;> omega) (by simp <;> omega)).trans ((u_at c i arg1 harg1 arg2 harg2 arg3 harg3 arg4 harg4 arg5 harg5 arg10 x0 x1 x2 x3 x4 r p).trans (WS_one x0 x1 x2 x3 x4 _ _ p).symm)
  · exact (readCov_at _ _ _ (⟨r.val - 1, by omega⟩ : Fin 544) p _ _ (by simp <;> omega) (by simp <;> omega)).trans ((u_at c i arg1 harg1 arg2 harg2 arg3 harg3 arg4 harg4 arg5 harg5 arg10 x0 x1 x2 x3 x4 _ p).trans (WS_one x0 x1 x2 x3 x4 _ _ p).symm)

/-- The sums of 4 rows, in column group 3. -/
theorem s3_3_at (r : Fin 544) (p : Fin 1024) (hr : 16 ≤ r.val) (hp : 768 ≤ p.val ∧ p.val < 1024) :
    View.canon (kernelRun0_A.sl.HS3_3 (F := Ideal) c i arg1 harg1 arg2 harg2 arg3 harg3 arg4 harg4 arg5 harg5 arg10 arg11 arg12 arg13 x0 x1 x2 x3 x4) (ix2 r p) = WS (kernelRun0_A.sl.v9 i) x0 x1 x2 x3 x4 4 r p := by
  unfold kernelRun0_A.sl.HS3_3
  refine (canon_hit _ _ _ r p (⟨r.val - 16, by omega⟩ : Fin 528) (⟨p.val - 768, by omega⟩ : Fin 256) (by simp <;> omega) (by simp <;> omega)).trans ?_
  refine (pay35_at _ _ _ _).trans ?_
  refine Eq.trans ?_ (WS_double x0 x1 x2 x3 x4 _ 2 r ⟨r.val - 2, by omega⟩ (by simp <;> omega) p).symm
  refine Ideal.add_congr ?_ ?_
  · exact (readCov_at _ _ _ r p _ _ (by simp <;> omega) (by simp <;> omega)).trans (s2_5_at c i arg1 harg1 arg2 harg2 arg3 harg3 arg4 harg4 arg5 harg5 arg10 arg11 arg12 arg13 x0 x1 x2 x3 x4 r p (by omega) hp)
  · exact (readCov_at _ _ _ (⟨r.val - 2, by omega⟩ : Fin 544) p _ _ (by simp <;> omega) (by simp <;> omega)).trans (s2_5_at c i arg1 harg1 arg2 harg2 arg3 harg3 arg4 harg4 arg5 harg5 arg10 arg11 arg12 arg13 x0 x1 x2 x3 x4 _ p (by simp <;> omega) hp)

/-- The sums of 8 rows, in column group 3. -/
theorem s2_6_at (r : Fin 544) (p : Fin 1024) (hr : 24 ≤ r.val) (hp : 768 ≤ p.val ∧ p.val < 1024) :
    View.canon (kernelRun0_A.sl.HS2_6 (F := Ideal) c i arg1 harg1 arg2 harg2 arg3 harg3 arg4 harg4 arg5 harg5 arg10 arg11 arg12 arg13 x0 x1 x2 x3 x4) (ix2 r p) = WS (kernelRun0_A.sl.v9 i) x0 x1 x2 x3 x4 8 r p := by
  unfold kernelRun0_A.sl.HS2_6
  refine (canon_hit _ _ _ r p (⟨r.val - 24, by omega⟩ : Fin 520) (⟨p.val - 768, by omega⟩ : Fin 256) (by simp <;> omega) (by simp <;> omega)).trans ?_
  refine (pay36_at _ _ _ _).trans ?_
  refine Eq.trans ?_ (WS_double x0 x1 x2 x3 x4 _ 4 r ⟨r.val - 4, by omega⟩ (by simp <;> omega) p).symm
  refine Ideal.add_congr ?_ ?_
  · exact (readCov_at _ _ _ r p _ _ (by simp <;> omega) (by simp <;> omega)).trans (s3_3_at c i arg1 harg1 arg2 harg2 arg3 harg3 arg4 harg4 arg5 harg5 arg10 arg11 arg12 arg13 x0 x1 x2 x3 x4 r p (by omega) hp)
  · exact (readCov_at _ _ _ (⟨r.val - 4, by omega⟩ : Fin 544) p _ _ (by simp <;> omega) (by simp <;> omega)).trans (s3_3_at c i arg1 harg1 arg2 harg2 arg3 harg3 arg4 harg4 arg5 harg5 arg10 arg11 arg12 arg13 x0 x1 x2 x3 x4 _ p (by simp <;> omega) hp)

/-- The sums of 16 rows, in column group 3. -/
theorem s3_4_at (r : Fin 544) (p : Fin 1024) (hr : 32 ≤ r.val) (hp : 768 ≤ p.val ∧ p.val < 1024) :
    View.canon (kernelRun0_A.sl.HS3_4 (F := Ideal) c i arg1 harg1 arg2 harg2 arg3 harg3 arg4 harg4 arg5 harg5 arg10 arg11 arg12 arg13 x0 x1 x2 x3 x4) (ix2 r p) = WS (kernelRun0_A.sl.v9 i) x0 x1 x2 x3 x4 16 r p := by
  unfold kernelRun0_A.sl.HS3_4
  refine (canon_hit _ _ _ r p (⟨r.val - 32, by omega⟩ : Fin 512) (⟨p.val - 768, by omega⟩ : Fin 256) (by simp <;> omega) (by simp <;> omega)).trans ?_
  refine (pay37_at _ _ _ _).trans ?_
  refine Eq.trans ?_ (WS_double x0 x1 x2 x3 x4 _ 8 r ⟨r.val - 8, by omega⟩ (by simp <;> omega) p).symm
  refine Ideal.add_congr ?_ ?_
  · exact (readCov_at _ _ _ r p _ _ (by simp <;> omega) (by simp <;> omega)).trans (s2_6_at c i arg1 harg1 arg2 harg2 arg3 harg3 arg4 harg4 arg5 harg5 arg10 arg11 arg12 arg13 x0 x1 x2 x3 x4 r p (by omega) hp)
  · exact (readCov_at _ _ _ (⟨r.val - 8, by omega⟩ : Fin 544) p _ _ (by simp <;> omega) (by simp <;> omega)).trans (s2_6_at c i arg1 harg1 arg2 harg2 arg3 harg3 arg4 harg4 arg5 harg5 arg10 arg11 arg12 arg13 x0 x1 x2 x3 x4 _ p (by simp <;> omega) hp)

end Cert.MixInIdeal.Block

end
-- ==== Proof.MixIn.Outputs.lean ====
/- What one grid point of the pooling call writes back, at an index. -/
module

public import proofs.«01_k».proof.Proof.MixIn.Scratches

@[expose] public section

set_option maxRecDepth 16384

noncomputable section

namespace Cert.MixInIdeal.Block

open Cert.MixInIdeal Cert.MixInIdeal.Gen Idealize.ShloMosaic Idealize.ShloMosaic.TcCoe Idealize.SL.Sem
open Cert.Pieces

/-- The gated linear unit of the tile's row `r` at column `q`. -/
def GLU (x0 : FVec Ideal S512x2048 .f32) (x1 : FVec Ideal S32x2048 .f32) (x2 : FVec Ideal S1x2048 .f32)
    (x3 : FVec Ideal S2048x3072 .bf16) (x4 : FVec Ideal S1x3072 .f32) (r : Fin 512) (q : Fin 1024) : EReal :=
  ((∑ k : Fin 2048, HN x0 x1 x2 ⟨r.val + 32, by omega⟩ k * x3 (ix2 k ⟨1024 + q.val, by omega⟩)) + x4 (ix2 0 ⟨1024 + q.val, by omega⟩))
    * Ideal.logistic ((∑ k : Fin 2048, HN x0 x1 x2 ⟨r.val + 32, by omega⟩ k * x3 (ix2 k ⟨2048 + q.val, by omega⟩)) + x4 (ix2 0 ⟨2048 + q.val, by omega⟩))

/-- The pooled and mixed row `r` of the tile, at column `j` of group `g`, the group's window holding `n` rows. -/
def MIX (w9 : BitVec 32) (x0 : FVec Ideal S512x2048 .f32) (x1 : FVec Ideal S32x2048 .f32) (x2 : FVec Ideal S1x2048 .f32)
    (x3 : FVec Ideal S2048x3072 .bf16) (x4 : FVec Ideal S1x3072 .f32) (x5 : FVec Ideal S4x256x256 .bf16) (x6 : FVec Ideal S1x1024 .f32)
    (g : Fin 4) (n : ℕ) (r : Fin 512) (j : Fin 256) : EReal :=
  (∑ k : Fin 256, (WS w9 x0 x1 x2 x3 x4 n ⟨r.val + 32, by omega⟩ ⟨256 * g.val + k.val, by omega⟩ * invCount w9 (BitVec.ofNat 32 n) r.val
      - UU w9 x0 x1 x2 x3 x4 ⟨r.val + 32, by omega⟩ ⟨256 * g.val + k.val, by omega⟩) * x5 (ix3 g k j))
    * x6 (ix2 0 ⟨256 * g.val + j.val, by omega⟩)

/-- A load of one matrix of the stack of four reads the stack at that matrix. -/
theorem readAt_stack {M : Memref sig Kind.tc Space.vmem S4x256x256 EltTy.bf16} (hM : M.IsWhole) (X : FVec Ideal S4x256x256 .bf16) (g : Fin 4)
    {o : ℕ} (inb : ∀ a, (![o, 0, 0] : Fin 3 → ℕ) a + (![1, 256, 256] : Fin 3 → ℕ) a ≤ S4x256x256.size a) (ho : o = g.val) (k j : Fin 256) :
    View.readAt (Elt Ideal) M.view (Rect.unit (s := S4x256x256) ![o, 0, 0] ![1, 256, 256] inb).toLoadRect (hM.unread X)
      (ix3 0 k j : (⟨3, ![1, 256, 256]⟩ : Shape).Idx) = X (ix3 g k j) := by
  rw [hM.readAt_unread]
  refine congrArg X ?_
  funext a
  match a with
  | 0 => apply Fin.ext; show o + 1 * 0 = g.val; omega
  | 1 => apply Fin.ext; show 0 + 1 * k.val = k.val; omega
  | 2 => apply Fin.ext; show 0 + 1 * j.val = j.val; omega

variable (m : (ℓ : Loc nD τ sig) → Buf (Elt Ideal) ℓ)

/-- The second result of a grid point is the gated linear unit of its tile. -/
theorem glu_at (c : Dev nD) (t : Fin cfg0.N) (r : Fin 512) (q : Fin 1024) :
    (outsAt0 m c t).2 (ix2 r q) = GLU (iblk m c 0 t) (iblk m c 1 t) (iblk m c 2 t) (X0_3 m c t) (iblk m c 4 t) r q := by
  have hh : ∀ k : Fin 2048, kernelRun0_A.sl.v104 (F := Ideal) c (ms0_0 t) (hs0_0 t) (ms0_1 t) (hs0_1 t) (ms0_2 t) (hs0_2 t) scM0_0
      (iblk m c 0 t) (iblk m c 1 t) (iblk m c 2 t) (ix2 r k)
      = HN (iblk m c 0 t) (iblk m c 1 t) (iblk m c 2 t) ⟨r.val + 32, by omega⟩ k := fun k => by
    unfold kernelRun0_A.sl.v104
    exact (readCov_at _ _ _ (⟨r.val + 32, by omega⟩ : Fin 544) k r k (by simp <;> omega) (by simp)).trans
      (h3_at c (ms0_0 t) (hs0_0 t) (ms0_1 t) (hs0_1 t) (ms0_2 t) (hs0_2 t) (iblk m c 0 t) (iblk m c 1 t) (iblk m c 2 t) ⟨r.val + 32, by omega⟩ k)
  unfold outsAt0
  dsimp only
  unfold out0_A_8
  rw [View.read_writes_eq_canon _ _ _ (cover0_A_8 c _ _ _ _ _ _ _ _ _ _ _ _ _ _ _ _ _ _ _ _ _ _ _ _ _ _ _ _ _ _ _ _ _ _)]
  unfold kernelRun0_A
  dsimp only
  unfold GLU
  rcases (by omega : 768 ≤ q.val ∨ (512 ≤ q.val ∧ q.val < 768) ∨ (256 ≤ q.val ∧ q.val < 512) ∨ q.val < 256) with hq | hq | hq | hq
  · refine (canon_hit _ _ _ r q r (⟨q.val - 768, by omega⟩ : Fin 256) (by simp) (by simp <;> omega)).trans ?_
    unfold kernelRun0_A.sl.r_13
    refine (pay33_at _ _ _ _ _ _ _).trans ?_
    refine Ideal.mul_congr (Ideal.add_congr (Finset.sum_congr rfl fun k _ => Ideal.mul_congr (hh k) ?_) ?_)
      (congrArg Ideal.logistic (Ideal.add_congr (Finset.sum_congr rfl fun k _ => Ideal.mul_congr (hh k) ?_) ?_))
    · exact readAt_at (Val := Elt Ideal) (hs0_3 t) (X0_3 m c t) _ k (⟨1024 + q.val, by omega⟩ : Fin 3072) k _ (by simp) (by simp <;> omega)
    · exact readAt_at (Val := Elt Ideal) (hs0_4 t) (iblk m c 4 t) _ 0 (⟨1024 + q.val, by omega⟩ : Fin 3072) 0 _ (by simp) (by simp <;> omega)
    · exact readAt_at (Val := Elt Ideal) (hs0_3 t) (X0_3 m c t) _ k (⟨2048 + q.val, by omega⟩ : Fin 3072) k _ (by simp) (by simp <;> omega)
    · exact readAt_at (Val := Elt Ideal) (hs0_4 t) (iblk m c 4 t) _ 0 (⟨2048 + q.val, by omega⟩ : Fin 3072) 0 _ (by simp) (by simp <;> omega)
  · refine (canon_miss _ _ _ r q (by omega)).trans ?_
    refine (canon_hit _ _ _ r q r (⟨q.val - 512, by omega⟩ : Fin 256) (by simp) (by simp <;> omega)).trans ?_
    unfold kernelRun0_A.sl.r_10 kernelRun0_A.sl.r_11
    refine (pay27_at _ _ _ _ _ _ _).trans ?_
    refine Ideal.mul_congr (Ideal.add_congr (Finset.sum_congr rfl fun k _ => Ideal.mul_congr (hh k) ?_) ?_)
      (congrArg Ideal.logistic (Ideal.add_congr (Finset.sum_congr rfl fun k _ => Ideal.mul_congr (hh k) ?_) ?_))
    · exact readAt_at (Val := Elt Ideal) (hs0_3 t) (X0_3 m c t) _ k (⟨1024 + q.val, by omega⟩ : Fin 3072) k _ (by simp) (by simp <;> omega)
    · exact readAt_at (Val := Elt Ideal) (hs0_4 t) (iblk m c 4 t) _ 0 (⟨1024 + q.val, by omega⟩ : Fin 3072) 0 _ (by simp) (by simp <;> omega)
    · exact readAt_at (Val := Elt Ideal) (hs0_3 t) (X0_3 m c t) _ k (⟨2048 + q.val, by omega⟩ : Fin 3072) k _ (by simp) (by simp <;> omega)
    · exact readAt_at (Val := Elt Ideal) (hs0_4 t) (iblk m c 4 t) _ 0 (⟨2048 + q.val, by omega⟩ : Fin 3072) 0 _ (by simp) (by simp <;> omega)
  · refine (canon_miss _ _ _ r q (by omega)).trans ?_
    refine (canon_miss _ _ _ r q (by omega)).trans ?_
    refine (canon_hit _ _ _ r q r (⟨q.val - 256, by omega⟩ : Fin 256) (by simp) (by simp <;> omega)).trans ?_
    refine (pay22_at _ _ _ _ _ _ _).trans ?_
    refine Ideal.mul_congr (Ideal.add_congr (Finset.sum_congr rfl fun k _ => Ideal.mul_congr (hh k) ?_) ?_)
      (congrArg Ideal.logistic (Ideal.add_congr (Finset.sum_congr rfl fun k _ => Ideal.mul_congr (hh k) ?_) ?_))
    · exact readAt_at (Val := Elt Ideal) (hs0_3 t) (X0_3 m c t) _ k (⟨1024 + q.val, by omega⟩ : Fin 3072) k _ (by simp) (by simp <;> omega)
    · exact readAt_at (Val := Elt Ideal) (hs0_4 t) (iblk m c 4 t) _ 0 (⟨1024 + q.val, by omega⟩ : Fin 3072) 0 _ (by simp) (by simp <;> omega)
    · exact readAt_at (Val := Elt Ideal) (hs0_3 t) (X0_3 m c t) _ k (⟨2048 + q.val, by omega⟩ : Fin 3072) k _ (by simp) (by simp <;> omega)
    · exact readAt_at (Val := Elt Ideal) (hs0_4 t) (iblk m c 4 t) _ 0 (⟨2048 + q.val, by omega⟩ : Fin 3072) 0 _ (by simp) (by simp <;> omega)
  · refine (canon_miss _ _ _ r q (by omega)).trans ?_
    refine (canon_miss _ _ _ r q (by omega)).trans ?_
    refine (canon_miss _ _ _ r q (by omega)).trans ?_
    refine (canon_hit _ _ _ r q r (⟨q.val - 0, by omega⟩ : Fin 256) (by simp) (by simp <;> omega)).trans ?_
    unfold kernelRun0_A.sl.r_7 kernelRun0_A.sl.r_8
    refine (pay18_at _ _ _ _ _ _ _).trans ?_
    refine Ideal.mul_congr (Ideal.add_congr (Finset.sum_congr rfl fun k _ => Ideal.mul_congr (hh k) ?_) ?_)
      (congrArg Ideal.logistic (Ideal.add_congr (Finset.sum_congr rfl fun k _ => Ideal.mul_congr (hh k) ?_) ?_))
    · exact readAt_at (Val := Elt Ideal) (hs0_3 t) (X0_3 m c t) _ k (⟨1024 + q.val, by omega⟩ : Fin 3072) k _ (by simp) (by simp <;> omega)
    · exact readAt_at (Val := Elt Ideal) (hs0_4 t) (iblk m c 4 t) _ 0 (⟨1024 + q.val, by omega⟩ : Fin 3072) 0 _ (by simp) (by simp <;> omega)
    · exact readAt_at (Val := Elt Ideal) (hs0_3 t) (X0_3 m c t) _ k (⟨2048 + q.val, by omega⟩ : Fin 3072) k _ (by simp) (by simp <;> omega)
    · exact readAt_at (Val := Elt Ideal) (hs0_4 t) (iblk m c 4 t) _ 0 (⟨2048 + q.val, by omega⟩ : Fin 3072) 0 _ (by simp) (by simp <;> omega)

/-- The first result of a grid point, in column group 0. -/
theorem mix0_at (c : Dev nD) (t : Fin cfg0.N) (r : Fin 512) (j : Fin 256) :
    (outsAt0 m c t).1 (ix2 r (⟨256 * 0 + j.val, by omega⟩ : Fin 1024))
      = MIX (kernelRun0_A.sl.v9 (grid0.coords t)) (iblk m c 0 t) (iblk m c 1 t) (iblk m c 2 t) (X0_3 m c t) (iblk m c 4 t) (iblk m c 5 t) (iblk m c 6 t) 0 2 r j := by
  unfold outsAt0
  dsimp only
  unfold out0_A_7
  rw [View.read_writes_eq_canon _ _ _ (cover0_A_7 c _ _ _ _ _ _ _ _ _ _ _ _ _ _ _ _ _ _ _ _ _ _ _ _ _ _ _ _ _ _ _ _ _ _)]
  unfold kernelRun0_A
  dsimp only
  refine (canon_miss _ _ _ r _ (by simp <;> omega)).trans ?_
  refine (canon_miss _ _ _ r _ (by simp <;> omega)).trans ?_
  refine (canon_miss _ _ _ r _ (by simp <;> omega)).trans ?_
  refine (canon_hit _ _ _ r _ r j (by simp) (by simp)).trans ?_
  unfold kernelRun0_A.sl.r_9 kernelRun0_A.sl.r_6
  refine (pay21_at _ _ _ _ _ _ _).trans ?_
  unfold MIX
  refine Ideal.mul_congr (Finset.sum_congr rfl fun k _ => Ideal.mul_congr (congrArg₂ (fun a b : EReal => a - b) (Ideal.mul_congr ?_ rfl) ?_) ?_) ?_
  · unfold kernelRun0_A.sl.v135
    exact (readCov_at _ _ _ (⟨r.val + 32, by omega⟩ : Fin 544) (⟨256 * 0 + k.val, by omega⟩ : Fin 1024) r k (by simp <;> omega) (by simp)).trans
      (s2_1_at c (grid0.coords t) (ms0_0 t) (hs0_0 t) (ms0_1 t) (hs0_1 t) (ms0_2 t) (hs0_2 t) (ms0_3 t) (hs0_3 t) (ms0_4 t) (hs0_4 t) scM0_0 scM0_1 (iblk m c 0 t) (iblk m c 1 t) (iblk m c 2 t) (X0_3 m c t) (iblk m c 4 t) ⟨r.val + 32, by omega⟩ ⟨256 * 0 + k.val, by omega⟩ (by simp) ⟨by simp, by simp <;> omega⟩)
  · unfold kernelRun0_A.sl.v138
    exact (readCov_at _ _ _ (⟨r.val + 32, by omega⟩ : Fin 544) (⟨256 * 0 + k.val, by omega⟩ : Fin 1024) r k (by simp <;> omega) (by simp)).trans
      (u_at c (grid0.coords t) (ms0_0 t) (hs0_0 t) (ms0_1 t) (hs0_1 t) (ms0_2 t) (hs0_2 t) (ms0_3 t) (hs0_3 t) (ms0_4 t) (hs0_4 t) scM0_0 (iblk m c 0 t) (iblk m c 1 t) (iblk m c 2 t) (X0_3 m c t) (iblk m c 4 t) ⟨r.val + 32, by omega⟩ ⟨256 * 0 + k.val, by omega⟩)
  · exact readAt_stack (hs0_5 t) (iblk m c 5 t) 0 _ rfl k j
  · exact readAt_at (Val := Elt Ideal) (hs0_6 t) (iblk m c 6 t) _ 0 (⟨256 * 0 + j.val, by omega⟩ : Fin 1024) 0 j (by simp) (by simp)

/-- The first result of a grid point, in column group 1. -/
theorem mix1_at (c : Dev nD) (t : Fin cfg0.N) (r : Fin 512) (j : Fin 256) :
    (outsAt0 m c t).1 (ix2 r (⟨256 * 1 + j.val, by omega⟩ : Fin 1024))
      = MIX (kernelRun0_A.sl.v9 (grid0.coords t)) (iblk m c 0 t) (iblk m c 1 t) (iblk m c 2 t) (X0_3 m c t) (iblk m c 4 t) (iblk m c 5 t) (iblk m c 6 t) 1 4 r j := by
  unfold outsAt0
  dsimp only
  unfold out0_A_7
  rw [View.read_writes_eq_canon _ _ _ (cover0_A_7 c _ _ _ _ _ _ _ _ _ _ _ _ _ _ _ _ _ _ _ _ _ _ _ _ _ _ _ _ _ _ _ _ _ _)]
  unfold kernelRun0_A
  dsimp only
  refine (canon_miss _ _ _ r _ (by simp <;> omega)).trans ?_
  refine (canon_miss _ _ _ r _ (by simp <;> omega)).trans ?_
  refine (canon_hit _ _ _ r _ r j (by simp) (by simp)).trans ?_
  unfold kernelRun0_A.sl.r_6
  refine (pay25_at _ _ _ _ _ _ _).trans ?_
  unfold MIX
  refine Ideal.mul_congr (Finset.sum_congr rfl fun k _ => Ideal.mul_congr (congrArg₂ (fun a b : EReal => a - b) (Ideal.mul_congr ?_ rfl) ?_) ?_) ?_
  · unfold kernelRun0_A.sl.v186
    exact (readCov_at _ _ _ (⟨r.val + 32, by omega⟩ : Fin 544) (⟨256 * 1 + k.val, by omega⟩ : Fin 1024) r k (by simp <;> omega) (by simp)).trans
      (s3_1_at c (grid0.coords t) (ms0_0 t) (hs0_0 t) (ms0_1 t) (hs0_1 t) (ms0_2 t) (hs0_2 t) (ms0_3 t) (hs0_3 t) (ms0_4 t) (hs0_4 t) scM0_0 scM0_1 scM0_2 (iblk m c 0 t) (iblk m c 1 t) (iblk m c 2 t) (X0_3 m c t) (iblk m c 4 t) ⟨r.val + 32, by omega⟩ ⟨256 * 1 + k.val, by omega⟩ (by simp) ⟨by simp, by simp <;> omega⟩)
  · unfold kernelRun0_A.sl.v189
    exact (readCov_at _ _ _ (⟨r.val + 32, by omega⟩ : Fin 544) (⟨256 * 1 + k.val, by omega⟩ : Fin 1024) r k (by simp <;> omega) (by simp)).trans
      (u_at c (grid0.coords t) (ms0_0 t) (hs0_0 t) (ms0_1 t) (hs0_1 t) (ms0_2 t) (hs0_2 t) (ms0_3 t) (hs0_3 t) (ms0_4 t) (hs0_4 t) scM0_0 (iblk m c 0 t) (iblk m c 1 t) (iblk m c 2 t) (X0_3 m c t) (iblk m c 4 t) ⟨r.val + 32, by omega⟩ ⟨256 * 1 + k.val, by omega⟩)
  · exact readAt_stack (hs0_5 t) (iblk m c 5 t) 1 _ rfl k j
  · exact readAt_at (Val := Elt Ideal) (hs0_6 t) (iblk m c 6 t) _ 0 (⟨256 * 1 + j.val, by omega⟩ : Fin 1024) 0 j (by simp) (by simp)

/-- The first result of a grid point, in column group 2. -/
theorem mix2_at (c : Dev nD) (t : Fin cfg0.N) (r : Fin 512) (j : Fin 256) :
    (outsAt0 m c t).1 (ix2 r (⟨256 * 2 + j.val, by omega⟩ : Fin 1024))
      = MIX (kernelRun0_A.sl.v9 (grid0.coords t)) (iblk m c 0 t) (iblk m c 1 t) (iblk m c 2 t) (X0_3 m c t) (iblk m c 4 t) (iblk m c 5 t) (iblk m c 6 t) 2 8 r j := by
  unfold outsAt0
  dsimp only
  unfold out0_A_7
  rw [View.read_writes_eq_canon _ _ _ (cover0_A_7 c _ _ _ _ _ _ _ _ _ _ _ _ _ _ _ _ _ _ _ _ _ _ _ _ _ _ _ _ _ _ _ _ _ _)]
  unfold kernelRun0_A
  dsimp only
  refine (canon_miss _ _ _ r _ (by simp <;> omega)).trans ?_
  refine (canon_hit _ _ _ r _ r j (by simp) (by simp)).trans ?_
  unfold kernelRun0_A.sl.r_12 kernelRun0_A.sl.r_6
  refine (pay32_at _ _ _ _ _ _ _).trans ?_
  unfold MIX
  refine Ideal.mul_congr (Finset.sum_congr rfl fun k _ => Ideal.mul_congr (congrArg₂ (fun a b : EReal => a - b) (Ideal.mul_congr ?_ rfl) ?_) ?_) ?_
  · unfold kernelRun0_A.sl.v243
    exact (readCov_at _ _ _ (⟨r.val + 32, by omega⟩ : Fin 544) (⟨256 * 2 + k.val, by omega⟩ : Fin 1024) r k (by simp <;> omega) (by simp)).trans
      (s2_4_at c (grid0.coords t) (ms0_0 t) (hs0_0 t) (ms0_1 t) (hs0_1 t) (ms0_2 t) (hs0_2 t) (ms0_3 t) (hs0_3 t) (ms0_4 t) (hs0_4 t) scM0_0 scM0_1 scM0_2 scM0_3 (iblk m c 0 t) (iblk m c 1 t) (iblk m c 2 t) (X0_3 m c t) (iblk m c 4 t) ⟨r.val + 32, by omega⟩ ⟨256 * 2 + k.val, by omega⟩ (by simp) ⟨by simp, by simp <;> omega⟩)
  · unfold kernelRun0_A.sl.v246
    exact (readCov_at _ _ _ (⟨r.val + 32, by omega⟩ : Fin 544) (⟨256 * 2 + k.val, by omega⟩ : Fin 1024) r k (by simp <;> omega) (by simp)).trans
      (u_at c (grid0.coords t) (ms0_0 t) (hs0_0 t) (ms0_1 t) (hs0_1 t) (ms0_2 t) (hs0_2 t) (ms0_3 t) (hs0_3 t) (ms0_4 t) (hs0_4 t) scM0_0 (iblk m c 0 t) (iblk m c 1 t) (iblk m c 2 t) (X0_3 m c t) (iblk m c 4 t) ⟨r.val + 32, by omega⟩ ⟨256 * 2 + k.val, by omega⟩)
  · exact readAt_stack (hs0_5 t) (iblk m c 5 t) 2 _ rfl k j
  · exact readAt_at (Val := Elt Ideal) (hs0_6 t) (iblk m c 6 t) _ 0 (⟨256 * 2 + j.val, by omega⟩ : Fin 1024) 0 j (by simp) (by simp)

/-- The first result of a grid point, in column group 3. -/
theorem mix3_at (c : Dev nD) (t : Fin cfg0.N) (r : Fin 512) (j : Fin 256) :
    (outsAt0 m c t).1 (ix2 r (⟨256 * 3 + j.val, by omega⟩ : Fin 1024))
      = MIX (kernelRun0_A.sl.v9 (grid0.coords t)) (iblk m c 0 t) (iblk m c 1 t) (iblk m c 2 t) (X0_3 m c t) (iblk m c 4 t) (iblk m c 5 t) (iblk m c 6 t) 3 16 r j := by
  unfold outsAt0
  dsimp only
  unfold out0_A_7
  rw [View.read_writes_eq_canon _ _ _ (cover0_A_7 c _ _ _ _ _ _ _ _ _ _ _ _ _ _ _ _ _ _ _ _ _ _ _ _ _ _ _ _ _ _ _ _ _ _)]
  unfold kernelRun0_A
  dsimp only
  refine (canon_hit _ _ _ r _ r j (by simp) (by simp)).trans ?_
  unfold kernelRun0_A.sl.r_14 kernelRun0_A.sl.r_6
  refine (pay1_at _ _ _ _ _ _ _).trans ?_
  unfold MIX
  refine Ideal.mul_congr (Finset.sum_congr rfl fun k _ => Ideal.mul_congr (congrArg₂ (fun a b : EReal => a - b) (Ideal.mul_congr ?_ rfl) ?_) ?_) ?_
  · unfold kernelRun0_A.sl.v306
    exact (readCov_at _ _ _ (⟨r.val + 32, by omega⟩ : Fin 544) (⟨256 * 3 + k.val, by omega⟩ : Fin 1024) r k (by simp <;> omega) (by simp)).trans
      (s3_4_at c (grid0.coords t) (ms0_0 t) (hs0_0 t) (ms0_1 t) (hs0_1 t) (ms0_2 t) (hs0_2 t) (ms0_3 t) (hs0_3 t) (ms0_4 t) (hs0_4 t) scM0_0 scM0_1 scM0_2 scM0_3 (iblk m c 0 t) (iblk m c 1 t) (iblk m c 2 t) (X0_3 m c t) (iblk m c 4 t) ⟨r.val + 32, by omega⟩ ⟨256 * 3 + k.val, by omega⟩ (by simp) ⟨by simp, by simp <;> omega⟩)
  · unfold kernelRun0_A.sl.v309
    exact (readCov_at _ _ _ (⟨r.val + 32, by omega⟩ : Fin 544) (⟨256 * 3 + k.val, by omega⟩ : Fin 1024) r k (by simp <;> omega) (by simp)).trans
      (u_at c (grid0.coords t) (ms0_0 t) (hs0_0 t) (ms0_1 t) (hs0_1 t) (ms0_2 t) (hs0_2 t) (ms0_3 t) (hs0_3 t) (ms0_4 t) (hs0_4 t) scM0_0 (iblk m c 0 t) (iblk m c 1 t) (iblk m c 2 t) (X0_3 m c t) (iblk m c 4 t) ⟨r.val + 32, by omega⟩ ⟨256 * 3 + k.val, by omega⟩)
  · exact readAt_stack (hs0_5 t) (iblk m c 5 t) 3 _ rfl k j
  · exact readAt_at (Val := Elt Ideal) (hs0_6 t) (iblk m c 6 t) _ 0 (⟨256 * 3 + j.val, by omega⟩ : Fin 1024) 0 j (by simp) (by simp)

end Cert.MixInIdeal.Block

end
-- ==== Proof.MixIn.Arrays.lean ====
/- The pooling call's two result arrays after the run, as functions of the argument arrays. -/
module

public import proofs.«01_k».proof.Proof.MixIn.Outputs
public import proofs.«01_k».proof.Proof.MixIn.Spec
public import proofs.«01_k».proof.Proof.Gen.MixInIdeal.Value
public import Idealize.ShloMosaic.Lib.Pipeline.ValueKit

@[expose] public section

set_option maxRecDepth 16384

noncomputable section

namespace Cert.MixInIdeal.Block

open Cert.MixInIdeal Cert.MixInIdeal.Gen Idealize.ShloMosaic Idealize.ShloMosaic.TcCoe Idealize.SL.Sem
open Cert.Pieces

variable (m : (ℓ : Loc nD τ sig) → Buf (Elt Ideal) ℓ)

/-- The blocks each grid point works on, by index. -/
theorem idx : ∀ t : Fin cfg0.N, win0_0.index t = ![t.val, 0] ∧ win0_1.index t = ![16 * t.val - 1, 0] ∧ win0_2.index t = ![0, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ t.val < 32 :=
  (by decide +kernel : ∀ t : Fin grid0.N, _)

/-- The point's number is below 32. -/
theorem lt32 (t : Fin cfg0.N) : t.val < 32 := (idx t).2.2.2.2.2.2.2.2.2

/-- The word the body computes is the tile's place in its sequence. -/
theorem word : ∀ t : Fin cfg0.N, kernelRun0_A.sl.v9 (grid0.coords t) = BitVec.ofNat 32 (t.val % 8) :=
  (by decide +kernel : ∀ t : Fin grid0.N, _)

/-- The tile's rows, in the activations. -/
theorem b0 (c : Dev nD) (t : Fin cfg0.N) (r : Fin 512) (k : Fin 2048) (a : Fin 4) (s : Fin 4096)
    (h : t.val * 512 + r.val = a.val * 4096 + s.val) :
    iblk m c 0 t (ix2 r k) = (m ((c : Thread nD τ).loc main_arg0) : FVec Ideal S4x4096x2048 .f32) (ix3 a s k) := by
  blk_point [iblk, V, idx t]

/-- The thirty-two rows before the tile, in the activations. -/
theorem b1 (c : Dev nD) (t : Fin cfg0.N) (r : Fin 32) (k : Fin 2048) (a : Fin 4) (s : Fin 4096)
    (h0 : t.val ≠ 0) (h : t.val * 512 + r.val = a.val * 4096 + s.val + 32) :
    iblk m c 1 t (ix2 r k) = (m ((c : Thread nD τ).loc main_arg0) : FVec Ideal S4x4096x2048 .f32) (ix3 a s k) := by
  blk_point [iblk, V, idx t]

/-- The norm's scale. -/
theorem b2 (c : Dev nD) (t : Fin cfg0.N) (k : Fin 2048) :
    iblk m c 2 t (ix2 0 k) = (m ((c : Thread nD τ).loc main_arg1) : FVec Ideal S1x2048 .f32) (ix2 0 k) := by
  blk_point [iblk, V, idx t]

/-- The projection's first 3072 columns. -/
theorem b3 (c : Dev nD) (t : Fin cfg0.N) (k : Fin 2048) (j : Fin 3072) :
    X0_3 m c t (ix2 k j) = (m ((c : Thread nD τ).loc main_arg2) : FVec Ideal S1x2048x7168 .f32) (ix3 0 k ⟨j.val, by omega⟩) := by
  unfold X0_3 Pipeline.Window.fill
  rw [dif_pos (moved0_3 t _)]
  blk_point [iblk, V, idx t]

/-- The bias's first 3072 columns. -/
theorem b4 (c : Dev nD) (t : Fin cfg0.N) (k : Fin 3072) :
    iblk m c 4 t (ix2 0 k) = (m ((c : Thread nD τ).loc main_arg3) : FVec Ideal S1x7168 .f32) (ix2 0 ⟨k.val, by omega⟩) := by
  blk_point [iblk, V, idx t]

/-- The groups' mixing matrices. -/
theorem b5 (c : Dev nD) (t : Fin cfg0.N) (g : Fin 4) (k j : Fin 256) :
    iblk m c 5 t (ix3 g k j) = (m ((c : Thread nD τ).loc main_arg4) : FVec Ideal S1x4x256x256 .f32) (ix4 0 g k j) := by
  blk_point [iblk, V, idx t]

/-- The pooled path's scale. -/
theorem b6 (c : Dev nD) (t : Fin cfg0.N) (k : Fin 1024) :
    iblk m c 6 t (ix2 0 k) = (m ((c : Thread nD τ).loc main_arg5) : FVec Ideal S1x1024 .f32) (ix2 0 k) := by
  blk_point [iblk, V, idx t]

/-- The number of tokens of a window, from the words it is computed with. -/
theorem count_word (a r : ℕ) (n : ℕ) (s : Fin 4096) (ha : a < 8) (hr : r < 512) (hn : n ≤ 16) (hs : s.val = a * 512 + r) :
    invCount (BitVec.ofNat 32 a) (BitVec.ofNat 32 n) r = Ideal.div 1 (MixSpec.count n s) := by
  unfold invCount MixSpec.count
  congr 1
  have e : Scalar.minsi (BitVec.ofNat 32 a * 512#32 + BitVec.ofNat 32 r + 1#32) (BitVec.ofNat 32 n) = BitVec.ofNat 32 (min (s.val + 1) n) := by
    have e1 : BitVec.ofNat 32 a * 512#32 + BitVec.ofNat 32 r + 1#32 = BitVec.ofNat 32 (s.val + 1) := by
      rw [hs]; simp [BitVec.ofNat_add, BitVec.ofNat_mul]
    have t1 : ∀ k : ℕ, k < 5000 → (BitVec.ofNat 32 k).toInt = (k : ℤ) := fun k hk => by
      rw [BitVec.toInt_eq_toNat_cond, BitVec.toNat_ofNat]; split <;> omega
    rw [e1]
    unfold Scalar.minsi IntOp.minsi
    rw [BitVec.slt_eq_decide, t1 _ (by omega), t1 _ (by omega)]
    by_cases hh : s.val + 1 < n
    · rw [if_pos (by simpa using by omega), Nat.min_eq_left (by omega)]
    · rw [if_neg (by simpa using by omega), Nat.min_eq_right (by omega)]
  rw [e]
  have t1 : (BitVec.ofNat 32 (min (s.val + 1) n)).toInt = ((min (s.val + 1) n : ℕ) : ℤ) := by
    rw [BitVec.toInt_eq_toNat_cond, BitVec.toNat_ofNat]; split <;> omega
  show (((BitVec.ofNat 32 (min (s.val + 1) n)).toInt : ℝ) : EReal) = _
  rw [t1]
  norm_cast

/-- A row of the tile, with its earlier rows, is a row of the sequence. -/
theorem hrow_eq (c : Dev nD) (t : Fin cfg0.N) (r : Fin 544) (a : Fin 4) (s : Fin 4096)
    (h : t.val * 512 + r.val = a.val * 4096 + s.val + 32) (h0 : ¬ (r.val < 32 ∧ t.val = 0)) :
    hrow (iblk m c 0 t) (iblk m c 1 t) r = fun k => (m ((c : Thread nD τ).loc main_arg0) : FVec Ideal S4x4096x2048 .f32) (ix3 a s k) := by
  funext k
  unfold hrow
  split
  · exact b1 m c t _ k a s (by omega) (by simpa using h)
  · exact b0 m c t _ k a s (by simp only; omega)

/-- Its normalization. -/
theorem HN_eq (c : Dev nD) (t : Fin cfg0.N) (r : Fin 544) (a : Fin 4) (s : Fin 4096)
    (h : t.val * 512 + r.val = a.val * 4096 + s.val + 32) (h0 : ¬ (r.val < 32 ∧ t.val = 0)) (k : Fin 2048) :
    HN (iblk m c 0 t) (iblk m c 1 t) (iblk m c 2 t) r k
      = MixSpec.normed (m ((c : Thread nD τ).loc main_arg0)) (m ((c : Thread nD τ).loc main_arg1)) a s k := by
  unfold HN MixSpec.normed
  rw [hrow_eq m c t r a s h h0]
  congr 1
  funext l
  exact b2 m c t l

/-- The projection of one of the tile's rows. -/
theorem proj_eq (c : Dev nD) (t : Fin cfg0.N) (r : Fin 544) (a : Fin 4) (s : Fin 4096)
    (h : t.val * 512 + r.val = a.val * 4096 + s.val + 32) (h0 : ¬ (r.val < 32 ∧ t.val = 0)) (p : Fin 3072) :
    (∑ k : Fin 2048, HN (iblk m c 0 t) (iblk m c 1 t) (iblk m c 2 t) r k * X0_3 m c t (ix2 k p)) + iblk m c 4 t (ix2 0 p)
      = MixSpec.proj (m ((c : Thread nD τ).loc main_arg0)) (m ((c : Thread nD τ).loc main_arg1)) (m ((c : Thread nD τ).loc main_arg2))
          (m ((c : Thread nD τ).loc main_arg3)) a s ⟨p.val, by omega⟩ := by
  unfold MixSpec.proj
  refine Ideal.add_congr (Finset.sum_congr rfl fun k _ => Ideal.mul_congr (HN_eq m c t r a s h h0 k) (b3 m c t k p)) (b4 m c t p)

/-- A projected row of the tile: the sequence's, or zero before its beginning. -/
theorem UU_eq (c : Dev nD) (t : Fin cfg0.N) (r : Fin 544) (a : Fin 4) (s : Fin 4096) (j : ℕ) (hj : j < 32) (ha : a.val = t.val / 8)
    (h : t.val * 512 + r.val + j = a.val * 4096 + s.val + 32) (p : Fin 1024) :
    UU (kernelRun0_A.sl.v9 (grid0.coords t)) (iblk m c 0 t) (iblk m c 1 t) (iblk m c 2 t) (X0_3 m c t) (iblk m c 4 t) r p
      = if j ≤ s.val then MixSpec.proj (m ((c : Thread nD τ).loc main_arg0)) (m ((c : Thread nD τ).loc main_arg1)) (m ((c : Thread nD τ).loc main_arg2))
          (m ((c : Thread nD τ).loc main_arg3)) a ⟨s.val - j, by omega⟩ ⟨p.val, by omega⟩ else 0 := by
  have ht := lt32 t
  have hw : kernelRun0_A.sl.v9 (grid0.coords t) = 0#32 ↔ t.val % 8 = 0 := by
    rw [word t]
    constructor
    · intro e
      have := congrArg BitVec.toNat e
      simp at this
      omega
    · intro e; rw [e]
  unfold UU
  by_cases hs : j ≤ s.val
  · rw [if_neg (by rw [hw]; omega), if_pos hs]
    exact proj_eq m c t r a ⟨s.val - j, by omega⟩ (by simp only; omega) (by omega) ⟨p.val, by omega⟩
  · rw [if_pos (by rw [hw]; omega), if_neg hs]

/-- A windowed sum of the tile is the sequence's. -/
theorem WS_eq (c : Dev nD) (t : Fin cfg0.N) (r : Fin 512) (a : Fin 4) (s : Fin 4096) (n : ℕ) (hn : n ≤ 32) (ha : a.val = t.val / 8)
    (h : t.val * 512 + r.val = a.val * 4096 + s.val) (p : Fin 1024) :
    WS (kernelRun0_A.sl.v9 (grid0.coords t)) (iblk m c 0 t) (iblk m c 1 t) (iblk m c 2 t) (X0_3 m c t) (iblk m c 4 t) n ⟨r.val + 32, by omega⟩ p
      = MixSpec.win (m ((c : Thread nD τ).loc main_arg0)) (m ((c : Thread nD τ).loc main_arg1)) (m ((c : Thread nD τ).loc main_arg2))
          (m ((c : Thread nD τ).loc main_arg3)) n a s ⟨p.val, by omega⟩ := by
  unfold WS MixSpec.win
  refine Finset.sum_congr rfl fun j hj => ?_
  have hj' := Finset.mem_range.mp hj
  exact UU_eq m c t _ a s j (by omega) ha (by simp only; omega) p

/-- The tile's gated linear unit. -/
theorem GLU_eq (c : Dev nD) (t : Fin cfg0.N) (r : Fin 512) (q : Fin 1024) (a : Fin 4) (s : Fin 4096)
    (h : t.val * 512 + r.val = a.val * 4096 + s.val) :
    GLU (iblk m c 0 t) (iblk m c 1 t) (iblk m c 2 t) (X0_3 m c t) (iblk m c 4 t) r q
      = MixSpec.glu (m ((c : Thread nD τ).loc main_arg0)) (m ((c : Thread nD τ).loc main_arg1)) (m ((c : Thread nD τ).loc main_arg2))
          (m ((c : Thread nD τ).loc main_arg3)) a s q := by
  unfold GLU MixSpec.glu
  exact Ideal.mul_congr (proj_eq m c t ⟨r.val + 32, by omega⟩ a s (by simp only; omega) (by simp only; omega) ⟨1024 + q.val, by omega⟩)
    (congrArg Ideal.logistic (proj_eq m c t ⟨r.val + 32, by omega⟩ a s (by simp only; omega) (by simp only; omega) ⟨2048 + q.val, by omega⟩))

/-- The tile's pooled and mixed row. -/
theorem MIX_eq (c : Dev nD) (t : Fin cfg0.N) (r : Fin 512) (g : Fin 4) (j : Fin 256) (a : Fin 4) (s : Fin 4096) (ha : a.val = t.val / 8)
    (h : t.val * 512 + r.val = a.val * 4096 + s.val) :
    MIX (kernelRun0_A.sl.v9 (grid0.coords t)) (iblk m c 0 t) (iblk m c 1 t) (iblk m c 2 t) (X0_3 m c t) (iblk m c 4 t) (iblk m c 5 t) (iblk m c 6 t)
        g (2 ^ (g.val + 1)) r j
      = MixSpec.mix (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) g a s j := by
  have ht := lt32 t
  have hp : 2 ^ (g.val + 1) ≤ 16 := le_trans (Nat.pow_le_pow_right (by omega) (by omega : g.val + 1 ≤ 4)) (by norm_num)
  unfold MIX MixSpec.mix MixSpec.pooled
  refine Ideal.mul_congr (Finset.sum_congr rfl fun k _ => Ideal.mul_congr (congrArg₂ (· - ·) (Ideal.mul_congr ?_ ?_) ?_) (b5 m c t g k j)) (b6 m c t _)
  · exact WS_eq m c t r a s _ (by omega) ha h _
  · rw [word t]
    exact count_word (t.val % 8) r.val _ s (by omega) r.isLt hp (by omega)
  · refine (UU_eq m c t ⟨r.val + 32, by omega⟩ a s 0 (by omega) ha (by simp only; omega) _).trans ?_
    rw [if_pos (Nat.zero_le _)]
    rfl

/-- What a grid point leaves of the gated linear unit, in the whole array. -/
theorem glu_blk (c : Dev nD) (t : Fin cfg0.N) (r : Fin 512) (q : Fin 1024) :
    (outsAt0 m c t).2 (ix2 r q) = MixSpec.gluArr (m ((c : Thread nD τ).loc main_arg0)) (m ((c : Thread nD τ).loc main_arg1)) (m ((c : Thread nD τ).loc main_arg2)) (m ((c : Thread nD τ).loc main_arg3)) (ix2 ⟨t.val * 512 + r.val, by have := lt32 t; omega⟩ q) := by
  have ht := lt32 t
  refine (glu_at m c t r q).trans (GLU_eq m c t r q ⟨(t.val * 512 + r.val) / 4096, by omega⟩ ⟨(t.val * 512 + r.val) % 4096, by omega⟩ (by simp only; omega))

/-- The pooled and mixed row at a column of any group. -/
theorem mix_at (c : Dev nD) (t : Fin cfg0.N) (r : Fin 512) (g : Fin 4) (j : Fin 256) :
    (outsAt0 m c t).1 (ix2 r (⟨256 * g.val + j.val, by omega⟩ : Fin 1024))
      = MIX (kernelRun0_A.sl.v9 (grid0.coords t)) (iblk m c 0 t) (iblk m c 1 t) (iblk m c 2 t) (X0_3 m c t) (iblk m c 4 t) (iblk m c 5 t) (iblk m c 6 t)
          g (2 ^ (g.val + 1)) r j := by
  match g with
  | 0 => exact mix0_at m c t r j
  | 1 => exact mix1_at m c t r j
  | 2 => exact mix2_at m c t r j
  | 3 => exact mix3_at m c t r j

/-- What a grid point leaves of the pooled and mixed rows, in the whole array. -/
theorem mix_blk (c : Dev nD) (t : Fin cfg0.N) (r : Fin 512) (q : Fin 1024) :
    (outsAt0 m c t).1 (ix2 r q) = MixSpec.mixArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + r.val, by have := lt32 t; omega⟩ q) := by
  have ht := lt32 t
  have hq : q = (⟨256 * (⟨q.val / 256, by omega⟩ : Fin 4).val + (⟨q.val % 256, by omega⟩ : Fin 256).val, by simp only; omega⟩ : Fin 1024) :=
    Fin.ext (by simp only; omega)
  refine (congrArg (fun z => (outsAt0 m c t).1 (ix2 r z)) hq).trans ((mix_at m c t r ⟨q.val / 256, by omega⟩ ⟨q.val % 256, by omega⟩).trans
    (MIX_eq m c t r _ _ ⟨(t.val * 512 + r.val) / 4096, by omega⟩ ⟨(t.val * 512 + r.val) % 4096, by omega⟩ (by simp only; omega) (by simp only; omega)))

/-- If every grid point leaves an array's block in its result 2, that array is what the run leaves. -/
theorem final8_of (c : Dev nD) (G : FVec Ideal S16384x1024 .f32)
    (hG : ∀ (t : Fin cfg0.N) (r : Fin 512) (q : Fin 1024),
      (outsAt0 m c t).2 (ix2 r q) = G (ix2 ⟨t.val * 512 + r.val, by have := lt32 t; omega⟩ q)) :
    (dats m 0 c).arrAt 8 cfg0.N = G := by
  refine (dats m 0 c).arrAt_eq_of_covers 8 _ (by decide +kernel) fun t _ y => ?_
  blk_simp
  rw [after0_8]
  idx_vars y
  refine (hG t _ _).trans ?_
  blk_point [idx t]

/-- The gated linear unit's array after the run. -/
theorem final8 (c : Dev nD) : (dats m 0 c).arrAt 8 cfg0.N = MixSpec.gluArr (m ((c : Thread nD τ).loc main_arg0)) (m ((c : Thread nD τ).loc main_arg1)) (m ((c : Thread nD τ).loc main_arg2)) (m ((c : Thread nD τ).loc main_arg3)) :=
  final8_of m c _ fun t r q => glu_blk m c t r q

/-- If every grid point leaves an array's block in its result 1, that array is what the run leaves. -/
theorem final7_of (c : Dev nD) (G : FVec Ideal S16384x1024 .bf16)
    (hG : ∀ (t : Fin cfg0.N) (r : Fin 512) (q : Fin 1024),
      (outsAt0 m c t).1 (ix2 r q) = G (ix2 ⟨t.val * 512 + r.val, by have := lt32 t; omega⟩ q)) :
    (dats m 0 c).arrAt 7 cfg0.N = G := by
  refine (dats m 0 c).arrAt_eq_of_covers 7 _ (by decide +kernel) fun t _ y => ?_
  blk_simp
  rw [after0_7]
  idx_vars y
  refine (hG t _ _).trans ?_
  blk_point [idx t]

/-- The pooled and mixed array after the run. -/
theorem final7 (c : Dev nD) : (dats m 0 c).arrAt 7 cfg0.N = MixSpec.mixArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  final7_of m c _ fun t r q => mix_blk m c t r q

end Cert.MixInIdeal.Block

end
-- ==== Proof.MixIn.Final.lean ====
/- The two results of the pooling mixer's first call against its reference, at finite inputs. -/
module

public import proofs.«01_k».proof.Defs
public import proofs.«01_k».proof.Proof.MixIn.Real
public import proofs.«01_k».proof.Proof.MixIn.Arrays
public import proofs.«01_k».proof.Proof.Gen.MixIn.Frame
public import proofs.«01_k».proof.Proof.Gen.MixInRefIdeal.Run
public import Idealize.ShloMosaic.Lib.Claim

@[expose] public section

set_option maxRecDepth 16384

noncomputable section

namespace Cert.MixFinal

open Idealize.ShloMosaic Idealize.SL.Sem Cert.MixReal
open Cert.MixInIdeal (S4x4096x2048 S1x2048 S1x2048x7168 S1x7168 S1x4x256x256 S1x1024)

/-- The scalar bound the precondition compares with spreads to each of the four arrays' shapes. -/
theorem preFacts : Cert.Pre_finite_inputs.Facts := ⟨by decide, by decide, by decide, by decide⟩

attribute [local instance] preFacts

/-- A value whose absolute value is below the infinite word is a real number. -/
theorem fin_of_lt (v : EReal) (h : Ideal.cmp .olt (max v (-v)) (Ideal.ofBits .f32 0x7F800000#32) = 1#1) : Fin' v := by
  have e : Ideal.ofBits .f32 0x7F800000#32 = ⊤ := by simp [Ideal.ofBits, Ideal.ieee]
  rw [e] at h
  induction v using EReal.rec with
  | bot => simp [Ideal.cmp] at h
  | top => simp [Ideal.cmp] at h
  | coe r => exact ⟨r, rfl⟩

/-- The precondition says that activations, norm weight, projection weight and bias hold real numbers. -/
theorem fin_of_pre (x : FVec Ideal S4x4096x2048 .f32) (g : FVec Ideal S1x2048 .f32) (w : FVec Ideal S1x2048x7168 .f32)
    (b : FVec Ideal S1x7168 .f32) (wg : FVec Ideal S1x4x256x256 .f32) (ps : FVec Ideal S1x1024 .f32)
    (h : (Cert.Pre_finite_inputs.fn (F := Ideal) x g w b wg ps).1 = (fun _ => 1#1)
      ∧ (Cert.Pre_finite_inputs.fn (F := Ideal) x g w b wg ps).2.1 = (fun _ => 1#1)
      ∧ (Cert.Pre_finite_inputs.fn (F := Ideal) x g w b wg ps).2.2.1 = (fun _ => 1#1)
      ∧ (Cert.Pre_finite_inputs.fn (F := Ideal) x g w b wg ps).2.2.2 = (fun _ => 1#1)) :
    (∀ i, Fin' (x i)) ∧ (∀ i, Fin' (g i)) ∧ (∀ i, Fin' (w i)) ∧ (∀ i, Fin' (b i)) :=
  ⟨fun i => fin_of_lt _ (congrFun h.1 i), fun i => fin_of_lt _ (congrFun h.2.1 i), fun i => fin_of_lt _ (congrFun h.2.2.1 i),
    fun i => fin_of_lt _ (congrFun h.2.2.2 i)⟩

/-- With real inputs the reference's mixed rows are the rows the kernel leaves. -/
theorem mixed_eq (x : FVec Ideal S4x4096x2048 .f32) (g : FVec Ideal S1x2048 .f32) (w : FVec Ideal S1x2048x7168 .f32)
    (b : FVec Ideal S1x7168 .f32) (wg : FVec Ideal S1x4x256x256 .f32) (ps : FVec Ideal S1x1024 .f32)
    (hx : ∀ i, Fin' (x i)) (hg : ∀ i, Fin' (g i)) (hw : ∀ i, Fin' (w i)) (hb : ∀ i, Fin' (b i)) :
    MixInRefIdeal.Read.val_main_v128 (F := Ideal) x g w b wg ps = MixSpec.mixArr x g w b wg ps := by
  funext i
  obtain ⟨r, q, rfl⟩ : ∃ (r : Fin 16384) (q : Fin 1024), i = ix2 r q := ⟨i 0, i 1, eq_ix2 i⟩
  rw [MixInRefIdeal.Ref.v128_at]
  simp only [pooled_eq x g w b hx hg hw hb]
  rfl

section
open Cert.MixInRefIdeal Cert.MixInRefIdeal.Read StableHlo

/-- What the reference leaves, as its last two stages over the arguments. -/
theorem runRef (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v128) = val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v129) = val_main_v129 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v128_eq (launchContents m c)),
    (h c).2.1.trans (val_main_v129_eq (launchContents m c)), (h c).2.2⟩) (Value.run m ρ)

end

/-- The kernel's two results are the reference's. -/
theorem algebraic : Cert.algebraic_MixInIdeal_MixInRefIdeal_pre_finite_inputs := by
  pair_intro
  · run_from Cert.MixInIdeal.Gen.run_main m g
  · run_from runRef m' g'
    · obtain ⟨hx, hg, hw, hb⟩ := fin_of_pre _ _ _ _ _ _ (hpre c)
      exact (mixed_eq _ _ _ _ _ _ hx hg hw hb).trans (Cert.MixInIdeal.Block.final7 m c).symm
    · exact (Cert.MixInRefIdeal.Ref.v129_eq _ _ _ _).trans (Cert.MixInIdeal.Block.final8 m c).symm

end Cert.MixFinal

end
-- ==== Proof.Tail.Runs.lean ====
/- What the runs of the feed-forward call's grid points share: the body's branch conditions in terms of the point, the staging
   buffers at a point, and the scratch. -/
module

public import proofs.«01_k».proof.Proof.Gen.TailIdeal.Frame
public import proofs.«01_k».proof.Proof.Gen.TailIdeal.Skeleton
public import proofs.«01_k».proof.Proof.Gen.TailIdeal.Loops
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.TailRun

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row tile's branch is taken at the first eleven points. -/
theorem cond1_iff : ∀ t : Fin cfg0.N, k0_cond1 (grid0.coords t) = 1#1 ↔ t.val < 11 :=
  (by decide +kernel : ∀ t : Fin grid0.N, k0_cond1 (grid0.coords t) = 1#1 ↔ t.val < 11)
/-- The first column block is copied at the points that begin a row tile. -/
theorem cond2_iff : ∀ t : Fin cfg0.N, k0_cond2 (grid0.coords t) = 1#1 ↔ t.val % 11 = 0 :=
  (by decide +kernel : ∀ t : Fin grid0.N, k0_cond2 (grid0.coords t) = 1#1 ↔ t.val % 11 = 0)
/-- The second column block's points. -/
theorem cond3_iff : ∀ t : Fin cfg0.N, k0_cond3 (grid0.coords t) = 1#1 ↔ t.val % 11 = 1 :=
  (by decide +kernel : ∀ t : Fin grid0.N, k0_cond3 (grid0.coords t) = 1#1 ↔ t.val % 11 = 1)
/-- The third column block's points. -/
theorem cond4_iff : ∀ t : Fin cfg0.N, k0_cond4 (grid0.coords t) = 1#1 ↔ t.val % 11 = 2 :=
  (by decide +kernel : ∀ t : Fin grid0.N, k0_cond4 (grid0.coords t) = 1#1 ↔ t.val % 11 = 2)
/-- The fourth column block's points. -/
theorem cond5_iff : ∀ t : Fin cfg0.N, k0_cond5 (grid0.coords t) = 1#1 ↔ t.val % 11 = 3 :=
  (by decide +kernel : ∀ t : Fin grid0.N, k0_cond5 (grid0.coords t) = 1#1 ↔ t.val % 11 = 3)
/-- The fifth column block's points. -/
theorem cond6_iff : ∀ t : Fin cfg0.N, k0_cond6 (grid0.coords t) = 1#1 ↔ t.val % 11 = 4 :=
  (by decide +kernel : ∀ t : Fin grid0.N, k0_cond6 (grid0.coords t) = 1#1 ↔ t.val % 11 = 4)
/-- The sixth column block's points. -/
theorem cond7_iff : ∀ t : Fin cfg0.N, k0_cond7 (grid0.coords t) = 1#1 ↔ t.val % 11 = 5 :=
  (by decide +kernel : ∀ t : Fin grid0.N, k0_cond7 (grid0.coords t) = 1#1 ↔ t.val % 11 = 5)
/-- The seventh column block's points. -/
theorem cond8_iff : ∀ t : Fin cfg0.N, k0_cond8 (grid0.coords t) = 1#1 ↔ t.val % 11 = 6 :=
  (by decide +kernel : ∀ t : Fin grid0.N, k0_cond8 (grid0.coords t) = 1#1 ↔ t.val % 11 = 6)
/-- The eighth column block's points. -/
theorem cond9_iff : ∀ t : Fin cfg0.N, k0_cond9 (grid0.coords t) = 1#1 ↔ t.val % 11 = 7 :=
  (by decide +kernel : ∀ t : Fin grid0.N, k0_cond9 (grid0.coords t) = 1#1 ↔ t.val % 11 = 7)
/-- The other row tiles' branch is taken from the eleventh point on. -/
theorem cond10_iff : ∀ t : Fin cfg0.N, k0_cond10 (grid0.coords t) = 1#1 ↔ 11 ≤ t.val :=
  (by decide +kernel : ∀ t : Fin grid0.N, k0_cond10 (grid0.coords t) = 1#1 ↔ 11 ≤ t.val)
/-- A row tile begins at the multiples of eleven. -/
theorem cond11_iff : ∀ t : Fin cfg0.N, k0_cond11 (grid0.coords t) = 1#1 ↔ t.val % 11 = 0 :=
  (by decide +kernel : ∀ t : Fin grid0.N, k0_cond11 (grid0.coords t) = 1#1 ↔ t.val % 11 = 0)
/-- The middle points of a row tile. -/
theorem cond12_iff : ∀ t : Fin cfg0.N, k0_cond12 (grid0.coords t) = 1#1 ↔ (1 ≤ t.val % 11 ∧ t.val % 11 ≤ 9) :=
  (by decide +kernel : ∀ t : Fin grid0.N, k0_cond12 (grid0.coords t) = 1#1 ↔ (1 ≤ t.val % 11 ∧ t.val % 11 ≤ 9))
/-- The last point of a row tile. -/
theorem cond13_iff : ∀ t : Fin cfg0.N, k0_cond13 (grid0.coords t) = 1#1 ↔ t.val % 11 = 10 :=
  (by decide +kernel : ∀ t : Fin grid0.N, k0_cond13 (grid0.coords t) = 1#1 ↔ t.val % 11 = 10)

/-- The output's block as a view of one staging buffer. -/
abbrev VO : View sig .tc .vmem S1024x2048 .f32 := (Memref.whole cc0_stg7_0 : Memref sig .tc .vmem S1024x2048 .f32).view

/-- The scratch of normalized rows, and its view. -/
abbrev scM : Memref sig .tc .vmem S1024x2048 .bf16 := Memref.whole cc0_scratch0
abbrev VS : View sig .tc .vmem S1024x2048 .bf16 := scM.view

/-- The staging buffers at a point, each with its wholeness. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x2048x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x2048x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x2048 .f32 := win0_7.stage (cfg0.slots t 7)
abbrev hs7 (t : Fin cfg0.N) : (ms7 t).IsWhole := hstage0_7 ((cfg0.slots t 7).cast nbuf0_7)

/-- What the body is handed beside the windows: the scratch at some contents and the generator's register. -/
theorem phiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.TailRun

end
-- ==== Proof.FeedForward.lean ====
/- Pieces of arithmetic and of reading buffers that the feed-forward calls share: a gated feed-forward layer over normalized
   tokens, as a function of the argument arrays, and the parts of it that one grid point computes, as functions of its blocks. -/
module

public import proofs.«01_k».proof.Proof.Pieces
public import Idealize.ShloMosaic.Lib.WritesUnit
public import Idealize.ShloMosaic.Lib.WholeRead
public import Idealize.ShloMosaic.Lib.Pointwise

@[expose] public section

set_option maxRecDepth 16384

noncomputable section

namespace Cert.FeedForward.Shapes

open Idealize.ShloMosaic

/-- The shapes of the arrays, the blocks and the loads. -/
abbrev S4x4096x2048 : Shape := ⟨3, ![4, 4096, 2048]⟩
abbrev S1x2048x11264 : Shape := ⟨3, ![1, 2048, 11264]⟩
abbrev S1x5632x2048 : Shape := ⟨3, ![1, 5632, 2048]⟩
abbrev S1024x2048 : Shape := ⟨2, ![1024, 2048]⟩
abbrev S1024x256 : Shape := ⟨2, ![1024, 256]⟩
abbrev S1x2048 : Shape := ⟨2, ![1, 2048]⟩
abbrev S2x2048x256 : Shape := ⟨3, ![2, 2048, 256]⟩
abbrev S1x2048x256 : Shape := ⟨3, ![1, 2048, 256]⟩
abbrev S512x2048 : Shape := ⟨2, ![512, 2048]⟩

end Cert.FeedForward.Shapes

namespace Cert.FeedForward

open Cert.FeedForward.Shapes Cert.Pieces
open Idealize.ShloMosaic Idealize.ShloMosaic.TcCoe Idealize.SL.Sem

/-- A row divided by its root mean square and scaled by the gains. -/
def nrm (g v : Fin 2048 → EReal) (k : Fin 2048) : EReal :=
  v k * Ideal.rsqrt (Ideal.div (∑ l, v l * v l) (Ideal.ofBits .f32 0x45000000#32) + Ideal.ofBits .f32 0x358637BD#32) * g k

/-- A gated hidden unit: the gate's projection times its logistic, times the other projection. -/
def gated (h wg wu : Fin 2048 → EReal) : EReal :=
  (∑ k, h k * wg k) * Ideal.logistic (∑ k, h k * wg k) * ∑ k, h k * wu k

/-- The hidden unit `q` of a chunk of 512 held as two tiles of 256 columns. -/
def unit4 (h : Fin 2048 → EReal) (g0 u0 g1 u1 : FVec Ideal S1x2048x256 .bf16) (q : Fin 512) : EReal :=
  if hq : q.val < 256 then gated h (fun k => g0 (ix3 0 k ⟨q.val, hq⟩)) (fun k => u0 (ix3 0 k ⟨q.val, hq⟩))
  else gated h (fun k => g1 (ix3 0 k ⟨q.val - 256, by omega⟩)) (fun k => u1 (ix3 0 k ⟨q.val - 256, by omega⟩))

section

variable (x : FVec Ideal S4x4096x2048 .f32) (g : FVec Ideal S1x2048 .f32) (w : FVec Ideal S1x2048x11264 .f32) (wo : FVec Ideal S1x5632x2048 .f32)

/-- Token `s` of sequence `a`, normalized and scaled. -/
def normed (a : Fin 4) (s : Fin 4096) (k : Fin 2048) : EReal := nrm (fun k => g (ix2 0 k)) (fun k => x (ix3 a s k)) k

/-- Its hidden unit `u`. -/
def unit (a : Fin 4) (s : Fin 4096) (u : Fin 5632) : EReal :=
  gated (normed x g a s) (fun k => w (ix3 0 k ⟨u.val, by omega⟩)) (fun k => w (ix3 0 k ⟨5632 + u.val, by omega⟩))

/-- The second projection at column `p`. -/
def proj (a : Fin 4) (s : Fin 4096) (p : Fin 2048) : EReal := ∑ u : Fin 5632, unit x g w a s u * wo (ix3 0 u p)

/-- The token with half of the layer's output added. -/
def row (a : Fin 4) (s : Fin 4096) (p : Fin 2048) : EReal := x (ix3 a s p) + Ideal.ofBits .f32 0x3F000000#32 * proj x g w wo a s p

/-- The share of hidden unit `u` in the second projection; none beyond the last unit. -/
def term (a : Fin 4) (s : Fin 4096) (p : Fin 2048) (u : ℕ) : EReal :=
  if hu : u < 5632 then unit x g w a s ⟨u, hu⟩ * wo (ix3 0 ⟨u, hu⟩ p) else 0

/-- The second projection as a sum of these shares. -/
theorem proj_eq (a : Fin 4) (s : Fin 4096) (p : Fin 2048) : proj x g w wo a s p = ∑ u ∈ Finset.range 5632, term x g w wo a s p u := by
  rw [Finset.sum_range]
  refine Finset.sum_congr rfl fun u _ => ?_
  unfold term
  rw [dif_pos u.isLt]

end

section

variable {F : FTy → Type} [FloatOps F]

/-- The block `Y` with its columns from `256 j` on, 256 of them, replaced by `P`. -/
def copied (j : ℕ) (P : Vec F S1024x256 .f32) (Y : Vec F S1024x2048 .f32) : Vec F S1024x2048 .f32 := fun x =>
  if h : 256 * j ≤ (x 1).val ∧ (x 1).val < 256 * j + 256 then P (ix2 (x 0) (⟨(x 1).val - 256 * j, by omega⟩ : Fin 256)) else Y x

/-- Past the last column block the copy is the block itself. -/
theorem copied_past {j : ℕ} (hj : 8 ≤ j) (P : Vec F S1024x256 .f32) (Y : Vec F S1024x2048 .f32) : copied j P Y = Y := by
  funext x
  have h2 : (x 1).val < 2048 := (x 1).isLt
  exact dif_neg (by omega)

/-- A load of the whole of a whole buffer holding `P` is `P`. -/
theorem loaded {sig : RefSig} {κ : Kind} {sp : Space} {M : Memref sig κ sp S1024x256 .f32} (hM : M.IsWhole) (P : Vec F S1024x256 .f32)
    (inb : ∀ a, (![0, 0] : Fin 2 → ℕ) a + S1024x256.size a ≤ S1024x256.size a) :
    View.readAt (Elt F) M.view (Rect.unit (s := S1024x256) ![0, 0] S1024x256.size inb).toLoadRect (hM.unread P) = P := by
  funext x
  refine (hM.readAt_unread P _ x).trans (congrArg P ?_)
  funext a
  match a with
  | 0 => apply Fin.ext; show 0 + 1 * (x 0).val = _; omega
  | 1 => apply Fin.ext; show 0 + 1 * (x 1).val = _; omega

/-- One stored column block leaves the copy. -/
theorem read_copied {sig : RefSig} {κ : Kind} {sp : Space} (v : View sig κ sp S1024x2048 .f32) (f : v.ty.Contents (Elt F)) (j o : ℕ) (ho : o = 256 * j)
    (inb : ∀ a, (![0, o] : Fin 2 → ℕ) a + S1024x256.size a ≤ S1024x2048.size a)
    (Q P : Vec F S1024x256 .f32) (hQ : Q = P) (Y : Vec F S1024x2048 .f32) (hf : v.read (Elt F) f = Y) :
    v.read (Elt F) (v.writes (Elt F) f [⟨Rect.unit (s := S1024x2048) ![0, o] S1024x256.size inb, Q⟩]) = copied j P Y := by
  subst ho hQ
  funext x
  by_cases h : 256 * j ≤ (x 1).val ∧ (x 1).val < 256 * j + 256
  · rw [copied, dif_pos h]
    have hx : (Rect.unit (s := S1024x2048) ![0, 256 * j] S1024x256.size inb).emb (ix2 (x 0) (⟨(x 1).val - 256 * j, by omega⟩ : Fin 256)) = x := by
      funext a
      match a with
      | 0 => apply Fin.ext; show 0 + 1 * (x 0).val = _; omega
      | 1 => apply Fin.ext; show 256 * j + 1 * ((x 1).val - 256 * j) = _; omega
    exact (congrArg _ hx.symm).trans (View.read_writes_cons_emb _ _ _ _ _ _)
  · rw [copied, dif_neg h]
    refine (View.read_writes_cons_miss _ _ _ _ _ ?_).trans (congrFun hf x)
    intro hx
    have hx' := (Rect.mem_set_unit (inb := inb)).mp (by simpa using hx)
    have h1 : 256 * j ≤ (x 1).val ∧ (x 1).val < 256 * j + 256 := hx' 1
    exact h h1

end

/-- The hidden unit `q` of a chunk whose two weight blocks are `x3` and `x4`. -/
def unitAt (h : Fin 2048 → EReal) (x3 x4 : FVec Ideal S2x2048x256 .bf16) (q : Fin 512) : EReal :=
  gated h (fun k => x3 (ix3 ⟨q.val / 256, by omega⟩ k ⟨q.val % 256, Nat.mod_lt _ (by norm_num)⟩))
    (fun k => x4 (ix3 ⟨q.val / 256, by omega⟩ k ⟨q.val % 256, Nat.mod_lt _ (by norm_num)⟩))

/-- A chunk's share of the second projection of a row, at column `p`. -/
def part (h : Fin 2048 → EReal) (x3 x4 : FVec Ideal S2x2048x256 .bf16) (x5 : FVec Ideal S512x2048 .bf16) (p : Fin 2048) : EReal :=
  ∑ q : Fin 512, unitAt h x3 x4 q * x5 (ix2 q p)

/-- Row `r` of the tile, normalized. -/
def HN (x0 : FVec Ideal S1024x2048 .f32) (x2 : FVec Ideal S1x2048 .f32) (r : Fin 1024) (k : Fin 2048) : EReal :=
  nrm (fun k => x2 (ix2 0 k)) (fun k => x0 (ix2 r k)) k

/-- A piece whose payload at the local index `(r, q)` is `G` at the shifted index is a block of `G`. -/
theorem piece_of {Val : EltTy → Type} {e : EltTy} {m n h w o p : ℕ} (G : (⟨2, ![m, n]⟩ : Shape).Idx → Val e)
    (inb : ∀ a, (![o, p] : Fin 2 → ℕ) a + (![h, w] : Fin 2 → ℕ) a ≤ (⟨2, ![m, n]⟩ : Shape).size a)
    (P : (⟨2, ![h, w]⟩ : Shape).Idx → Val e)
    (H : ∀ (r : Fin h) (q : Fin w) (r' : Fin m) (q' : Fin n), r'.val = o + r → q'.val = p + q → P (ix2 r q) = G (ix2 r' q')) :
    ∀ x : (Rect.unit (s := (⟨2, ![m, n]⟩ : Shape)) ![o, p] ![h, w] inb).shape.Idx,
      P x = G ((Rect.unit (s := (⟨2, ![m, n]⟩ : Shape)) ![o, p] ![h, w] inb).emb x) := by
  intro x
  have h0 : o + h ≤ m := inb 0
  have h1 : p + w ≤ n := inb 1
  obtain ⟨r, q, rfl⟩ : ∃ (r : Fin h) (q : Fin w), x = (ix2 r q : (⟨2, ![h, w]⟩ : Shape).Idx) := ⟨x 0, x 1, eq_ix2 x⟩
  rw [emb_ix2 inb ⟨o + r, by omega⟩ ⟨p + q, by omega⟩ r q rfl rfl]
  exact H r q _ _ rfl rfl

/-- A load of one of the two tiles of a chunk reads the chunk at that tile. -/
theorem readAt_tile {sig : RefSig} {M : Memref sig Kind.tc Space.vmem S2x2048x256 EltTy.bf16} (hM : M.IsWhole) (X : FVec Ideal S2x2048x256 .bf16) (g : Fin 2)
    {o : ℕ} (inb : ∀ a, (![o, 0, 0] : Fin 3 → ℕ) a + (![1, 2048, 256] : Fin 3 → ℕ) a ≤ S2x2048x256.size a) (ho : o = g.val)
    (k : Fin 2048) (j : Fin 256) :
    View.readAt (Elt Ideal) M.view (Rect.unit (s := S2x2048x256) ![o, 0, 0] ![1, 2048, 256] inb).toLoadRect (hM.unread X)
      (ix3 0 k j : (⟨3, ![1, 2048, 256]⟩ : Shape).Idx) = X (ix3 g k j) := by
  rw [hM.readAt_unread]
  refine congrArg X ?_
  funext a
  match a with
  | 0 => apply Fin.ext; show o + 1 * 0 = g.val; omega
  | 1 => apply Fin.ext; show 0 + 1 * k.val = k.val; omega
  | 2 => apply Fin.ext; show 0 + 1 * j.val = j.val; omega

/-- The first chunk's share of a tile. -/
abbrev partB (x0 : FVec Ideal S1024x2048 .f32) (x2 : FVec Ideal S1x2048 .f32) (x3 x4 : FVec Ideal S2x2048x256 .bf16) (x5 : FVec Ideal S512x2048 .bf16) :
    S1024x2048.Idx → Elt Ideal .f32 := fun x => part (HN x0 x2 (x 0)) x3 x4 x5 (x 1)

/-- The normalized rows of a tile. -/
def rowsG (x0 : FVec Ideal S1024x2048 .f32) (x2 : FVec Ideal S1x2048 .f32) : S1024x2048.Idx → Elt Ideal .bf16 := fun x => HN x0 x2 (x 0) (x 1)

/-- The output's contents with one more chunk's share. -/
abbrev partC (xo : FVec Ideal S1024x2048 .f32) (xs : FVec Ideal S1024x2048 .bf16) (x3 x4 : FVec Ideal S2x2048x256 .bf16) (x5 : FVec Ideal S512x2048 .bf16) :
    S1024x2048.Idx → Elt Ideal .f32 := fun x => xo (ix2 (x 0) (x 1)) + part (fun k => xs (ix2 (x 0) k)) x3 x4 x5 (x 1)

/-- The rows before the closing normalization: the residual and half of the second projection. -/
def resid (x0 xo : FVec Ideal S1024x2048 .f32) (xs : FVec Ideal S1024x2048 .bf16) (x3 x4 : FVec Ideal S2x2048x256 .bf16) (x5 : FVec Ideal S512x2048 .bf16)
    (r : Fin 1024) (p : Fin 2048) : EReal :=
  x0 (ix2 r p) + Ideal.ofBits .f32 0x3F000000#32 * (xo (ix2 r p) + part (fun k => xs (ix2 r k)) x3 x4 x5 p)

/-- Those rows, as one function of the index. -/
def residG (x0 xo : FVec Ideal S1024x2048 .f32) (xs : FVec Ideal S1024x2048 .bf16) (x3 x4 : FVec Ideal S2x2048x256 .bf16) (x5 : FVec Ideal S512x2048 .bf16) :
    S1024x2048.Idx → Elt Ideal .f32 := fun x => resid x0 xo xs x3 x4 x5 (x 0) (x 1)

section

variable {sig : RefSig} {arg2 : Memref sig Kind.tc Space.vmem S1024x2048 EltTy.f32} {harg2 : arg2.IsWhole}
  {arg4 : Memref sig Kind.tc Space.vmem S1x2048 EltTy.f32} {harg4 : arg4.IsWhole}
  {arg5 : Memref sig Kind.tc Space.vmem S2x2048x256 EltTy.bf16} {harg5 : arg5.IsWhole}
  {arg6 : Memref sig Kind.tc Space.vmem S2x2048x256 EltTy.bf16} {harg6 : arg6.IsWhole}
  {arg7 : Memref sig Kind.tc Space.vmem S512x2048 EltTy.bf16} {harg7 : arg7.IsWhole}
  {arg10 : Memref sig Kind.tc Space.vmem S1024x2048 EltTy.bf16} {harg10 : arg10.IsWhole}
  {x0 : FVec Ideal S1024x2048 .f32} {x2 : FVec Ideal S1x2048 .f32}
  {x3 x4 : FVec Ideal S2x2048x256 .bf16} {x5 : FVec Ideal S512x2048 .bf16} {xs : FVec Ideal S1024x2048 .bf16}

/-- The hidden units computed from the two tiles as loaded are those of the chunk. -/
theorem unit4_read {h h' : Fin 2048 → EReal} (e : h = h')
    (inb0 : ∀ a, (![0, 0, 0] : Fin 3 → ℕ) a + (![1, 2048, 256] : Fin 3 → ℕ) a ≤ S2x2048x256.size a)
    (inb1 : ∀ a, (![1, 0, 0] : Fin 3 → ℕ) a + (![1, 2048, 256] : Fin 3 → ℕ) a ≤ S2x2048x256.size a) (q : Fin 512) :
    unit4 h (View.readAt (Elt Ideal) arg5.view (Rect.unit (s := S2x2048x256) ![0, 0, 0] ![1, 2048, 256] inb0).toLoadRect (harg5.unread x3))
      (View.readAt (Elt Ideal) arg6.view (Rect.unit (s := S2x2048x256) ![0, 0, 0] ![1, 2048, 256] inb0).toLoadRect (harg6.unread x4))
      (View.readAt (Elt Ideal) arg5.view (Rect.unit (s := S2x2048x256) ![1, 0, 0] ![1, 2048, 256] inb1).toLoadRect (harg5.unread x3))
      (View.readAt (Elt Ideal) arg6.view (Rect.unit (s := S2x2048x256) ![1, 0, 0] ![1, 2048, 256] inb1).toLoadRect (harg6.unread x4)) q
      = unitAt h' x3 x4 q := by
  subst e
  unfold unit4 unitAt
  by_cases hq : q.val < 256
  · have e0 : (⟨q.val / 256, by omega⟩ : Fin 2) = 0 := Fin.ext (by show q.val / 256 = 0; omega)
    have e1 : (⟨q.val % 256, Nat.mod_lt _ (by norm_num)⟩ : Fin 256) = ⟨q.val, hq⟩ := Fin.ext (by show q.val % 256 = q.val; omega)
    rw [dif_pos hq, e0, e1]
    congr 1
    · funext k; exact readAt_tile harg5 x3 0 inb0 rfl k _
    · funext k; exact readAt_tile harg6 x4 0 inb0 rfl k _
  · have e0 : (⟨q.val / 256, by omega⟩ : Fin 2) = 1 := Fin.ext (by show q.val / 256 = 1; omega)
    have e1 : (⟨q.val % 256, Nat.mod_lt _ (by norm_num)⟩ : Fin 256) = ⟨q.val - 256, by omega⟩ := Fin.ext (by show q.val % 256 = q.val - 256; omega)
    rw [dif_neg hq, e0, e1]
    congr 1
    · funext k; exact readAt_tile harg5 x3 1 inb1 rfl k _
    · funext k; exact readAt_tile harg6 x4 1 inb1 rfl k _

/-- The normalized rows computed from rows and gains as loaded. -/
theorem rows_read {o h : ℕ} (inb : ∀ a, (![o, 0] : Fin 2 → ℕ) a + (![h, 2048] : Fin 2 → ℕ) a ≤ S1024x2048.size a)
    (inb' : ∀ a, (![0, 0] : Fin 2 → ℕ) a + (![1, 2048] : Fin 2 → ℕ) a ≤ S1x2048.size a) (r : Fin h) (r' : Fin 1024) (hr : r'.val = o + r) (k : Fin 2048) :
    nrm (fun k => View.readAt (Elt Ideal) arg4.view (Rect.unit (s := S1x2048) ![0, 0] ![1, 2048] inb').toLoadRect (harg4.unread x2) (ix2 0 k : (⟨2, ![1, 2048]⟩ : Shape).Idx))
      (fun k => View.readAt (Elt Ideal) arg2.view (Rect.unit (s := S1024x2048) ![o, 0] ![h, 2048] inb).toLoadRect (harg2.unread x0) (ix2 r k : (⟨2, ![h, 2048]⟩ : Shape).Idx)) k
      = HN x0 x2 r' k := by
  unfold HN
  congr 1
  · funext l; exact readAt_at (Val := Elt Ideal) harg4 x2 inb' 0 l 0 l (by simp) (by simp)
  · funext l; exact readAt_at (Val := Elt Ideal) harg2 x0 inb r' l r l hr (by simp)

/-- A product of hidden units with 512 columns of the second weight as loaded is the chunk's share there. -/
theorem cols_read {h : Fin 2048 → EReal} {a : Fin 512 → EReal} {o : ℕ}
    (inb : ∀ a, (![0, o] : Fin 2 → ℕ) a + (![512, 512] : Fin 2 → ℕ) a ≤ S512x2048.size a)
    (ha : ∀ q, a q = unitAt h x3 x4 q) (p : Fin 512) (p' : Fin 2048) (hp : p'.val = o + p) :
    ∑ q : Fin 512, a q * View.readAt (Elt Ideal) arg7.view (Rect.unit (s := S512x2048) ![0, o] ![512, 512] inb).toLoadRect (harg7.unread x5) (ix2 q p : (⟨2, ![512, 512]⟩ : Shape).Idx)
      = part h x3 x4 x5 p' :=
  Finset.sum_congr rfl fun q _ => Ideal.mul_congr (ha q) (readAt_at (Val := Elt Ideal) harg7 x5 inb q p' q p (by simp) hp)

/-- A row of the scratch as loaded. -/
theorem scratch_read (inb : ∀ a, (![0, 0] : Fin 2 → ℕ) a + (![1024, 2048] : Fin 2 → ℕ) a ≤ S1024x2048.size a) (r r' : Fin 1024) (hr : r'.val = 0 + r) :
    (fun k : Fin 2048 => View.readAt (Elt Ideal) arg10.view (Rect.unit (s := S1024x2048) ![0, 0] ![1024, 2048] inb).toLoadRect (harg10.unread xs) (ix2 r k : (⟨2, ![1024, 2048]⟩ : Shape).Idx))
      = fun k => xs (ix2 r' k) :=
  funext fun k => readAt_at (Val := Elt Ideal) harg10 xs inb r' k r k hr (by simp)

end

end Cert.FeedForward

end
-- ==== Proof.Tail.RunA.lean ====
/- One grid point of the feed-forward call in the first row tile: one column block of the rows computed before is copied into the
   output's staging buffer at the first eight points, and nothing is stored at the others. -/
module

public import proofs.«01_k».proof.Proof.Tail.Runs
public import proofs.«01_k».proof.Proof.FeedForward

@[expose] public section

set_option maxRecDepth 16384

noncomputable section

namespace Cert.TailRun

open Cert.FeedForward Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the first row tile: on whole staging buffers it runs to its end, leaves everything but the output as it was,
    and the output with the point's column block copied into it. -/
theorem runA (c : Dev nD) (t : Fin cfg0.N) (ht : t.val < 11) (arg2 : Memref sig .tc .vmem S1024x2048 .f32) (harg2 : arg2.IsWhole) (arg3 : Memref sig .tc .vmem S1024x256 .f32) (harg3 : arg3.IsWhole) (arg4 : Memref sig .tc .vmem S1x2048 .f32) (harg4 : arg4.IsWhole) (arg5 : Memref sig .tc .vmem S2x2048x256 .bf16) (harg5 : arg5.IsWhole) (arg6 : Memref sig .tc .vmem S2x2048x256 .bf16) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .bf16) (harg10 : arg10.IsWhole)
    (x0 : Vec F S1024x2048 .f32) (x1 : Vec F S1024x256 .f32) (x2 : Vec F S1x2048 .f32) (x3 : Vec F S2x2048x256 .bf16) (x4 : Vec F S2x2048x256 .bf16) (x5 : Vec F S512x2048 .bf16) (x6 : Vec F S1x2048 .f32) (Y : Vec F S1024x2048 .f32) (xs0 : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare Y ∗ owns (c : Thread nD τ) arg10 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (copied t.val x1 Y) ∗ owns (c : Thread nD τ) arg10 fullShare xs0) -∗ K ⟨⟩))
      ⊢ wp frame (wpE (defs₀ (F := F)) Variants.none c none) E (cc0_ffn_final (grid0.coords t) arg2 harg2 arg3 harg3 arg4 harg4 arg5 harg5 arg6 harg6 arg7 harg7 arg8 harg8 arg9 harg9 arg10 harg10) K := by
  have hc1 := (cond1_iff t).mpr ht
  have hc10 : ¬ k0_cond10 (grid0.coords t) = 1#1 := fun h => by have := (cond10_iff t).mp h; omega
  have hm : t.val % 11 = t.val := Nat.mod_eq_of_lt ht
  have hcases : (t.val = 0 ∧ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 ∧ ¬ k0_cond8 (grid0.coords t) = 1#1 ∧ ¬ k0_cond9 (grid0.coords t) = 1#1)
      ∨ (t.val = 1 ∧ ¬ k0_cond2 (grid0.coords t) = 1#1 ∧ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 ∧ ¬ k0_cond8 (grid0.coords t) = 1#1 ∧ ¬ k0_cond9 (grid0.coords t) = 1#1)
      ∨ (t.val = 2 ∧ ¬ k0_cond2 (grid0.coords t) = 1#1 ∧ ¬ k0_cond3 (grid0.coords t) = 1#1 ∧ k0_cond4 (grid0.coords t) = 1#1 ∧ ¬ k0_cond5 (grid0.coords t) = 1#1 ∧ ¬ k0_cond6 (grid0.coords t) = 1#1 ∧ ¬ k0_cond7 (grid0.coords t) = 1#1 ∧ ¬ k0_cond8 (grid0.coords t) = 1#1 ∧ ¬ k0_cond9 (grid0.coords t) = 1#1)
      ∨ (t.val = 3 ∧ ¬ k0_cond2 (grid0.coords t) = 1#1 ∧ ¬ k0_cond3 (grid0.coords t) = 1#1 ∧ ¬ k0_cond4 (grid0.coords t) = 1#1 ∧ k0_cond5 (grid0.coords t) = 1#1 ∧ ¬ k0_cond6 (grid0.coords t) = 1#1 ∧ ¬ k0_cond7 (grid0.coords t) = 1#1 ∧ ¬ k0_cond8 (grid0.coords t) = 1#1 ∧ ¬ k0_cond9 (grid0.coords t) = 1#1)
      ∨ (t.val = 4 ∧ ¬ k0_cond2 (grid0.coords t) = 1#1 ∧ ¬ k0_cond3 (grid0.coords t) = 1#1 ∧ ¬ k0_cond4 (grid0.coords t) = 1#1 ∧ ¬ k0_cond5 (grid0.coords t) = 1#1 ∧ k0_cond6 (grid0.coords t) = 1#1 ∧ ¬ k0_cond7 (grid0.coords t) = 1#1 ∧ ¬ k0_cond8 (grid0.coords t) = 1#1 ∧ ¬ k0_cond9 (grid0.coords t) = 1#1)
      ∨ (t.val = 5 ∧ ¬ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ k0_cond7 (grid0.coords t) = 1#1 ∧ ¬ k0_cond8 (grid0.coords t) = 1#1 ∧ ¬ k0_cond9 (grid0.coords t) = 1#1)
      ∨ (t.val = 6 ∧ ¬ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 ∧ k0_cond8 (grid0.coords t) = 1#1 ∧ ¬ k0_cond9 (grid0.coords t) = 1#1)
      ∨ (t.val = 7 ∧ ¬ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 ∧ ¬ k0_cond8 (grid0.coords t) = 1#1 ∧ k0_cond9 (grid0.coords t) = 1#1)
      ∨ (8 ≤ t.val ∧ ¬ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 ∧ ¬ k0_cond8 (grid0.coords t) = 1#1 ∧ ¬ k0_cond9 (grid0.coords t) = 1#1) := by
    rw [cond2_iff, cond3_iff, cond4_iff, cond5_iff, cond6_iff, cond7_iff, cond8_iff, cond9_iff, hm]
    omega
  rcases hcases with ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩
  all_goals
    simp only [cc0_ffn_final_eq_skeleton]; unfold cc0_ffn_final_skel
    unfold owns
    iintro ⟨H0, ⟨%f1, %hf1, H1⟩, H2, H3, H4, H5, H6, ⟨%f7, %hf7, H7⟩, HS0, Hk⟩
    obtain rfl := harg3.eq_unread hf1; obtain rfl := harg9.eq_unread hf7
    sl_exec (disch := first | sl_exact hc1 | sl_exact hc10 | sl_exact h2 | sl_exact h3 | sl_exact h4 | sl_exact h5 | sl_exact h6 | sl_exact h7 | sl_exact h8 | sl_exact h9)
    sl_step
    iapply Hk
    isplitl [H0]; · iexact H0
    isplitl [H1]
    · iexists _; isplitr; · ipureintro; exact harg3.read_unread _
      iexact H1
    isplitl [H2]; · iexact H2
    isplitl [H3]; · iexact H3
    isplitl [H4]; · iexact H4
    isplitl [H5]; · iexact H5
    isplitl [H6]; · iexact H6
    isplitl [H7]
    · iexists _; isplitr
      swap
      · iexact H7
      ipureintro
      first
        | rw [hj]; exact read_copied _ _ _ _ (by norm_num) _ _ _ (loaded harg3 x1 _) _ (harg9.read_unread Y)
        | rw [copied_past hj]; exact harg9.read_unread Y
    iexact HS0

end Cert.TailRun

end
-- ==== Proof.Tail.RunB.lean ====
/- One grid point of the feed-forward call at which a row tile begins: the tile is normalized into the scratch and the first
   chunk's product is stored. -/
module

public import proofs.«01_k».proof.Proof.Tail.Runs

@[expose] public section

set_option maxRecDepth 16384

noncomputable section

namespace Cert.TailRun

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point of a row tile after the first: on whole staging buffers it runs to its end, leaves the inputs as
    they were, and stores pieces that the run itself names into the output and into the scratch. -/
noncomputable def runB (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S1x2048 .f32) (harg4 : arg4.IsWhole) (arg5 : Memref sig .tc .vmem S2x2048x256 .bf16) (harg5 : arg5.IsWhole) (arg6 : Memref sig .tc .vmem S2x2048x256 .bf16) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .bf16) (harg10 : arg10.IsWhole) (hc0 : ¬ k0_cond1 i = 1#1) (hc1 : k0_cond10 i = 1#1) (hc2 : k0_cond11 i = 1#1) (hc3 : ¬ k0_cond12 i = 1#1) (hc4 : ¬ k0_cond13 i = 1#1)
    (x0 : Vec F S1024x2048 .f32) (x1 : Vec F S1024x256 .f32) (x2 : Vec F S1x2048 .f32) (x3 : Vec F S2x2048x256 .bf16) (x4 : Vec F S2x2048x256 .bf16) (x5 : Vec F S512x2048 .bf16) (x6 : Vec F S1x2048 .f32) :
    Σ' (L7 : List (View.Piece (Elt F) S1024x2048 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_ffn_final i arg2 harg2 arg3 harg3 arg4 harg4 arg5 harg5 arg6 harg6 arg7 harg7 arg8 harg8 arg9 harg9 arg10 harg10) K } := by
  refine ⟨?_, ?_, fun E K => ?run⟩
  case run =>
    simp only [cc0_ffn_final_eq_skeleton]; unfold cc0_ffn_final_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.TailRun

end
-- ==== Proof.Tail.RunC.lean ====
/- One grid point of the feed-forward call in the middle of a row tile: one more chunk's product is added to the output. -/
module

public import proofs.«01_k».proof.Proof.Tail.Runs

@[expose] public section

set_option maxRecDepth 16384

noncomputable section

namespace Cert.TailRun

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point of a row tile: the output's contents `xo7` and the scratch's `xs0` are read, the pieces that the run
    names are stored into the output, and the scratch stays. -/
noncomputable def runC (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S1x2048 .f32) (harg4 : arg4.IsWhole) (arg5 : Memref sig .tc .vmem S2x2048x256 .bf16) (harg5 : arg5.IsWhole) (arg6 : Memref sig .tc .vmem S2x2048x256 .bf16) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .bf16) (harg10 : arg10.IsWhole) (hc0 : ¬ k0_cond1 i = 1#1) (hc1 : k0_cond10 i = 1#1) (hc2 : ¬ k0_cond11 i = 1#1) (hc3 : k0_cond12 i = 1#1) (hc4 : ¬ k0_cond13 i = 1#1)
    (x0 : Vec F S1024x2048 .f32) (x1 : Vec F S1024x256 .f32) (x2 : Vec F S1x2048 .f32) (x3 : Vec F S2x2048x256 .bf16) (x4 : Vec F S2x2048x256 .bf16) (x5 : Vec F S512x2048 .bf16) (x6 : Vec F S1x2048 .f32) (xo7 : Vec F S1024x2048 .f32) (xs0 : Vec F S1024x2048 .bf16) :
    Σ' (L7 : List (View.Piece (Elt F) S1024x2048 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0_ffn_final i arg2 harg2 arg3 harg3 arg4 harg4 arg5 harg5 arg6 harg6 arg7 harg7 arg8 harg8 arg9 harg9 arg10 harg10) K } := by
  refine ⟨?_, [], fun E K => ?run⟩
  case run =>
    simp only [cc0_ffn_final_eq_skeleton]; unfold cc0_ffn_final_skel
    simp only [k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg10.read_unread _
    iexact HS0

end Cert.TailRun

end
-- ==== Proof.Tail.RunD.lean ====
/- The last grid point of a row tile of the feed-forward call: the last chunk's product is added, half of the sum is added to the
   activations, and the rows are normalized. -/
module

public import proofs.«01_k».proof.Proof.Tail.Runs

@[expose] public section

set_option maxRecDepth 16384

noncomputable section

namespace Cert.TailRun

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point of a row tile: as at a middle point, with the residual sum and the final normalization. -/
noncomputable def runD (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S1x2048 .f32) (harg4 : arg4.IsWhole) (arg5 : Memref sig .tc .vmem S2x2048x256 .bf16) (harg5 : arg5.IsWhole) (arg6 : Memref sig .tc .vmem S2x2048x256 .bf16) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .bf16) (harg10 : arg10.IsWhole) (hc0 : ¬ k0_cond1 i = 1#1) (hc1 : k0_cond10 i = 1#1) (hc2 : ¬ k0_cond11 i = 1#1) (hc3 : ¬ k0_cond12 i = 1#1) (hc4 : k0_cond13 i = 1#1)
    (x0 : Vec F S1024x2048 .f32) (x1 : Vec F S1024x256 .f32) (x2 : Vec F S1x2048 .f32) (x3 : Vec F S2x2048x256 .bf16) (x4 : Vec F S2x2048x256 .bf16) (x5 : Vec F S512x2048 .bf16) (x6 : Vec F S1x2048 .f32) (xo7 : Vec F S1024x2048 .f32) (xs0 : Vec F S1024x2048 .bf16) :
    Σ' (L7 : List (View.Piece (Elt F) S1024x2048 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0_ffn_final i arg2 harg2 arg3 harg3 arg4 harg4 arg5 harg5 arg6 harg6 arg7 harg7 arg8 harg8 arg9 harg9 arg10 harg10) K } := by
  refine ⟨?_, [], fun E K => ?run⟩
  case run =>
    simp only [cc0_ffn_final_eq_skeleton]; unfold cc0_ffn_final_skel
    simp only [k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg10.read_unread _
    iexact HS0

end Cert.TailRun

end
-- ==== Proof.Tail.Data.lean ====
/- What the feed-forward call leaves in the output's staging buffer and in the scratch, point by point, and the proof data of its
   pipeline: at the first row tile the output is known only on the columns copied so far. -/
module

public import proofs.«01_k».proof.Proof.Tail.RunA
public import proofs.«01_k».proof.Proof.Tail.RunB
public import proofs.«01_k».proof.Proof.Tail.RunC
public import proofs.«01_k».proof.Proof.Tail.RunD

@[expose] public section

set_option maxRecDepth 16384

noncomputable section

namespace Cert.TailRun

open Cert.FeedForward Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No point from the eleventh on takes the first row tile's branch. -/
theorem not1 {t : Fin cfg0.N} (h : 11 ≤ t.val) : ¬ k0_cond1 (grid0.coords t) = 1#1 := fun e => by have := (cond1_iff t).mp e; omega

/-- The run at a point that begins a row tile, at the point's buffers and blocks. -/
abbrev atB (c : Dev nD) (t : Fin cfg0.N) (h : 11 ≤ t.val) (h0 : t.val % 11 = 0) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (not1 h) ((cond10_iff t).mpr h) ((cond11_iff t).mpr h0)
    (fun e => by have := (cond12_iff t).mp e; omega) (fun e => by have := (cond13_iff t).mp e; omega) (iblk m c 0 t) (iblk m c 1 t) (iblk m c 2 t) (iblk m c 3 t) (iblk m c 4 t) (iblk m c 5 t) (iblk m c 6 t)

/-- The run at a middle point of a row tile, over the output's and the scratch's contents. -/
abbrev atC (c : Dev nD) (t : Fin cfg0.N) (h : 11 ≤ t.val) (h0 : t.val % 11 ≠ 0) (h10 : t.val % 11 ≠ 10) (xo : Vec F S1024x2048 .f32) (xs : Vec F S1024x2048 .bf16) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (not1 h) ((cond10_iff t).mpr h) (fun e => h0 ((cond11_iff t).mp e))
    ((cond12_iff t).mpr (by omega)) (fun e => h10 ((cond13_iff t).mp e)) (iblk m c 0 t) (iblk m c 1 t) (iblk m c 2 t) (iblk m c 3 t) (iblk m c 4 t) (iblk m c 5 t) (iblk m c 6 t) xo xs

/-- The run at the last point of a row tile, over the output's and the scratch's contents. -/
abbrev atD (c : Dev nD) (t : Fin cfg0.N) (h : 11 ≤ t.val) (h10 : t.val % 11 = 10) (xo : Vec F S1024x2048 .f32) (xs : Vec F S1024x2048 .bf16) :=
  runD (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (not1 h) ((cond10_iff t).mpr h) (fun e => by have := (cond11_iff t).mp e; omega)
    (fun e => by have := (cond12_iff t).mp e; omega) ((cond13_iff t).mpr h10) (iblk m c 0 t) (iblk m c 1 t) (iblk m c 2 t) (iblk m c 3 t) (iblk m c 4 t) (iblk m c 5 t) (iblk m c 6 t) xo xs

/-- The pieces stored at a point that begins a row tile cover the output, -/
theorem coverB (c : Dev nD) (t : Fin cfg0.N) (h : 11 ≤ t.val) (h0 : t.val % 11 = 0) (y : S1024x2048.Idx) : ∃ pc ∈ (atB m c t h h0).1, y ∈ pc.1.set :=
  View.cover_of_tiledL (atB m c t h h0).1 S256x512.size (by sl_kernel_rfl) y

/-- and the scratch. -/
theorem scoverB (c : Dev nD) (t : Fin cfg0.N) (h : 11 ≤ t.val) (h0 : t.val % 11 = 0) (y : S1024x2048.Idx) : ∃ pc ∈ (atB m c t h h0).2.1, y ∈ pc.1.set :=
  View.cover_of_tiledL (atB m c t h h0).2.1 S256x2048.size (by sl_kernel_rfl) y

/-- The pieces stored at a middle point cover the output. -/
theorem coverC (c : Dev nD) (t : Fin cfg0.N) (h : 11 ≤ t.val) (h0 : t.val % 11 ≠ 0) (h10 : t.val % 11 ≠ 10) (xo : Vec F S1024x2048 .f32) (xs : Vec F S1024x2048 .bf16)
    (y : S1024x2048.Idx) : ∃ pc ∈ (atC m c t h h0 h10 xo xs).1, y ∈ pc.1.set :=
  View.cover_of_tiledL (atC m c t h h0 h10 xo xs).1 S1024x512.size (by sl_kernel_rfl) y

/-- The pieces stored at the last point of a row tile cover the output. -/
theorem coverD (c : Dev nD) (t : Fin cfg0.N) (h : 11 ≤ t.val) (h10 : t.val % 11 = 10) (xo : Vec F S1024x2048 .f32) (xs : Vec F S1024x2048 .bf16)
    (y : S1024x2048.Idx) : ∃ pc ∈ (atD m c t h h10 xo xs).1, y ∈ pc.1.set :=
  View.cover_of_tiledBy (atD m c t h h10 xo xs).1 ![128, 512] (by sl_kernel_rfl) y

/-- A list of stored pieces read back, for the output and for the scratch. -/
def backO (L : List (View.Piece (Elt F) S1024x2048 .f32)) : Vec F S1024x2048 .f32 := VO.read (Elt F) (VO.writes (Elt F) VO.junk L)
def backS (L : List (View.Piece (Elt F) S1024x2048 .bf16)) : Vec F S1024x2048 .bf16 := VS.read (Elt F) (VS.writes (Elt F) VS.junk L)

/-- One point's effect on the output's buffer and the scratch, from the eleventh point on. -/
def stepOut (c : Dev nD) (t : Fin cfg0.N) (p : Vec F S1024x2048 .f32 × Vec F S1024x2048 .bf16) : Vec F S1024x2048 .f32 × Vec F S1024x2048 .bf16 :=
  if h : 11 ≤ t.val then
    if h0 : t.val % 11 = 0 then (backO (atB m c t h h0).1, backS (atB m c t h h0).2.1)
    else if h10 : t.val % 11 = 10 then (backO (atD m c t h h10 p.1 p.2).1, p.2)
    else (backO (atC m c t h h0 h10 p.1 p.2).1, p.2)
  else p

/-- The output's buffer and the scratch after point `n`, from the eleventh point on. -/
def outsAt (c : Dev nD) : (n : ℕ) → n < cfg0.N → Vec F S1024x2048 .f32 × Vec F S1024x2048 .bf16
  | 0, hn => stepOut m c ⟨0, hn⟩ (backO [], backS [])
  | n + 1, hn => stepOut m c ⟨n + 1, hn⟩ (outsAt c n (Nat.lt_of_succ_lt hn))

/-- After a point from the eleventh on: the point's effect on what the point before left. -/
theorem outsAt_step (c : Dev nD) (t : Fin cfg0.N) (h : 11 ≤ t.val) :
    outsAt m c t.val t.isLt = stepOut m c t (outsAt m c (t.val - 1) (Nat.lt_of_le_of_lt (Nat.sub_le _ _) t.isLt)) := by
  obtain ⟨n, hn⟩ := t
  cases n with
  | zero => exact absurd h (by simp)
  | succ n => rfl

/-- What a point that begins a row tile leaves. -/
theorem outsAt_B (c : Dev nD) (t : Fin cfg0.N) (h : 11 ≤ t.val) (h0 : t.val % 11 = 0) :
    outsAt m c t.val t.isLt = (backO (atB m c t h h0).1, backS (atB m c t h h0).2.1) := by
  rw [outsAt_step m c t h, stepOut, dif_pos h, dif_pos h0]

/-- What a middle point leaves. -/
theorem outsAt_C (c : Dev nD) (t : Fin cfg0.N) (h : 11 ≤ t.val) (h0 : t.val % 11 ≠ 0) (h10 : t.val % 11 ≠ 10) :
    outsAt m c t.val t.isLt = (backO (atC m c t h h0 h10 (outsAt m c (t.val - 1) (Nat.lt_of_le_of_lt (Nat.sub_le _ _) t.isLt)).1
      (outsAt m c (t.val - 1) (Nat.lt_of_le_of_lt (Nat.sub_le _ _) t.isLt)).2).1, (outsAt m c (t.val - 1) (Nat.lt_of_le_of_lt (Nat.sub_le _ _) t.isLt)).2) := by
  rw [outsAt_step m c t h, stepOut, dif_pos h, dif_neg h0, dif_neg h10]

/-- What the last point of a row tile leaves. -/
theorem outsAt_D (c : Dev nD) (t : Fin cfg0.N) (h : 11 ≤ t.val) (h10 : t.val % 11 = 10) :
    outsAt m c t.val t.isLt = (backO (atD m c t h h10 (outsAt m c (t.val - 1) (Nat.lt_of_le_of_lt (Nat.sub_le _ _) t.isLt)).1
      (outsAt m c (t.val - 1) (Nat.lt_of_le_of_lt (Nat.sub_le _ _) t.isLt)).2).1, (outsAt m c (t.val - 1) (Nat.lt_of_le_of_lt (Nat.sub_le _ _) t.isLt)).2) := by
  rw [outsAt_step m c t h, stepOut, dif_pos h, dif_neg (by omega), dif_pos h10]

/-- The rows computed before, as the eight column blocks that the first eight points fetch. -/
def firstRows (c : Dev nD) : Vec F S1024x2048 .f32 := fun x =>
  iblk m c 1 ⟨(x 1).val / 256, by have h : (x 1).val < 2048 := (x 1).isLt; have hN : cfg0.N = 176 := N_0; omega⟩
    (ix2 (x 0) (⟨(x 1).val % 256, Nat.mod_lt _ (by norm_num)⟩ : Fin 256))

/-- What is known of the output's buffer after point `t`: in the first row tile, the columns copied so far; later, all of it. -/
def Known (c : Dev nD) (t : Fin cfg0.N) (X : Vec F S1024x2048 .f32) : Prop :=
  (t.val < 11 → ∀ x : S1024x2048.Idx, (x 1).val < 256 * (t.val + 1) → X x = firstRows m c x)
    ∧ (11 ≤ t.val → X = (outsAt m c t.val t.isLt).1)

/-- A point's copy extends what is known of the first row tile. -/
theorem known_copied (c : Dev nD) (t : Fin cfg0.N) (ht : t.val < 11) (Y : Vec F S1024x2048 .f32)
    (hY : ∀ x : S1024x2048.Idx, (x 1).val < 256 * t.val → Y x = firstRows m c x) : Known m c t (copied t.val (iblk m c 1 t) Y) := by
  refine ⟨fun _ x hx => ?_, fun h => absurd h (by omega)⟩
  have h2 : (x 1).val < 2048 := (x 1).isLt
  by_cases h : 256 * t.val ≤ (x 1).val ∧ (x 1).val < 256 * t.val + 256
  · have e : (⟨(x 1).val / 256, by have hN : cfg0.N = 176 := N_0; omega⟩ : Fin cfg0.N) = t := Fin.ext (by show (x 1).val / 256 = t.val; omega)
    have e2 : (x 1).val - 256 * t.val = (x 1).val % 256 := by omega
    rw [copied, dif_pos h, firstRows]
    rw [e]
    congr 2
    exact Fin.ext e2
  · rw [copied, dif_neg h]
    exact hY x (by omega)

/-- What the body is handed beside the windows before point `n`: through the first row tile and at the first point after it the
    scratch at anything, then the scratch at what the point before left. -/
def PhiT (c : Dev nD) (n : ℕ) (h : n ≤ cfg0.N) : sProp 𝕄 :=
  if h11 : 11 < n then iprop(iprop(owns (c : Thread nD τ) scM fullShare ((outsAt m c (n - 1) (by omega)).2)) ∗ (∃ r, prngReg c r))
  else Pipeline.ΦA spec0 c

theorem PhiT_low (c : Dev nD) (n : ℕ) (h : n ≤ cfg0.N) (h11 : n ≤ 11) : PhiT m c n h = Pipeline.ΦA spec0 c := dif_neg (by omega)

theorem PhiT_high (c : Dev nD) (n : ℕ) (h : n ≤ cfg0.N) (h11 : 11 < n) :
    PhiT m c n h = iprop(iprop(owns (c : Thread nD τ) scM fullShare ((outsAt m c (n - 1) (by omega)).2)) ∗ (∃ r, prngReg c r)) := dif_pos h11

/-- The proof data of the call's pipeline on core `c`: the inputs' buffers keep their blocks. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
  Φ t := PhiT m c t.val (Nat.le_of_lt_succ t.isLt)
  q _ := fullShare
  owed _ := 0

/-- The marked window is the output's; it is held to what is known of it. -/
def marked : Fin cfg0.W → Bool := fun w => match w with
  | ⟨7, _⟩ => true
  | _ => false

def held (c : Dev nD) : (w : Fin cfg0.W) → Fin cfg0.N → ((cfg0.win w).block.Idx → Elt F (cfg0.win w).elt) → Prop := fun w t => match w with
  | ⟨7, _⟩ => Known m c t
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True

/-- The data with the output held to what is known of it. -/
abbrev rdat (c : Dev nD) := (dat m c).toRRel marked (held m c)

theorem dat_A (c : Dev nD) (w : Fin cfg0.W) : (dat m c).A w = V m c (Pipeline.arrRef spec0 w) := by dsimp only [dat]

/-- At every point an input's buffer holds its block. -/
theorem before0 (c : Dev nD) (t : Fin cfg0.N) (d) : (dat m c).before 0 t d = iblk m c 0 t :=
  before0_0_of m (dat m c) (dat_A m c 0) (fun t => by dsimp only [dat]) t d
theorem before1 (c : Dev nD) (t : Fin cfg0.N) (d) : (dat m c).before 1 t d = iblk m c 1 t :=
  before0_1_of m (dat m c) (dat_A m c 1) (fun t => by dsimp only [dat]) t d
theorem before2 (c : Dev nD) (t : Fin cfg0.N) (d) : (dat m c).before 2 t d = iblk m c 2 t :=
  before0_2_of m (dat m c) (dat_A m c 2) (fun t => by dsimp only [dat]) t d
theorem before3 (c : Dev nD) (t : Fin cfg0.N) (d) : (dat m c).before 3 t d = iblk m c 3 t :=
  before0_3_of m (dat m c) (dat_A m c 3) (fun t => by dsimp only [dat]) t d
theorem before4 (c : Dev nD) (t : Fin cfg0.N) (d) : (dat m c).before 4 t d = iblk m c 4 t :=
  before0_4_of m (dat m c) (dat_A m c 4) (fun t => by dsimp only [dat]) t d
theorem before5 (c : Dev nD) (t : Fin cfg0.N) (d) : (dat m c).before 5 t d = iblk m c 5 t :=
  before0_5_of m (dat m c) (dat_A m c 5) (fun t => by dsimp only [dat]) t d
theorem before6 (c : Dev nD) (t : Fin cfg0.N) (d) : (dat m c).before 6 t d = iblk m c 6 t :=
  before0_6_of m (dat m c) (dat_A m c 6) (fun t => by dsimp only [dat]) t d

/-- At a point whose predecessor's output block was not written back, the body finds there what is known of it. -/
theorem finds7 (c : Dev nD) (t : Fin cfg0.N) (ht : t.val % 11 ≠ 0) (X : Vec F S1024x2048 .f32) (hX : (rdat m c).Finds 7 t X) :
    Known m c ⟨t.val - 1, Nat.lt_of_le_of_lt (Nat.sub_le _ _) t.isLt⟩ X := by
  rcases (Pipeline.RDat.finds_of_pos (rdat m c) (w := 7) rfl (by omega) X).mp hX with h | h
  · have := (flush0_7 ⟨t.val - 1, Nat.lt_of_le_of_lt (Nat.sub_le _ _) t.isLt⟩).mp h
    dsimp only at this
    omega
  · exact Dat.toRRel_leaves (dat m c) (w := 7) rfl h

end Cert.TailRun

end
-- ==== Proof.Tail.Body.lean ====
/- The body of the feed-forward call at every point: from the buffers as the pipeline hands them to the buffers as the proof data
   say they are left. -/
module

public import proofs.«01_k».proof.Proof.Tail.Data

@[expose] public section

set_option maxRecDepth 16384

noncomputable section

namespace Cert.TailRun

open Cert.FeedForward Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local irreducible] runB runC runD

variable (m : (ℓ : Loc nD τ sig) → Buf (Elt F) ℓ) (ρ : Dev nD → PrngReg)

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ Y, ⌜(rdat m c).Finds 7 t Y⌝ ∗ owns (c : Thread nD τ) (ms7 t) fullShare Y))

/-- and what it returns. -/
def bodyPost (c : Dev nD) (t : Fin cfg0.N) : sProp 𝕄 :=
  iprop((dat m c).Φ t.succ ∗ (dat m c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ (∃ X, ⌜Known m c t X⌝ ∗ owns (c : Thread nD τ) (ms7 t) fullShare X))

theorem Phi_before (c : Dev nD) (t : Fin cfg0.N) : (dat m c).Φ t.castSucc = PhiT m c t.val (Nat.le_of_lt t.isLt) := by
  dsimp only [dat]; exact Pipeline.Dat.Φ_castSucc (PhiT m c) t

theorem Phi_after (c : Dev nD) (t : Fin cfg0.N) : (dat m c).Φ t.succ = PhiT m c (t.val + 1) t.isLt := rfl

/-- The body at a point of the first row tile. -/
theorem soundA (c : Dev nD) (t : Fin cfg0.N) (ht : t.val < 11) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dat m c).owesAt () t.succ = (dat m c).owesAt () t.castSucc from rfl, Phi_before, Phi_after,
    PhiT_low m c _ _ (by omega), PhiT_low m c _ _ (by omega), phiA_eq]
  iintro ⟨⟨⟨%xs, HS0⟩, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (runA c t ht (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) (iblk m c 6 t) Y xs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexists _; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr
  swap; · iexact H7
  ipureintro
  refine known_copied m c t ht Y fun x hx => ?_
  by_cases h0 : t.val = 0
  · exact absurd hx (by rw [h0]; omega)
  · refine (finds7 m c t (by omega) Y hY).1 (by show t.val - 1 < 11; omega) x ?_
    show (x 1).val < 256 * (t.val - 1 + 1)
    rw [Nat.sub_add_cancel (by omega)]
    exact hx

set_option maxHeartbeats 4000000 in
/-- The body at a point that begins a later row tile. -/
theorem soundB (c : Dev nD) (t : Fin cfg0.N) (ht : 11 ≤ t.val) (h0 : t.val % 11 = 0) :
    bodyPre m c t ⊢ wp frame (wpE (defs₀ (F := F)) Variants.none c none) Set.univ (bodyAt0 t) (fun _ => bodyPost m c t) := by
  have hK : Known m c t (backO (atB m c t ht h0).1) := ⟨fun h => absurd h (by omega), fun _ => (congrArg Prod.fst (outsAt_B m c t ht h0)).symm⟩
  have hS : ∀ f, VS.read (Elt F) (VS.writes (Elt F) f (atB m c t ht h0).2.1) = (outsAt m c t.val t.isLt).2 := fun f =>
    (View.read_writes_of_cover VS f VS VS.junk (atB m c t ht h0).2.1 (scoverB m c t ht h0)).trans (congrArg Prod.snd (outsAt_B m c t ht h0)).symm
  unfold bodyPre bodyPost bodyAt0
  simp only [before0, before1, before2, before3, before4, before5, before6]
  rw [show (dat m c).owesAt () t.succ = (dat m c).owesAt () t.castSucc from rfl, Phi_before, Phi_after,
    PhiT_high m c (t.val + 1) _ (by omega)]
  simp only [Nat.add_sub_cancel]
  have hlow : (PhiT m c t.val (Nat.le_of_lt t.isLt) : sProp 𝕄) ⊢ iprop(iprop((∃ d, owns (c : Thread nD τ) scM fullShare d)) ∗ (∃ r, prngReg c r)) := by
    by_cases h : t.val ≤ 11
    · rw [PhiT_low m c _ _ h, phiA_eq]
    · rw [PhiT_high m c _ _ (by omega)]
      iintro ⟨HS0, Hg⟩
      isplitl [HS0]
      · iexists _; iexact HS0
      iexact Hg
  refine (sep_mono hlow .rfl).trans ?_
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply ((atB m c t ht h0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  iintro ⟨H0, H1, H2, H3, H4, H5, H6, ⟨%e7, H7⟩, ⟨%es0, HS0⟩⟩
  isplitl [HS0 Hg]
  · isplitl [HS0]
    · unfold owns; iexists _; isplitr
      swap; · iexact HS0
      ipureintro; exact hS es0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists (backO (atB m c t ht h0).1); isplitr
  · ipureintro; exact hK
  unfold owns; iexists _; isplitr
  swap; · iexact H7
  ipureintro; exact View.read_writes_of_cover _ _ _ _ _ (coverB m c t ht h0)

set_option maxHeartbeats 4000000 in
/-- The body at a middle point of a later row tile. -/
theorem soundC (c : Dev nD) (t : Fin cfg0.N) (ht : 11 ≤ t.val) (h0 : t.val % 11 ≠ 0) (h10 : t.val % 11 ≠ 10) :
    bodyPre m c t ⊢ wp frame (wpE (defs₀ (F := F)) Variants.none c none) Set.univ (bodyAt0 t) (fun _ => bodyPost m c t) := by
  have hprev : ∀ Y, (rdat m c).Finds 7 t Y → Y = (outsAt m c (t.val - 1) (Nat.lt_of_le_of_lt (Nat.sub_le _ _) t.isLt)).1 := fun Y hY =>
    (finds7 m c t (by omega) Y hY).2 (by show 11 ≤ t.val - 1; omega)
  have hK : Known m c t (backO (atC m c t ht h0 h10 (outsAt m c (t.val - 1) (Nat.lt_of_le_of_lt (Nat.sub_le _ _) t.isLt)).1
      (outsAt m c (t.val - 1) (Nat.lt_of_le_of_lt (Nat.sub_le _ _) t.isLt)).2).1) :=
    ⟨fun h => absurd h (by omega), fun _ => (congrArg Prod.fst (outsAt_C m c t ht h0 h10)).symm⟩
  unfold bodyPre bodyPost bodyAt0
  simp only [before0, before1, before2, before3, before4, before5, before6]
  rw [show (dat m c).owesAt () t.succ = (dat m c).owesAt () t.castSucc from rfl, Phi_before, Phi_after,
    PhiT_high m c (t.val + 1) _ (by omega), PhiT_high m c t.val _ (by omega)]
  simp only [Nat.add_sub_cancel]
  rw [outsAt_C m c t ht h0 h10]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  obtain rfl := hprev Y hY
  iapply ((atC m c t ht h0 h10 _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, ⟨%e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr
  · ipureintro; exact hK
  unfold owns; iexists _; isplitr
  swap; · iexact H7
  ipureintro; exact View.read_writes_of_cover _ _ _ _ _ (coverC m c t ht h0 h10 _ _)

set_option maxHeartbeats 4000000 in
/-- The body at the last point of a later row tile. -/
theorem soundD (c : Dev nD) (t : Fin cfg0.N) (ht : 11 ≤ t.val) (h10 : t.val % 11 = 10) :
    bodyPre m c t ⊢ wp frame (wpE (defs₀ (F := F)) Variants.none c none) Set.univ (bodyAt0 t) (fun _ => bodyPost m c t) := by
  have hprev : ∀ Y, (rdat m c).Finds 7 t Y → Y = (outsAt m c (t.val - 1) (Nat.lt_of_le_of_lt (Nat.sub_le _ _) t.isLt)).1 := fun Y hY =>
    (finds7 m c t (by omega) Y hY).2 (by show 11 ≤ t.val - 1; omega)
  have hK : Known m c t (backO (atD m c t ht h10 (outsAt m c (t.val - 1) (Nat.lt_of_le_of_lt (Nat.sub_le _ _) t.isLt)).1
      (outsAt m c (t.val - 1) (Nat.lt_of_le_of_lt (Nat.sub_le _ _) t.isLt)).2).1) :=
    ⟨fun h => absurd h (by omega), fun _ => (congrArg Prod.fst (outsAt_D m c t ht h10)).symm⟩
  unfold bodyPre bodyPost bodyAt0
  simp only [before0, before1, before2, before3, before4, before5, before6]
  rw [show (dat m c).owesAt () t.succ = (dat m c).owesAt () t.castSucc from rfl, Phi_before, Phi_after,
    PhiT_high m c (t.val + 1) _ (by omega), PhiT_high m c t.val _ (by omega)]
  simp only [Nat.add_sub_cancel]
  rw [outsAt_D m c t ht h10]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  obtain rfl := hprev Y hY
  iapply ((atD m c t ht h10 _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, ⟨%e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr
  · ipureintro; exact hK
  unfold owns; iexists _; isplitr
  swap; · iexact H7
  ipureintro; exact View.read_writes_of_cover _ _ _ _ _ (coverD m c t ht h10 _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht : 11 ≤ t.val
  · by_cases h0 : t.val % 11 = 0
    · exact soundB m c t ht h0
    · by_cases h10 : t.val % 11 = 10
      · exact soundD m c t ht h10
      · exact soundC m c t ht h0 h10
  · exact soundA m c t (by omega)

/-- The body table's row at a point is the body as the pipeline calls it. -/
theorem row (t : Fin cfg0.N) : defs₀ (F := F) .tc cfg0.body (cfg0.bodyArgs t (cfg0.slots t)) = bodyAt0 t := by
  unfold defs₀; rw [Defs.onTc_tc]

/-- The body obligation of the data with the output held to what is known of it. -/
theorem obligation (c : Dev nD) : Pipeline.BodyObligationRel (dat (F := F) m c) (defs₀ (F := F)) Variants.none () Set.univ marked (held m c) := fun t => by
  rw [bigSep_W0, bigSep_W0, row]
  exact triple_restated (sound_body m c t) rfl .rfl fun _ => .rfl

/-- What the launch hands the region is the invariant before the first point. -/
theorem phi_in (c : Dev nD) : Pipeline.ΦA spec0 c ⊢ (dat m c).Φ 0 := by
  rw [show (dat m c).Φ 0 = PhiT m c 0 (Nat.zero_le _) from rfl, PhiT_low m c 0 _ (by omega)]

/-- After the last point the invariant gives the scratch back. -/
theorem phi_out (c : Dev nD) : (dat m c).Φ (Fin.last cfg0.N) ⊢ Pipeline.ΦA spec0 c := by
  have hN : cfg0.N = 176 := N_0
  rw [show (dat m c).Φ (Fin.last cfg0.N) = PhiT m c cfg0.N (Nat.le_refl _) from rfl, PhiT_high m c _ _ (by omega), phiA_eq]
  iintro ⟨HS0, Hg⟩
  isplitl [HS0]
  · iexists _; iexact HS0
  iexact Hg

set_option backward.isDefEq.respectTransparency.types false in
/-- From any memory, every fair execution of the program ends with the arrays as the data say and with every counter at zero. -/
theorem run_post : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (obligation m c).toRRel) (hshare := fun c => (dat m c).share_full fun _ => rfl)
    (howed := fun _ _ => rfl) (V := V m) (hmain := hmain m Variants.none) (hA := dat_A m) (hin := phi_in m) (hout := phi_out m)

/-- The run's end has the arguments as they were. -/
theorem args_of_post (c : Dev nD) {r : PUnit × MemSt nD τ sig (Elt F)} (h : Pipeline.RDat.FramePost (cfgs 0) (rdat m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    (Pipeline.RDat.FramePost.arr_in h c 1 rfl).trans ((dat_A m c 1).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The run leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of_post m c h.1, h.2⟩) (run_post m ρ)

end Cert.TailRun

end
-- ==== Proof.Tail.Block.lean ====
/- What the stored values of the feed-forward call's body are at an index, as functions of the blocks and buffers it reads. -/
module

public import proofs.«01_k».proof.Proof.Gen.TailIdeal.Skeleton
public import proofs.«01_k».proof.Proof.FeedForward
public import Idealize.ShloMosaic.Lib.Pipeline.ValueKit
public import Idealize.ShloMosaic.Lib.Pointwise

@[expose] public section

set_option maxRecDepth 16384

noncomputable section

namespace Cert.TailBlock

open Cert.FeedForward Cert.TailIdeal Cert.TailIdeal.Gen Idealize.ShloMosaic Idealize.ShloMosaic.TcCoe Idealize.SL.Sem

/-- The first 256 rows, normalized. -/
theorem pay7_at (v : FVec Ideal S256x2048 .f32) (g : FVec Ideal S1x2048 .f32) (r : Fin 256) (k : Fin 2048) :
    k0_pay7 (F := Ideal) v g (ix2 r k) = nrm (fun k => g (ix2 0 k)) (fun k => v (ix2 r k)) k := by
  pointwise [k0_pay7, nrm]

/-- The second 256 rows, normalized. -/
theorem pay20_at (v : FVec Ideal S256x2048 .f32) (g : FVec Ideal S1x2048 .f32) (r : Fin 256) (k : Fin 2048) :
    k0_pay20 (F := Ideal) (k0_pay17 v) (k0_pay18 g) (k0_pay19 v) (FloatOps.ofBits FTy.f32 1157627904#32) (ix2 r k) = nrm (fun k => g (ix2 0 k)) (fun k => v (ix2 r k)) k := by
  pointwise [k0_pay17, k0_pay18, k0_pay19, k0_pay20, nrm]

/-- The third 256 rows, normalized. -/
theorem pay27_at (v : FVec Ideal S256x2048 .f32) (g : FVec Ideal S1x2048 .f32) (r : Fin 256) (k : Fin 2048) :
    k0_pay27 (F := Ideal) v g (ix2 r k) = nrm (fun k => g (ix2 0 k)) (fun k => v (ix2 r k)) k := by
  pointwise [k0_pay27, nrm]

/-- The fourth 256 rows, normalized. -/
theorem pay34_at (v : FVec Ideal S256x2048 .f32) (g : FVec Ideal S1x2048 .f32) (r : Fin 256) (k : Fin 2048) :
    k0_pay34 (F := Ideal) v g (ix2 r k) = nrm (fun k => g (ix2 0 k)) (fun k => v (ix2 r k)) k := by
  pointwise [k0_pay34, nrm]

/-- 128 rows of the output, normalized. -/
theorem pay6_at (v : FVec Ideal S128x2048 .f32) (g : FVec Ideal S1x2048 .f32) (r : Fin 128) (k : Fin 2048) :
    k0_pay6 (F := Ideal) v g (ix2 r k) = nrm (fun k => g (ix2 0 k)) (fun k => v (ix2 r k)) k := by
  pointwise [k0_pay6, nrm]

theorem pay8_at (v : FVec Ideal S256x2048 .f32) (g : FVec Ideal S1x2048 .f32) (r : Fin 256) (k : Fin 2048) :
    k0_pay8 (F := Ideal) v g (ix2 r k) = k0_pay7 (F := Ideal) v g (ix2 r k) := by
  pointwise [k0_pay8]

theorem pay35_at (v : FVec Ideal S256x2048 .f32) (g : FVec Ideal S1x2048 .f32) (r : Fin 256) (k : Fin 2048) :
    k0_pay35 (F := Ideal) v g (ix2 r k) = k0_pay34 (F := Ideal) v g (ix2 r k) := by
  pointwise [k0_pay35]

theorem pay21_at (v75 : FVec Ideal S256x2048 .f32) (v77 : FVec Ideal S1x2048 .f32) (v80 : FVec Ideal S256x1 .f32) (cst : EReal) (r : Fin 256) (k : Fin 2048) :
    k0_pay21 (F := Ideal) v75 v77 v80 cst (ix2 r k) = k0_pay20 (F := Ideal) v75 v77 v80 cst (ix2 r k) := by
  pointwise [k0_pay21]

theorem pay28_at (v : FVec Ideal S256x2048 .bf16) (r : Fin 256) (k : Fin 2048) : k0_pay28 (F := Ideal) v (ix2 r k) = v (ix2 r k) := by
  pointwise [k0_pay28]

/-- The gated hidden units of a chunk. -/
theorem pay12_at (v : FVec Ideal S256x2048 .f32) (g : FVec Ideal S1x2048 .f32) (g0 u0 g1 u1 : FVec Ideal S1x2048x256 .bf16) (r : Fin 256) (q : Fin 512) :
    k0_pay12 (F := Ideal) (k0_pay7 v g) (k0_pay9 v g g0 u0) (k0_pay10 v g g1) (k0_pay11 u1) (ix2 r q) = unit4 (fun k => k0_pay7 (F := Ideal) v g (ix2 r k)) g0 u0 g1 u1 q := by
  pointwise [k0_pay12, k0_pay9, k0_pay10, k0_pay11, unit4, gated]

/-- The gated hidden units of a chunk. -/
theorem pay22_at (v75 : FVec Ideal S256x2048 .f32) (v77 : FVec Ideal S1x2048 .f32) (v80 : FVec Ideal S256x1 .f32) (cst : EReal) (g0 u0 g1 u1 : FVec Ideal S1x2048x256 .bf16) (r : Fin 256) (q : Fin 512) :
    k0_pay22 (F := Ideal) v75 v77 v80 cst g0 u0 g1 u1 (ix2 r q) = unit4 (fun k => k0_pay20 (F := Ideal) v75 v77 v80 cst (ix2 r k)) g0 u0 g1 u1 q := by
  pointwise [k0_pay22, unit4, gated]

/-- The gated hidden units of a chunk. -/
theorem pay29_at (h : FVec Ideal S256x2048 .bf16) (g0 u0 g1 u1 : FVec Ideal S1x2048x256 .bf16) (r : Fin 256) (q : Fin 512) :
    k0_pay29 (F := Ideal) h g0 u0 g1 u1 (ix2 r q) = unit4 (fun k => h (ix2 r k)) g0 u0 g1 u1 q := by
  pointwise [k0_pay29, unit4, gated]

/-- The gated hidden units of a chunk. -/
theorem pay37_at (v : FVec Ideal S256x2048 .f32) (g : FVec Ideal S1x2048 .f32) (g0 u0 g1 u1 : FVec Ideal S1x2048x256 .bf16) (r : Fin 256) (q : Fin 512) :
    k0_pay37 (F := Ideal) (k0_pay34 v g) (k0_pay36 v g g0) u0 g1 u1 (ix2 r q) = unit4 (fun k => k0_pay34 (F := Ideal) v g (ix2 r k)) g0 u0 g1 u1 q := by
  pointwise [k0_pay37, k0_pay36, unit4, gated]

/-- The gated hidden units of a chunk. -/
theorem pay41_at (h : FVec Ideal S1024x2048 .bf16) (g0 u0 g1 u1 : FVec Ideal S1x2048x256 .bf16) (r : Fin 1024) (q : Fin 512) :
    k0_pay41 (F := Ideal) h g0 u0 g1 u1 (ix2 r q) = unit4 (fun k => h (ix2 r k)) g0 u0 g1 u1 q := by
  pointwise [k0_pay41, unit4, gated]

/-- The gated hidden units of a chunk. -/
theorem pay44_at (h : FVec Ideal S1024x2048 .bf16) (g0 u0 g1 u1 : FVec Ideal S1x2048x256 .bf16) (r : Fin 1024) (q : Fin 512) :
    k0_pay44 (F := Ideal) h g0 u0 g1 u1 (ix2 r q) = unit4 (fun k => h (ix2 r k)) g0 u0 g1 u1 q := by
  pointwise [k0_pay44, unit4, gated]

theorem pay13_at (h : FVec Ideal S256x2048 .bf16) (a : FVec Ideal S256x256 .bf16) (b : FVec Ideal S256x256 .f32) (d : FVec Ideal S2048x256 .bf16) (w : FVec Ideal S512x512 .bf16) (r : Fin 256) (p : Fin 512) :
    k0_pay13 (F := Ideal) h a b d w (ix2 r p) = ∑ q : Fin 512, k0_pay12 (F := Ideal) h a b d (ix2 r q) * w (ix2 q p) := by
  pointwise [k0_pay13]

theorem pay14_at (h : FVec Ideal S256x2048 .bf16) (a : FVec Ideal S256x256 .bf16) (b : FVec Ideal S256x256 .f32) (d : FVec Ideal S2048x256 .bf16) (w : FVec Ideal S512x512 .bf16) (r : Fin 256) (p : Fin 512) :
    k0_pay14 (F := Ideal) h a b d w (ix2 r p) = ∑ q : Fin 512, k0_pay12 (F := Ideal) h a b d (ix2 r q) * w (ix2 q p) := by
  pointwise [k0_pay14]

theorem pay15_at (h : FVec Ideal S256x2048 .bf16) (a : FVec Ideal S256x256 .bf16) (b : FVec Ideal S256x256 .f32) (d : FVec Ideal S2048x256 .bf16) (w : FVec Ideal S512x512 .bf16) (r : Fin 256) (p : Fin 512) :
    k0_pay15 (F := Ideal) h a b d w (ix2 r p) = ∑ q : Fin 512, k0_pay12 (F := Ideal) h a b d (ix2 r q) * w (ix2 q p) := by
  pointwise [k0_pay15]

theorem pay16_at (h : FVec Ideal S256x2048 .bf16) (a : FVec Ideal S256x256 .bf16) (b : FVec Ideal S256x256 .f32) (d : FVec Ideal S2048x256 .bf16) (w : FVec Ideal S512x512 .bf16) (r : Fin 256) (p : Fin 512) :
    k0_pay16 (F := Ideal) h a b d w (ix2 r p) = ∑ q : Fin 512, k0_pay12 (F := Ideal) h a b d (ix2 r q) * w (ix2 q p) := by
  pointwise [k0_pay16]

theorem pay23_at (v75 : FVec Ideal S256x2048 .f32) (v77 : FVec Ideal S1x2048 .f32) (v80 : FVec Ideal S256x1 .f32) (cst : EReal) (g0 u0 g1 u1 : FVec Ideal S1x2048x256 .bf16) (w : FVec Ideal S512x512 .bf16) (r : Fin 256) (p : Fin 512) :
    k0_pay23 (F := Ideal) v75 v77 v80 cst g0 u0 g1 u1 w (ix2 r p) = ∑ q : Fin 512, k0_pay22 (F := Ideal) v75 v77 v80 cst g0 u0 g1 u1 (ix2 r q) * w (ix2 q p) := by
  pointwise [k0_pay23]

theorem pay30_at (h : FVec Ideal S256x2048 .bf16) (g0 u0 g1 u1 : FVec Ideal S1x2048x256 .bf16) (w : FVec Ideal S512x512 .bf16) (r : Fin 256) (p : Fin 512) :
    k0_pay30 (F := Ideal) h g0 u0 g1 u1 w (ix2 r p) = ∑ q : Fin 512, k0_pay29 (F := Ideal) h g0 u0 g1 u1 (ix2 r q) * w (ix2 q p) := by
  pointwise [k0_pay30]

theorem pay31_at (h : FVec Ideal S256x2048 .bf16) (g0 u0 g1 u1 : FVec Ideal S1x2048x256 .bf16) (w : FVec Ideal S512x512 .bf16) (r : Fin 256) (p : Fin 512) :
    k0_pay31 (F := Ideal) h g0 u0 g1 u1 w (ix2 r p) = ∑ q : Fin 512, k0_pay29 (F := Ideal) h g0 u0 g1 u1 (ix2 r q) * w (ix2 q p) := by
  pointwise [k0_pay31]

theorem pay38_at (h : FVec Ideal S256x2048 .bf16) (a : FVec Ideal S256x256 .f32) (u0 g1 u1 : FVec Ideal S1x2048x256 .bf16) (w : FVec Ideal S512x512 .bf16) (r : Fin 256) (p : Fin 512) :
    k0_pay38 (F := Ideal) h a u0 g1 u1 w (ix2 r p) = ∑ q : Fin 512, k0_pay37 (F := Ideal) h a u0 g1 u1 (ix2 r q) * w (ix2 q p) := by
  pointwise [k0_pay38]

theorem pay39_at (h : FVec Ideal S256x2048 .bf16) (a : FVec Ideal S256x256 .f32) (u0 g1 u1 : FVec Ideal S1x2048x256 .bf16) (w : FVec Ideal S512x512 .bf16) (r : Fin 256) (p : Fin 512) :
    k0_pay39 (F := Ideal) h a u0 g1 u1 w (ix2 r p) = ∑ q : Fin 512, k0_pay37 (F := Ideal) h a u0 g1 u1 (ix2 r q) * w (ix2 q p) := by
  pointwise [k0_pay39]

theorem pay40_at (h : FVec Ideal S256x2048 .bf16) (a : FVec Ideal S256x256 .f32) (u0 g1 u1 : FVec Ideal S1x2048x256 .bf16) (w : FVec Ideal S512x512 .bf16) (r : Fin 256) (p : Fin 512) :
    k0_pay40 (F := Ideal) h a u0 g1 u1 w (ix2 r p) = ∑ q : Fin 512, k0_pay37 (F := Ideal) h a u0 g1 u1 (ix2 r q) * w (ix2 q p) := by
  pointwise [k0_pay40]

theorem pay24_at (a : FVec Ideal S256x512 .bf16) (w : FVec Ideal S512x512 .bf16) (r : Fin 256) (p : Fin 512) :
    k0_pay24 (F := Ideal) a w (ix2 r p) = ∑ q : Fin 512, a (ix2 r q) * w (ix2 q p) := by
  pointwise [k0_pay24]

theorem pay25_at (a : FVec Ideal S256x512 .bf16) (w : FVec Ideal S512x512 .bf16) (r : Fin 256) (p : Fin 512) :
    k0_pay25 (F := Ideal) a w (ix2 r p) = ∑ q : Fin 512, a (ix2 r q) * w (ix2 q p) := by
  pointwise [k0_pay25]

theorem pay26_at (a : FVec Ideal S256x512 .bf16) (w : FVec Ideal S512x512 .bf16) (r : Fin 256) (p : Fin 512) :
    k0_pay26 (F := Ideal) a w (ix2 r p) = ∑ q : Fin 512, a (ix2 r q) * w (ix2 q p) := by
  pointwise [k0_pay26]

theorem pay32_at (a : FVec Ideal S256x512 .bf16) (w : FVec Ideal S512x512 .bf16) (r : Fin 256) (p : Fin 512) :
    k0_pay32 (F := Ideal) a w (ix2 r p) = ∑ q : Fin 512, a (ix2 r q) * w (ix2 q p) := by
  pointwise [k0_pay32]

theorem pay33_at (a : FVec Ideal S256x512 .bf16) (w : FVec Ideal S512x512 .bf16) (r : Fin 256) (p : Fin 512) :
    k0_pay33 (F := Ideal) a w (ix2 r p) = ∑ q : Fin 512, a (ix2 r q) * w (ix2 q p) := by
  pointwise [k0_pay33]

theorem pay1_at (a : FVec Ideal S256x512 .bf16) (w : FVec Ideal S512x512 .bf16) (r : Fin 256) (p : Fin 512) :
    k0_pay1 (F := Ideal) a w (ix2 r p) = ∑ q : Fin 512, a (ix2 r q) * w (ix2 q p) := by
  pointwise [k0_pay1]

theorem pay42_at (h : FVec Ideal S1024x2048 .bf16) (g0 u0 g1 u1 : FVec Ideal S1x2048x256 .bf16) (w : FVec Ideal S512x512 .bf16) (o : FVec Ideal S1024x512 .f32) (r : Fin 1024) (p : Fin 512) :
    k0_pay42 (F := Ideal) h g0 u0 g1 u1 w o (ix2 r p) = o (ix2 r p) + ∑ q : Fin 512, k0_pay41 (F := Ideal) h g0 u0 g1 u1 (ix2 r q) * w (ix2 q p) := by
  pointwise [k0_pay42]

theorem pay2_at (a : FVec Ideal S1024x512 .bf16) (w : FVec Ideal S512x512 .bf16) (o : FVec Ideal S1024x512 .f32) (r : Fin 1024) (p : Fin 512) :
    k0_pay2 (F := Ideal) a (k0_pay43 w) (constant S1024x512 FTy.f32 0#32) o (ix2 r p) = o (ix2 r p) + ∑ q : Fin 512, a (ix2 r q) * w (ix2 q p) := by
  pointwise [k0_pay2, k0_pay43]

theorem pay3_at (a : FVec Ideal S1024x512 .bf16) (w : FVec Ideal S512x512 .bf16) (o : FVec Ideal S1024x512 .f32) (r : Fin 1024) (p : Fin 512) :
    k0_pay3 (F := Ideal) a w o (ix2 r p) = o (ix2 r p) + ∑ q : Fin 512, a (ix2 r q) * w (ix2 q p) := by
  pointwise [k0_pay3]

theorem pay4_at (a : FVec Ideal S1024x512 .bf16) (w : FVec Ideal S512x512 .bf16) (o : FVec Ideal S1024x512 .f32) (r : Fin 1024) (p : Fin 512) :
    k0_pay4 (F := Ideal) a w o (ix2 r p) = o (ix2 r p) + ∑ q : Fin 512, a (ix2 r q) * w (ix2 q p) := by
  pointwise [k0_pay4]

theorem pay45_at (h : FVec Ideal S1024x2048 .bf16) (g0 u0 g1 u1 : FVec Ideal S1x2048x256 .bf16) (w : FVec Ideal S512x512 .bf16) (o : FVec Ideal S1024x512 .f32) (x : FVec Ideal S1024x512 .f32) (r : Fin 1024) (p : Fin 512) :
    k0_pay45 (F := Ideal) h g0 u0 g1 u1 w o x (ix2 r p) = x (ix2 r p) + Ideal.ofBits .f32 0x3F000000#32 * (o (ix2 r p) + ∑ q : Fin 512, k0_pay44 (F := Ideal) h g0 u0 g1 u1 (ix2 r q) * w (ix2 q p)) := by
  pointwise [k0_pay45]

theorem pay46_at (a : FVec Ideal S1024x512 .bf16) (w : FVec Ideal S512x512 .bf16) (o : FVec Ideal S1024x512 .f32) (x : FVec Ideal S1024x512 .f32) (r : Fin 1024) (p : Fin 512) :
    k0_pay46 (F := Ideal) a w o x (ix2 r p) = x (ix2 r p) + Ideal.ofBits .f32 0x3F000000#32 * (o (ix2 r p) + ∑ q : Fin 512, a (ix2 r q) * w (ix2 q p)) := by
  pointwise [k0_pay46]

theorem pay47_at (a : FVec Ideal S1024x512 .bf16) (w : FVec Ideal S512x512 .bf16) (o : FVec Ideal S1024x512 .f32) (x : FVec Ideal S1024x512 .f32) (r : Fin 1024) (p : Fin 512) :
    k0_pay47 (F := Ideal) a w o x (ix2 r p) = x (ix2 r p) + Ideal.ofBits .f32 0x3F000000#32 * (o (ix2 r p) + ∑ q : Fin 512, a (ix2 r q) * w (ix2 q p)) := by
  pointwise [k0_pay47]

theorem pay5_at (a : FVec Ideal S1024x512 .bf16) (w : FVec Ideal S512x512 .bf16) (o : FVec Ideal S1024x512 .f32) (x : FVec Ideal S1024x512 .f32) (r : Fin 1024) (p : Fin 512) :
    k0_pay5 (F := Ideal) (k0_pay48 a w o) x (ix2 r p) = x (ix2 r p) + Ideal.ofBits .f32 0x3F000000#32 * (o (ix2 r p) + ∑ q : Fin 512, a (ix2 r q) * w (ix2 q p)) := by
  pointwise [k0_pay48, k0_pay5]

end Cert.TailBlock

end
-- ==== Proof.Tail.Points.lean ====
/- What each kind of grid point of the feed-forward call leaves in the output's buffer and in the scratch, at an index, over the
   extended reals. -/
module

public import proofs.«01_k».proof.Proof.Tail.Block
public import proofs.«01_k».proof.Proof.Tail.Data
public import Idealize.ShloMosaic.Lib.Pipeline.ReadBack

@[expose] public section

set_option maxRecDepth 16384

noncomputable section

namespace Cert.TailRun

open Cert.FeedForward Cert.TailIdeal Cert.TailIdeal.Gen Cert.TailBlock Cert.Pieces
open Idealize.ShloMosaic Idealize.ShloMosaic.TcCoe Idealize.SL.Sem

section

variable {c : Dev nD} {i : grid0.Coords}
  {arg2 : Memref sig Kind.tc Space.vmem S1024x2048 EltTy.f32} {harg2 : arg2.IsWhole}
  {arg3 : Memref sig Kind.tc Space.vmem S1024x256 EltTy.f32} {harg3 : arg3.IsWhole}
  {arg4 : Memref sig Kind.tc Space.vmem S1x2048 EltTy.f32} {harg4 : arg4.IsWhole}
  {arg5 : Memref sig Kind.tc Space.vmem S2x2048x256 EltTy.bf16} {harg5 : arg5.IsWhole}
  {arg6 : Memref sig Kind.tc Space.vmem S2x2048x256 EltTy.bf16} {harg6 : arg6.IsWhole}
  {arg7 : Memref sig Kind.tc Space.vmem S512x2048 EltTy.bf16} {harg7 : arg7.IsWhole}
  {arg8 : Memref sig Kind.tc Space.vmem S1x2048 EltTy.f32} {harg8 : arg8.IsWhole}
  {arg9 : Memref sig Kind.tc Space.vmem S1024x2048 EltTy.f32} {harg9 : arg9.IsWhole}
  {arg10 : Memref sig Kind.tc Space.vmem S1024x2048 EltTy.bf16} {harg10 : arg10.IsWhole}
  {x0 : FVec Ideal S1024x2048 .f32} {x1 : FVec Ideal S1024x256 .f32} {x2 : FVec Ideal S1x2048 .f32}
  {x3 x4 : FVec Ideal S2x2048x256 .bf16} {x5 : FVec Ideal S512x2048 .bf16} {x6 : FVec Ideal S1x2048 .f32}
  {xo : FVec Ideal S1024x2048 .f32} {xs : FVec Ideal S1024x2048 .bf16}

/-- The four groups of 256 normalized rows. -/
theorem rowsB0 (r : Fin 256) (r' : Fin 1024) (hr : r'.val = 0 + r) (k : Fin 2048) :
    runB.sl.r (F := Ideal) c arg2 harg2 arg4 harg4 x0 x2 (ix2 r k) = HN x0 x2 r' k :=
  (pay7_at _ _ r k).trans (rows_read _ _ r r' hr k)
theorem rowsB1 (r : Fin 256) (r' : Fin 1024) (hr : r'.val = 256 + r) (k : Fin 2048) :
    k0_pay20 (F := Ideal) (runB.sl.r_4 c arg2 harg2 x0) (runB.sl.r_5 c arg4 harg4 x2) (runB.sl.r_6 c arg2 harg2 x0) runB.sl.cst_52 (ix2 r k) = HN x0 x2 r' k :=
  (pay20_at _ _ r k).trans (rows_read _ _ r r' hr k)
theorem rowsB2 (r : Fin 256) (r' : Fin 1024) (hr : r'.val = 512 + r) (k : Fin 2048) :
    runB.sl.r_9 (F := Ideal) c arg2 harg2 arg4 harg4 x0 x2 (ix2 r k) = HN x0 x2 r' k :=
  (pay27_at _ _ r k).trans (rows_read _ _ r r' hr k)
theorem rowsB3 (r : Fin 256) (r' : Fin 1024) (hr : r'.val = 768 + r) (k : Fin 2048) :
    runB.sl.r_12 (F := Ideal) c arg2 harg2 arg4 harg4 x0 x2 (ix2 r k) = HN x0 x2 r' k :=
  (pay34_at _ _ r k).trans (rows_read _ _ r r' hr k)

/-- The hidden units of the four groups of rows. -/
theorem unitsB0 (r : Fin 256) (r' : Fin 1024) (hr : r'.val = 0 + r) (q : Fin 512) :
    k0_pay12 (F := Ideal) (runB.sl.r c arg2 harg2 arg4 harg4 x0 x2) (runB.sl.r_1 c arg2 harg2 arg4 harg4 arg5 harg5 arg6 harg6 x0 x2 x3 x4)
      (runB.sl.r_2 c arg2 harg2 arg4 harg4 arg5 harg5 x0 x2 x3) (runB.sl.r_3 c arg6 harg6 x4) (ix2 r q) = unitAt (HN x0 x2 r') x3 x4 q :=
  (pay12_at _ _ _ _ _ _ r q).trans (unit4_read (funext fun k => rowsB0 (c := c) r r' hr k) _ _ q)
theorem unitsB1 (r : Fin 256) (r' : Fin 1024) (hr : r'.val = 256 + r) (q : Fin 512) :
    runB.sl.r_7 (F := Ideal) c arg2 harg2 arg4 harg4 arg5 harg5 arg6 harg6 x0 x2 x3 x4 (ix2 r q) = unitAt (HN x0 x2 r') x3 x4 q :=
  (pay22_at _ _ _ _ _ _ _ _ r q).trans (unit4_read (funext fun k => rowsB1 r r' hr k) _ _ q)
theorem unitsB2 (r : Fin 256) (r' : Fin 1024) (hr : r'.val = 512 + r) (q : Fin 512) :
    runB.sl.r_10 (F := Ideal) c arg2 harg2 arg4 harg4 arg5 harg5 arg6 harg6 x0 x2 x3 x4 (ix2 r q) = unitAt (HN x0 x2 r') x3 x4 q :=
  (pay29_at _ _ _ _ _ r q).trans (unit4_read (funext fun k => rowsB2 r r' hr k) _ _ q)
theorem unitsB3 (r : Fin 256) (r' : Fin 1024) (hr : r'.val = 768 + r) (q : Fin 512) :
    runB.sl.r_14 (F := Ideal) c arg2 harg2 arg4 harg4 arg5 harg5 arg6 harg6 x0 x2 x3 x4 (ix2 r q) = unitAt (HN x0 x2 r') x3 x4 q :=
  (pay37_at _ _ _ _ _ _ r q).trans (unit4_read (funext fun k => rowsB3 (c := c) r r' hr k) _ _ q)

variable {hc0 : ¬ k0_cond1 i = 1#1} {hc1 : k0_cond10 i = 1#1}

/-- What a point that begins a row tile stores into the output is the first chunk's share, -/
theorem piecesB {hc2 : k0_cond11 i = 1#1} {hc3 : ¬ k0_cond12 i = 1#1} {hc4 : ¬ k0_cond13 i = 1#1} :
    View.PiecesOf (partB x0 x2 x3 x4 x5)
      (runB (F := Ideal) c i arg2 harg2 arg3 harg3 arg4 harg4 arg5 harg5 arg6 harg6 arg7 harg7 arg8 harg8 arg9 harg9 arg10 harg10 hc0 hc1 hc2 hc3 hc4 x0 x1 x2 x3 x4 x5 x6).1 := by
  unfold runB
  dsimp only
  refine ⟨piece_of _ (by decide) _ fun r q r' q' hr hq => (pay1_at _ _ r q).trans (cols_read _ (unitsB3 (c := c) r r' hr) q q' hq),
    piece_of _ (by decide) _ fun r q r' q' hr hq => (pay40_at _ _ _ _ _ _ r q).trans (cols_read _ (unitsB3 (c := c) r r' hr) q q' hq),
    piece_of _ (by decide) _ fun r q r' q' hr hq => (pay39_at _ _ _ _ _ _ r q).trans (cols_read _ (unitsB3 (c := c) r r' hr) q q' hq),
    piece_of _ (by decide) _ fun r q r' q' hr hq => (pay38_at _ _ _ _ _ _ r q).trans (cols_read _ (unitsB3 (c := c) r r' hr) q q' hq),
    piece_of _ (by decide) _ fun r q r' q' hr hq => (pay33_at _ _ r q).trans (cols_read _ (unitsB2 (c := c) r r' hr) q q' hq),
    piece_of _ (by decide) _ fun r q r' q' hr hq => (pay32_at _ _ r q).trans (cols_read _ (unitsB2 (c := c) r r' hr) q q' hq),
    piece_of _ (by decide) _ fun r q r' q' hr hq => (pay31_at _ _ _ _ _ _ r q).trans (cols_read _ (unitsB2 (c := c) r r' hr) q q' hq),
    piece_of _ (by decide) _ fun r q r' q' hr hq => (pay30_at _ _ _ _ _ _ r q).trans (cols_read _ (unitsB2 (c := c) r r' hr) q q' hq),
    piece_of _ (by decide) _ fun r q r' q' hr hq => (pay26_at _ _ r q).trans (cols_read _ (unitsB1 (c := c) r r' hr) q q' hq),
    piece_of _ (by decide) _ fun r q r' q' hr hq => (pay25_at _ _ r q).trans (cols_read _ (unitsB1 (c := c) r r' hr) q q' hq),
    piece_of _ (by decide) _ fun r q r' q' hr hq => (pay24_at _ _ r q).trans (cols_read _ (unitsB1 (c := c) r r' hr) q q' hq),
    piece_of _ (by decide) _ fun r q r' q' hr hq => (pay23_at _ _ _ _ _ _ _ _ _ r q).trans (cols_read _ (unitsB1 (c := c) r r' hr) q q' hq),
    piece_of _ (by decide) _ fun r q r' q' hr hq => (pay16_at _ _ _ _ _ r q).trans (cols_read _ (unitsB0 (c := c) r r' hr) q q' hq),
    piece_of _ (by decide) _ fun r q r' q' hr hq => (pay15_at _ _ _ _ _ r q).trans (cols_read _ (unitsB0 (c := c) r r' hr) q q' hq),
    piece_of _ (by decide) _ fun r q r' q' hr hq => (pay14_at _ _ _ _ _ r q).trans (cols_read _ (unitsB0 (c := c) r r' hr) q q' hq),
    piece_of _ (by decide) _ fun r q r' q' hr hq => (pay13_at _ _ _ _ _ r q).trans (cols_read _ (unitsB0 (c := c) r r' hr) q q' hq), trivial⟩

/-- and what it stores into the scratch are the normalized rows. -/
theorem spiecesB {hc2 : k0_cond11 i = 1#1} {hc3 : ¬ k0_cond12 i = 1#1} {hc4 : ¬ k0_cond13 i = 1#1} :
    View.PiecesOf (rowsG x0 x2)
      (runB (F := Ideal) c i arg2 harg2 arg3 harg3 arg4 harg4 arg5 harg5 arg6 harg6 arg7 harg7 arg8 harg8 arg9 harg9 arg10 harg10 hc0 hc1 hc2 hc3 hc4 x0 x1 x2 x3 x4 x5 x6).2.1 := by
  unfold runB
  dsimp only
  have hq0 : ∀ {r' : Fin 1024} {q' q : Fin 2048}, q'.val = 0 + q → HN x0 x2 r' q = rowsG x0 x2 (ix2 r' q') := fun {r' q' q} h => by
    rw [show q = q' from Fin.ext (by omega)]; rfl
  refine ⟨piece_of _ (by decide) _ fun r q r' q' hr hq => (pay35_at _ _ r q).trans ((rowsB3 (c := c) r r' hr q).trans (hq0 hq)),
    piece_of _ (by decide) _ fun r q r' q' hr hq => (pay28_at _ r q).trans ((rowsB2 (c := c) r r' hr q).trans (hq0 hq)),
    piece_of _ (by decide) _ fun r q r' q' hr hq => (pay21_at _ _ _ _ r q).trans ((rowsB1 (c := c) r r' hr q).trans (hq0 hq)),
    piece_of _ (by decide) _ fun r q r' q' hr hq => (pay8_at _ _ r q).trans ((rowsB0 (c := c) r r' hr q).trans (hq0 hq)), trivial⟩

/-- The hidden units at a middle point and at a last point. -/
theorem unitsC (r r' : Fin 1024) (hr : r'.val = 0 + r) (q : Fin 512) :
    runC.sl.r (F := Ideal) c arg5 harg5 arg6 harg6 arg10 harg10 x3 x4 xs (ix2 r q) = unitAt (fun k => xs (ix2 r' k)) x3 x4 q :=
  (pay41_at _ _ _ _ _ r q).trans (unit4_read (scratch_read _ r r' hr) _ _ q)
theorem unitsD (r r' : Fin 1024) (hr : r'.val = 0 + r) (q : Fin 512) :
    runD.sl.r (F := Ideal) c arg5 harg5 arg6 harg6 arg10 harg10 x3 x4 xs (ix2 r q) = unitAt (fun k => xs (ix2 r' k)) x3 x4 q :=
  (pay44_at _ _ _ _ _ r q).trans (unit4_read (scratch_read _ r r' hr) _ _ q)

/-- What a middle point stores is the output with one more chunk's share. -/
theorem piecesC {hc2 : ¬ k0_cond11 i = 1#1} {hc3 : k0_cond12 i = 1#1} {hc4 : ¬ k0_cond13 i = 1#1} :
    View.PiecesOf (partC xo xs x3 x4 x5)
      (runC (F := Ideal) c i arg2 harg2 arg3 harg3 arg4 harg4 arg5 harg5 arg6 harg6 arg7 harg7 arg8 harg8 arg9 harg9 arg10 harg10 hc0 hc1 hc2 hc3 hc4 x0 x1 x2 x3 x4 x5 x6 xo xs).1 := by
  unfold runC
  dsimp only
  refine ⟨piece_of _ (by decide) _ fun r q r' q' hr hq => (pay4_at _ _ _ r q).trans (Ideal.add_congr (readAt_at (Val := Elt Ideal) harg9 xo _ r' q' r q hr hq) (cols_read _ (unitsC (c := c) r r' hr) q q' hq)),
    piece_of _ (by decide) _ fun r q r' q' hr hq => (pay3_at _ _ _ r q).trans (Ideal.add_congr (readAt_at (Val := Elt Ideal) harg9 xo _ r' q' r q hr hq) (cols_read _ (unitsC (c := c) r r' hr) q q' hq)),
    piece_of _ (by decide) _ fun r q r' q' hr hq => (pay2_at _ _ _ r q).trans (Ideal.add_congr (readAt_at (Val := Elt Ideal) harg9 xo _ r' q' r q hr hq) (cols_read _ (unitsC (c := c) r r' hr) q q' hq)),
    piece_of _ (by decide) _ fun r q r' q' hr hq => (pay42_at _ _ _ _ _ _ _ r q).trans (Ideal.add_congr (readAt_at (Val := Elt Ideal) harg9 xo _ r' q' r q hr hq) (cols_read _ (unitsC (c := c) r r' hr) q q' hq)), trivial⟩

/-- What the last point of a row tile stores before its loop are those rows, -/
theorem piecesD : View.PiecesOf (residG x0 xo xs x3 x4 x5)
    (runD.sl.H7_4 (F := Ideal) c arg2 harg2 arg5 harg5 arg6 harg6 arg7 harg7 arg9 harg9 arg10 harg10 x0 x3 x4 x5 xo xs) := by
  unfold runD.sl.H7_4
  have cong : ∀ {r' : Fin 1024} {q' : Fin 2048} {a b d : EReal}, a = x0 (ix2 r' q') → b = xo (ix2 r' q') → d = part (fun k => xs (ix2 r' k)) x3 x4 x5 q' →
      a + Ideal.ofBits .f32 0x3F000000#32 * (b + d) = residG x0 xo xs x3 x4 x5 (ix2 r' q') := by
    rintro _ _ _ _ _ rfl rfl rfl; rfl
  refine ⟨piece_of _ (by decide) _ fun r q r' q' hr hq => (pay5_at _ _ _ _ r q).trans (cong (readAt_at (Val := Elt Ideal) harg2 x0 _ r' q' r q hr hq) (readAt_at (Val := Elt Ideal) harg9 xo _ r' q' r q hr hq) (cols_read _ (unitsD (c := c) r r' hr) q q' hq)),
    piece_of _ (by decide) _ fun r q r' q' hr hq => (pay47_at _ _ _ _ r q).trans (cong (readAt_at (Val := Elt Ideal) harg2 x0 _ r' q' r q hr hq) (readAt_at (Val := Elt Ideal) harg9 xo _ r' q' r q hr hq) (cols_read _ (unitsD (c := c) r r' hr) q q' hq)),
    piece_of _ (by decide) _ fun r q r' q' hr hq => (pay46_at _ _ _ _ r q).trans (cong (readAt_at (Val := Elt Ideal) harg2 x0 _ r' q' r q hr hq) (readAt_at (Val := Elt Ideal) harg9 xo _ r' q' r q hr hq) (cols_read _ (unitsD (c := c) r r' hr) q q' hq)),
    piece_of _ (by decide) _ fun r q r' q' hr hq => (pay45_at _ _ _ _ _ _ _ _ r q).trans (cong (readAt_at (Val := Elt Ideal) harg2 x0 _ r' q' r q hr hq) (readAt_at (Val := Elt Ideal) harg9 xo _ r' q' r q hr hq) (cols_read _ (unitsD (c := c) r r' hr) q q' hq)), trivial⟩

/-- The loop's row offsets. -/
theorem off_eq : ∀ k : Fin k0_t1_loop.trips, k0_off1 k = ![128 * k.val, 0] := by decide +kernel

/-- What one trip of the loop stores: its 128 rows as found, normalized. -/
theorem trip_pieces {hc4 : k0_cond13 i = 1#1} (k : Fin k0_t1_loop.trips) (f : BufTy.Contents (Elt Ideal) arg9.view.ty)
    (inb : ∀ a, (![128 * k.val, 0] : Fin 2 → ℕ) a + (![128, 2048] : Fin 2 → ℕ) a ≤ S1024x2048.size a) :
    tripL_k0_t1 (F := Ideal) Variants.none c none i arg2 harg2 arg3 harg3 arg4 harg4 arg5 harg5 arg6 harg6 arg7 harg7 arg8 harg8 arg9 harg9 arg10 harg10 hc1 hc4 (harg8.unread x6) k f
      = [⟨Rect.unit (s := S1024x2048) ![128 * k.val, 0] ![128, 2048] inb,
          k0_pay6 (View.readAt (Elt Ideal) arg9.view (Rect.unit (s := S1024x2048) ![128 * k.val, 0] ![128, 2048] inb).toLoadRect f)
            (View.readAt (Elt Ideal) arg8.view (Rect.unit (s := S1x2048) ![0, 0] ![1, 2048] inb_S1x2048_S1x2048_0_0).toLoadRect (harg8.unread x6))⟩] := by
  have key : ∀ (off : Fin 2 → ℕ) (e : off = ![128 * k.val, 0]) (inb₀ : ∀ a, off a + S128x2048.size a ≤ S1024x2048.size a),
      ([⟨Rect.unit (s := S1024x2048) off S128x2048.size inb₀,
          k0_pay6 (View.readAt (Elt Ideal) arg9.view (Rect.unit (s := S1024x2048) off S128x2048.size inb₀).toLoadRect f)
            (View.readAt (Elt Ideal) arg8.view (Rect.unit (s := S1x2048) ![0, 0] ![1, 2048] inb_S1x2048_S1x2048_0_0).toLoadRect (harg8.unread x6))⟩] : List (View.Piece (Elt Ideal) S1024x2048 .f32))
      = [⟨Rect.unit (s := S1024x2048) ![128 * k.val, 0] ![128, 2048] inb,
          k0_pay6 (View.readAt (Elt Ideal) arg9.view (Rect.unit (s := S1024x2048) ![128 * k.val, 0] ![128, 2048] inb).toLoadRect f)
            (View.readAt (Elt Ideal) arg8.view (Rect.unit (s := S1x2048) ![0, 0] ![1, 2048] inb_S1x2048_S1x2048_0_0).toLoadRect (harg8.unread x6))⟩] := by
    rintro _ rfl _; rfl
  unfold tripL_k0_t1 trip_k0_t1
  exact key _ (off_eq k) _

/-- After the trips before `k`, the rows before `128 k` are normalized and the later ones are as the loop found them. -/
theorem loop_at {hc4 : k0_cond13 i = 1#1} (L : List (View.Piece (Elt Ideal) S1024x2048 .f32)) (k : ℕ) (hk : k ≤ 8) (r : Fin 1024) (p : Fin 2048) :
    View.canon (pb_k0_t1 (F := Ideal) Variants.none c none i arg2 harg2 arg3 harg3 arg4 harg4 arg5 harg5 arg6 harg6 arg7 harg7 arg8 harg8 arg9 harg9 arg10 harg10 hc1 hc4 (harg8.unread x6)
        (arg9.view.writes (Elt Ideal) arg9.view.junk L) k ++ L) (ix2 r p)
      = if r.val < 128 * k then nrm (fun l => x6 (ix2 0 l)) (fun l => View.canon L (ix2 r l)) p else View.canon L (ix2 r p) := by
  induction k generalizing r p with
  | zero => rw [if_neg (by omega)]; rfl
  | succ k ih =>
    have hk' : k < k0_t1_loop.trips := by have : k0_t1_loop.trips = 8 := by decide +kernel
                                          omega
    have inb : ∀ a, (![128 * k, 0] : Fin 2 → ℕ) a + (![128, 2048] : Fin 2 → ℕ) a ≤ S1024x2048.size a := by
      intro a
      match a with
      | 0 => show 128 * k + 128 ≤ 1024; omega
      | 1 => show 0 + 2048 ≤ 2048; omega
    rw [pb_k0_t1_succ (k := ⟨k, hk'⟩), trip_pieces ⟨k, hk'⟩ _ inb, List.append_assoc, List.singleton_append]
    by_cases h : 128 * k ≤ r.val ∧ r.val < 128 * k + 128
    · refine (canon_hit inb _ _ r p (⟨r.val - 128 * k, by omega⟩ : Fin 128) p (by show r.val = 128 * k + (r.val - 128 * k); omega) (by simp)).trans ?_
      rw [if_pos (by omega)]
      refine (pay6_at _ _ _ _).trans ?_
      congr 1
      · funext l; exact readAt_at (Val := Elt Ideal) harg8 x6 _ 0 l 0 l (by simp) (by simp)
      · funext l
        rw [← View.writes_append]
        refine (readCov_at arg9.view inb _ r l (⟨r.val - 128 * k, by omega⟩ : Fin 128) l (by show r.val = 128 * k + (r.val - 128 * k); omega) (by simp)).trans ?_
        rw [ih (by omega) r l, if_neg (by omega)]
    · refine (canon_miss inb _ _ r p (by omega)).trans ?_
      rw [ih (by omega) r p]
      by_cases h2 : r.val < 128 * k
      · rw [if_pos h2, if_pos (by omega)]
      · rw [if_neg h2, if_neg (by omega)]

/-- A last point's stores: the loop's over those before it. -/
theorem runD_list {hc2 : ¬ k0_cond11 i = 1#1} {hc3 : ¬ k0_cond12 i = 1#1} {hc4 : k0_cond13 i = 1#1} :
    (runD (F := Ideal) c i arg2 harg2 arg3 harg3 arg4 harg4 arg5 harg5 arg6 harg6 arg7 harg7 arg8 harg8 arg9 harg9 arg10 harg10 hc0 hc1 hc2 hc3 hc4 x0 x1 x2 x3 x4 x5 x6 xo xs).1
      = pb_k0_t1 (F := Ideal) Variants.none c none i arg2 harg2 arg3 harg3 arg4 harg4 arg5 harg5 arg6 harg6 arg7 harg7 arg8 harg8 arg9 harg9 arg10 harg10 hc1 hc4 (harg8.unread x6)
          (arg9.view.writes (Elt Ideal) arg9.view.junk (runD.sl.H7_4 (F := Ideal) c arg2 harg2 arg5 harg5 arg6 harg6 arg7 harg7 arg9 harg9 arg10 harg10 x0 x3 x4 x5 xo xs)) k0_t1_loop.trips
        ++ runD.sl.H7_4 (F := Ideal) c arg2 harg2 arg5 harg5 arg6 harg6 arg7 harg7 arg9 harg9 arg10 harg10 x0 x3 x4 x5 xo xs := by
  unfold runD
  rfl

/-- The loop runs eight times. -/
theorem trips_eq : k0_t1_loop.trips = 8 := by decide +kernel

/-- A last point leaves the rows normalized. -/
theorem runD_at {hc2 : ¬ k0_cond11 i = 1#1} {hc3 : ¬ k0_cond12 i = 1#1} {hc4 : k0_cond13 i = 1#1}
    (hcov : ∀ y : S1024x2048.Idx, ∃ pc ∈ runD.sl.H7_4 (F := Ideal) c arg2 harg2 arg5 harg5 arg6 harg6 arg7 harg7 arg9 harg9 arg10 harg10 x0 x3 x4 x5 xo xs, y ∈ pc.1.set)
    (r : Fin 1024) (p : Fin 2048) :
    View.canon (runD (F := Ideal) c i arg2 harg2 arg3 harg3 arg4 harg4 arg5 harg5 arg6 harg6 arg7 harg7 arg8 harg8 arg9 harg9 arg10 harg10 hc0 hc1 hc2 hc3 hc4 x0 x1 x2 x3 x4 x5 x6 xo xs).1 (ix2 r p)
      = nrm (fun l => x6 (ix2 0 l)) (fun l => resid x0 xo xs x3 x4 x5 r l) p := by
  rw [runD_list]
  refine (loop_at _ k0_t1_loop.trips (le_of_eq trips_eq) r p).trans ?_
  rw [if_pos (by rw [trips_eq]; omega)]
  refine congrArg (fun v => nrm (fun l => x6 (ix2 0 l)) v p) (funext fun l => ?_)
  exact View.canon_apply_of_pieces (residG x0 xo xs x3 x4 x5) _ piecesD.mem _ (hcov _)

end

end Cert.TailRun

end
-- ==== Proof.Tail.Steps.lean ====
/- What each kind of grid point of the feed-forward call leaves, at an index, from the point's blocks. -/
module

public import proofs.«01_k».proof.Proof.Tail.Points

@[expose] public section

set_option maxRecDepth 16384

noncomputable section

namespace Cert.TailRun

open Cert.FeedForward Cert.TailIdeal Cert.TailIdeal.Gen Cert.TailBlock Cert.Pieces
open Idealize.ShloMosaic Idealize.ShloMosaic.TcCoe Idealize.SL.Sem

attribute [local irreducible] runB runC runD

variable (m : (ℓ : Loc nD τ sig) → Buf (Elt Ideal) ℓ)

/-- A list of stored pieces read back is the list read as one array. -/
theorem backO_eq (L : List (View.Piece (Elt Ideal) S1024x2048 .f32)) : backO L = View.canon L := View.read_writes_junk_eq_canon _ _
theorem backS_eq (L : List (View.Piece (Elt Ideal) S1024x2048 .bf16)) : backS L = View.canon L := View.read_writes_junk_eq_canon _ _

/-- A point that begins a row tile leaves the first chunk's share in the output, -/
theorem outB (c : Dev nD) (t : Fin cfg0.N) (h : 11 ≤ t.val) (h0 : t.val % 11 = 0) (r : Fin 1024) (p : Fin 2048) :
    (outsAt m c t.val t.isLt).1 (ix2 r p)
      = part (HN (iblk m c 0 t) (iblk m c 2 t) r) (iblk m c 3 t) (iblk m c 4 t) (iblk m c 5 t) p := by
  rw [outsAt_B m c t h h0, backO_eq]
  exact View.canon_apply_of_pieces (partB (iblk m c 0 t) (iblk m c 2 t) (iblk m c 3 t) (iblk m c 4 t) (iblk m c 5 t)) _ piecesB.mem _ (coverB m c t h h0 _)

/-- and the normalized rows in the scratch. -/
theorem scrB (c : Dev nD) (t : Fin cfg0.N) (h : 11 ≤ t.val) (h0 : t.val % 11 = 0) (r : Fin 1024) (k : Fin 2048) :
    (outsAt m c t.val t.isLt).2 (ix2 r k) = HN (iblk m c 0 t) (iblk m c 2 t) r k := by
  rw [outsAt_B m c t h h0, backS_eq]
  exact View.canon_apply_of_pieces (rowsG (iblk m c 0 t) (iblk m c 2 t)) _ spiecesB.mem _ (scoverB m c t h h0 _)

/-- A middle point adds its chunk's share, over any contents found. -/
theorem outC (c : Dev nD) (t : Fin cfg0.N) (h : 11 ≤ t.val) (h0 : t.val % 11 ≠ 0) (h10 : t.val % 11 ≠ 10)
    (xo : FVec Ideal S1024x2048 .f32) (xs : FVec Ideal S1024x2048 .bf16) (r : Fin 1024) (p : Fin 2048) :
    backO (atC m c t h h0 h10 xo xs).1 (ix2 r p)
      = xo (ix2 r p) + part (fun k => xs (ix2 r k)) (iblk m c 3 t) (iblk m c 4 t) (iblk m c 5 t) p := by
  rw [backO_eq]
  exact View.canon_apply_of_pieces (partC xo xs (iblk m c 3 t) (iblk m c 4 t) (iblk m c 5 t)) _ piecesC.mem _ (coverC m c t h h0 h10 xo xs _)

/-- The pieces stored before the loop of a last point cover the output. -/
theorem coverH (c : Dev nD) (t : Fin cfg0.N) (xo : FVec Ideal S1024x2048 .f32) (xs : FVec Ideal S1024x2048 .bf16) (y : S1024x2048.Idx) :
    ∃ pc ∈ runD.sl.H7_4 (F := Ideal) c (ms0 t) (hs0 t) (ms3 t) (hs3 t) (ms4 t) (hs4 t) (ms5 t) (hs5 t) (ms7 t) (hs7 t) scM (Memref.isWhole_whole _)
      (iblk m c 0 t) (iblk m c 3 t) (iblk m c 4 t) (iblk m c 5 t) xo xs, y ∈ pc.1.set :=
  View.cover_of_tiledL (s := S1024x2048) _ ![1024, 512] (by sl_kernel_rfl) y

/-- A last point adds its chunk's share, adds half of the sum to the activations and normalizes the row, over any contents found. -/
theorem outD (c : Dev nD) (t : Fin cfg0.N) (h : 11 ≤ t.val) (h10 : t.val % 11 = 10)
    (xo : FVec Ideal S1024x2048 .f32) (xs : FVec Ideal S1024x2048 .bf16) (r : Fin 1024) (p : Fin 2048) :
    backO (atD m c t h h10 xo xs).1 (ix2 r p)
      = nrm (fun l => (iblk m c 6 t : FVec Ideal S1x2048 .f32) (ix2 0 l)) (fun l => resid (iblk m c 0 t) xo xs (iblk m c 3 t) (iblk m c 4 t) (iblk m c 5 t) r l) p := by
  rw [backO_eq]
  exact runD_at (coverH m c t xo xs) r p

end Cert.TailRun

end
-- ==== Proof.Tail.Spec.lean ====
/- The feed-forward call's result as a function of the argument arrays: a normalization, a gated feed-forward layer whose half is
   added to the activations, and the closing normalization; the first row tile is taken over as given. -/
module

public import proofs.«01_k».proof.Proof.FeedForward
public import proofs.«01_k».proof.TailIdeal

@[expose] public section

set_option maxRecDepth 16384

noncomputable section

namespace Cert.TailSpec

open Cert.FeedForward Cert.TailIdeal Idealize.ShloMosaic

variable (x : FVec Ideal S4x4096x2048 .f32) (y : FVec Ideal S1024x2048 .f32) (g : FVec Ideal S1x2048 .f32)
  (w : FVec Ideal S1x2048x11264 .f32) (wo : FVec Ideal S1x5632x2048 .f32) (fg : FVec Ideal S2048 .f32)

/-- The token's result: that row, normalized. -/
def out (a : Fin 4) (s : Fin 4096) (p : Fin 2048) : EReal := nrm (fun k => fg (ix1 k)) (row x g w wo a s) p

/-- The result array: the given rows, then every other token's result. -/
def arr : FVec Ideal S16384x2048 .f32 := fun i =>
  if h : (i 0).val < 1024 then y (ix2 ⟨(i 0).val, h⟩ (i 1))
  else out x g w wo fg ⟨(i 0).val / 4096, by have : (i 0).val < 16384 := (i 0).isLt; omega⟩ ⟨(i 0).val % 4096, by omega⟩ (i 1)

end Cert.TailSpec

end
-- ==== Proof.Tail.Fold.lean ====
/- The blocks of the feed-forward call at a grid point as parts of the argument arrays, and what the output and the scratch hold
   after each point of a row tile: the sum over the chunks so far, and at the last point the result's rows. -/
module

public import proofs.«01_k».proof.Proof.Tail.Steps
public import proofs.«01_k».proof.Proof.Tail.Spec

@[expose] public section

set_option maxRecDepth 16384

noncomputable section

namespace Cert.TailRun

open Cert.FeedForward Cert.TailIdeal Cert.TailIdeal.Gen Cert.TailBlock Cert.TailSpec
open Idealize.ShloMosaic Idealize.ShloMosaic.TcCoe Idealize.SL.Sem

attribute [local irreducible] runB runC runD backO backS

variable (m : (ℓ : Loc nD τ sig) → Buf (Elt Ideal) ℓ)

/-- The blocks each grid point works on, by index. -/
theorem idx : ∀ t : Fin cfg0.N, win0_0.index t = ![t.val / 11, 0] ∧ (t.val < 8 → win0_1.index t = ![0, t.val]) ∧ win0_2.index t = ![0, 0]
    ∧ (11 ≤ t.val → win0_3.index t = ![t.val % 11, 0, 0] ∧ win0_4.index t = ![t.val % 11, 0, 0] ∧ win0_5.index t = ![t.val % 11, 0])
    ∧ win0_6.index t = ![0, 0] ∧ win0_7.index t = ![t.val / 11, 0] ∧ t.val < 176 :=
  (by decide +kernel : ∀ t : Fin grid0.N, _)

theorem lt176 (t : Fin cfg0.N) : t.val < 176 := (idx t).2.2.2.2.2.2

/-- The tile's rows, in the activations. -/
theorem b0 (c : Dev nD) (t : Fin cfg0.N) (r : Fin 1024) (k : Fin 2048) (a : Fin 4) (s : Fin 4096)
    (h : t.val / 11 * 1024 + r.val = a.val * 4096 + s.val) :
    iblk m c 0 t (ix2 r k) = (m ((c : Thread nD τ).loc main_arg0) : FVec Ideal S4x4096x2048 .f32) (ix3 a s k) := by
  blk_point [iblk, V, idx t]

/-- The column block copied at a point of the first row tile, in the given rows. -/
theorem b1 (c : Dev nD) (t : Fin cfg0.N) (ht : t.val < 8) (r : Fin 1024) (q : Fin 256) :
    iblk m c 1 t (ix2 r q) = (m ((c : Thread nD τ).loc main_arg1) : FVec Ideal S1024x2048 .f32) (ix2 r ⟨t.val * 256 + q.val, by omega⟩) := by
  have e := (idx t).2.1 ht
  blk_point [iblk, V, e]

/-- The norm's gains. -/
theorem b2 (c : Dev nD) (t : Fin cfg0.N) (k : Fin 2048) :
    iblk m c 2 t (ix2 0 k) = (m ((c : Thread nD τ).loc main_arg2) : FVec Ideal S1x2048 .f32) (ix2 0 k) := by
  blk_point [iblk, V, idx t]

/-- The gate's weights of a chunk. -/
theorem b3 (c : Dev nD) (t : Fin cfg0.N) (ht : 11 ≤ t.val) (g : Fin 2) (k : Fin 2048) (j : Fin 256) :
    iblk m c 3 t (ix3 g k j) = (m ((c : Thread nD τ).loc main_arg3) : FVec Ideal S1x2048x11264 .f32) (ix3 0 k ⟨(t.val % 11 * 2 + g.val) * 256 + j.val, by omega⟩) := by
  have e := ((idx t).2.2.2.1 ht).1
  blk_point [iblk, V, e]

/-- The other projection's weights of a chunk. -/
theorem b4 (c : Dev nD) (t : Fin cfg0.N) (ht : 11 ≤ t.val) (g : Fin 2) (k : Fin 2048) (j : Fin 256) :
    iblk m c 4 t (ix3 g k j) = (m ((c : Thread nD τ).loc main_arg3) : FVec Ideal S1x2048x11264 .f32) (ix3 0 k ⟨5632 + ((t.val % 11 * 2 + g.val) * 256 + j.val), by omega⟩) := by
  have e := ((idx t).2.2.2.1 ht).2.1
  blk_point [iblk, V, e]

/-- The second projection's weights of a chunk. -/
theorem b5 (c : Dev nD) (t : Fin cfg0.N) (ht : 11 ≤ t.val) (q : Fin 512) (p : Fin 2048) :
    iblk m c 5 t (ix2 q p) = (m ((c : Thread nD τ).loc main_arg4) : FVec Ideal S1x5632x2048 .f32) (ix3 0 ⟨t.val % 11 * 512 + q.val, by omega⟩ p) := by
  have e := ((idx t).2.2.2.1 ht).2.2
  blk_point [iblk, V, e]

/-- The closing norm's gains. -/
theorem b6 (c : Dev nD) (t : Fin cfg0.N) (k : Fin 2048) :
    iblk m c 6 t (ix2 0 k) = (m ((c : Thread nD τ).loc main_arg5) : FVec Ideal S2048 .f32) (ix1 k) := by
  blk_point [iblk, V, idx t]

/-- A tile's normalized row is the token's. -/
theorem HN_eq (c : Dev nD) (t : Fin cfg0.N) (r : Fin 1024) (a : Fin 4) (s : Fin 4096)
    (h : t.val / 11 * 1024 + r.val = a.val * 4096 + s.val) :
    HN (iblk m c 0 t) (iblk m c 2 t) r = normed (m ((c : Thread nD τ).loc main_arg0)) (m ((c : Thread nD τ).loc main_arg2)) a s := by
  funext k
  unfold HN normed
  rw [show (fun k : Fin 2048 => (iblk m c 0 t : FVec Ideal S1024x2048 .f32) (ix2 r k)) = fun k => (m ((c : Thread nD τ).loc main_arg0) : FVec Ideal S4x4096x2048 .f32) (ix3 a s k) from
      funext fun k => b0 m c t r k a s h,
    show (fun k : Fin 2048 => (iblk m c 2 t : FVec Ideal S1x2048 .f32) (ix2 0 k)) = fun k => (m ((c : Thread nD τ).loc main_arg2) : FVec Ideal S1x2048 .f32) (ix2 0 k) from
      funext fun k => b2 m c t k]

/-- A chunk's hidden unit is the layer's. -/
theorem unitAt_eq (c : Dev nD) (t : Fin cfg0.N) (ht : 11 ≤ t.val) (a : Fin 4) (s : Fin 4096) (q : Fin 512) :
    unitAt (normed (m ((c : Thread nD τ).loc main_arg0)) (m ((c : Thread nD τ).loc main_arg2)) a s) (iblk m c 3 t) (iblk m c 4 t) q
      = unit (m ((c : Thread nD τ).loc main_arg0)) (m ((c : Thread nD τ).loc main_arg2)) (m ((c : Thread nD τ).loc main_arg3)) a s ⟨t.val % 11 * 512 + q.val, by omega⟩ := by
  unfold unitAt unit
  congr 1
  · funext k
    refine (b3 m c t ht _ k _).trans (congrArg (fun z => (m ((c : Thread nD τ).loc main_arg3) : FVec Ideal S1x2048x11264 .f32) (ix3 0 k z)) (Fin.ext ?_))
    show (t.val % 11 * 2 + q.val / 256) * 256 + q.val % 256 = t.val % 11 * 512 + q.val
    omega
  · funext k
    refine (b4 m c t ht _ k _).trans (congrArg (fun z => (m ((c : Thread nD τ).loc main_arg3) : FVec Ideal S1x2048x11264 .f32) (ix3 0 k z)) (Fin.ext ?_))
    show 5632 + ((t.val % 11 * 2 + q.val / 256) * 256 + q.val % 256) = 5632 + (t.val % 11 * 512 + q.val)
    omega

/-- The shares of the hidden units in the second projection of a token, from the arguments on core `c`. -/
abbrev termAt (c : Dev nD) (a : Fin 4) (s : Fin 4096) (p : Fin 2048) : ℕ → EReal :=
  term (m ((c : Thread nD τ).loc main_arg0)) (m ((c : Thread nD τ).loc main_arg2)) (m ((c : Thread nD τ).loc main_arg3)) (m ((c : Thread nD τ).loc main_arg4)) a s p

/-- A chunk's share is the sum of its units' shares. -/
theorem part_eq (c : Dev nD) (t : Fin cfg0.N) (ht : 11 ≤ t.val) (a : Fin 4) (s : Fin 4096) (p : Fin 2048) :
    part (normed (m ((c : Thread nD τ).loc main_arg0)) (m ((c : Thread nD τ).loc main_arg2)) a s) (iblk m c 3 t) (iblk m c 4 t) (iblk m c 5 t) p
      = ∑ q ∈ Finset.range 512, termAt m c a s p (512 * (t.val % 11) + q) := by
  unfold part
  rw [Finset.sum_range]
  refine Finset.sum_congr rfl fun q _ => ?_
  have hu : 512 * (t.val % 11) + q.val < 5632 := by omega
  have e : (⟨t.val % 11 * 512 + q.val, by omega⟩ : Fin 5632) = ⟨512 * (t.val % 11) + q.val, hu⟩ := Fin.ext (by show t.val % 11 * 512 + q.val = 512 * (t.val % 11) + q.val; omega)
  unfold termAt term
  rw [dif_pos hu, ← e]
  exact Ideal.mul_congr (unitAt_eq m c t ht a s q) (b5 m c t ht q p)

/-- After a point of a later row tile the scratch holds the tile's normalized rows, and before its last point the output holds the sum over
    the chunks so far. -/
theorem fold (c : Dev nD) (n : ℕ) (hn : n < cfg0.N) (h11 : 11 ≤ n) (r : Fin 1024) (a : Fin 4) (s : Fin 4096)
    (h : n / 11 * 1024 + r.val = a.val * 4096 + s.val) :
    (∀ k : Fin 2048, (outsAt m c n hn).2 (ix2 r k) = normed (m ((c : Thread nD τ).loc main_arg0)) (m ((c : Thread nD τ).loc main_arg2)) a s k)
      ∧ (n % 11 ≠ 10 → ∀ p : Fin 2048, (outsAt m c n hn).1 (ix2 r p) = ∑ u ∈ Finset.range (512 * (n % 11 + 1)), termAt m c a s p u) := by
  induction n with
  | zero => omega
  | succ n ih =>
    by_cases h0 : (n + 1) % 11 = 0
    · refine ⟨fun k => ?_, fun _ p => ?_⟩
      · exact (scrB m c ⟨n + 1, hn⟩ h11 h0 r k).trans (congrFun (HN_eq m c ⟨n + 1, hn⟩ r a s h) k)
      · refine (outB m c ⟨n + 1, hn⟩ h11 h0 r p).trans ?_
        rw [HN_eq m c ⟨n + 1, hn⟩ r a s h, part_eq m c ⟨n + 1, hn⟩ h11 a s p]
        show ∑ q ∈ Finset.range 512, termAt m c a s p (512 * ((n + 1) % 11) + q) = _
        rw [h0]
        simp only [Nat.mul_zero, Nat.zero_add, Nat.mul_one]
    · have hi := ih (by omega) (by omega) (by rw [show n / 11 = (n + 1) / 11 by omega]; exact h)
      by_cases h10 : (n + 1) % 11 = 10
      · refine ⟨fun k => ?_, fun e => absurd h10 e⟩
        rw [outsAt_D m c ⟨n + 1, hn⟩ h11 h10]
        exact hi.1 k
      · refine ⟨fun k => ?_, fun _ p => ?_⟩
        · rw [outsAt_C m c ⟨n + 1, hn⟩ h11 h0 h10]
          exact hi.1 k
        · rw [outsAt_C m c ⟨n + 1, hn⟩ h11 h0 h10]
          refine (outC m c ⟨n + 1, hn⟩ h11 h0 h10 _ _ r p).trans ?_
          rw [show (fun k : Fin 2048 => (outsAt m c ((⟨n + 1, hn⟩ : Fin cfg0.N).val - 1) (Nat.lt_of_le_of_lt (Nat.sub_le _ _) hn)).2 (ix2 r k)) = normed (m ((c : Thread nD τ).loc main_arg0)) (m ((c : Thread nD τ).loc main_arg2)) a s from
            funext fun k => hi.1 k, part_eq m c ⟨n + 1, hn⟩ h11 a s p]
          show (outsAt m c n (by omega)).1 (ix2 r p) + ∑ q ∈ Finset.range 512, termAt m c a s p (512 * ((n + 1) % 11) + q) = _
          rw [hi.2 (by omega) p, show (n + 1) % 11 = n % 11 + 1 by omega, show 512 * (n % 11 + 1 + 1) = 512 * (n % 11 + 1) + 512 by ring,
            Finset.sum_range_add]

/-- After the last point of a later row tile the output holds the tokens' results. -/
theorem last (c : Dev nD) (t : Fin cfg0.N) (h11 : 11 ≤ t.val) (h10 : t.val % 11 = 10) (r : Fin 1024) (a : Fin 4) (s : Fin 4096)
    (h : t.val / 11 * 1024 + r.val = a.val * 4096 + s.val) (p : Fin 2048) :
    (outsAt m c t.val t.isLt).1 (ix2 r p) = TailSpec.out (m ((c : Thread nD τ).loc main_arg0)) (m ((c : Thread nD τ).loc main_arg2)) (m ((c : Thread nD τ).loc main_arg3)) (m ((c : Thread nD τ).loc main_arg4)) (m ((c : Thread nD τ).loc main_arg5)) a s p := by
  have hi := fold m c (t.val - 1) (Nat.lt_of_le_of_lt (Nat.sub_le _ _) t.isLt) (by omega) r a s (by rw [show (t.val - 1) / 11 = t.val / 11 by omega]; exact h)
  rw [outsAt_D m c t h11 h10]
  refine (outD m c t h11 h10 _ _ r p).trans ?_
  unfold TailSpec.out
  refine congrArg₂ (fun g v => nrm g v p) (funext fun l => b6 m c t l) (funext fun l => ?_)
  unfold resid FeedForward.row
  rw [show (fun k : Fin 2048 => (outsAt m c (t.val - 1) (Nat.lt_of_le_of_lt (Nat.sub_le _ _) t.isLt)).2 (ix2 r k)) = normed (m ((c : Thread nD τ).loc main_arg0)) (m ((c : Thread nD τ).loc main_arg2)) a s from
    funext fun k => hi.1 k, part_eq m c t h11 a s l, hi.2 (by omega) l, proj_eq]
  refine Ideal.add_congr (b0 m c t r l a s h) (Ideal.mul_congr rfl ?_)
  rw [h10, show (t.val - 1) % 11 = 9 by omega]
  exact (Finset.sum_range_add _ 5120 512).symm

/-- The rows taken over are the given ones. -/
theorem first (c : Dev nD) (r : Fin 1024) (p : Fin 2048) :
    firstRows m c (ix2 r p) = (m ((c : Thread nD τ).loc main_arg1) : FVec Ideal S1024x2048 .f32) (ix2 r p) := by
  unfold firstRows
  refine (b1 m c ⟨p.val / 256, by have hN : cfg0.N = 176 := N_0; omega⟩ (by show p.val / 256 < 8; omega) r ⟨p.val % 256, Nat.mod_lt _ (by norm_num)⟩).trans ?_
  refine congrArg (fun z => (m ((c : Thread nD τ).loc main_arg1) : FVec Ideal S1024x2048 .f32) (ix2 r z)) (Fin.ext ?_)
  show p.val / 256 * 256 + p.val % 256 = p.val
  omega

/-- At the point that ends a row tile, what is known of the output's buffer is the tile of the result array. -/
theorem known_at (c : Dev nD) (t : Fin cfg0.N) (h10 : t.val % 11 = 10) (X : Vec Ideal S1024x2048 .f32) (hX : Known m c t X) (r : Fin 1024) (p : Fin 2048) :
    X (ix2 r p) = TailSpec.arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (ix2 ⟨t.val / 11 * 1024 + r.val, by have := lt176 t; omega⟩ p) := by
  have ht := lt176 t
  unfold TailSpec.arr
  by_cases h11 : 11 ≤ t.val
  · rw [dif_neg (by show ¬ t.val / 11 * 1024 + r.val < 1024; omega), hX.2 h11]
    exact last m c t h11 h10 r _ _ (by show t.val / 11 * 1024 + r.val = (t.val / 11 * 1024 + r.val) / 4096 * 4096 + (t.val / 11 * 1024 + r.val) % 4096; omega) p
  · have e : (⟨t.val / 11 * 1024 + r.val, by omega⟩ : Fin 16384).val = r.val := by show t.val / 11 * 1024 + r.val = r.val; omega
    rw [dif_pos (by show t.val / 11 * 1024 + r.val < 1024; omega), hX.1 (by omega) _ (by show p.val < 256 * (t.val + 1); omega)]
    refine (first m c r p).trans (congrArg (fun z => (m ((c : Thread nD τ).loc main_arg1) : FVec Ideal S1024x2048 .f32) (ix2 z p)) (Fin.ext e.symm))

end Cert.TailRun

end
-- ==== Proof.Tail.Ref.lean ====
/- The reference's result: the given rows, then the tokens' results. -/
module

public import proofs.«01_k».proof.Proof.Tail.Spec
public import proofs.«01_k».proof.Proof.Gen.TailRefIdeal.Read
public import Idealize.ShloMosaic.Lib.Pipeline.ValueKit
public import Idealize.ShloMosaic.Lib.KernelVsHost

@[expose] public section

set_option maxRecDepth 16384

noncomputable section

namespace Cert.TailRefIdeal.Ref

open Cert.TailRefIdeal Cert.TailRefIdeal.Gen Cert.TailRefIdeal.Read Idealize.ShloMosaic Idealize.ShloMosaic.TcCoe Idealize.SL.Sem

variable (x : FVec Ideal S4x4096x2048 .f32) (y : FVec Ideal S1024x2048 .f32) (g : FVec Ideal S1x2048 .f32)
  (w : FVec Ideal S1x2048x11264 .f32) (wo : FVec Ideal S1x5632x2048 .f32) (fg : FVec Ideal S2048 .f32)

/-- The normalized tokens. -/
theorem v13_at (a : Fin 4) (s : Fin 4096) (k : Fin 2048) : val_main_v13 (F := Ideal) x g (ix3 a s k) = FeedForward.normed x g a s k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, FeedForward.normed, FeedForward.nrm]

/-- The first projection. -/
theorem v16_at (a : Fin 4) (s : Fin 4096) (p : Fin 11264) :
    val_main_v16 (F := Ideal) x g w (ix3 a s p) = ∑ k : Fin 2048, FeedForward.normed x g a s k * w (ix3 0 k p) := by
  pointwise [val_main_v16, val_main_v14]
  exact Finset.sum_congr rfl fun k _ => Ideal.mul_congr (v13_at x g a s k) rfl

/-- The hidden units. -/
theorem v20_at (a : Fin 4) (s : Fin 4096) (u : Fin 5632) : val_main_v20 (F := Ideal) x g w (ix3 a s u) = FeedForward.unit x g w a s u := by
  pointwise [val_main_v20, val_main_v19, val_main_v18, val_main_v17, val_main_call0_v5, val_main_call0_v4, val_main_call0_v3, val_main_call0_v2,
    val_main_call0_v1, val_main_call0_v0, val_main_call0_cst, val_main_call0_cst_0]
  rw [v16_at, v16_at]
  rfl

/-- The tokens with half of the layer's output added. -/
theorem v24_at (a : Fin 4) (s : Fin 4096) (p : Fin 2048) : val_main_v24 (F := Ideal) x g w wo (ix3 a s p) = FeedForward.row x g w wo a s p := by
  pointwise [val_main_v24, val_main_v23, val_main_v22, val_main_v21, val_main_v15, val_main_cst_2]
  unfold FeedForward.row FeedForward.proj
  exact Ideal.add_congr rfl (Ideal.mul_congr rfl (Finset.sum_congr rfl fun u _ => Ideal.mul_congr (v20_at x g w a s u) rfl))

/-- The tokens' results. -/
theorem v37_at (a : Fin 4) (s : Fin 4096) (p : Fin 2048) : val_main_v37 (F := Ideal) x g w wo fg (ix3 a s p) = TailSpec.out x g w wo fg a s p := by
  pointwise [val_main_v37, val_main_v36, val_main_v35, val_main_v34, val_main_v33, val_main_v32, val_main_v31, val_main_v30, val_main_v29, val_main_v28,
    val_main_v27, val_main_v26, val_main_v25, val_main_cst_3, val_main_cst_4, val_main_cst_5]
  simp only [v24_at]
  rfl

/-- The result array. -/
theorem v40_eq : val_main_v40 (F := Ideal) x y g w wo fg = TailSpec.arr x y g w wo fg := by
  funext i
  obtain ⟨r, p, rfl⟩ : ∃ (r : Fin 16384) (p : Fin 2048), i = ix2 r p := ⟨i 0, i 1, eq_ix2 i⟩
  unfold TailSpec.arr
  pointwise [val_main_v40, val_main_v39, val_main_v38]
  by_cases h : r.val < 1024
  · rw [dif_pos h, dif_pos h]
  · rw [dif_neg h, dif_neg h, v37_at]
    congr 1
    · exact Fin.ext (by show (1024 + (r.val - 1024)) / 4096 = r.val / 4096; omega)
    · exact Fin.ext (by show (1024 + (r.val - 1024)) % 4096 = r.val % 4096; omega)

end Cert.TailRefIdeal.Ref

end
-- ==== Proof.Tail.Final.lean ====
/- The feed-forward call's claims: both frames from one run, the reference's frame, and the result against the reference. -/
module

public import proofs.«01_k».proof.Defs
public import proofs.«01_k».proof.Proof.Tail.Body
public import proofs.«01_k».proof.Proof.Tail.Fold
public import proofs.«01_k».proof.Proof.Tail.Ref
public import proofs.«01_k».proof.Proof.Gen.Tail
public import Idealize.ShloMosaic.Lib.Pipeline.ArrRel
public import Idealize.ShloMosaic.Lib.Pipeline.ValueKit
public import Idealize.ShloMosaic.Lib.Claim

@[expose] public section

set_option maxRecDepth 16384

noncomputable section

namespace Cert.TailFinal

open Idealize.ShloMosaic Idealize.ShloMosaic.TcCoe Idealize.SL.Sem

section
open Cert.FeedForward Cert.TailIdeal Cert.TailIdeal.Gen Cert.TailRun
open Idealize.ShloMosaic.Pipeline (Dat)

attribute [local irreducible] runB runC runD backO backS

variable (m : (ℓ : Loc nD τ sig) → Buf (Elt Ideal) ℓ)

/-- If what the points that end a row tile leave are an array's blocks, that array is what the write-backs leave. -/
theorem arr_of (c : Dev nD) (G : FVec Ideal S16384x2048 .f32) (after)
    (hG : ∀ (t : Fin cfg0.N), t.val % 11 = 10 → ∀ (r : Fin 1024) (p : Fin 2048),
      (after 7 t : FVec Ideal S1024x2048 .f32) (ix2 r p) = G (ix2 ⟨t.val / 11 * 1024 + r.val, by have := lt176 t; omega⟩ p)) :
    ((rdat m c).withAfter after).arrAt 7 cfg0.N = G := by
  refine Dat.arrAt_eq_of_covers _ 7 _ (by decide +kernel) fun t hf y => ?_
  have h10 := (flush0_7 t).mp hf
  blk_simp
  idx_vars y
  refine (hG t h10 _ _).trans ?_
  blk_point [idx t]

/-- The call's result array after the run, as a function of the arguments, which end as they were. -/
theorem result (ρ : Dev nD → PrngReg) : θ_run defs (onTc (τ := τ) (main (F := Ideal))) ⟨m, fun _ => 0, ρ⟩ (fun r => ∀ c : Dev nD,
      r.2.mem ((c.tc : Thread nD τ).loc main_v15) = TailSpec.arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    refine ⟨?_, args_of_post m c h.1⟩
    obtain ⟨after, hL, hA⟩ := Pipeline.RDat.FramePost.exists_exact h.1 c
    refine (hA 7).trans (arr_of m c _ after fun t h10 r p => ?_)
    exact known_at m c t h10 _ (Dat.toRRel_leaves (dat m c) (w := 7) rfl (hL 7 t ((flush0_7 t).mpr h10))) r p) (run_post m ρ)

end

section
open Cert.TailRefIdeal Cert.TailRefIdeal.Read StableHlo

/-- What the reference leaves, as its last stage over the arguments. -/
theorem runRef (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v40_eq m c), (h c).2⟩) (Value.run m ρ)

end

/-- The program as printed and the idealized one run the same body, read at the formats' words. -/
theorem body_eq : Cert.Tail.defs₀ (F := Bits) = Cert.TailIdeal.defs₀ (F := Bits) := by
  unfold Cert.Tail.defs₀ Cert.TailIdeal.defs₀
  refine congrArg _ (funext fun l => funext fun a => ?_)
  match l, a with
  | 0, (t, s) => rfl

/-- So they have the same table of bodies. -/
theorem defs_eq : Cert.Tail.defs (F := Bits) = Cert.TailIdeal.defs (F := Bits) :=
  congrArg (Pipeline.defs (Cert.TailIdeal.pcfgs (F := Bits))) body_eq

/-- The program as printed keeps its arguments: it is the text the run is about. -/
theorem frame_kernel : Cert.quiescent_Tail := fun m ρ _ => by
  rw [defs_eq]
  exact Cert.TailRun.frame (F := Bits) m ρ

/-- So does the idealized one. -/
theorem frame_ideal : Cert.quiescent_TailIdeal := fun m ρ _ => Cert.TailRun.frame (F := Ideal) m ρ

/-- And the reference. -/
theorem frame_ref : Cert.quiescent_TailRefIdeal := fun m ρ _ =>
  (θ_run Cert.TailRefIdeal.defs _ _).mono (fun r h => ⟨fun c => (h c).2, sem_eq_zero_of_no_sems (by decide) r.2⟩) (runRef m ρ)

/-- The kernel's result is the reference's. -/
theorem algebraic : Cert.algebraic_TailIdeal_TailRefIdeal := by
  pair_intro
  · run_from result m g
  · run_from runRef m' g'
    exact Cert.TailRefIdeal.Ref.v40_eq _ _ _ _ _ _

end Cert.TailFinal

end
-- ==== Proof.Half.Runs.lean ====
/- What the runs of the feed-forward call's grid points share: the body's branch conditions in terms of the point, the staging
   buffers at a point, and the scratch. -/
module

public import proofs.«01_k».proof.Proof.Gen.HalfIdeal.Frame
public import proofs.«01_k».proof.Proof.Gen.HalfIdeal.Skeleton
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.HalfRun

open Cert.HalfIdeal Cert.HalfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row tile's branch is taken at the first eleven points. -/
theorem cond1_iff : ∀ t : Fin cfg0.N, k0_cond1 (grid0.coords t) = 1#1 ↔ t.val < 11 :=
  (by decide +kernel : ∀ t : Fin grid0.N, k0_cond1 (grid0.coords t) = 1#1 ↔ t.val < 11)
/-- The first column block is copied at the points that begin a row tile. -/
theorem cond2_iff : ∀ t : Fin cfg0.N, k0_cond2 (grid0.coords t) = 1#1 ↔ t.val % 11 = 0 :=
  (by decide +kernel : ∀ t : Fin grid0.N, k0_cond2 (grid0.coords t) = 1#1 ↔ t.val % 11 = 0)
/-- The second column block's points. -/
theorem cond3_iff : ∀ t : Fin cfg0.N, k0_cond3 (grid0.coords t) = 1#1 ↔ t.val % 11 = 1 :=
  (by decide +kernel : ∀ t : Fin grid0.N, k0_cond3 (grid0.coords t) = 1#1 ↔ t.val % 11 = 1)
/-- The third column block's points. -/
theorem cond4_iff : ∀ t : Fin cfg0.N, k0_cond4 (grid0.coords t) = 1#1 ↔ t.val % 11 = 2 :=
  (by decide +kernel : ∀ t : Fin grid0.N, k0_cond4 (grid0.coords t) = 1#1 ↔ t.val % 11 = 2)
/-- The fourth column block's points. -/
theorem cond5_iff : ∀ t : Fin cfg0.N, k0_cond5 (grid0.coords t) = 1#1 ↔ t.val % 11 = 3 :=
  (by decide +kernel : ∀ t : Fin grid0.N, k0_cond5 (grid0.coords t) = 1#1 ↔ t.val % 11 = 3)
/-- The fifth column block's points. -/
theorem cond6_iff : ∀ t : Fin cfg0.N, k0_cond6 (grid0.coords t) = 1#1 ↔ t.val % 11 = 4 :=
  (by decide +kernel : ∀ t : Fin grid0.N, k0_cond6 (grid0.coords t) = 1#1 ↔ t.val % 11 = 4)
/-- The sixth column block's points. -/
theorem cond7_iff : ∀ t : Fin cfg0.N, k0_cond7 (grid0.coords t) = 1#1 ↔ t.val % 11 = 5 :=
  (by decide +kernel : ∀ t : Fin grid0.N, k0_cond7 (grid0.coords t) = 1#1 ↔ t.val % 11 = 5)
/-- The seventh column block's points. -/
theorem cond8_iff : ∀ t : Fin cfg0.N, k0_cond8 (grid0.coords t) = 1#1 ↔ t.val % 11 = 6 :=
  (by decide +kernel : ∀ t : Fin grid0.N, k0_cond8 (grid0.coords t) = 1#1 ↔ t.val % 11 = 6)
/-- The eighth column block's points. -/
theorem cond9_iff : ∀ t : Fin cfg0.N, k0_cond9 (grid0.coords t) = 1#1 ↔ t.val % 11 = 7 :=
  (by decide +kernel : ∀ t : Fin grid0.N, k0_cond9 (grid0.coords t) = 1#1 ↔ t.val % 11 = 7)
/-- The other row tiles' branch is taken from the eleventh point on. -/
theorem cond10_iff : ∀ t : Fin cfg0.N, k0_cond10 (grid0.coords t) = 1#1 ↔ 11 ≤ t.val :=
  (by decide +kernel : ∀ t : Fin grid0.N, k0_cond10 (grid0.coords t) = 1#1 ↔ 11 ≤ t.val)
/-- A row tile begins at the multiples of eleven. -/
theorem cond11_iff : ∀ t : Fin cfg0.N, k0_cond11 (grid0.coords t) = 1#1 ↔ t.val % 11 = 0 :=
  (by decide +kernel : ∀ t : Fin grid0.N, k0_cond11 (grid0.coords t) = 1#1 ↔ t.val % 11 = 0)
/-- The middle points of a row tile. -/
theorem cond12_iff : ∀ t : Fin cfg0.N, k0_cond12 (grid0.coords t) = 1#1 ↔ (1 ≤ t.val % 11 ∧ t.val % 11 ≤ 9) :=
  (by decide +kernel : ∀ t : Fin grid0.N, k0_cond12 (grid0.coords t) = 1#1 ↔ (1 ≤ t.val % 11 ∧ t.val % 11 ≤ 9))
/-- The last point of a row tile. -/
theorem cond13_iff : ∀ t : Fin cfg0.N, k0_cond13 (grid0.coords t) = 1#1 ↔ t.val % 11 = 10 :=
  (by decide +kernel : ∀ t : Fin grid0.N, k0_cond13 (grid0.coords t) = 1#1 ↔ t.val % 11 = 10)

/-- The output's block as a view of one staging buffer. -/
abbrev VO : View sig .tc .vmem S1024x2048 .f32 := (Memref.whole cc0_stg6_0 : Memref sig .tc .vmem S1024x2048 .f32).view

/-- The scratch of normalized rows, and its view. -/
abbrev scM : Memref sig .tc .vmem S1024x2048 .bf16 := Memref.whole cc0_scratch0
abbrev VS : View sig .tc .vmem S1024x2048 .bf16 := scM.view

/-- The staging buffers at a point, each with its wholeness. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x2048x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x2048x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x2048 .f32 := win0_6.stage (cfg0.slots t 6)
abbrev hs6 (t : Fin cfg0.N) : (ms6 t).IsWhole := hstage0_6 ((cfg0.slots t 6).cast nbuf0_6)

/-- What the body is handed beside the windows: the scratch at some contents and the generator's register. -/
theorem phiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.HalfRun

end
-- ==== Proof.Half.RunA.lean ====
/- One grid point of the feed-forward call in the first row tile: one column block of the rows computed before is copied into the
   output's staging buffer at the first eight points, and nothing is stored at the others. -/
module

public import proofs.«01_k».proof.Proof.Half.Runs
public import proofs.«01_k».proof.Proof.FeedForward

@[expose] public section

set_option maxRecDepth 16384

noncomputable section

namespace Cert.HalfRun

open Cert.FeedForward Cert.HalfIdeal Cert.HalfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the first row tile: on whole staging buffers it runs to its end, leaves everything but the output as it was,
    and the output with the point's column block copied into it. -/
theorem runA (c : Dev nD) (t : Fin cfg0.N) (ht : t.val < 11) (arg2 : Memref sig .tc .vmem S1024x2048 .f32) (harg2 : arg2.IsWhole) (arg3 : Memref sig .tc .vmem S1024x256 .f32) (harg3 : arg3.IsWhole) (arg4 : Memref sig .tc .vmem S1x2048 .f32) (harg4 : arg4.IsWhole) (arg5 : Memref sig .tc .vmem S2x2048x256 .bf16) (harg5 : arg5.IsWhole) (arg6 : Memref sig .tc .vmem S2x2048x256 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole)
    (x0 : Vec F S1024x2048 .f32) (x1 : Vec F S1024x256 .f32) (x2 : Vec F S1x2048 .f32) (x3 : Vec F S2x2048x256 .bf16) (x4 : Vec F S2x2048x256 .bf16) (x5 : Vec F S512x2048 .bf16) (Y : Vec F S1024x2048 .f32) (xs0 : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (copied t.val x1 Y) ∗ owns (c : Thread nD τ) arg9 fullShare xs0) -∗ K ⟨⟩))
      ⊢ wp frame (wpE (defs₀ (F := F)) Variants.none c none) E (cc0_ffn (grid0.coords t) arg2 harg2 arg3 harg3 arg4 harg4 arg5 harg5 arg6 harg6 arg7 harg7 arg8 harg8 arg9 harg9) K := by
  have hc1 := (cond1_iff t).mpr ht
  have hc10 : ¬ k0_cond10 (grid0.coords t) = 1#1 := fun h => by have := (cond10_iff t).mp h; omega
  have hm : t.val % 11 = t.val := Nat.mod_eq_of_lt ht
  have hcases : (t.val = 0 ∧ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 ∧ ¬ k0_cond8 (grid0.coords t) = 1#1 ∧ ¬ k0_cond9 (grid0.coords t) = 1#1)
      ∨ (t.val = 1 ∧ ¬ k0_cond2 (grid0.coords t) = 1#1 ∧ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 ∧ ¬ k0_cond8 (grid0.coords t) = 1#1 ∧ ¬ k0_cond9 (grid0.coords t) = 1#1)
      ∨ (t.val = 2 ∧ ¬ k0_cond2 (grid0.coords t) = 1#1 ∧ ¬ k0_cond3 (grid0.coords t) = 1#1 ∧ k0_cond4 (grid0.coords t) = 1#1 ∧ ¬ k0_cond5 (grid0.coords t) = 1#1 ∧ ¬ k0_cond6 (grid0.coords t) = 1#1 ∧ ¬ k0_cond7 (grid0.coords t) = 1#1 ∧ ¬ k0_cond8 (grid0.coords t) = 1#1 ∧ ¬ k0_cond9 (grid0.coords t) = 1#1)
      ∨ (t.val = 3 ∧ ¬ k0_cond2 (grid0.coords t) = 1#1 ∧ ¬ k0_cond3 (grid0.coords t) = 1#1 ∧ ¬ k0_cond4 (grid0.coords t) = 1#1 ∧ k0_cond5 (grid0.coords t) = 1#1 ∧ ¬ k0_cond6 (grid0.coords t) = 1#1 ∧ ¬ k0_cond7 (grid0.coords t) = 1#1 ∧ ¬ k0_cond8 (grid0.coords t) = 1#1 ∧ ¬ k0_cond9 (grid0.coords t) = 1#1)
      ∨ (t.val = 4 ∧ ¬ k0_cond2 (grid0.coords t) = 1#1 ∧ ¬ k0_cond3 (grid0.coords t) = 1#1 ∧ ¬ k0_cond4 (grid0.coords t) = 1#1 ∧ ¬ k0_cond5 (grid0.coords t) = 1#1 ∧ k0_cond6 (grid0.coords t) = 1#1 ∧ ¬ k0_cond7 (grid0.coords t) = 1#1 ∧ ¬ k0_cond8 (grid0.coords t) = 1#1 ∧ ¬ k0_cond9 (grid0.coords t) = 1#1)
      ∨ (t.val = 5 ∧ ¬ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ k0_cond7 (grid0.coords t) = 1#1 ∧ ¬ k0_cond8 (grid0.coords t) = 1#1 ∧ ¬ k0_cond9 (grid0.coords t) = 1#1)
      ∨ (t.val = 6 ∧ ¬ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 ∧ k0_cond8 (grid0.coords t) = 1#1 ∧ ¬ k0_cond9 (grid0.coords t) = 1#1)
      ∨ (t.val = 7 ∧ ¬ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 ∧ ¬ k0_cond8 (grid0.coords t) = 1#1 ∧ k0_cond9 (grid0.coords t) = 1#1)
      ∨ (8 ≤ t.val ∧ ¬ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 ∧ ¬ k0_cond8 (grid0.coords t) = 1#1 ∧ ¬ k0_cond9 (grid0.coords t) = 1#1) := by
    rw [cond2_iff, cond3_iff, cond4_iff, cond5_iff, cond6_iff, cond7_iff, cond8_iff, cond9_iff, hm]
    omega
  rcases hcases with ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩ | ⟨hj, h2, h3, h4, h5, h6, h7, h8, h9⟩
  all_goals
    simp only [cc0_ffn_eq_skeleton]; unfold cc0_ffn_skel
    unfold owns
    iintro ⟨H0, ⟨%f1, %hf1, H1⟩, H2, H3, H4, H5, ⟨%f6, %hf6, H6⟩, HS0, Hk⟩
    obtain rfl := harg3.eq_unread hf1; obtain rfl := harg8.eq_unread hf6
    sl_exec (disch := first | sl_exact hc1 | sl_exact hc10 | sl_exact h2 | sl_exact h3 | sl_exact h4 | sl_exact h5 | sl_exact h6 | sl_exact h7 | sl_exact h8 | sl_exact h9)
    sl_step
    iapply Hk
    isplitl [H0]; · iexact H0
    isplitl [H1]
    · iexists _; isplitr; · ipureintro; exact harg3.read_unread _
      iexact H1
    isplitl [H2]; · iexact H2
    isplitl [H3]; · iexact H3
    isplitl [H4]; · iexact H4
    isplitl [H5]; · iexact H5
    isplitl [H6]
    · iexists _; isplitr
      swap
      · iexact H6
      ipureintro
      first
        | rw [hj]; exact read_copied _ _ _ _ (by norm_num) _ _ _ (loaded harg3 x1 _) _ (harg8.read_unread Y)
        | rw [copied_past hj]; exact harg8.read_unread Y
    iexact HS0

end Cert.HalfRun

end
-- ==== Proof.Half.RunB.lean ====
/- One grid point of the feed-forward call at which a row tile begins: the tile is normalized into the scratch and the first
   chunk's product is stored. -/
module

public import proofs.«01_k».proof.Proof.Half.Runs

@[expose] public section

set_option maxRecDepth 16384

noncomputable section

namespace Cert.HalfRun

open Cert.HalfIdeal Cert.HalfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point of a row tile after the first: on whole staging buffers it runs to its end, leaves the inputs as
    they were, and stores pieces that the run itself names into the output and into the scratch. -/
noncomputable def runB (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S1x2048 .f32) (harg4 : arg4.IsWhole) (arg5 : Memref sig .tc .vmem S2x2048x256 .bf16) (harg5 : arg5.IsWhole) (arg6 : Memref sig .tc .vmem S2x2048x256 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (hc0 : ¬ k0_cond1 i = 1#1) (hc1 : k0_cond10 i = 1#1) (hc2 : k0_cond11 i = 1#1) (hc3 : ¬ k0_cond12 i = 1#1) (hc4 : ¬ k0_cond13 i = 1#1)
    (x0 : Vec F S1024x2048 .f32) (x1 : Vec F S1024x256 .f32) (x2 : Vec F S1x2048 .f32) (x3 : Vec F S2x2048x256 .bf16) (x4 : Vec F S2x2048x256 .bf16) (x5 : Vec F S512x2048 .bf16) :
    Σ' (L6 : List (View.Piece (Elt F) S1024x2048 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_ffn i arg2 harg2 arg3 harg3 arg4 harg4 arg5 harg5 arg6 harg6 arg7 harg7 arg8 harg8 arg9 harg9) K } := by
  refine ⟨?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.HalfRun

end
-- ==== Proof.Half.RunC.lean ====
/- One grid point of the feed-forward call in the middle of a row tile: one more chunk's product is added to the output. -/
module

public import proofs.«01_k».proof.Proof.Half.Runs

@[expose] public section

set_option maxRecDepth 16384

noncomputable section

namespace Cert.HalfRun

open Cert.HalfIdeal Cert.HalfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point of a row tile: the output's contents `xo6` and the scratch's `xs0` are read, the pieces that the run
    names are stored into the output, and the scratch stays. -/
noncomputable def runC (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S1x2048 .f32) (harg4 : arg4.IsWhole) (arg5 : Memref sig .tc .vmem S2x2048x256 .bf16) (harg5 : arg5.IsWhole) (arg6 : Memref sig .tc .vmem S2x2048x256 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (hc0 : ¬ k0_cond1 i = 1#1) (hc1 : k0_cond10 i = 1#1) (hc2 : ¬ k0_cond11 i = 1#1) (hc3 : k0_cond12 i = 1#1) (hc4 : ¬ k0_cond13 i = 1#1)
    (x0 : Vec F S1024x2048 .f32) (x1 : Vec F S1024x256 .f32) (x2 : Vec F S1x2048 .f32) (x3 : Vec F S2x2048x256 .bf16) (x4 : Vec F S2x2048x256 .bf16) (x5 : Vec F S512x2048 .bf16) (xo6 : Vec F S1024x2048 .f32) (xs0 : Vec F S1024x2048 .bf16) :
    Σ' (L6 : List (View.Piece (Elt F) S1024x2048 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc0_ffn i arg2 harg2 arg3 harg3 arg4 harg4 arg5 harg5 arg6 harg6 arg7 harg7 arg8 harg8 arg9 harg9) K } := by
  refine ⟨?_, [], fun E K => ?run⟩
  case run =>
    simp only [cc0_ffn_eq_skeleton]; unfold cc0_ffn_skel
    simp only [k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS0

end Cert.HalfRun

end
-- ==== Proof.Half.RunD.lean ====
/- The last grid point of a row tile of the feed-forward call: the last chunk's product is added, half of the sum is added to the
   activations, and the rows are normalized. -/
module

public import proofs.«01_k».proof.Proof.Half.Runs

@[expose] public section

set_option maxRecDepth 16384

noncomputable section

namespace Cert.HalfRun

open Cert.HalfIdeal Cert.HalfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point of a row tile: as at a middle point, with the residual sum and the final normalization. -/
noncomputable def runD (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S1x2048 .f32) (harg4 : arg4.IsWhole) (arg5 : Memref sig .tc .vmem S2x2048x256 .bf16) (harg5 : arg5.IsWhole) (arg6 : Memref sig .tc .vmem S2x2048x256 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (hc0 : ¬ k0_cond1 i = 1#1) (hc1 : k0_cond10 i = 1#1) (hc2 : ¬ k0_cond11 i = 1#1) (hc3 : ¬ k0_cond12 i = 1#1) (hc4 : k0_cond13 i = 1#1)
    (x0 : Vec F S1024x2048 .f32) (x1 : Vec F S1024x256 .f32) (x2 : Vec F S1x2048 .f32) (x3 : Vec F S2x2048x256 .bf16) (x4 : Vec F S2x2048x256 .bf16) (x5 : Vec F S512x2048 .bf16) (xo6 : Vec F S1024x2048 .f32) (xs0 : Vec F S1024x2048 .bf16) :
    Σ' (L6 : List (View.Piece (Elt F) S1024x2048 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc0_ffn i arg2 harg2 arg3 harg3 arg4 harg4 arg5 harg5 arg6 harg6 arg7 harg7 arg8 harg8 arg9 harg9) K } := by
  refine ⟨?_, [], fun E K => ?run⟩
  case run =>
    simp only [cc0_ffn_eq_skeleton]; unfold cc0_ffn_skel
    simp only [k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS0

end Cert.HalfRun

end
-- ==== Proof.Half.Data.lean ====
/- What the feed-forward call leaves in the output's staging buffer and in the scratch, point by point, and the proof data of its
   pipeline: at the first row tile the output is known only on the columns copied so far. -/
module

public import proofs.«01_k».proof.Proof.Half.RunA
public import proofs.«01_k».proof.Proof.Half.RunB
public import proofs.«01_k».proof.Proof.Half.RunC
public import proofs.«01_k».proof.Proof.Half.RunD

@[expose] public section

set_option maxRecDepth 16384

noncomputable section

namespace Cert.HalfRun

open Cert.FeedForward Cert.HalfIdeal Cert.HalfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No point from the eleventh on takes the first row tile's branch. -/
theorem not1 {t : Fin cfg0.N} (h : 11 ≤ t.val) : ¬ k0_cond1 (grid0.coords t) = 1#1 := fun e => by have := (cond1_iff t).mp e; omega

/-- The run at a point that begins a row tile, at the point's buffers and blocks. -/
abbrev atB (c : Dev nD) (t : Fin cfg0.N) (h : 11 ≤ t.val) (h0 : t.val % 11 = 0) :=
  runB (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (not1 h) ((cond10_iff t).mpr h) ((cond11_iff t).mpr h0)
    (fun e => by have := (cond12_iff t).mp e; omega) (fun e => by have := (cond13_iff t).mp e; omega) (iblk m c 0 t) (iblk m c 1 t) (iblk m c 2 t) (iblk m c 3 t) (iblk m c 4 t) (iblk m c 5 t)

/-- The run at a middle point of a row tile, over the output's and the scratch's contents. -/
abbrev atC (c : Dev nD) (t : Fin cfg0.N) (h : 11 ≤ t.val) (h0 : t.val % 11 ≠ 0) (h10 : t.val % 11 ≠ 10) (xo : Vec F S1024x2048 .f32) (xs : Vec F S1024x2048 .bf16) :=
  runC (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (not1 h) ((cond10_iff t).mpr h) (fun e => h0 ((cond11_iff t).mp e))
    ((cond12_iff t).mpr (by omega)) (fun e => h10 ((cond13_iff t).mp e)) (iblk m c 0 t) (iblk m c 1 t) (iblk m c 2 t) (iblk m c 3 t) (iblk m c 4 t) (iblk m c 5 t) xo xs

/-- The run at the last point of a row tile, over the output's and the scratch's contents. -/
abbrev atD (c : Dev nD) (t : Fin cfg0.N) (h : 11 ≤ t.val) (h10 : t.val % 11 = 10) (xo : Vec F S1024x2048 .f32) (xs : Vec F S1024x2048 .bf16) :=
  runD (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (not1 h) ((cond10_iff t).mpr h) (fun e => by have := (cond11_iff t).mp e; omega)
    (fun e => by have := (cond12_iff t).mp e; omega) ((cond13_iff t).mpr h10) (iblk m c 0 t) (iblk m c 1 t) (iblk m c 2 t) (iblk m c 3 t) (iblk m c 4 t) (iblk m c 5 t) xo xs

/-- The pieces stored at a point that begins a row tile cover the output, -/
theorem coverB (c : Dev nD) (t : Fin cfg0.N) (h : 11 ≤ t.val) (h0 : t.val % 11 = 0) (y : S1024x2048.Idx) : ∃ pc ∈ (atB m c t h h0).1, y ∈ pc.1.set :=
  View.cover_of_tiledL (atB m c t h h0).1 S256x512.size (by sl_kernel_rfl) y

/-- and the scratch. -/
theorem scoverB (c : Dev nD) (t : Fin cfg0.N) (h : 11 ≤ t.val) (h0 : t.val % 11 = 0) (y : S1024x2048.Idx) : ∃ pc ∈ (atB m c t h h0).2.1, y ∈ pc.1.set :=
  View.cover_of_tiledL (atB m c t h h0).2.1 S256x2048.size (by sl_kernel_rfl) y

/-- The pieces stored at a middle point cover the output. -/
theorem coverC (c : Dev nD) (t : Fin cfg0.N) (h : 11 ≤ t.val) (h0 : t.val % 11 ≠ 0) (h10 : t.val % 11 ≠ 10) (xo : Vec F S1024x2048 .f32) (xs : Vec F S1024x2048 .bf16)
    (y : S1024x2048.Idx) : ∃ pc ∈ (atC m c t h h0 h10 xo xs).1, y ∈ pc.1.set :=
  View.cover_of_tiledL (atC m c t h h0 h10 xo xs).1 S1024x512.size (by sl_kernel_rfl) y

/-- The pieces stored at the last point of a row tile cover the output. -/
theorem coverD (c : Dev nD) (t : Fin cfg0.N) (h : 11 ≤ t.val) (h10 : t.val % 11 = 10) (xo : Vec F S1024x2048 .f32) (xs : Vec F S1024x2048 .bf16)
    (y : S1024x2048.Idx) : ∃ pc ∈ (atD m c t h h10 xo xs).1, y ∈ pc.1.set :=
  View.cover_of_tiledL (atD m c t h h10 xo xs).1 S1024x512.size (by sl_kernel_rfl) y

/-- A list of stored pieces read back, for the output and for the scratch. -/
def backO (L : List (View.Piece (Elt F) S1024x2048 .f32)) : Vec F S1024x2048 .f32 := VO.read (Elt F) (VO.writes (Elt F) VO.junk L)
def backS (L : List (View.Piece (Elt F) S1024x2048 .bf16)) : Vec F S1024x2048 .bf16 := VS.read (Elt F) (VS.writes (Elt F) VS.junk L)

/-- One point's effect on the output's buffer and the scratch, from the eleventh point on. -/
def stepOut (c : Dev nD) (t : Fin cfg0.N) (p : Vec F S1024x2048 .f32 × Vec F S1024x2048 .bf16) : Vec F S1024x2048 .f32 × Vec F S1024x2048 .bf16 :=
  if h : 11 ≤ t.val then
    if h0 : t.val % 11 = 0 then (backO (atB m c t h h0).1, backS (atB m c t h h0).2.1)
    else if h10 : t.val % 11 = 10 then (backO (atD m c t h h10 p.1 p.2).1, p.2)
    else (backO (atC m c t h h0 h10 p.1 p.2).1, p.2)
  else p

/-- The output's buffer and the scratch after point `n`, from the eleventh point on. -/
def outsAt (c : Dev nD) : (n : ℕ) → n < cfg0.N → Vec F S1024x2048 .f32 × Vec F S1024x2048 .bf16
  | 0, hn => stepOut m c ⟨0, hn⟩ (backO [], backS [])
  | n + 1, hn => stepOut m c ⟨n + 1, hn⟩ (outsAt c n (Nat.lt_of_succ_lt hn))

/-- After a point from the eleventh on: the point's effect on what the point before left. -/
theorem outsAt_step (c : Dev nD) (t : Fin cfg0.N) (h : 11 ≤ t.val) :
    outsAt m c t.val t.isLt = stepOut m c t (outsAt m c (t.val - 1) (Nat.lt_of_le_of_lt (Nat.sub_le _ _) t.isLt)) := by
  obtain ⟨n, hn⟩ := t
  cases n with
  | zero => exact absurd h (by simp)
  | succ n => rfl

/-- What a point that begins a row tile leaves. -/
theorem outsAt_B (c : Dev nD) (t : Fin cfg0.N) (h : 11 ≤ t.val) (h0 : t.val % 11 = 0) :
    outsAt m c t.val t.isLt = (backO (atB m c t h h0).1, backS (atB m c t h h0).2.1) := by
  rw [outsAt_step m c t h, stepOut, dif_pos h, dif_pos h0]

/-- What a middle point leaves. -/
theorem outsAt_C (c : Dev nD) (t : Fin cfg0.N) (h : 11 ≤ t.val) (h0 : t.val % 11 ≠ 0) (h10 : t.val % 11 ≠ 10) :
    outsAt m c t.val t.isLt = (backO (atC m c t h h0 h10 (outsAt m c (t.val - 1) (Nat.lt_of_le_of_lt (Nat.sub_le _ _) t.isLt)).1
      (outsAt m c (t.val - 1) (Nat.lt_of_le_of_lt (Nat.sub_le _ _) t.isLt)).2).1, (outsAt m c (t.val - 1) (Nat.lt_of_le_of_lt (Nat.sub_le _ _) t.isLt)).2) := by
  rw [outsAt_step m c t h, stepOut, dif_pos h, dif_neg h0, dif_neg h10]

/-- What the last point of a row tile leaves. -/
theorem outsAt_D (c : Dev nD) (t : Fin cfg0.N) (h : 11 ≤ t.val) (h10 : t.val % 11 = 10) :
    outsAt m c t.val t.isLt = (backO (atD m c t h h10 (outsAt m c (t.val - 1) (Nat.lt_of_le_of_lt (Nat.sub_le _ _) t.isLt)).1
      (outsAt m c (t.val - 1) (Nat.lt_of_le_of_lt (Nat.sub_le _ _) t.isLt)).2).1, (outsAt m c (t.val - 1) (Nat.lt_of_le_of_lt (Nat.sub_le _ _) t.isLt)).2) := by
  rw [outsAt_step m c t h, stepOut, dif_pos h, dif_neg (by omega), dif_pos h10]

/-- The rows computed before, as the eight column blocks that the first eight points fetch. -/
def firstRows (c : Dev nD) : Vec F S1024x2048 .f32 := fun x =>
  iblk m c 1 ⟨(x 1).val / 256, by have h : (x 1).val < 2048 := (x 1).isLt; have hN : cfg0.N = 176 := N_0; omega⟩
    (ix2 (x 0) (⟨(x 1).val % 256, Nat.mod_lt _ (by norm_num)⟩ : Fin 256))

/-- What is known of the output's buffer after point `t`: in the first row tile, the columns copied so far; later, all of it. -/
def Known (c : Dev nD) (t : Fin cfg0.N) (X : Vec F S1024x2048 .f32) : Prop :=
  (t.val < 11 → ∀ x : S1024x2048.Idx, (x 1).val < 256 * (t.val + 1) → X x = firstRows m c x)
    ∧ (11 ≤ t.val → X = (outsAt m c t.val t.isLt).1)

/-- A point's copy extends what is known of the first row tile. -/
theorem known_copied (c : Dev nD) (t : Fin cfg0.N) (ht : t.val < 11) (Y : Vec F S1024x2048 .f32)
    (hY : ∀ x : S1024x2048.Idx, (x 1).val < 256 * t.val → Y x = firstRows m c x) : Known m c t (copied t.val (iblk m c 1 t) Y) := by
  refine ⟨fun _ x hx => ?_, fun h => absurd h (by omega)⟩
  have h2 : (x 1).val < 2048 := (x 1).isLt
  by_cases h : 256 * t.val ≤ (x 1).val ∧ (x 1).val < 256 * t.val + 256
  · have e : (⟨(x 1).val / 256, by have hN : cfg0.N = 176 := N_0; omega⟩ : Fin cfg0.N) = t := Fin.ext (by show (x 1).val / 256 = t.val; omega)
    have e2 : (x 1).val - 256 * t.val = (x 1).val % 256 := by omega
    rw [copied, dif_pos h, firstRows]
    rw [e]
    congr 2
    exact Fin.ext e2
  · rw [copied, dif_neg h]
    exact hY x (by omega)

/-- What the body is handed beside the windows before point `n`: through the first row tile and at the first point after it the
    scratch at anything, then the scratch at what the point before left. -/
def PhiT (c : Dev nD) (n : ℕ) (h : n ≤ cfg0.N) : sProp 𝕄 :=
  if h11 : 11 < n then iprop(iprop(owns (c : Thread nD τ) scM fullShare ((outsAt m c (n - 1) (by omega)).2)) ∗ (∃ r, prngReg c r))
  else Pipeline.ΦA spec0 c

theorem PhiT_low (c : Dev nD) (n : ℕ) (h : n ≤ cfg0.N) (h11 : n ≤ 11) : PhiT m c n h = Pipeline.ΦA spec0 c := dif_neg (by omega)

theorem PhiT_high (c : Dev nD) (n : ℕ) (h : n ≤ cfg0.N) (h11 : 11 < n) :
    PhiT m c n h = iprop(iprop(owns (c : Thread nD τ) scM fullShare ((outsAt m c (n - 1) (by omega)).2)) ∗ (∃ r, prngReg c r)) := dif_pos h11

/-- The proof data of the call's pipeline on core `c`: the inputs' buffers keep their blocks. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiT m c t.val (Nat.le_of_lt_succ t.isLt)
  q _ := fullShare
  owed _ := 0

/-- The marked window is the output's; it is held to what is known of it. -/
def marked : Fin cfg0.W → Bool := fun w => match w with
  | ⟨6, _⟩ => true
  | _ => false

def held (c : Dev nD) : (w : Fin cfg0.W) → Fin cfg0.N → ((cfg0.win w).block.Idx → Elt F (cfg0.win w).elt) → Prop := fun w t => match w with
  | ⟨6, _⟩ => Known m c t
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True

/-- The data with the output held to what is known of it. -/
abbrev rdat (c : Dev nD) := (dat m c).toRRel marked (held m c)

theorem dat_A (c : Dev nD) (w : Fin cfg0.W) : (dat m c).A w = V m c (Pipeline.arrRef spec0 w) := by dsimp only [dat]

/-- At every point an input's buffer holds its block. -/
theorem before0 (c : Dev nD) (t : Fin cfg0.N) (d) : (dat m c).before 0 t d = iblk m c 0 t :=
  before0_0_of m (dat m c) (dat_A m c 0) (fun t => by dsimp only [dat]) t d
theorem before1 (c : Dev nD) (t : Fin cfg0.N) (d) : (dat m c).before 1 t d = iblk m c 1 t :=
  before0_1_of m (dat m c) (dat_A m c 1) (fun t => by dsimp only [dat]) t d
theorem before2 (c : Dev nD) (t : Fin cfg0.N) (d) : (dat m c).before 2 t d = iblk m c 2 t :=
  before0_2_of m (dat m c) (dat_A m c 2) (fun t => by dsimp only [dat]) t d
theorem before3 (c : Dev nD) (t : Fin cfg0.N) (d) : (dat m c).before 3 t d = iblk m c 3 t :=
  before0_3_of m (dat m c) (dat_A m c 3) (fun t => by dsimp only [dat]) t d
theorem before4 (c : Dev nD) (t : Fin cfg0.N) (d) : (dat m c).before 4 t d = iblk m c 4 t :=
  before0_4_of m (dat m c) (dat_A m c 4) (fun t => by dsimp only [dat]) t d
theorem before5 (c : Dev nD) (t : Fin cfg0.N) (d) : (dat m c).before 5 t d = iblk m c 5 t :=
  before0_5_of m (dat m c) (dat_A m c 5) (fun t => by dsimp only [dat]) t d

/-- At a point whose predecessor's output block was not written back, the body finds there what is known of it. -/
theorem finds6 (c : Dev nD) (t : Fin cfg0.N) (ht : t.val % 11 ≠ 0) (X : Vec F S1024x2048 .f32) (hX : (rdat m c).Finds 6 t X) :
    Known m c ⟨t.val - 1, Nat.lt_of_le_of_lt (Nat.sub_le _ _) t.isLt⟩ X := by
  rcases (Pipeline.RDat.finds_of_pos (rdat m c) (w := 6) rfl (by omega) X).mp hX with h | h
  · have := (flush0_6 ⟨t.val - 1, Nat.lt_of_le_of_lt (Nat.sub_le _ _) t.isLt⟩).mp h
    dsimp only at this
    omega
  · exact Dat.toRRel_leaves (dat m c) (w := 6) rfl h

end Cert.HalfRun

end
-- ==== Proof.Half.Body.lean ====
/- The body of the feed-forward call at every point: from the buffers as the pipeline hands them to the buffers as the proof data
   say they are left. -/
module

public import proofs.«01_k».proof.Proof.Half.Data

@[expose] public section

set_option maxRecDepth 16384

noncomputable section

namespace Cert.HalfRun

open Cert.FeedForward Cert.HalfIdeal Cert.HalfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local irreducible] runB runC runD

variable (m : (ℓ : Loc nD τ sig) → Buf (Elt F) ℓ) (ρ : Dev nD → PrngReg)

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ Y, ⌜(rdat m c).Finds 6 t Y⌝ ∗ owns (c : Thread nD τ) (ms6 t) fullShare Y))

/-- and what it returns. -/
def bodyPost (c : Dev nD) (t : Fin cfg0.N) : sProp 𝕄 :=
  iprop((dat m c).Φ t.succ ∗ (dat m c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ (∃ X, ⌜Known m c t X⌝ ∗ owns (c : Thread nD τ) (ms6 t) fullShare X))

theorem Phi_before (c : Dev nD) (t : Fin cfg0.N) : (dat m c).Φ t.castSucc = PhiT m c t.val (Nat.le_of_lt t.isLt) := by
  dsimp only [dat]; exact Pipeline.Dat.Φ_castSucc (PhiT m c) t

theorem Phi_after (c : Dev nD) (t : Fin cfg0.N) : (dat m c).Φ t.succ = PhiT m c (t.val + 1) t.isLt := rfl

/-- The body at a point of the first row tile. -/
theorem soundA (c : Dev nD) (t : Fin cfg0.N) (ht : t.val < 11) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dat m c).owesAt () t.succ = (dat m c).owesAt () t.castSucc from rfl, Phi_before, Phi_after,
    PhiT_low m c _ _ (by omega), PhiT_low m c _ _ (by omega), phiA_eq]
  iintro ⟨⟨⟨%xs, HS0⟩, Hg⟩, Ho, ⟨%d0, H0⟩, ⟨%d1, H1⟩, ⟨%d2, H2⟩, ⟨%d3, H3⟩, ⟨%d4, H4⟩, ⟨%d5, H5⟩, ⟨%Y, %hY, H6⟩⟩
  iapply (runA c t ht (ms0 t) (hs0 t) (ms1 t) (hs1 t) (ms2 t) (hs2 t) (ms3 t) (hs3 t) (ms4 t) (hs4 t) (ms5 t) (hs5 t) (ms6 t) (hs6 t) scM (Memref.isWhole_whole _) (iblk m c 0 t) (iblk m c 1 t) (iblk m c 2 t) (iblk m c 3 t) (iblk m c 4 t) (iblk m c 5 t) Y xs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, HS0⟩
  isplitl [HS0 Hg]
  · isplitl [HS0]
    · iexists _; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr
  swap; · iexact H6
  ipureintro
  refine known_copied m c t ht Y fun x hx => ?_
  by_cases h0 : t.val = 0
  · exact absurd hx (by rw [h0]; omega)
  · refine (finds6 m c t (by omega) Y hY).1 (by show t.val - 1 < 11; omega) x ?_
    show (x 1).val < 256 * (t.val - 1 + 1)
    rw [Nat.sub_add_cancel (by omega)]
    exact hx

set_option maxHeartbeats 4000000 in
/-- The body at a point that begins a later row tile. -/
theorem soundB (c : Dev nD) (t : Fin cfg0.N) (ht : 11 ≤ t.val) (h0 : t.val % 11 = 0) :
    bodyPre m c t ⊢ wp frame (wpE (defs₀ (F := F)) Variants.none c none) Set.univ (bodyAt0 t) (fun _ => bodyPost m c t) := by
  have hK : Known m c t (backO (atB m c t ht h0).1) := ⟨fun h => absurd h (by omega), fun _ => (congrArg Prod.fst (outsAt_B m c t ht h0)).symm⟩
  have hS : ∀ f, VS.read (Elt F) (VS.writes (Elt F) f (atB m c t ht h0).2.1) = (outsAt m c t.val t.isLt).2 := fun f =>
    (View.read_writes_of_cover VS f VS VS.junk (atB m c t ht h0).2.1 (scoverB m c t ht h0)).trans (congrArg Prod.snd (outsAt_B m c t ht h0)).symm
  unfold bodyPre bodyPost bodyAt0
  simp only [before0, before1, before2, before3, before4, before5]
  rw [show (dat m c).owesAt () t.succ = (dat m c).owesAt () t.castSucc from rfl, Phi_before, Phi_after,
    PhiT_high m c (t.val + 1) _ (by omega)]
  simp only [Nat.add_sub_cancel]
  have hlow : (PhiT m c t.val (Nat.le_of_lt t.isLt) : sProp 𝕄) ⊢ iprop(iprop((∃ d, owns (c : Thread nD τ) scM fullShare d)) ∗ (∃ r, prngReg c r)) := by
    by_cases h : t.val ≤ 11
    · rw [PhiT_low m c _ _ h, phiA_eq]
    · rw [PhiT_high m c _ _ (by omega)]
      iintro ⟨HS0, Hg⟩
      isplitl [HS0]
      · iexists _; iexact HS0
      iexact Hg
  refine (sep_mono hlow .rfl).trans ?_
  iintro ⟨⟨HS0, Hg⟩, Ho, ⟨%d0, H0⟩, ⟨%d1, H1⟩, ⟨%d2, H2⟩, ⟨%d3, H3⟩, ⟨%d4, H4⟩, ⟨%d5, H5⟩, ⟨%Y, %hY, H6⟩⟩
  iapply ((atB m c t ht h0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, ⟨%es0, HS0⟩⟩
  isplitl [HS0 Hg]
  · isplitl [HS0]
    · unfold owns; iexists _; isplitr
      swap; · iexact HS0
      ipureintro; exact hS es0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists (backO (atB m c t ht h0).1); isplitr
  · ipureintro; exact hK
  unfold owns; iexists _; isplitr
  swap; · iexact H6
  ipureintro; exact View.read_writes_of_cover _ _ _ _ _ (coverB m c t ht h0)

set_option maxHeartbeats 4000000 in
/-- The body at a middle point of a later row tile. -/
theorem soundC (c : Dev nD) (t : Fin cfg0.N) (ht : 11 ≤ t.val) (h0 : t.val % 11 ≠ 0) (h10 : t.val % 11 ≠ 10) :
    bodyPre m c t ⊢ wp frame (wpE (defs₀ (F := F)) Variants.none c none) Set.univ (bodyAt0 t) (fun _ => bodyPost m c t) := by
  have hprev : ∀ Y, (rdat m c).Finds 6 t Y → Y = (outsAt m c (t.val - 1) (Nat.lt_of_le_of_lt (Nat.sub_le _ _) t.isLt)).1 := fun Y hY =>
    (finds6 m c t (by omega) Y hY).2 (by show 11 ≤ t.val - 1; omega)
  have hK : Known m c t (backO (atC m c t ht h0 h10 (outsAt m c (t.val - 1) (Nat.lt_of_le_of_lt (Nat.sub_le _ _) t.isLt)).1
      (outsAt m c (t.val - 1) (Nat.lt_of_le_of_lt (Nat.sub_le _ _) t.isLt)).2).1) :=
    ⟨fun h => absurd h (by omega), fun _ => (congrArg Prod.fst (outsAt_C m c t ht h0 h10)).symm⟩
  unfold bodyPre bodyPost bodyAt0
  simp only [before0, before1, before2, before3, before4, before5]
  rw [show (dat m c).owesAt () t.succ = (dat m c).owesAt () t.castSucc from rfl, Phi_before, Phi_after,
    PhiT_high m c (t.val + 1) _ (by omega), PhiT_high m c t.val _ (by omega)]
  simp only [Nat.add_sub_cancel]
  rw [outsAt_C m c t ht h0 h10]
  iintro ⟨⟨HS0, Hg⟩, Ho, ⟨%d0, H0⟩, ⟨%d1, H1⟩, ⟨%d2, H2⟩, ⟨%d3, H3⟩, ⟨%d4, H4⟩, ⟨%d5, H5⟩, ⟨%Y, %hY, H6⟩⟩
  obtain rfl := hprev Y hY
  iapply ((atC m c t ht h0 h10 _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr
  · ipureintro; exact hK
  unfold owns; iexists _; isplitr
  swap; · iexact H6
  ipureintro; exact View.read_writes_of_cover _ _ _ _ _ (coverC m c t ht h0 h10 _ _)

set_option maxHeartbeats 4000000 in
/-- The body at the last point of a later row tile. -/
theorem soundD (c : Dev nD) (t : Fin cfg0.N) (ht : 11 ≤ t.val) (h10 : t.val % 11 = 10) :
    bodyPre m c t ⊢ wp frame (wpE (defs₀ (F := F)) Variants.none c none) Set.univ (bodyAt0 t) (fun _ => bodyPost m c t) := by
  have hprev : ∀ Y, (rdat m c).Finds 6 t Y → Y = (outsAt m c (t.val - 1) (Nat.lt_of_le_of_lt (Nat.sub_le _ _) t.isLt)).1 := fun Y hY =>
    (finds6 m c t (by omega) Y hY).2 (by show 11 ≤ t.val - 1; omega)
  have hK : Known m c t (backO (atD m c t ht h10 (outsAt m c (t.val - 1) (Nat.lt_of_le_of_lt (Nat.sub_le _ _) t.isLt)).1
      (outsAt m c (t.val - 1) (Nat.lt_of_le_of_lt (Nat.sub_le _ _) t.isLt)).2).1) :=
    ⟨fun h => absurd h (by omega), fun _ => (congrArg Prod.fst (outsAt_D m c t ht h10)).symm⟩
  unfold bodyPre bodyPost bodyAt0
  simp only [before0, before1, before2, before3, before4, before5]
  rw [show (dat m c).owesAt () t.succ = (dat m c).owesAt () t.castSucc from rfl, Phi_before, Phi_after,
    PhiT_high m c (t.val + 1) _ (by omega), PhiT_high m c t.val _ (by omega)]
  simp only [Nat.add_sub_cancel]
  rw [outsAt_D m c t ht h10]
  iintro ⟨⟨HS0, Hg⟩, Ho, ⟨%d0, H0⟩, ⟨%d1, H1⟩, ⟨%d2, H2⟩, ⟨%d3, H3⟩, ⟨%d4, H4⟩, ⟨%d5, H5⟩, ⟨%Y, %hY, H6⟩⟩
  obtain rfl := hprev Y hY
  iapply ((atD m c t ht h10 _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr
  · ipureintro; exact hK
  unfold owns; iexists _; isplitr
  swap; · iexact H6
  ipureintro; exact View.read_writes_of_cover _ _ _ _ _ (coverD m c t ht h10 _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht : 11 ≤ t.val
  · by_cases h0 : t.val % 11 = 0
    · exact soundB m c t ht h0
    · by_cases h10 : t.val % 11 = 10
      · exact soundD m c t ht h10
      · exact soundC m c t ht h0 h10
  · exact soundA m c t (by omega)

/-- The body table's row at a point is the body as the pipeline calls it. -/
theorem row (t : Fin cfg0.N) : defs₀ (F := F) .tc cfg0.body (cfg0.bodyArgs t (cfg0.slots t)) = bodyAt0 t := by
  unfold defs₀; rw [Defs.onTc_tc]

/-- The body obligation of the data with the output held to what is known of it. -/
theorem obligation (c : Dev nD) : Pipeline.BodyObligationRel (dat (F := F) m c) (defs₀ (F := F)) Variants.none () Set.univ marked (held m c) := fun t => by
  rw [bigSep_W0, bigSep_W0, row]
  exact triple_restated (sound_body m c t) rfl .rfl fun _ => .rfl

/-- What the launch hands the region is the invariant before the first point. -/
theorem phi_in (c : Dev nD) : Pipeline.ΦA spec0 c ⊢ (dat m c).Φ 0 := by
  rw [show (dat m c).Φ 0 = PhiT m c 0 (Nat.zero_le _) from rfl, PhiT_low m c 0 _ (by omega)]

/-- After the last point the invariant gives the scratch back. -/
theorem phi_out (c : Dev nD) : (dat m c).Φ (Fin.last cfg0.N) ⊢ Pipeline.ΦA spec0 c := by
  have hN : cfg0.N = 176 := N_0
  rw [show (dat m c).Φ (Fin.last cfg0.N) = PhiT m c cfg0.N (Nat.le_refl _) from rfl, PhiT_high m c _ _ (by omega), phiA_eq]
  iintro ⟨HS0, Hg⟩
  isplitl [HS0]
  · iexists _; iexact HS0
  iexact Hg

set_option backward.isDefEq.respectTransparency.types false in
/-- From any memory, every fair execution of the program ends with the arrays as the data say and with every counter at zero. -/
theorem run_post : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (obligation m c).toRRel) (hshare := fun c => (dat m c).share_full fun _ => rfl)
    (howed := fun _ _ => rfl) (V := V m) (hmain := hmain m Variants.none) (hA := dat_A m) (hin := phi_in m) (hout := phi_out m)

/-- The run's end has the arguments as they were. -/
theorem args_of_post (c : Dev nD) {r : PUnit × MemSt nD τ sig (Elt F)} (h : Pipeline.RDat.FramePost (cfgs 0) (rdat m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (Pipeline.RDat.FramePost.arr_in h c 1 rfl).trans ((dat_A m c 1).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The run leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_of_post m c h.1, h.2⟩) (run_post m ρ)

end Cert.HalfRun

end
-- ==== Proof.Half.Block.lean ====
/- What the stored values of the feed-forward call's body are at an index, as functions of the blocks and buffers it reads. -/
module

public import proofs.«01_k».proof.Proof.Gen.HalfIdeal.Skeleton
public import proofs.«01_k».proof.Proof.FeedForward
public import Idealize.ShloMosaic.Lib.Pipeline.ValueKit
public import Idealize.ShloMosaic.Lib.Pointwise

@[expose] public section

set_option maxRecDepth 16384

noncomputable section

namespace Cert.HalfBlock

open Cert.FeedForward Cert.HalfIdeal Cert.HalfIdeal.Gen Idealize.ShloMosaic Idealize.ShloMosaic.TcCoe Idealize.SL.Sem

/-- The first 256 rows, normalized. -/
theorem pay6_at (v : FVec Ideal S256x2048 .f32) (g : FVec Ideal S1x2048 .f32) (r : Fin 256) (k : Fin 2048) :
    k0_pay6 (F := Ideal) v g (ix2 r k) = nrm (fun k => g (ix2 0 k)) (fun k => v (ix2 r k)) k := by
  pointwise [k0_pay6, nrm]

/-- The second 256 rows, normalized. -/
theorem pay19_at (v : FVec Ideal S256x2048 .f32) (g : FVec Ideal S1x2048 .f32) (r : Fin 256) (k : Fin 2048) :
    k0_pay19 (F := Ideal) (k0_pay16 v) (k0_pay17 g) (k0_pay18 v) (FloatOps.ofBits FTy.f32 1157627904#32) (ix2 r k) = nrm (fun k => g (ix2 0 k)) (fun k => v (ix2 r k)) k := by
  pointwise [k0_pay16, k0_pay17, k0_pay18, k0_pay19, nrm]

/-- The third 256 rows, normalized. -/
theorem pay26_at (v : FVec Ideal S256x2048 .f32) (g : FVec Ideal S1x2048 .f32) (r : Fin 256) (k : Fin 2048) :
    k0_pay26 (F := Ideal) v g (ix2 r k) = nrm (fun k => g (ix2 0 k)) (fun k => v (ix2 r k)) k := by
  pointwise [k0_pay26, nrm]

/-- The fourth 256 rows, normalized. -/
theorem pay33_at (v : FVec Ideal S256x2048 .f32) (g : FVec Ideal S1x2048 .f32) (r : Fin 256) (k : Fin 2048) :
    k0_pay33 (F := Ideal) v g (ix2 r k) = nrm (fun k => g (ix2 0 k)) (fun k => v (ix2 r k)) k := by
  pointwise [k0_pay33, nrm]

theorem pay7_at (v : FVec Ideal S256x2048 .f32) (g : FVec Ideal S1x2048 .f32) (r : Fin 256) (k : Fin 2048) :
    k0_pay7 (F := Ideal) v g (ix2 r k) = k0_pay6 (F := Ideal) v g (ix2 r k) := by
  pointwise [k0_pay7]

theorem pay34_at (v : FVec Ideal S256x2048 .f32) (g : FVec Ideal S1x2048 .f32) (r : Fin 256) (k : Fin 2048) :
    k0_pay34 (F := Ideal) v g (ix2 r k) = k0_pay33 (F := Ideal) v g (ix2 r k) := by
  pointwise [k0_pay34]

theorem pay20_at (v75 : FVec Ideal S256x2048 .f32) (v77 : FVec Ideal S1x2048 .f32) (v80 : FVec Ideal S256x1 .f32) (cst : EReal) (r : Fin 256) (k : Fin 2048) :
    k0_pay20 (F := Ideal) v75 v77 v80 cst (ix2 r k) = k0_pay19 (F := Ideal) v75 v77 v80 cst (ix2 r k) := by
  pointwise [k0_pay20]

theorem pay27_at (v : FVec Ideal S256x2048 .bf16) (r : Fin 256) (k : Fin 2048) : k0_pay27 (F := Ideal) v (ix2 r k) = v (ix2 r k) := by
  pointwise [k0_pay27]

/-- The gated hidden units of a chunk. -/
theorem pay11_at (v : FVec Ideal S256x2048 .f32) (g : FVec Ideal S1x2048 .f32) (g0 u0 g1 u1 : FVec Ideal S1x2048x256 .bf16) (r : Fin 256) (q : Fin 512) :
    k0_pay11 (F := Ideal) (k0_pay6 v g) (k0_pay8 v g g0 u0) (k0_pay9 v g g1) (k0_pay10 u1) (ix2 r q) = unit4 (fun k => k0_pay6 (F := Ideal) v g (ix2 r k)) g0 u0 g1 u1 q := by
  pointwise [k0_pay11, k0_pay8, k0_pay9, k0_pay10, unit4, gated]

/-- The gated hidden units of a chunk. -/
theorem pay21_at (v75 : FVec Ideal S256x2048 .f32) (v77 : FVec Ideal S1x2048 .f32) (v80 : FVec Ideal S256x1 .f32) (cst : EReal) (g0 u0 g1 u1 : FVec Ideal S1x2048x256 .bf16) (r : Fin 256) (q : Fin 512) :
    k0_pay21 (F := Ideal) v75 v77 v80 cst g0 u0 g1 u1 (ix2 r q) = unit4 (fun k => k0_pay19 (F := Ideal) v75 v77 v80 cst (ix2 r k)) g0 u0 g1 u1 q := by
  pointwise [k0_pay21, unit4, gated]

/-- The gated hidden units of a chunk. -/
theorem pay28_at (h : FVec Ideal S256x2048 .bf16) (g0 u0 g1 u1 : FVec Ideal S1x2048x256 .bf16) (r : Fin 256) (q : Fin 512) :
    k0_pay28 (F := Ideal) h g0 u0 g1 u1 (ix2 r q) = unit4 (fun k => h (ix2 r k)) g0 u0 g1 u1 q := by
  pointwise [k0_pay28, unit4, gated]

/-- The gated hidden units of a chunk. -/
theorem pay36_at (v : FVec Ideal S256x2048 .f32) (g : FVec Ideal S1x2048 .f32) (g0 u0 g1 u1 : FVec Ideal S1x2048x256 .bf16) (r : Fin 256) (q : Fin 512) :
    k0_pay36 (F := Ideal) (k0_pay33 v g) (k0_pay35 v g g0) u0 g1 u1 (ix2 r q) = unit4 (fun k => k0_pay33 (F := Ideal) v g (ix2 r k)) g0 u0 g1 u1 q := by
  pointwise [k0_pay36, k0_pay35, unit4, gated]

/-- The gated hidden units of a chunk. -/
theorem pay40_at (h : FVec Ideal S1024x2048 .bf16) (g0 u0 g1 u1 : FVec Ideal S1x2048x256 .bf16) (r : Fin 1024) (q : Fin 512) :
    k0_pay40 (F := Ideal) h g0 u0 g1 u1 (ix2 r q) = unit4 (fun k => h (ix2 r k)) g0 u0 g1 u1 q := by
  pointwise [k0_pay40, unit4, gated]

/-- The gated hidden units of a chunk. -/
theorem pay43_at (h : FVec Ideal S1024x2048 .bf16) (g0 u0 g1 u1 : FVec Ideal S1x2048x256 .bf16) (r : Fin 1024) (q : Fin 512) :
    k0_pay43 (F := Ideal) h g0 u0 g1 u1 (ix2 r q) = unit4 (fun k => h (ix2 r k)) g0 u0 g1 u1 q := by
  pointwise [k0_pay43, unit4, gated]

theorem pay12_at (h : FVec Ideal S256x2048 .bf16) (a : FVec Ideal S256x256 .bf16) (b : FVec Ideal S256x256 .f32) (d : FVec Ideal S2048x256 .bf16) (w : FVec Ideal S512x512 .bf16) (r : Fin 256) (p : Fin 512) :
    k0_pay12 (F := Ideal) h a b d w (ix2 r p) = ∑ q : Fin 512, k0_pay11 (F := Ideal) h a b d (ix2 r q) * w (ix2 q p) := by
  pointwise [k0_pay12]

theorem pay13_at (h : FVec Ideal S256x2048 .bf16) (a : FVec Ideal S256x256 .bf16) (b : FVec Ideal S256x256 .f32) (d : FVec Ideal S2048x256 .bf16) (w : FVec Ideal S512x512 .bf16) (r : Fin 256) (p : Fin 512) :
    k0_pay13 (F := Ideal) h a b d w (ix2 r p) = ∑ q : Fin 512, k0_pay11 (F := Ideal) h a b d (ix2 r q) * w (ix2 q p) := by
  pointwise [k0_pay13]

theorem pay14_at (h : FVec Ideal S256x2048 .bf16) (a : FVec Ideal S256x256 .bf16) (b : FVec Ideal S256x256 .f32) (d : FVec Ideal S2048x256 .bf16) (w : FVec Ideal S512x512 .bf16) (r : Fin 256) (p : Fin 512) :
    k0_pay14 (F := Ideal) h a b d w (ix2 r p) = ∑ q : Fin 512, k0_pay11 (F := Ideal) h a b d (ix2 r q) * w (ix2 q p) := by
  pointwise [k0_pay14]

theorem pay15_at (h : FVec Ideal S256x2048 .bf16) (a : FVec Ideal S256x256 .bf16) (b : FVec Ideal S256x256 .f32) (d : FVec Ideal S2048x256 .bf16) (w : FVec Ideal S512x512 .bf16) (r : Fin 256) (p : Fin 512) :
    k0_pay15 (F := Ideal) h a b d w (ix2 r p) = ∑ q : Fin 512, k0_pay11 (F := Ideal) h a b d (ix2 r q) * w (ix2 q p) := by
  pointwise [k0_pay15]

theorem pay22_at (v75 : FVec Ideal S256x2048 .f32) (v77 : FVec Ideal S1x2048 .f32) (v80 : FVec Ideal S256x1 .f32) (cst : EReal) (g0 u0 g1 u1 : FVec Ideal S1x2048x256 .bf16) (w : FVec Ideal S512x512 .bf16) (r : Fin 256) (p : Fin 512) :
    k0_pay22 (F := Ideal) v75 v77 v80 cst g0 u0 g1 u1 w (ix2 r p) = ∑ q : Fin 512, k0_pay21 (F := Ideal) v75 v77 v80 cst g0 u0 g1 u1 (ix2 r q) * w (ix2 q p) := by
  pointwise [k0_pay22]

theorem pay29_at (h : FVec Ideal S256x2048 .bf16) (g0 u0 g1 u1 : FVec Ideal S1x2048x256 .bf16) (w : FVec Ideal S512x512 .bf16) (r : Fin 256) (p : Fin 512) :
    k0_pay29 (F := Ideal) h g0 u0 g1 u1 w (ix2 r p) = ∑ q : Fin 512, k0_pay28 (F := Ideal) h g0 u0 g1 u1 (ix2 r q) * w (ix2 q p) := by
  pointwise [k0_pay29]

theorem pay30_at (h : FVec Ideal S256x2048 .bf16) (g0 u0 g1 u1 : FVec Ideal S1x2048x256 .bf16) (w : FVec Ideal S512x512 .bf16) (r : Fin 256) (p : Fin 512) :
    k0_pay30 (F := Ideal) h g0 u0 g1 u1 w (ix2 r p) = ∑ q : Fin 512, k0_pay28 (F := Ideal) h g0 u0 g1 u1 (ix2 r q) * w (ix2 q p) := by
  pointwise [k0_pay30]

theorem pay37_at (h : FVec Ideal S256x2048 .bf16) (a : FVec Ideal S256x256 .f32) (u0 g1 u1 : FVec Ideal S1x2048x256 .bf16) (w : FVec Ideal S512x512 .bf16) (r : Fin 256) (p : Fin 512) :
    k0_pay37 (F := Ideal) h a u0 g1 u1 w (ix2 r p) = ∑ q : Fin 512, k0_pay36 (F := Ideal) h a u0 g1 u1 (ix2 r q) * w (ix2 q p) := by
  pointwise [k0_pay37]

theorem pay38_at (h : FVec Ideal S256x2048 .bf16) (a : FVec Ideal S256x256 .f32) (u0 g1 u1 : FVec Ideal S1x2048x256 .bf16) (w : FVec Ideal S512x512 .bf16) (r : Fin 256) (p : Fin 512) :
    k0_pay38 (F := Ideal) h a u0 g1 u1 w (ix2 r p) = ∑ q : Fin 512, k0_pay36 (F := Ideal) h a u0 g1 u1 (ix2 r q) * w (ix2 q p) := by
  pointwise [k0_pay38]

theorem pay39_at (h : FVec Ideal S256x2048 .bf16) (a : FVec Ideal S256x256 .f32) (u0 g1 u1 : FVec Ideal S1x2048x256 .bf16) (w : FVec Ideal S512x512 .bf16) (r : Fin 256) (p : Fin 512) :
    k0_pay39 (F := Ideal) h a u0 g1 u1 w (ix2 r p) = ∑ q : Fin 512, k0_pay36 (F := Ideal) h a u0 g1 u1 (ix2 r q) * w (ix2 q p) := by
  pointwise [k0_pay39]

theorem pay23_at (a : FVec Ideal S256x512 .bf16) (w : FVec Ideal S512x512 .bf16) (r : Fin 256) (p : Fin 512) :
    k0_pay23 (F := Ideal) a w (ix2 r p) = ∑ q : Fin 512, a (ix2 r q) * w (ix2 q p) := by
  pointwise [k0_pay23]

theorem pay24_at (a : FVec Ideal S256x512 .bf16) (w : FVec Ideal S512x512 .bf16) (r : Fin 256) (p : Fin 512) :
    k0_pay24 (F := Ideal) a w (ix2 r p) = ∑ q : Fin 512, a (ix2 r q) * w (ix2 q p) := by
  pointwise [k0_pay24]

theorem pay25_at (a : FVec Ideal S256x512 .bf16) (w : FVec Ideal S512x512 .bf16) (r : Fin 256) (p : Fin 512) :
    k0_pay25 (F := Ideal) a w (ix2 r p) = ∑ q : Fin 512, a (ix2 r q) * w (ix2 q p) := by
  pointwise [k0_pay25]

theorem pay31_at (a : FVec Ideal S256x512 .bf16) (w : FVec Ideal S512x512 .bf16) (r : Fin 256) (p : Fin 512) :
    k0_pay31 (F := Ideal) a w (ix2 r p) = ∑ q : Fin 512, a (ix2 r q) * w (ix2 q p) := by
  pointwise [k0_pay31]

theorem pay32_at (a : FVec Ideal S256x512 .bf16) (w : FVec Ideal S512x512 .bf16) (r : Fin 256) (p : Fin 512) :
    k0_pay32 (F := Ideal) a w (ix2 r p) = ∑ q : Fin 512, a (ix2 r q) * w (ix2 q p) := by
  pointwise [k0_pay32]

theorem pay1_at (a : FVec Ideal S256x512 .bf16) (w : FVec Ideal S512x512 .bf16) (r : Fin 256) (p : Fin 512) :
    k0_pay1 (F := Ideal) a w (ix2 r p) = ∑ q : Fin 512, a (ix2 r q) * w (ix2 q p) := by
  pointwise [k0_pay1]

theorem pay41_at (h : FVec Ideal S1024x2048 .bf16) (g0 u0 g1 u1 : FVec Ideal S1x2048x256 .bf16) (w : FVec Ideal S512x512 .bf16) (o : FVec Ideal S1024x512 .f32) (r : Fin 1024) (p : Fin 512) :
    k0_pay41 (F := Ideal) h g0 u0 g1 u1 w o (ix2 r p) = o (ix2 r p) + ∑ q : Fin 512, k0_pay40 (F := Ideal) h g0 u0 g1 u1 (ix2 r q) * w (ix2 q p) := by
  pointwise [k0_pay41]

theorem pay2_at (a : FVec Ideal S1024x512 .bf16) (w : FVec Ideal S512x512 .bf16) (o : FVec Ideal S1024x512 .f32) (r : Fin 1024) (p : Fin 512) :
    k0_pay2 (F := Ideal) a (k0_pay42 w) (constant S1024x512 FTy.f32 0#32) o (ix2 r p) = o (ix2 r p) + ∑ q : Fin 512, a (ix2 r q) * w (ix2 q p) := by
  pointwise [k0_pay2, k0_pay42]

theorem pay3_at (a : FVec Ideal S1024x512 .bf16) (w : FVec Ideal S512x512 .bf16) (o : FVec Ideal S1024x512 .f32) (r : Fin 1024) (p : Fin 512) :
    k0_pay3 (F := Ideal) a w o (ix2 r p) = o (ix2 r p) + ∑ q : Fin 512, a (ix2 r q) * w (ix2 q p) := by
  pointwise [k0_pay3]

theorem pay4_at (a : FVec Ideal S1024x512 .bf16) (w : FVec Ideal S512x512 .bf16) (o : FVec Ideal S1024x512 .f32) (r : Fin 1024) (p : Fin 512) :
    k0_pay4 (F := Ideal) a w o (ix2 r p) = o (ix2 r p) + ∑ q : Fin 512, a (ix2 r q) * w (ix2 q p) := by
  pointwise [k0_pay4]

theorem pay44_at (h : FVec Ideal S1024x2048 .bf16) (g0 u0 g1 u1 : FVec Ideal S1x2048x256 .bf16) (w : FVec Ideal S512x512 .bf16) (o : FVec Ideal S1024x512 .f32) (x : FVec Ideal S1024x512 .f32) (r : Fin 1024) (p : Fin 512) :
    k0_pay44 (F := Ideal) h g0 u0 g1 u1 w o x (ix2 r p) = x (ix2 r p) + Ideal.ofBits .f32 0x3F000000#32 * (o (ix2 r p) + ∑ q : Fin 512, k0_pay43 (F := Ideal) h g0 u0 g1 u1 (ix2 r q) * w (ix2 q p)) := by
  pointwise [k0_pay44]

theorem pay45_at (a : FVec Ideal S1024x512 .bf16) (w : FVec Ideal S512x512 .bf16) (o : FVec Ideal S1024x512 .f32) (x : FVec Ideal S1024x512 .f32) (r : Fin 1024) (p : Fin 512) :
    k0_pay45 (F := Ideal) a w o x (ix2 r p) = x (ix2 r p) + Ideal.ofBits .f32 0x3F000000#32 * (o (ix2 r p) + ∑ q : Fin 512, a (ix2 r q) * w (ix2 q p)) := by
  pointwise [k0_pay45]

theorem pay46_at (a : FVec Ideal S1024x512 .bf16) (w : FVec Ideal S512x512 .bf16) (o : FVec Ideal S1024x512 .f32) (x : FVec Ideal S1024x512 .f32) (r : Fin 1024) (p : Fin 512) :
    k0_pay46 (F := Ideal) a w o x (ix2 r p) = x (ix2 r p) + Ideal.ofBits .f32 0x3F000000#32 * (o (ix2 r p) + ∑ q : Fin 512, a (ix2 r q) * w (ix2 q p)) := by
  pointwise [k0_pay46]

theorem pay5_at (a : FVec Ideal S1024x512 .bf16) (w : FVec Ideal S512x512 .bf16) (o : FVec Ideal S1024x512 .f32) (x : FVec Ideal S1024x512 .f32) (r : Fin 1024) (p : Fin 512) :
    k0_pay5 (F := Ideal) (k0_pay47 a w o) x (ix2 r p) = x (ix2 r p) + Ideal.ofBits .f32 0x3F000000#32 * (o (ix2 r p) + ∑ q : Fin 512, a (ix2 r q) * w (ix2 q p)) := by
  pointwise [k0_pay47, k0_pay5]

end Cert.HalfBlock

end
-- ==== Proof.Half.Points.lean ====
/- What each kind of grid point of the feed-forward call leaves in the output's buffer and in the scratch, at an index, over the
   extended reals. -/
module

public import proofs.«01_k».proof.Proof.Half.Block
public import proofs.«01_k».proof.Proof.Half.Data
public import Idealize.ShloMosaic.Lib.Pipeline.ReadBack

@[expose] public section

set_option maxRecDepth 16384

noncomputable section

namespace Cert.HalfRun

open Cert.FeedForward Cert.HalfIdeal Cert.HalfIdeal.Gen Cert.HalfBlock Cert.Pieces
open Idealize.ShloMosaic Idealize.ShloMosaic.TcCoe Idealize.SL.Sem

section

variable {c : Dev nD} {i : grid0.Coords}
  {arg2 : Memref sig Kind.tc Space.vmem S1024x2048 EltTy.f32} {harg2 : arg2.IsWhole}
  {arg3 : Memref sig Kind.tc Space.vmem S1024x256 EltTy.f32} {harg3 : arg3.IsWhole}
  {arg4 : Memref sig Kind.tc Space.vmem S1x2048 EltTy.f32} {harg4 : arg4.IsWhole}
  {arg5 : Memref sig Kind.tc Space.vmem S2x2048x256 EltTy.bf16} {harg5 : arg5.IsWhole}
  {arg6 : Memref sig Kind.tc Space.vmem S2x2048x256 EltTy.bf16} {harg6 : arg6.IsWhole}
  {arg7 : Memref sig Kind.tc Space.vmem S512x2048 EltTy.bf16} {harg7 : arg7.IsWhole}
  {arg8 : Memref sig Kind.tc Space.vmem S1024x2048 EltTy.f32} {harg8 : arg8.IsWhole}
  {arg9 : Memref sig Kind.tc Space.vmem S1024x2048 EltTy.bf16} {harg9 : arg9.IsWhole}
  {x0 : FVec Ideal S1024x2048 .f32} {x1 : FVec Ideal S1024x256 .f32} {x2 : FVec Ideal S1x2048 .f32}
  {x3 x4 : FVec Ideal S2x2048x256 .bf16} {x5 : FVec Ideal S512x2048 .bf16}
  {xo : FVec Ideal S1024x2048 .f32} {xs : FVec Ideal S1024x2048 .bf16}

/-- The four groups of 256 normalized rows. -/
theorem rowsB0 (r : Fin 256) (r' : Fin 1024) (hr : r'.val = 0 + r) (k : Fin 2048) :
    runB.sl.r (F := Ideal) c arg2 harg2 arg4 harg4 x0 x2 (ix2 r k) = HN x0 x2 r' k :=
  (pay6_at _ _ r k).trans (rows_read _ _ r r' hr k)
theorem rowsB1 (r : Fin 256) (r' : Fin 1024) (hr : r'.val = 256 + r) (k : Fin 2048) :
    k0_pay19 (F := Ideal) (runB.sl.r_4 c arg2 harg2 x0) (runB.sl.r_5 c arg4 harg4 x2) (runB.sl.r_6 c arg2 harg2 x0) runB.sl.cst_52 (ix2 r k) = HN x0 x2 r' k :=
  (pay19_at _ _ r k).trans (rows_read _ _ r r' hr k)
theorem rowsB2 (r : Fin 256) (r' : Fin 1024) (hr : r'.val = 512 + r) (k : Fin 2048) :
    runB.sl.r_9 (F := Ideal) c arg2 harg2 arg4 harg4 x0 x2 (ix2 r k) = HN x0 x2 r' k :=
  (pay26_at _ _ r k).trans (rows_read _ _ r r' hr k)
theorem rowsB3 (r : Fin 256) (r' : Fin 1024) (hr : r'.val = 768 + r) (k : Fin 2048) :
    runB.sl.r_12 (F := Ideal) c arg2 harg2 arg4 harg4 x0 x2 (ix2 r k) = HN x0 x2 r' k :=
  (pay33_at _ _ r k).trans (rows_read _ _ r r' hr k)

/-- The hidden units of the four groups of rows. -/
theorem unitsB0 (r : Fin 256) (r' : Fin 1024) (hr : r'.val = 0 + r) (q : Fin 512) :
    k0_pay11 (F := Ideal) (runB.sl.r c arg2 harg2 arg4 harg4 x0 x2) (runB.sl.r_1 c arg2 harg2 arg4 harg4 arg5 harg5 arg6 harg6 x0 x2 x3 x4)
      (runB.sl.r_2 c arg2 harg2 arg4 harg4 arg5 harg5 x0 x2 x3) (runB.sl.r_3 c arg6 harg6 x4) (ix2 r q) = unitAt (HN x0 x2 r') x3 x4 q :=
  (pay11_at _ _ _ _ _ _ r q).trans (unit4_read (funext fun k => rowsB0 (c := c) r r' hr k) _ _ q)
theorem unitsB1 (r : Fin 256) (r' : Fin 1024) (hr : r'.val = 256 + r) (q : Fin 512) :
    runB.sl.r_7 (F := Ideal) c arg2 harg2 arg4 harg4 arg5 harg5 arg6 harg6 x0 x2 x3 x4 (ix2 r q) = unitAt (HN x0 x2 r') x3 x4 q :=
  (pay21_at _ _ _ _ _ _ _ _ r q).trans (unit4_read (funext fun k => rowsB1 r r' hr k) _ _ q)
theorem unitsB2 (r : Fin 256) (r' : Fin 1024) (hr : r'.val = 512 + r) (q : Fin 512) :
    runB.sl.r_10 (F := Ideal) c arg2 harg2 arg4 harg4 arg5 harg5 arg6 harg6 x0 x2 x3 x4 (ix2 r q) = unitAt (HN x0 x2 r') x3 x4 q :=
  (pay28_at _ _ _ _ _ r q).trans (unit4_read (funext fun k => rowsB2 r r' hr k) _ _ q)
theorem unitsB3 (r : Fin 256) (r' : Fin 1024) (hr : r'.val = 768 + r) (q : Fin 512) :
    runB.sl.r_14 (F := Ideal) c arg2 harg2 arg4 harg4 arg5 harg5 arg6 harg6 x0 x2 x3 x4 (ix2 r q) = unitAt (HN x0 x2 r') x3 x4 q :=
  (pay36_at _ _ _ _ _ _ r q).trans (unit4_read (funext fun k => rowsB3 (c := c) r r' hr k) _ _ q)

variable {hc0 : ¬ k0_cond1 i = 1#1} {hc1 : k0_cond10 i = 1#1}

/-- What a point that begins a row tile stores into the output is the first chunk's share, -/
theorem piecesB {hc2 : k0_cond11 i = 1#1} {hc3 : ¬ k0_cond12 i = 1#1} {hc4 : ¬ k0_cond13 i = 1#1} :
    View.PiecesOf (partB x0 x2 x3 x4 x5)
      (runB (F := Ideal) c i arg2 harg2 arg3 harg3 arg4 harg4 arg5 harg5 arg6 harg6 arg7 harg7 arg8 harg8 arg9 harg9 hc0 hc1 hc2 hc3 hc4 x0 x1 x2 x3 x4 x5).1 := by
  unfold runB
  dsimp only
  refine ⟨piece_of _ (by decide) _ fun r q r' q' hr hq => (pay1_at _ _ r q).trans (cols_read _ (unitsB3 (c := c) r r' hr) q q' hq),
    piece_of _ (by decide) _ fun r q r' q' hr hq => (pay39_at _ _ _ _ _ _ r q).trans (cols_read _ (unitsB3 (c := c) r r' hr) q q' hq),
    piece_of _ (by decide) _ fun r q r' q' hr hq => (pay38_at _ _ _ _ _ _ r q).trans (cols_read _ (unitsB3 (c := c) r r' hr) q q' hq),
    piece_of _ (by decide) _ fun r q r' q' hr hq => (pay37_at _ _ _ _ _ _ r q).trans (cols_read _ (unitsB3 (c := c) r r' hr) q q' hq),
    piece_of _ (by decide) _ fun r q r' q' hr hq => (pay32_at _ _ r q).trans (cols_read _ (unitsB2 (c := c) r r' hr) q q' hq),
    piece_of _ (by decide) _ fun r q r' q' hr hq => (pay31_at _ _ r q).trans (cols_read _ (unitsB2 (c := c) r r' hr) q q' hq),
    piece_of _ (by decide) _ fun r q r' q' hr hq => (pay30_at _ _ _ _ _ _ r q).trans (cols_read _ (unitsB2 (c := c) r r' hr) q q' hq),
    piece_of _ (by decide) _ fun r q r' q' hr hq => (pay29_at _ _ _ _ _ _ r q).trans (cols_read _ (unitsB2 (c := c) r r' hr) q q' hq),
    piece_of _ (by decide) _ fun r q r' q' hr hq => (pay25_at _ _ r q).trans (cols_read _ (unitsB1 (c := c) r r' hr) q q' hq),
    piece_of _ (by decide) _ fun r q r' q' hr hq => (pay24_at _ _ r q).trans (cols_read _ (unitsB1 (c := c) r r' hr) q q' hq),
    piece_of _ (by decide) _ fun r q r' q' hr hq => (pay23_at _ _ r q).trans (cols_read _ (unitsB1 (c := c) r r' hr) q q' hq),
    piece_of _ (by decide) _ fun r q r' q' hr hq => (pay22_at _ _ _ _ _ _ _ _ _ r q).trans (cols_read _ (unitsB1 (c := c) r r' hr) q q' hq),
    piece_of _ (by decide) _ fun r q r' q' hr hq => (pay15_at _ _ _ _ _ r q).trans (cols_read _ (unitsB0 (c := c) r r' hr) q q' hq),
    piece_of _ (by decide) _ fun r q r' q' hr hq => (pay14_at _ _ _ _ _ r q).trans (cols_read _ (unitsB0 (c := c) r r' hr) q q' hq),
    piece_of _ (by decide) _ fun r q r' q' hr hq => (pay13_at _ _ _ _ _ r q).trans (cols_read _ (unitsB0 (c := c) r r' hr) q q' hq),
    piece_of _ (by decide) _ fun r q r' q' hr hq => (pay12_at _ _ _ _ _ r q).trans (cols_read _ (unitsB0 (c := c) r r' hr) q q' hq), trivial⟩

/-- and what it stores into the scratch are the normalized rows. -/
theorem spiecesB {hc2 : k0_cond11 i = 1#1} {hc3 : ¬ k0_cond12 i = 1#1} {hc4 : ¬ k0_cond13 i = 1#1} :
    View.PiecesOf (rowsG x0 x2)
      (runB (F := Ideal) c i arg2 harg2 arg3 harg3 arg4 harg4 arg5 harg5 arg6 harg6 arg7 harg7 arg8 harg8 arg9 harg9 hc0 hc1 hc2 hc3 hc4 x0 x1 x2 x3 x4 x5).2.1 := by
  unfold runB
  dsimp only
  have hq0 : ∀ {r' : Fin 1024} {q' q : Fin 2048}, q'.val = 0 + q → HN x0 x2 r' q = rowsG x0 x2 (ix2 r' q') := fun {r' q' q} h => by
    rw [show q = q' from Fin.ext (by omega)]; rfl
  refine ⟨piece_of _ (by decide) _ fun r q r' q' hr hq => (pay34_at _ _ r q).trans ((rowsB3 (c := c) r r' hr q).trans (hq0 hq)),
    piece_of _ (by decide) _ fun r q r' q' hr hq => (pay27_at _ r q).trans ((rowsB2 (c := c) r r' hr q).trans (hq0 hq)),
    piece_of _ (by decide) _ fun r q r' q' hr hq => (pay20_at _ _ _ _ r q).trans ((rowsB1 (c := c) r r' hr q).trans (hq0 hq)),
    piece_of _ (by decide) _ fun r q r' q' hr hq => (pay7_at _ _ r q).trans ((rowsB0 (c := c) r r' hr q).trans (hq0 hq)), trivial⟩

/-- The hidden units at a middle point and at a last point. -/
theorem unitsC (r r' : Fin 1024) (hr : r'.val = 0 + r) (q : Fin 512) :
    runC.sl.r (F := Ideal) c arg5 harg5 arg6 harg6 arg9 harg9 x3 x4 xs (ix2 r q) = unitAt (fun k => xs (ix2 r' k)) x3 x4 q :=
  (pay40_at _ _ _ _ _ r q).trans (unit4_read (scratch_read _ r r' hr) _ _ q)
theorem unitsD (r r' : Fin 1024) (hr : r'.val = 0 + r) (q : Fin 512) :
    runD.sl.r (F := Ideal) c arg5 harg5 arg6 harg6 arg9 harg9 x3 x4 xs (ix2 r q) = unitAt (fun k => xs (ix2 r' k)) x3 x4 q :=
  (pay43_at _ _ _ _ _ r q).trans (unit4_read (scratch_read _ r r' hr) _ _ q)

/-- What a middle point stores is the output with one more chunk's share. -/
theorem piecesC {hc2 : ¬ k0_cond11 i = 1#1} {hc3 : k0_cond12 i = 1#1} {hc4 : ¬ k0_cond13 i = 1#1} :
    View.PiecesOf (partC xo xs x3 x4 x5)
      (runC (F := Ideal) c i arg2 harg2 arg3 harg3 arg4 harg4 arg5 harg5 arg6 harg6 arg7 harg7 arg8 harg8 arg9 harg9 hc0 hc1 hc2 hc3 hc4 x0 x1 x2 x3 x4 x5 xo xs).1 := by
  unfold runC
  dsimp only
  refine ⟨piece_of _ (by decide) _ fun r q r' q' hr hq => (pay4_at _ _ _ r q).trans (Ideal.add_congr (readAt_at (Val := Elt Ideal) harg8 xo _ r' q' r q hr hq) (cols_read _ (unitsC (c := c) r r' hr) q q' hq)),
    piece_of _ (by decide) _ fun r q r' q' hr hq => (pay3_at _ _ _ r q).trans (Ideal.add_congr (readAt_at (Val := Elt Ideal) harg8 xo _ r' q' r q hr hq) (cols_read _ (unitsC (c := c) r r' hr) q q' hq)),
    piece_of _ (by decide) _ fun r q r' q' hr hq => (pay2_at _ _ _ r q).trans (Ideal.add_congr (readAt_at (Val := Elt Ideal) harg8 xo _ r' q' r q hr hq) (cols_read _ (unitsC (c := c) r r' hr) q q' hq)),
    piece_of _ (by decide) _ fun r q r' q' hr hq => (pay41_at _ _ _ _ _ _ _ r q).trans (Ideal.add_congr (readAt_at (Val := Elt Ideal) harg8 xo _ r' q' r q hr hq) (cols_read _ (unitsC (c := c) r r' hr) q q' hq)), trivial⟩

/-- What the last point of a row tile stores are the rows with half of the second projection added. -/
theorem piecesD {hc2 : ¬ k0_cond11 i = 1#1} {hc3 : ¬ k0_cond12 i = 1#1} {hc4 : k0_cond13 i = 1#1} :
    View.PiecesOf (residG x0 xo xs x3 x4 x5)
      (runD (F := Ideal) c i arg2 harg2 arg3 harg3 arg4 harg4 arg5 harg5 arg6 harg6 arg7 harg7 arg8 harg8 arg9 harg9 hc0 hc1 hc2 hc3 hc4 x0 x1 x2 x3 x4 x5 xo xs).1 := by
  unfold runD
  dsimp only
  have cong : ∀ {r' : Fin 1024} {q' : Fin 2048} {a b d : EReal}, a = x0 (ix2 r' q') → b = xo (ix2 r' q') → d = part (fun k => xs (ix2 r' k)) x3 x4 x5 q' →
      a + Ideal.ofBits .f32 0x3F000000#32 * (b + d) = residG x0 xo xs x3 x4 x5 (ix2 r' q') := by
    rintro _ _ _ _ _ rfl rfl rfl; rfl
  refine ⟨piece_of _ (by decide) _ fun r q r' q' hr hq => (pay5_at _ _ _ _ r q).trans (cong (readAt_at (Val := Elt Ideal) harg2 x0 _ r' q' r q hr hq) (readAt_at (Val := Elt Ideal) harg8 xo _ r' q' r q hr hq) (cols_read _ (unitsD (c := c) r r' hr) q q' hq)),
    piece_of _ (by decide) _ fun r q r' q' hr hq => (pay46_at _ _ _ _ r q).trans (cong (readAt_at (Val := Elt Ideal) harg2 x0 _ r' q' r q hr hq) (readAt_at (Val := Elt Ideal) harg8 xo _ r' q' r q hr hq) (cols_read _ (unitsD (c := c) r r' hr) q q' hq)),
    piece_of _ (by decide) _ fun r q r' q' hr hq => (pay45_at _ _ _ _ r q).trans (cong (readAt_at (Val := Elt Ideal) harg2 x0 _ r' q' r q hr hq) (readAt_at (Val := Elt Ideal) harg8 xo _ r' q' r q hr hq) (cols_read _ (unitsD (c := c) r r' hr) q q' hq)),
    piece_of _ (by decide) _ fun r q r' q' hr hq => (pay44_at _ _ _ _ _ _ _ _ r q).trans (cong (readAt_at (Val := Elt Ideal) harg2 x0 _ r' q' r q hr hq) (readAt_at (Val := Elt Ideal) harg8 xo _ r' q' r q hr hq) (cols_read _ (unitsD (c := c) r r' hr) q q' hq)), trivial⟩

end

end Cert.HalfRun

end
-- ==== Proof.Half.Steps.lean ====
/- What each kind of grid point of the feed-forward call leaves, at an index, from the point's blocks. -/
module

public import proofs.«01_k».proof.Proof.Half.Points

@[expose] public section

set_option maxRecDepth 16384

noncomputable section

namespace Cert.HalfRun

open Cert.FeedForward Cert.HalfIdeal Cert.HalfIdeal.Gen Cert.HalfBlock Cert.Pieces
open Idealize.ShloMosaic Idealize.ShloMosaic.TcCoe Idealize.SL.Sem

attribute [local irreducible] runB runC runD

variable (m : (ℓ : Loc nD τ sig) → Buf (Elt Ideal) ℓ)

/-- A list of stored pieces read back is the list read as one array. -/
theorem backO_eq (L : List (View.Piece (Elt Ideal) S1024x2048 .f32)) : backO L = View.canon L := View.read_writes_junk_eq_canon _ _
theorem backS_eq (L : List (View.Piece (Elt Ideal) S1024x2048 .bf16)) : backS L = View.canon L := View.read_writes_junk_eq_canon _ _

/-- A point that begins a row tile leaves the first chunk's share in the output, -/
theorem outB (c : Dev nD) (t : Fin cfg0.N) (h : 11 ≤ t.val) (h0 : t.val % 11 = 0) (r : Fin 1024) (p : Fin 2048) :
    (outsAt m c t.val t.isLt).1 (ix2 r p)
      = part (HN (iblk m c 0 t) (iblk m c 2 t) r) (iblk m c 3 t) (iblk m c 4 t) (iblk m c 5 t) p := by
  rw [outsAt_B m c t h h0, backO_eq]
  exact View.canon_apply_of_pieces (partB (iblk m c 0 t) (iblk m c 2 t) (iblk m c 3 t) (iblk m c 4 t) (iblk m c 5 t)) _ piecesB.mem _ (coverB m c t h h0 _)

/-- and the normalized rows in the scratch. -/
theorem scrB (c : Dev nD) (t : Fin cfg0.N) (h : 11 ≤ t.val) (h0 : t.val % 11 = 0) (r : Fin 1024) (k : Fin 2048) :
    (outsAt m c t.val t.isLt).2 (ix2 r k) = HN (iblk m c 0 t) (iblk m c 2 t) r k := by
  rw [outsAt_B m c t h h0, backS_eq]
  exact View.canon_apply_of_pieces (rowsG (iblk m c 0 t) (iblk m c 2 t)) _ spiecesB.mem _ (scoverB m c t h h0 _)

/-- A middle point adds its chunk's share, over any contents found. -/
theorem outC (c : Dev nD) (t : Fin cfg0.N) (h : 11 ≤ t.val) (h0 : t.val % 11 ≠ 0) (h10 : t.val % 11 ≠ 10)
    (xo : FVec Ideal S1024x2048 .f32) (xs : FVec Ideal S1024x2048 .bf16) (r : Fin 1024) (p : Fin 2048) :
    backO (atC m c t h h0 h10 xo xs).1 (ix2 r p)
      = xo (ix2 r p) + part (fun k => xs (ix2 r k)) (iblk m c 3 t) (iblk m c 4 t) (iblk m c 5 t) p := by
  rw [backO_eq]
  exact View.canon_apply_of_pieces (partC xo xs (iblk m c 3 t) (iblk m c 4 t) (iblk m c 5 t)) _ piecesC.mem _ (coverC m c t h h0 h10 xo xs _)

/-- A last point adds its chunk's share, and adds half of the sum to the activations, over any contents found. -/
theorem outD (c : Dev nD) (t : Fin cfg0.N) (h : 11 ≤ t.val) (h10 : t.val % 11 = 10)
    (xo : FVec Ideal S1024x2048 .f32) (xs : FVec Ideal S1024x2048 .bf16) (r : Fin 1024) (p : Fin 2048) :
    backO (atD m c t h h10 xo xs).1 (ix2 r p)
      = resid (iblk m c 0 t) xo xs (iblk m c 3 t) (iblk m c 4 t) (iblk m c 5 t) r p := by
  rw [backO_eq]
  exact View.canon_apply_of_pieces (residG (iblk m c 0 t) xo xs (iblk m c 3 t) (iblk m c 4 t) (iblk m c 5 t)) _ piecesD.mem _ (coverD m c t h h10 xo xs _)

end Cert.HalfRun

end
-- ==== Proof.Half.Spec.lean ====
/- The feed-forward call's result as a function of the argument arrays: a normalization, and a gated feed-forward layer
   whose half is added to the activations; the first row tile is taken over as given. -/
module

public import proofs.«01_k».proof.Proof.FeedForward
public import proofs.«01_k».proof.HalfIdeal

@[expose] public section

set_option maxRecDepth 16384

noncomputable section

namespace Cert.HalfSpec

open Cert.FeedForward Cert.HalfIdeal Idealize.ShloMosaic

variable (x : FVec Ideal S4x4096x2048 .f32) (y : FVec Ideal S1024x2048 .f32) (g : FVec Ideal S1x2048 .f32)
  (w : FVec Ideal S1x2048x11264 .f32) (wo : FVec Ideal S1x5632x2048 .f32)

/-- The result array: the given rows, then every other token with half of the layer's output added. -/
def arr : FVec Ideal S16384x2048 .f32 := fun i =>
  if h : (i 0).val < 1024 then y (ix2 ⟨(i 0).val, h⟩ (i 1))
  else row x g w wo ⟨(i 0).val / 4096, by have : (i 0).val < 16384 := (i 0).isLt; omega⟩ ⟨(i 0).val % 4096, by omega⟩ (i 1)

end Cert.HalfSpec

end
-- ==== Proof.Half.Fold.lean ====
/- The blocks of the feed-forward call at a grid point as parts of the argument arrays, and what the output and the scratch hold
   after each point of a row tile: the sum over the chunks so far, and at the last point the result's rows. -/
module

public import proofs.«01_k».proof.Proof.Half.Steps
public import proofs.«01_k».proof.Proof.Half.Spec

@[expose] public section

set_option maxRecDepth 16384

noncomputable section

namespace Cert.HalfRun

open Cert.FeedForward Cert.HalfIdeal Cert.HalfIdeal.Gen Cert.HalfBlock Cert.HalfSpec
open Idealize.ShloMosaic Idealize.ShloMosaic.TcCoe Idealize.SL.Sem

attribute [local irreducible] runB runC runD backO backS

variable (m : (ℓ : Loc nD τ sig) → Buf (Elt Ideal) ℓ)

/-- The blocks each grid point works on, by index. -/
theorem idx : ∀ t : Fin cfg0.N, win0_0.index t = ![t.val / 11, 0] ∧ (t.val < 8 → win0_1.index t = ![0, t.val]) ∧ win0_2.index t = ![0, 0]
    ∧ (11 ≤ t.val → win0_3.index t = ![t.val % 11, 0, 0] ∧ win0_4.index t = ![t.val % 11, 0, 0] ∧ win0_5.index t = ![t.val % 11, 0])
    ∧ win0_6.index t = ![t.val / 11, 0] ∧ t.val < 176 :=
  (by decide +kernel : ∀ t : Fin grid0.N, _)

theorem lt176 (t : Fin cfg0.N) : t.val < 176 := (idx t).2.2.2.2.2

/-- The tile's rows, in the activations. -/
theorem b0 (c : Dev nD) (t : Fin cfg0.N) (r : Fin 1024) (k : Fin 2048) (a : Fin 4) (s : Fin 4096)
    (h : t.val / 11 * 1024 + r.val = a.val * 4096 + s.val) :
    iblk m c 0 t (ix2 r k) = (m ((c : Thread nD τ).loc main_arg0) : FVec Ideal S4x4096x2048 .f32) (ix3 a s k) := by
  blk_point [iblk, V, idx t]

/-- The column block copied at a point of the first row tile, in the given rows. -/
theorem b1 (c : Dev nD) (t : Fin cfg0.N) (ht : t.val < 8) (r : Fin 1024) (q : Fin 256) :
    iblk m c 1 t (ix2 r q) = (m ((c : Thread nD τ).loc main_arg1) : FVec Ideal S1024x2048 .f32) (ix2 r ⟨t.val * 256 + q.val, by omega⟩) := by
  have e := (idx t).2.1 ht
  blk_point [iblk, V, e]

/-- The norm's gains. -/
theorem b2 (c : Dev nD) (t : Fin cfg0.N) (k : Fin 2048) :
    iblk m c 2 t (ix2 0 k) = (m ((c : Thread nD τ).loc main_arg2) : FVec Ideal S1x2048 .f32) (ix2 0 k) := by
  blk_point [iblk, V, idx t]

/-- The gate's weights of a chunk. -/
theorem b3 (c : Dev nD) (t : Fin cfg0.N) (ht : 11 ≤ t.val) (g : Fin 2) (k : Fin 2048) (j : Fin 256) :
    iblk m c 3 t (ix3 g k j) = (m ((c : Thread nD τ).loc main_arg3) : FVec Ideal S1x2048x11264 .f32) (ix3 0 k ⟨(t.val % 11 * 2 + g.val) * 256 + j.val, by omega⟩) := by
  have e := ((idx t).2.2.2.1 ht).1
  blk_point [iblk, V, e]

/-- The other projection's weights of a chunk. -/
theorem b4 (c : Dev nD) (t : Fin cfg0.N) (ht : 11 ≤ t.val) (g : Fin 2) (k : Fin 2048) (j : Fin 256) :
    iblk m c 4 t (ix3 g k j) = (m ((c : Thread nD τ).loc main_arg3) : FVec Ideal S1x2048x11264 .f32) (ix3 0 k ⟨5632 + ((t.val % 11 * 2 + g.val) * 256 + j.val), by omega⟩) := by
  have e := ((idx t).2.2.2.1 ht).2.1
  blk_point [iblk, V, e]

/-- The second projection's weights of a chunk. -/
theorem b5 (c : Dev nD) (t : Fin cfg0.N) (ht : 11 ≤ t.val) (q : Fin 512) (p : Fin 2048) :
    iblk m c 5 t (ix2 q p) = (m ((c : Thread nD τ).loc main_arg4) : FVec Ideal S1x5632x2048 .f32) (ix3 0 ⟨t.val % 11 * 512 + q.val, by omega⟩ p) := by
  have e := ((idx t).2.2.2.1 ht).2.2
  blk_point [iblk, V, e]

/-- A tile's normalized row is the token's. -/
theorem HN_eq (c : Dev nD) (t : Fin cfg0.N) (r : Fin 1024) (a : Fin 4) (s : Fin 4096)
    (h : t.val / 11 * 1024 + r.val = a.val * 4096 + s.val) :
    HN (iblk m c 0 t) (iblk m c 2 t) r = normed (m ((c : Thread nD τ).loc main_arg0)) (m ((c : Thread nD τ).loc main_arg2)) a s := by
  funext k
  unfold HN normed
  rw [show (fun k : Fin 2048 => (iblk m c 0 t : FVec Ideal S1024x2048 .f32) (ix2 r k)) = fun k => (m ((c : Thread nD τ).loc main_arg0) : FVec Ideal S4x4096x2048 .f32) (ix3 a s k) from
      funext fun k => b0 m c t r k a s h,
    show (fun k : Fin 2048 => (iblk m c 2 t : FVec Ideal S1x2048 .f32) (ix2 0 k)) = fun k => (m ((c : Thread nD τ).loc main_arg2) : FVec Ideal S1x2048 .f32) (ix2 0 k) from
      funext fun k => b2 m c t k]

/-- A chunk's hidden unit is the layer's. -/
theorem unitAt_eq (c : Dev nD) (t : Fin cfg0.N) (ht : 11 ≤ t.val) (a : Fin 4) (s : Fin 4096) (q : Fin 512) :
    unitAt (normed (m ((c : Thread nD τ).loc main_arg0)) (m ((c : Thread nD τ).loc main_arg2)) a s) (iblk m c 3 t) (iblk m c 4 t) q
      = unit (m ((c : Thread nD τ).loc main_arg0)) (m ((c : Thread nD τ).loc main_arg2)) (m ((c : Thread nD τ).loc main_arg3)) a s ⟨t.val % 11 * 512 + q.val, by omega⟩ := by
  unfold unitAt unit
  congr 1
  · funext k
    refine (b3 m c t ht _ k _).trans (congrArg (fun z => (m ((c : Thread nD τ).loc main_arg3) : FVec Ideal S1x2048x11264 .f32) (ix3 0 k z)) (Fin.ext ?_))
    show (t.val % 11 * 2 + q.val / 256) * 256 + q.val % 256 = t.val % 11 * 512 + q.val
    omega
  · funext k
    refine (b4 m c t ht _ k _).trans (congrArg (fun z => (m ((c : Thread nD τ).loc main_arg3) : FVec Ideal S1x2048x11264 .f32) (ix3 0 k z)) (Fin.ext ?_))
    show 5632 + ((t.val % 11 * 2 + q.val / 256) * 256 + q.val % 256) = 5632 + (t.val % 11 * 512 + q.val)
    omega

/-- The shares of the hidden units in the second projection of a token, from the arguments on core `c`. -/
abbrev termAt (c : Dev nD) (a : Fin 4) (s : Fin 4096) (p : Fin 2048) : ℕ → EReal :=
  term (m ((c : Thread nD τ).loc main_arg0)) (m ((c : Thread nD τ).loc main_arg2)) (m ((c : Thread nD τ).loc main_arg3)) (m ((c : Thread nD τ).loc main_arg4)) a s p

/-- A chunk's share is the sum of its units' shares. -/
theorem part_eq (c : Dev nD) (t : Fin cfg0.N) (ht : 11 ≤ t.val) (a : Fin 4) (s : Fin 4096) (p : Fin 2048) :
    part (normed (m ((c : Thread nD τ).loc main_arg0)) (m ((c : Thread nD τ).loc main_arg2)) a s) (iblk m c 3 t) (iblk m c 4 t) (iblk m c 5 t) p
      = ∑ q ∈ Finset.range 512, termAt m c a s p (512 * (t.val % 11) + q) := by
  unfold part
  rw [Finset.sum_range]
  refine Finset.sum_congr rfl fun q _ => ?_
  have hu : 512 * (t.val % 11) + q.val < 5632 := by omega
  have e : (⟨t.val % 11 * 512 + q.val, by omega⟩ : Fin 5632) = ⟨512 * (t.val % 11) + q.val, hu⟩ := Fin.ext (by show t.val % 11 * 512 + q.val = 512 * (t.val % 11) + q.val; omega)
  unfold termAt term
  rw [dif_pos hu, ← e]
  exact Ideal.mul_congr (unitAt_eq m c t ht a s q) (b5 m c t ht q p)

/-- After a point of a later row tile the scratch holds the tile's normalized rows, and before its last point the output holds the sum over
    the chunks so far. -/
theorem fold (c : Dev nD) (n : ℕ) (hn : n < cfg0.N) (h11 : 11 ≤ n) (r : Fin 1024) (a : Fin 4) (s : Fin 4096)
    (h : n / 11 * 1024 + r.val = a.val * 4096 + s.val) :
    (∀ k : Fin 2048, (outsAt m c n hn).2 (ix2 r k) = normed (m ((c : Thread nD τ).loc main_arg0)) (m ((c : Thread nD τ).loc main_arg2)) a s k)
      ∧ (n % 11 ≠ 10 → ∀ p : Fin 2048, (outsAt m c n hn).1 (ix2 r p) = ∑ u ∈ Finset.range (512 * (n % 11 + 1)), termAt m c a s p u) := by
  induction n with
  | zero => omega
  | succ n ih =>
    by_cases h0 : (n + 1) % 11 = 0
    · refine ⟨fun k => ?_, fun _ p => ?_⟩
      · exact (scrB m c ⟨n + 1, hn⟩ h11 h0 r k).trans (congrFun (HN_eq m c ⟨n + 1, hn⟩ r a s h) k)
      · refine (outB m c ⟨n + 1, hn⟩ h11 h0 r p).trans ?_
        rw [HN_eq m c ⟨n + 1, hn⟩ r a s h, part_eq m c ⟨n + 1, hn⟩ h11 a s p]
        show ∑ q ∈ Finset.range 512, termAt m c a s p (512 * ((n + 1) % 11) + q) = _
        rw [h0]
        simp only [Nat.mul_zero, Nat.zero_add, Nat.mul_one]
    · have hi := ih (by omega) (by omega) (by rw [show n / 11 = (n + 1) / 11 by omega]; exact h)
      by_cases h10 : (n + 1) % 11 = 10
      · refine ⟨fun k => ?_, fun e => absurd h10 e⟩
        rw [outsAt_D m c ⟨n + 1, hn⟩ h11 h10]
        exact hi.1 k
      · refine ⟨fun k => ?_, fun _ p => ?_⟩
        · rw [outsAt_C m c ⟨n + 1, hn⟩ h11 h0 h10]
          exact hi.1 k
        · rw [outsAt_C m c ⟨n + 1, hn⟩ h11 h0 h10]
          refine (outC m c ⟨n + 1, hn⟩ h11 h0 h10 _ _ r p).trans ?_
          rw [show (fun k : Fin 2048 => (outsAt m c ((⟨n + 1, hn⟩ : Fin cfg0.N).val - 1) (Nat.lt_of_le_of_lt (Nat.sub_le _ _) hn)).2 (ix2 r k)) = normed (m ((c : Thread nD τ).loc main_arg0)) (m ((c : Thread nD τ).loc main_arg2)) a s from
            funext fun k => hi.1 k, part_eq m c ⟨n + 1, hn⟩ h11 a s p]
          show (outsAt m c n (by omega)).1 (ix2 r p) + ∑ q ∈ Finset.range 512, termAt m c a s p (512 * ((n + 1) % 11) + q) = _
          rw [hi.2 (by omega) p, show (n + 1) % 11 = n % 11 + 1 by omega, show 512 * (n % 11 + 1 + 1) = 512 * (n % 11 + 1) + 512 by ring,
            Finset.sum_range_add]

/-- After the last point of a later row tile the output holds the tokens' results. -/
theorem last (c : Dev nD) (t : Fin cfg0.N) (h11 : 11 ≤ t.val) (h10 : t.val % 11 = 10) (r : Fin 1024) (a : Fin 4) (s : Fin 4096)
    (h : t.val / 11 * 1024 + r.val = a.val * 4096 + s.val) (p : Fin 2048) :
    (outsAt m c t.val t.isLt).1 (ix2 r p) = FeedForward.row (m ((c : Thread nD τ).loc main_arg0)) (m ((c : Thread nD τ).loc main_arg2)) (m ((c : Thread nD τ).loc main_arg3)) (m ((c : Thread nD τ).loc main_arg4)) a s p := by
  have hi := fold m c (t.val - 1) (Nat.lt_of_le_of_lt (Nat.sub_le _ _) t.isLt) (by omega) r a s (by rw [show (t.val - 1) / 11 = t.val / 11 by omega]; exact h)
  rw [outsAt_D m c t h11 h10]
  refine (outD m c t h11 h10 _ _ r p).trans ?_
  unfold resid FeedForward.row
  rw [show (fun k : Fin 2048 => (outsAt m c (t.val - 1) (Nat.lt_of_le_of_lt (Nat.sub_le _ _) t.isLt)).2 (ix2 r k)) = normed (m ((c : Thread nD τ).loc main_arg0)) (m ((c : Thread nD τ).loc main_arg2)) a s from
    funext fun k => hi.1 k, part_eq m c t h11 a s p, hi.2 (by omega) p, proj_eq]
  refine Ideal.add_congr (b0 m c t r p a s h) (Ideal.mul_congr rfl ?_)
  rw [h10, show (t.val - 1) % 11 = 9 by omega]
  exact (Finset.sum_range_add _ 5120 512).symm

/-- The rows taken over are the given ones. -/
theorem first (c : Dev nD) (r : Fin 1024) (p : Fin 2048) :
    firstRows m c (ix2 r p) = (m ((c : Thread nD τ).loc main_arg1) : FVec Ideal S1024x2048 .f32) (ix2 r p) := by
  unfold firstRows
  refine (b1 m c ⟨p.val / 256, by have hN : cfg0.N = 176 := N_0; omega⟩ (by show p.val / 256 < 8; omega) r ⟨p.val % 256, Nat.mod_lt _ (by norm_num)⟩).trans ?_
  refine congrArg (fun z => (m ((c : Thread nD τ).loc main_arg1) : FVec Ideal S1024x2048 .f32) (ix2 r z)) (Fin.ext ?_)
  show p.val / 256 * 256 + p.val % 256 = p.val
  omega

/-- At the point that ends a row tile, what is known of the output's buffer is the tile of the result array. -/
theorem known_at (c : Dev nD) (t : Fin cfg0.N) (h10 : t.val % 11 = 10) (X : Vec Ideal S1024x2048 .f32) (hX : Known m c t X) (r : Fin 1024) (p : Fin 2048) :
    X (ix2 r p) = HalfSpec.arr (m ((c : Thread nD τ).loc main_arg0)) (m ((c : Thread nD τ).loc main_arg1)) (m ((c : Thread nD τ).loc main_arg2)) (m ((c : Thread nD τ).loc main_arg3)) (m ((c : Thread nD τ).loc main_arg4))
      (ix2 ⟨t.val / 11 * 1024 + r.val, by have := lt176 t; omega⟩ p) := by
  have ht := lt176 t
  unfold HalfSpec.arr
  by_cases h11 : 11 ≤ t.val
  · rw [dif_neg (by show ¬ t.val / 11 * 1024 + r.val < 1024; omega), hX.2 h11]
    exact last m c t h11 h10 r _ _ (by show t.val / 11 * 1024 + r.val = (t.val / 11 * 1024 + r.val) / 4096 * 4096 + (t.val / 11 * 1024 + r.val) % 4096; omega) p
  · have e : (⟨t.val / 11 * 1024 + r.val, by omega⟩ : Fin 16384).val = r.val := by show t.val / 11 * 1024 + r.val = r.val; omega
    rw [dif_pos (by show t.val / 11 * 1024 + r.val < 1024; omega), hX.1 (by omega) _ (by show p.val < 256 * (t.val + 1); omega)]
    refine (first m c r p).trans (congrArg (fun z => (m ((c : Thread nD τ).loc main_arg1) : FVec Ideal S1024x2048 .f32) (ix2 z p)) (Fin.ext e.symm))

end Cert.HalfRun

end
-- ==== Proof.Half.Ref.lean ====
/- The reference's result: the given rows, then the tokens' results. -/
module

public import proofs.«01_k».proof.Proof.Half.Spec
public import proofs.«01_k».proof.Proof.Gen.HalfRefIdeal.Read
public import Idealize.ShloMosaic.Lib.Pipeline.ValueKit
public import Idealize.ShloMosaic.Lib.KernelVsHost

@[expose] public section

set_option maxRecDepth 16384

noncomputable section

namespace Cert.HalfRefIdeal.Ref

open Cert.HalfRefIdeal Cert.HalfRefIdeal.Gen Cert.HalfRefIdeal.Read Idealize.ShloMosaic Idealize.ShloMosaic.TcCoe Idealize.SL.Sem

variable (x : FVec Ideal S4x4096x2048 .f32) (y : FVec Ideal S1024x2048 .f32) (g : FVec Ideal S1x2048 .f32)
  (w : FVec Ideal S1x2048x11264 .f32) (wo : FVec Ideal S1x5632x2048 .f32)

/-- The normalized tokens. -/
theorem v13_at (a : Fin 4) (s : Fin 4096) (k : Fin 2048) : val_main_v13 (F := Ideal) x g (ix3 a s k) = FeedForward.normed x g a s k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, FeedForward.normed, FeedForward.nrm]

/-- The first projection. -/
theorem v16_at (a : Fin 4) (s : Fin 4096) (p : Fin 11264) :
    val_main_v16 (F := Ideal) x g w (ix3 a s p) = ∑ k : Fin 2048, FeedForward.normed x g a s k * w (ix3 0 k p) := by
  pointwise [val_main_v16, val_main_v14]
  exact Finset.sum_congr rfl fun k _ => Ideal.mul_congr (v13_at x g a s k) rfl

/-- The hidden units. -/
theorem v20_at (a : Fin 4) (s : Fin 4096) (u : Fin 5632) : val_main_v20 (F := Ideal) x g w (ix3 a s u) = FeedForward.unit x g w a s u := by
  pointwise [val_main_v20, val_main_v19, val_main_v18, val_main_v17, val_main_call0_v5, val_main_call0_v4, val_main_call0_v3, val_main_call0_v2,
    val_main_call0_v1, val_main_call0_v0, val_main_call0_cst, val_main_call0_cst_0]
  rw [v16_at, v16_at]
  rfl

/-- The tokens with half of the layer's output added. -/
theorem v24_at (a : Fin 4) (s : Fin 4096) (p : Fin 2048) : val_main_v24 (F := Ideal) x g w wo (ix3 a s p) = FeedForward.row x g w wo a s p := by
  pointwise [val_main_v24, val_main_v23, val_main_v22, val_main_v21, val_main_v15, val_main_cst_2]
  unfold FeedForward.row FeedForward.proj
  exact Ideal.add_congr rfl (Ideal.mul_congr rfl (Finset.sum_congr rfl fun u _ => Ideal.mul_congr (v20_at x g w a s u) rfl))

/-- The result array. -/
theorem v27_eq : val_main_v27 (F := Ideal) x y g w wo = HalfSpec.arr x y g w wo := by
  funext i
  obtain ⟨r, p, rfl⟩ : ∃ (r : Fin 16384) (p : Fin 2048), i = ix2 r p := ⟨i 0, i 1, eq_ix2 i⟩
  unfold HalfSpec.arr
  pointwise [val_main_v27, val_main_v26, val_main_v25]
  by_cases h : r.val < 1024
  · rw [dif_pos h, dif_pos h]
  · rw [dif_neg h, dif_neg h, v24_at]
    congr 1
    · exact Fin.ext (by show (1024 + (r.val - 1024)) / 4096 = r.val / 4096; omega)
    · exact Fin.ext (by show (1024 + (r.val - 1024)) % 4096 = r.val % 4096; omega)

end Cert.HalfRefIdeal.Ref

end
-- ==== Proof.Half.Final.lean ====
/- The feed-forward call's claims: both frames from one run, the reference's frame, and the result against the reference. -/
module

public import proofs.«01_k».proof.Defs
public import proofs.«01_k».proof.Proof.Half.Body
public import proofs.«01_k».proof.Proof.Half.Fold
public import proofs.«01_k».proof.Proof.Half.Ref
public import proofs.«01_k».proof.Proof.Gen.Half
public import Idealize.ShloMosaic.Lib.Pipeline.ArrRel
public import Idealize.ShloMosaic.Lib.Pipeline.ValueKit
public import Idealize.ShloMosaic.Lib.Claim

@[expose] public section

set_option maxRecDepth 16384

noncomputable section

namespace Cert.HalfFinal

open Idealize.ShloMosaic Idealize.ShloMosaic.TcCoe Idealize.SL.Sem

section
open Cert.FeedForward Cert.HalfIdeal Cert.HalfIdeal.Gen Cert.HalfRun
open Idealize.ShloMosaic.Pipeline (Dat)

attribute [local irreducible] runB runC runD backO backS

variable (m : (ℓ : Loc nD τ sig) → Buf (Elt Ideal) ℓ)

/-- If what the points that end a row tile leave are an array's blocks, that array is what the write-backs leave. -/
theorem arr_of (c : Dev nD) (G : FVec Ideal S16384x2048 .f32) (after)
    (hG : ∀ (t : Fin cfg0.N), t.val % 11 = 10 → ∀ (r : Fin 1024) (p : Fin 2048),
      (after 6 t : FVec Ideal S1024x2048 .f32) (ix2 r p) = G (ix2 ⟨t.val / 11 * 1024 + r.val, by have := lt176 t; omega⟩ p)) :
    ((rdat m c).withAfter after).arrAt 6 cfg0.N = G := by
  refine Dat.arrAt_eq_of_covers _ 6 _ (by decide +kernel) fun t hf y => ?_
  have h10 := (flush0_6 t).mp hf
  blk_simp
  idx_vars y
  refine (hG t h10 _ _).trans ?_
  blk_point [idx t]

/-- The call's result array after the run, as a function of the arguments, which end as they were. -/
theorem result (ρ : Dev nD → PrngReg) : θ_run defs (onTc (τ := τ) (main (F := Ideal))) ⟨m, fun _ => 0, ρ⟩ (fun r => ∀ c : Dev nD,
      r.2.mem ((c.tc : Thread nD τ).loc main_v14) = HalfSpec.arr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => by
    refine ⟨?_, args_of_post m c h.1⟩
    obtain ⟨after, hL, hA⟩ := Pipeline.RDat.FramePost.exists_exact h.1 c
    refine (hA 6).trans (arr_of m c _ after fun t h10 r p => ?_)
    exact known_at m c t h10 _ (Dat.toRRel_leaves (dat m c) (w := 6) rfl (hL 6 t ((flush0_6 t).mpr h10))) r p) (run_post m ρ)

end

section
open Cert.HalfRefIdeal Cert.HalfRefIdeal.Read StableHlo

/-- What the reference leaves, as its last stage over the arguments. -/
theorem runRef (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v27_eq _ _ _ _ _), (h c).2⟩) (Value.run m ρ)

end

/-- The program as printed and the idealized one run the same body, read at the formats' words. -/
theorem body_eq : Cert.Half.defs₀ (F := Bits) = Cert.HalfIdeal.defs₀ (F := Bits) := by
  unfold Cert.Half.defs₀ Cert.HalfIdeal.defs₀
  refine congrArg _ (funext fun l => funext fun a => ?_)
  match l, a with
  | 0, (t, s) => rfl

/-- So they have the same table of bodies. -/
theorem defs_eq : Cert.Half.defs (F := Bits) = Cert.HalfIdeal.defs (F := Bits) :=
  congrArg (Pipeline.defs (Cert.HalfIdeal.pcfgs (F := Bits))) body_eq

/-- The program as printed keeps its arguments: it is the text the run is about. -/
theorem frame_kernel : Cert.quiescent_Half := fun m ρ _ => by
  rw [defs_eq]
  exact Cert.HalfRun.frame (F := Bits) m ρ

/-- So does the idealized one. -/
theorem frame_ideal : Cert.quiescent_HalfIdeal := fun m ρ _ => Cert.HalfRun.frame (F := Ideal) m ρ

/-- And the reference. -/
theorem frame_ref : Cert.quiescent_HalfRefIdeal := fun m ρ _ =>
  (θ_run Cert.HalfRefIdeal.defs _ _).mono (fun r h => ⟨fun c => (h c).2, sem_eq_zero_of_no_sems (by decide) r.2⟩) (runRef m ρ)

/-- The kernel's result is the reference's. -/
theorem algebraic : Cert.algebraic_HalfIdeal_HalfRefIdeal := by
  pair_intro
  · run_from result m g
  · run_from runRef m' g'
    exact Cert.HalfRefIdeal.Ref.v27_eq _ _ _ _ _

end Cert.HalfFinal

end
-- ==== Proof.Head.Block.lean ====
/- What the stored values of the first row tile's call are at an index, as functions of the blocks and buffers it reads. -/
module

public import proofs.«01_k».proof.Proof.Gen.HeadIdeal.Skeleton
public import proofs.«01_k».proof.Proof.FeedForward
public import Idealize.ShloMosaic.Lib.Pipeline.ValueKit
public import Idealize.ShloMosaic.Lib.Pointwise

@[expose] public section

set_option maxRecDepth 16384

noncomputable section

namespace Cert.HeadBlock

open Cert.FeedForward Cert.HeadIdeal Cert.HeadIdeal.Gen Idealize.ShloMosaic Idealize.ShloMosaic.TcCoe Idealize.SL.Sem

/-- The tiles of weights, as stored. -/
theorem pay1_at (v : FVec Ideal S2048x256 .f32) (k : Fin 2048) (q : Fin 256) :
    k0_pay1 (F := Ideal) v (ix3 0 k q) = v (ix2 k q) := by
  pointwise [k0_pay1]

theorem pay2_at (v : FVec Ideal S2048x256 .f32) (k : Fin 2048) (q : Fin 256) :
    k0_pay2 (F := Ideal) v (ix3 0 k q) = v (ix2 k q) := by
  pointwise [k0_pay2]

theorem pay3_at (v : FVec Ideal S256x2048 .f32) (q : Fin 256) (p : Fin 2048) :
    k0_pay3 (F := Ideal) v (ix2 q p) = v (ix2 q p) := by
  pointwise [k0_pay3]

/-- The first 256 rows, normalized, -/
theorem pay14_at (v : FVec Ideal S256x2048 .f32) (g : FVec Ideal S1x2048 .f32) (r : Fin 256) (k : Fin 2048) :
    k0_pay14 (F := Ideal) v g (ix2 r k) = nrm (fun k => g (ix2 0 k)) (fun k => v (ix2 r k)) k := by
  pointwise [k0_pay14, nrm]

/-- The second 256 rows, normalized, -/
theorem pay21_at (v : FVec Ideal S256x2048 .f32) (g : FVec Ideal S1x2048 .f32) (r : Fin 256) (k : Fin 2048) :
    k0_pay21 (F := Ideal) v g (ix2 r k) = nrm (fun k => g (ix2 0 k)) (fun k => v (ix2 r k)) k := by
  pointwise [k0_pay21, nrm]

/-- The third 256 rows, normalized, -/
theorem pay29_at (v : FVec Ideal S256x2048 .f32) (g : FVec Ideal S1x2048 .f32) (r : Fin 256) (k : Fin 2048) :
    k0_pay29 (F := Ideal) (k0_pay28 v) g (ix2 r k) = nrm (fun k => g (ix2 0 k)) (fun k => v (ix2 r k)) k := by
  pointwise [k0_pay29, k0_pay28, nrm]

/-- The fourth 256 rows, normalized, -/
theorem pay36_at (v : FVec Ideal S256x2048 .f32) (g : FVec Ideal S1x2048 .f32) (r : Fin 256) (k : Fin 2048) :
    k0_pay36 (F := Ideal) v g (ix2 r k) = nrm (fun k => g (ix2 0 k)) (fun k => v (ix2 r k)) k := by
  pointwise [k0_pay36, nrm]

/-- and as kept in the scratch. -/
theorem pay15_at (v : FVec Ideal S256x2048 .f32) (g : FVec Ideal S1x2048 .f32) (r : Fin 256) (k : Fin 2048) :
    k0_pay15 (F := Ideal) v g (ix2 r k) = k0_pay14 (F := Ideal) v g (ix2 r k) := by
  pointwise [k0_pay15]

theorem pay22_at (v : FVec Ideal S256x2048 .f32) (g : FVec Ideal S1x2048 .f32) (r : Fin 256) (k : Fin 2048) :
    k0_pay22 (F := Ideal) v g (ix2 r k) = k0_pay21 (F := Ideal) v g (ix2 r k) := by
  pointwise [k0_pay22]

theorem pay30_at (v : FVec Ideal S256x2048 .f32) (g : FVec Ideal S1x2048 .f32) (r : Fin 256) (k : Fin 2048) :
    k0_pay30 (F := Ideal) v g (ix2 r k) = k0_pay29 (F := Ideal) v g (ix2 r k) := by
  pointwise [k0_pay30]

theorem pay37_at (v : FVec Ideal S256x2048 .f32) (g : FVec Ideal S1x2048 .f32) (r : Fin 256) (k : Fin 2048) :
    k0_pay37 (F := Ideal) v g (ix2 r k) = k0_pay36 (F := Ideal) v g (ix2 r k) := by
  pointwise [k0_pay37]

/-- The gated hidden units of a tile, for each group of rows and for all rows. -/
theorem pay16_at (v : FVec Ideal S256x2048 .f32) (g : FVec Ideal S1x2048 .f32) (G U : FVec Ideal S1x2048x256 .bf16) (r : Fin 256) (q : Fin 256) :
    k0_pay16 (F := Ideal) v g G U (ix2 r q) = gated (fun k => k0_pay14 (F := Ideal) v g (ix2 r k)) (fun k => G (ix3 0 k q)) (fun k => U (ix3 0 k q)) := by
  pointwise [k0_pay16, gated]

theorem pay23_at (h : FVec Ideal S256x2048 .bf16) (G U : FVec Ideal S1x2048x256 .bf16) (r : Fin 256) (q : Fin 256) :
    k0_pay23 (F := Ideal) h G U (ix2 r q) = gated (fun k => h (ix2 r k)) (fun k => G (ix3 0 k q)) (fun k => U (ix3 0 k q)) := by
  pointwise [k0_pay23, gated]

theorem pay31_at (v : FVec Ideal S256x2048 .f32) (g : FVec Ideal S1x2048 .f32) (G U : FVec Ideal S1x2048x256 .bf16) (r : Fin 256) (q : Fin 256) :
    k0_pay31 (F := Ideal) v g G U (ix2 r q) = gated (fun k => k0_pay29 (F := Ideal) v g (ix2 r k)) (fun k => G (ix3 0 k q)) (fun k => U (ix3 0 k q)) := by
  pointwise [k0_pay31, gated]

theorem pay4_at (h : FVec Ideal S256x2048 .bf16) (G U : FVec Ideal S1x2048x256 .bf16) (r : Fin 256) (q : Fin 256) :
    k0_pay4 (F := Ideal) h (k0_pay38 G) (constant S256x256 FTy.f32 0#32) U (ix2 r q) = gated (fun k => h (ix2 r k)) (fun k => G (ix3 0 k q)) (fun k => U (ix3 0 k q)) := by
  pointwise [k0_pay4, k0_pay38, gated]

theorem pay39_at (h : FVec Ideal S1024x2048 .bf16) (G U : FVec Ideal S1x2048x256 .bf16) (r : Fin 1024) (q : Fin 256) :
    k0_pay39 (F := Ideal) h G U (ix2 r q) = gated (fun k => h (ix2 r k)) (fun k => G (ix3 0 k q)) (fun k => U (ix3 0 k q)) := by
  pointwise [k0_pay39, gated]

theorem pay43_at (h : FVec Ideal S1024x2048 .bf16) (G U : FVec Ideal S1x2048x256 .bf16) (r : Fin 1024) (q : Fin 256) :
    k0_pay43 (F := Ideal) h G U (ix2 r q) = gated (fun k => h (ix2 r k)) (fun k => G (ix3 0 k q)) (fun k => U (ix3 0 k q)) := by
  pointwise [k0_pay43, gated]

/-- Products of the hidden units with columns of the second weight. -/
theorem pay17_at (v : FVec Ideal S256x2048 .f32) (g : FVec Ideal S1x2048 .f32) (G U : FVec Ideal S1x2048x256 .bf16) (w : FVec Ideal S256x512 .bf16) (r : Fin 256) (p : Fin 512) :
    k0_pay17 (F := Ideal) v g G U w (ix2 r p) = ∑ q : Fin 256, k0_pay16 (F := Ideal) v g G U (ix2 r q) * w (ix2 q p) := by
  pointwise [k0_pay17]

theorem pay18_at (a : FVec Ideal S256x256 .bf16) (w : FVec Ideal S256x512 .bf16) (r : Fin 256) (p : Fin 512) :
    k0_pay18 (F := Ideal) a w (ix2 r p) = ∑ q : Fin 256, a (ix2 r q) * w (ix2 q p) := by
  pointwise [k0_pay18]

theorem pay19_at (a : FVec Ideal S256x256 .bf16) (w : FVec Ideal S256x512 .bf16) (r : Fin 256) (p : Fin 512) :
    k0_pay19 (F := Ideal) a w (ix2 r p) = ∑ q : Fin 256, a (ix2 r q) * w (ix2 q p) := by
  pointwise [k0_pay19]

theorem pay20_at (a : FVec Ideal S256x256 .bf16) (w : FVec Ideal S256x512 .bf16) (r : Fin 256) (p : Fin 512) :
    k0_pay20 (F := Ideal) a w (ix2 r p) = ∑ q : Fin 256, a (ix2 r q) * w (ix2 q p) := by
  pointwise [k0_pay20]

theorem pay34_at (a : FVec Ideal S256x256 .bf16) (w : FVec Ideal S256x512 .bf16) (r : Fin 256) (p : Fin 512) :
    k0_pay34 (F := Ideal) a w (ix2 r p) = ∑ q : Fin 256, a (ix2 r q) * w (ix2 q p) := by
  pointwise [k0_pay34]

theorem pay35_at (a : FVec Ideal S256x256 .bf16) (w : FVec Ideal S256x512 .bf16) (r : Fin 256) (p : Fin 512) :
    k0_pay35 (F := Ideal) a w (ix2 r p) = ∑ q : Fin 256, a (ix2 r q) * w (ix2 q p) := by
  pointwise [k0_pay35]

theorem pay24_at (h : FVec Ideal S256x2048 .bf16) (G U : FVec Ideal S1x2048x256 .bf16) (w : FVec Ideal S256x512 .bf16) (r : Fin 256) (p : Fin 512) :
    k0_pay24 (F := Ideal) h G U w (ix2 r p) = ∑ q : Fin 256, k0_pay23 (F := Ideal) h G U (ix2 r q) * w (ix2 q p) := by
  pointwise [k0_pay24]

theorem pay25_at (h : FVec Ideal S256x2048 .bf16) (G U : FVec Ideal S1x2048x256 .bf16) (w : FVec Ideal S256x512 .bf16) (r : Fin 256) (p : Fin 512) :
    k0_pay25 (F := Ideal) h G U w (ix2 r p) = ∑ q : Fin 256, k0_pay23 (F := Ideal) h G U (ix2 r q) * w (ix2 q p) := by
  pointwise [k0_pay25]

theorem pay26_at (h : FVec Ideal S256x2048 .bf16) (G U : FVec Ideal S1x2048x256 .bf16) (w : FVec Ideal S256x512 .bf16) (r : Fin 256) (p : Fin 512) :
    k0_pay26 (F := Ideal) h G U w (ix2 r p) = ∑ q : Fin 256, k0_pay23 (F := Ideal) h G U (ix2 r q) * w (ix2 q p) := by
  pointwise [k0_pay26]

theorem pay27_at (h : FVec Ideal S256x2048 .bf16) (G U : FVec Ideal S1x2048x256 .bf16) (w : FVec Ideal S256x512 .bf16) (r : Fin 256) (p : Fin 512) :
    k0_pay27 (F := Ideal) h G U w (ix2 r p) = ∑ q : Fin 256, k0_pay23 (F := Ideal) h G U (ix2 r q) * w (ix2 q p) := by
  pointwise [k0_pay27]

theorem pay32_at (v : FVec Ideal S256x2048 .f32) (g : FVec Ideal S1x2048 .f32) (G U : FVec Ideal S1x2048x256 .bf16) (w : FVec Ideal S256x512 .bf16) (r : Fin 256) (p : Fin 512) :
    k0_pay32 (F := Ideal) v g G U w (ix2 r p) = ∑ q : Fin 256, k0_pay31 (F := Ideal) v g G U (ix2 r q) * w (ix2 q p) := by
  pointwise [k0_pay32]

theorem pay33_at (v : FVec Ideal S256x2048 .f32) (g : FVec Ideal S1x2048 .f32) (G U : FVec Ideal S1x2048x256 .bf16) (w : FVec Ideal S256x512 .bf16) (r : Fin 256) (p : Fin 512) :
    k0_pay33 (F := Ideal) v g G U w (ix2 r p) = ∑ q : Fin 256, k0_pay31 (F := Ideal) v g G U (ix2 r q) * w (ix2 q p) := by
  pointwise [k0_pay33]

theorem pay5_at (h : FVec Ideal S256x2048 .bf16) (d : FVec Ideal S2048x256 .bf16) (z : FVec Ideal S256x256 .f32) (U : FVec Ideal S1x2048x256 .bf16) (w : FVec Ideal S256x512 .bf16) (r : Fin 256) (p : Fin 512) :
    k0_pay5 (F := Ideal) h d z U w (ix2 r p) = ∑ q : Fin 256, k0_pay4 (F := Ideal) h d z U (ix2 r q) * w (ix2 q p) := by
  pointwise [k0_pay5]

theorem pay6_at (h : FVec Ideal S256x2048 .bf16) (d : FVec Ideal S2048x256 .bf16) (z : FVec Ideal S256x256 .f32) (U : FVec Ideal S1x2048x256 .bf16) (w : FVec Ideal S256x512 .bf16) (r : Fin 256) (p : Fin 512) :
    k0_pay6 (F := Ideal) h d z U w (ix2 r p) = ∑ q : Fin 256, k0_pay4 (F := Ideal) h d z U (ix2 r q) * w (ix2 q p) := by
  pointwise [k0_pay6]

theorem pay7_at (h : FVec Ideal S256x2048 .bf16) (d : FVec Ideal S2048x256 .bf16) (z : FVec Ideal S256x256 .f32) (U : FVec Ideal S1x2048x256 .bf16) (w : FVec Ideal S256x512 .bf16) (r : Fin 256) (p : Fin 512) :
    k0_pay7 (F := Ideal) h d z U w (ix2 r p) = ∑ q : Fin 256, k0_pay4 (F := Ideal) h d z U (ix2 r q) * w (ix2 q p) := by
  pointwise [k0_pay7]

theorem pay8_at (h : FVec Ideal S256x2048 .bf16) (d : FVec Ideal S2048x256 .bf16) (z : FVec Ideal S256x256 .f32) (U : FVec Ideal S1x2048x256 .bf16) (w : FVec Ideal S256x512 .bf16) (r : Fin 256) (p : Fin 512) :
    k0_pay8 (F := Ideal) h d z U w (ix2 r p) = ∑ q : Fin 256, k0_pay4 (F := Ideal) h d z U (ix2 r q) * w (ix2 q p) := by
  pointwise [k0_pay8]

/-- The output with such products added. -/
theorem pay40_at (h : FVec Ideal S1024x2048 .bf16) (G U : FVec Ideal S1x2048x256 .bf16) (w : FVec Ideal S256x512 .bf16) (o : FVec Ideal S1024x512 .f32) (r : Fin 1024) (p : Fin 512) :
    k0_pay40 (F := Ideal) h G U w o (ix2 r p) = o (ix2 r p) + ∑ q : Fin 256, k0_pay39 (F := Ideal) h G U (ix2 r q) * w (ix2 q p) := by
  pointwise [k0_pay40]

theorem pay41_at (h : FVec Ideal S1024x2048 .bf16) (G U : FVec Ideal S1x2048x256 .bf16) (w : FVec Ideal S256x512 .bf16) (o : FVec Ideal S1024x512 .f32) (r : Fin 1024) (p : Fin 512) :
    k0_pay41 (F := Ideal) h G U w o (ix2 r p) = o (ix2 r p) + ∑ q : Fin 256, k0_pay39 (F := Ideal) h G U (ix2 r q) * w (ix2 q p) := by
  pointwise [k0_pay41]

theorem pay9_at (h : FVec Ideal S1024x2048 .bf16) (G U : FVec Ideal S1x2048x256 .bf16) (w : FVec Ideal S256x512 .bf16) (o : FVec Ideal S1024x512 .f32) (r : Fin 1024) (p : Fin 512) :
    k0_pay9 (F := Ideal) (k0_pay42 h G U w) o (ix2 r p) = o (ix2 r p) + ∑ q : Fin 256, k0_pay39 (F := Ideal) h G U (ix2 r q) * w (ix2 q p) := by
  pointwise [k0_pay9, k0_pay42]

theorem pay10_at (a : FVec Ideal S1024x256 .bf16) (w : FVec Ideal S256x512 .bf16) (o : FVec Ideal S1024x512 .f32) (r : Fin 1024) (p : Fin 512) :
    k0_pay10 (F := Ideal) a w o (ix2 r p) = o (ix2 r p) + ∑ q : Fin 256, a (ix2 r q) * w (ix2 q p) := by
  pointwise [k0_pay10]

/-- The residual and half of the finished sum. -/
theorem pay44_at (h : FVec Ideal S1024x2048 .bf16) (G U : FVec Ideal S1x2048x256 .bf16) (w : FVec Ideal S256x512 .bf16) (o : FVec Ideal S1024x512 .f32) (x : FVec Ideal S1024x512 .f32) (r : Fin 1024) (p : Fin 512) :
    k0_pay44 (F := Ideal) h G U w o x (ix2 r p) = x (ix2 r p) + Ideal.ofBits .f32 0x3F000000#32 * (o (ix2 r p) + ∑ q : Fin 256, k0_pay43 (F := Ideal) h G U (ix2 r q) * w (ix2 q p)) := by
  pointwise [k0_pay44]

theorem pay11_at (h : FVec Ideal S1024x2048 .bf16) (G U : FVec Ideal S1x2048x256 .bf16) (w : FVec Ideal S256x512 .bf16) (o : FVec Ideal S1024x512 .f32) (x : FVec Ideal S1024x512 .f32) (r : Fin 1024) (p : Fin 512) :
    k0_pay11 (F := Ideal) (k0_pay45 h G U w o) (k0_pay46 x) (Scalar.ofBits .f32 0x3F000000#32) (ix2 r p) = x (ix2 r p) + Ideal.ofBits .f32 0x3F000000#32 * (o (ix2 r p) + ∑ q : Fin 256, k0_pay43 (F := Ideal) h G U (ix2 r q) * w (ix2 q p)) := by
  pointwise [k0_pay11, k0_pay45, k0_pay46]

theorem pay12_at (a : FVec Ideal S1024x256 .bf16) (w : FVec Ideal S256x512 .bf16) (o : FVec Ideal S1024x512 .f32) (x : FVec Ideal S1024x512 .f32) (r : Fin 1024) (p : Fin 512) :
    k0_pay12 (F := Ideal) a w o x (ix2 r p) = x (ix2 r p) + Ideal.ofBits .f32 0x3F000000#32 * (o (ix2 r p) + ∑ q : Fin 256, a (ix2 r q) * w (ix2 q p)) := by
  pointwise [k0_pay12]

theorem pay13_at (a : FVec Ideal S1024x256 .bf16) (w : FVec Ideal S256x512 .bf16) (o : FVec Ideal S1024x512 .f32) (x : FVec Ideal S1024x512 .f32) (r : Fin 1024) (p : Fin 512) :
    k0_pay13 (F := Ideal) a w o x (ix2 r p) = x (ix2 r p) + Ideal.ofBits .f32 0x3F000000#32 * (o (ix2 r p) + ∑ q : Fin 256, a (ix2 r q) * w (ix2 q p)) := by
  pointwise [k0_pay13]

end Cert.HeadBlock

end
-- ==== Proof.Head.Tile.lean ====
/- What a grid point of a first row tile's call leaves in its outputs, as functions of its blocks, and reading back in the same point
   the tiles of weights it stored; for both calls over a first row tile. -/
module

public import proofs.«01_k».proof.Proof.Head.Block
public import Idealize.ShloMosaic.Lib.Pipeline.ReadBack

@[expose] public section

set_option maxRecDepth 16384

noncomputable section

namespace Cert.HeadTile

open Cert.FeedForward Cert.HeadIdeal Cert.HeadIdeal.Gen Cert.HeadBlock Cert.Pieces
open Idealize.ShloMosaic Idealize.ShloMosaic.TcCoe Idealize.SL.Sem

/-- The hidden unit `q` of a tile of 256 whose two weight blocks are `x2` and `x3`. -/
def unitT (h : Fin 2048 → EReal) (x2 x3 : FVec Ideal S2048x256 .f32) (q : Fin 256) : EReal :=
  gated h (fun k => x2 (ix2 k q)) (fun k => x3 (ix2 k q))

/-- A tile's share of the second projection of a row, at column `p`. -/
def partT (h : Fin 2048 → EReal) (x2 x3 : FVec Ideal S2048x256 .f32) (x4 : FVec Ideal S256x2048 .f32) (p : Fin 2048) : EReal :=
  ∑ q : Fin 256, unitT h x2 x3 q * x4 (ix2 q p)

/-- What a first, a middle and a last point leave in the output. -/
def tileA (x0 : FVec Ideal S1024x2048 .f32) (x1 : FVec Ideal S1x2048 .f32) (x2 x3 : FVec Ideal S2048x256 .f32) (x4 : FVec Ideal S256x2048 .f32) :
    S1024x2048.Idx → Elt Ideal .f32 := fun x => partT (HN x0 x1 (x 0)) x2 x3 x4 (x 1)
def tileB (x2 x3 : FVec Ideal S2048x256 .f32) (x4 : FVec Ideal S256x2048 .f32) (xo : FVec Ideal S1024x2048 .f32) (xs : FVec Ideal S1024x2048 .bf16) :
    S1024x2048.Idx → Elt Ideal .f32 := fun x => xo (ix2 (x 0) (x 1)) + partT (fun k => xs (ix2 (x 0) k)) x2 x3 x4 (x 1)
def tileC (x0 : FVec Ideal S1024x2048 .f32) (x2 x3 : FVec Ideal S2048x256 .f32) (x4 : FVec Ideal S256x2048 .f32) (xo : FVec Ideal S1024x2048 .f32) (xs : FVec Ideal S1024x2048 .bf16) :
    S1024x2048.Idx → Elt Ideal .f32 := fun x =>
  x0 (ix2 (x 0) (x 1)) + Ideal.ofBits .f32 0x3F000000#32 * (xo (ix2 (x 0) (x 1)) + partT (fun k => xs (ix2 (x 0) k)) x2 x3 x4 (x 1))

/-- A tile of weights as the later row tiles read it, and one of the second weight. -/
def weightG (x2 : FVec Ideal S2048x256 .f32) : S1x2048x256.Idx → Elt Ideal .bf16 := fun x => x2 (ix2 (x 1) (x 2))
def secondG (x4 : FVec Ideal S256x2048 .f32) : S256x2048.Idx → Elt Ideal .bf16 := fun x => x4 (ix2 (x 0) (x 1))

section

variable {sig : RefSig}
  {arg3 : Memref sig Kind.tc Space.vmem S2048x256 EltTy.f32} {harg3 : arg3.IsWhole}
  {arg4 : Memref sig Kind.tc Space.vmem S2048x256 EltTy.f32} {harg4 : arg4.IsWhole}
  {arg5 : Memref sig Kind.tc Space.vmem S256x2048 EltTy.f32} {harg5 : arg5.IsWhole}
  {arg7 : Memref sig Kind.tc Space.vmem S1x2048x256 EltTy.bf16}
  {arg8 : Memref sig Kind.tc Space.vmem S1x2048x256 EltTy.bf16}
  {arg9 : Memref sig Kind.tc Space.vmem S256x2048 EltTy.bf16}
  {x2 x3 : FVec Ideal S2048x256 .f32} {x4 : FVec Ideal S256x2048 .f32}

/-- A tile of weights stored and loaded again is what was stored, -/
theorem gate_read (inb : ∀ a, (![0, 0, 0] : Fin 3 → ℕ) a + (![1, 2048, 256] : Fin 3 → ℕ) a ≤ S1x2048x256.size a)
    (P : FVec Ideal S1x2048x256 .bf16) (k : Fin 2048) (q : Fin 256) :
    arg7.view.readCov [(⟨Rect.unit (s := S1x2048x256) ![0, 0, 0] ![1, 2048, 256] inb, P⟩ : View.Piece (Elt Ideal) S1x2048x256 .bf16)]
      (Rect.unit (s := S1x2048x256) ![0, 0, 0] ![1, 2048, 256] inb).toLoadRect (ix3 0 k q : (⟨3, ![1, 2048, 256]⟩ : Shape).Idx) = P (ix3 0 k q) :=
  congrFun (View.readCov_unit_lit (S := S1x2048x256) (Val := Elt Ideal) arg7.view inb P (by decide)) (ix3 0 k q)

/-- which is the block it was made from. -/
theorem pay1_read (inb' : ∀ a, (![0, 0] : Fin 2 → ℕ) a + (![2048, 256] : Fin 2 → ℕ) a ≤ S2048x256.size a) (k : Fin 2048) (q : Fin 256) :
    k0_pay1 (F := Ideal) (View.readAt (Elt Ideal) arg3.view (Rect.unit (s := S2048x256) ![0, 0] ![2048, 256] inb').toLoadRect (harg3.unread x2)) (ix3 0 k q) = x2 (ix2 k q) :=
  (pay1_at _ k q).trans (readAt_at (Val := Elt Ideal) harg3 x2 inb' k q k q (by simp) (by simp))
theorem pay2_read (inb' : ∀ a, (![0, 0] : Fin 2 → ℕ) a + (![2048, 256] : Fin 2 → ℕ) a ≤ S2048x256.size a) (k : Fin 2048) (q : Fin 256) :
    k0_pay2 (F := Ideal) (View.readAt (Elt Ideal) arg3.view (Rect.unit (s := S2048x256) ![0, 0] ![2048, 256] inb').toLoadRect (harg3.unread x2)) (ix3 0 k q) = x2 (ix2 k q) :=
  (pay2_at _ k q).trans (readAt_at (Val := Elt Ideal) harg3 x2 inb' k q k q (by simp) (by simp))

/-- So the hidden units computed from the tiles loaded again are those of the blocks. -/
theorem hidden_read {h h' : Fin 2048 → EReal} (e : h = h')
    (inb : ∀ a, (![0, 0, 0] : Fin 3 → ℕ) a + (![1, 2048, 256] : Fin 3 → ℕ) a ≤ S1x2048x256.size a)
    (inb' : ∀ a, (![0, 0] : Fin 2 → ℕ) a + (![2048, 256] : Fin 2 → ℕ) a ≤ S2048x256.size a) (q : Fin 256) :
    gated h
      (fun k => arg7.view.readCov [(⟨Rect.unit (s := S1x2048x256) ![0, 0, 0] ![1, 2048, 256] inb, k0_pay1 (View.readAt (Elt Ideal) arg3.view (Rect.unit (s := S2048x256) ![0, 0] ![2048, 256] inb').toLoadRect (harg3.unread x2))⟩ : View.Piece (Elt Ideal) S1x2048x256 .bf16)]
        (Rect.unit (s := S1x2048x256) ![0, 0, 0] ![1, 2048, 256] inb).toLoadRect (ix3 0 k q : (⟨3, ![1, 2048, 256]⟩ : Shape).Idx))
      (fun k => arg8.view.readCov [(⟨Rect.unit (s := S1x2048x256) ![0, 0, 0] ![1, 2048, 256] inb, k0_pay2 (View.readAt (Elt Ideal) arg4.view (Rect.unit (s := S2048x256) ![0, 0] ![2048, 256] inb').toLoadRect (harg4.unread x3))⟩ : View.Piece (Elt Ideal) S1x2048x256 .bf16)]
        (Rect.unit (s := S1x2048x256) ![0, 0, 0] ![1, 2048, 256] inb).toLoadRect (ix3 0 k q : (⟨3, ![1, 2048, 256]⟩ : Shape).Idx))
      = unitT h' x2 x3 q := by
  subst e
  exact congrArg₂ (gated h) (funext fun k => (gate_read inb _ k q).trans (pay1_read inb' k q)) (funext fun k => (gate_read inb _ k q).trans (pay2_read inb' k q))

/-- A product of hidden units with 512 columns of the second weight, stored and loaded again, is the tile's share there. -/
theorem tile_read {h : Fin 2048 → EReal} {a : Fin 256 → EReal} {o : ℕ}
    (inb : ∀ a, (![0, 0] : Fin 2 → ℕ) a + (![256, 2048] : Fin 2 → ℕ) a ≤ S256x2048.size a)
    (inb' : ∀ a, (![0, o] : Fin 2 → ℕ) a + (![256, 512] : Fin 2 → ℕ) a ≤ S256x2048.size a)
    (ha : ∀ q, a q = unitT h x2 x3 q) (p : Fin 512) (p' : Fin 2048) (hp : p'.val = o + p) :
    ∑ q : Fin 256, a q * arg9.view.readCov [(⟨Rect.unit (s := S256x2048) ![0, 0] ![256, 2048] inb, k0_pay3 (View.readAt (Elt Ideal) arg5.view (Rect.unit (s := S256x2048) ![0, 0] ![256, 2048] inb).toLoadRect (harg5.unread x4))⟩ : View.Piece (Elt Ideal) S256x2048 .bf16)]
        (Rect.unit (s := S256x2048) ![0, o] ![256, 512] inb').toLoadRect (ix2 q p : (⟨2, ![256, 512]⟩ : Shape).Idx)
      = partT h x2 x3 x4 p' :=
  Finset.sum_congr rfl fun q _ => Ideal.mul_congr (ha q) <|
    (readCov_at (Val := Elt Ideal) arg9.view inb' _ q p' q p (by simp) hp).trans <|
    (canon_hit (Val := Elt Ideal) inb _ [] q p' q p' (by simp) (by simp)).trans <|
    (pay3_at _ q p').trans (readAt_at (Val := Elt Ideal) harg5 x4 inb q p' q p' (by simp) (by simp))

/-- The stored tiles of weights are blocks of what the later row tiles read. -/
theorem weight_piece (inb : ∀ a, (![0, 0, 0] : Fin 3 → ℕ) a + (![1, 2048, 256] : Fin 3 → ℕ) a ≤ S1x2048x256.size a)
    (P : FVec Ideal S1x2048x256 .bf16) (hP : ∀ k q, P (ix3 0 k q) = x2 (ix2 k q)) :
    View.PiecesOf (weightG x2) [(⟨Rect.unit (s := S1x2048x256) ![0, 0, 0] ![1, 2048, 256] inb, P⟩ : View.Piece (Elt Ideal) S1x2048x256 .bf16)] := by
  refine ⟨fun x => ?_, trivial⟩
  obtain ⟨j, k, q, rfl⟩ : ∃ (j : Fin 1) (k : Fin 2048) (q : Fin 256), x = (ix3 j k q : (⟨3, ![1, 2048, 256]⟩ : Shape).Idx) := ⟨x 0, x 1, x 2, eq_ix3 x⟩
  obtain rfl : j = 0 := Subsingleton.elim _ _
  refine (hP k q).trans (congrArg x2 ?_)
  funext a
  match a with
  | 0 => apply Fin.ext; show k.val = 0 + 1 * k.val; omega
  | 1 => apply Fin.ext; show q.val = 0 + 1 * q.val; omega

theorem second_piece (inb : ∀ a, (![0, 0] : Fin 2 → ℕ) a + (![256, 2048] : Fin 2 → ℕ) a ≤ S256x2048.size a) :
    View.PiecesOf (secondG x4) [(⟨Rect.unit (s := S256x2048) ![0, 0] ![256, 2048] inb, k0_pay3 (View.readAt (Elt Ideal) arg5.view (Rect.unit (s := S256x2048) ![0, 0] ![256, 2048] inb).toLoadRect (harg5.unread x4))⟩ : View.Piece (Elt Ideal) S256x2048 .bf16)] :=
  ⟨piece_of _ inb _ fun r q r' q' hr hq => (pay3_at _ r q).trans (readAt_at (Val := Elt Ideal) harg5 x4 inb r' q' r q hr hq), trivial⟩

end

end Cert.HeadTile

end
-- ==== Proof.Head.Points.lean ====
/- What each kind of grid point of the first row tile's call stores, at an index, over the extended reals: the output's tile and the
   scratch's normalized rows, and the tiles of weights as the later row tiles read them. -/
module

public import proofs.«01_k».proof.Proof.Head.Tile
public import proofs.«01_k».proof.Proof.Gen.HeadIdeal.Frame.RunA
public import proofs.«01_k».proof.Proof.Gen.HeadIdeal.Frame.RunB
public import proofs.«01_k».proof.Proof.Gen.HeadIdeal.Frame.RunC

@[expose] public section

set_option maxRecDepth 16384

noncomputable section

namespace Cert.HeadRun

open Cert.FeedForward Cert.HeadIdeal Cert.HeadIdeal.Gen Cert.HeadBlock Cert.HeadTile Cert.Pieces
open Idealize.ShloMosaic Idealize.ShloMosaic.TcCoe Idealize.SL.Sem

section

variable {c : Dev nD} {i : grid0.Coords}
  {arg1 : Memref sig Kind.tc Space.vmem S1024x2048 EltTy.f32} {harg1 : arg1.IsWhole}
  {arg2 : Memref sig Kind.tc Space.vmem S1x2048 EltTy.f32} {harg2 : arg2.IsWhole}
  {arg3 : Memref sig Kind.tc Space.vmem S2048x256 EltTy.f32} {harg3 : arg3.IsWhole}
  {arg4 : Memref sig Kind.tc Space.vmem S2048x256 EltTy.f32} {harg4 : arg4.IsWhole}
  {arg5 : Memref sig Kind.tc Space.vmem S256x2048 EltTy.f32} {harg5 : arg5.IsWhole}
  {arg6 : Memref sig Kind.tc Space.vmem S1024x2048 EltTy.f32} {harg6 : arg6.IsWhole}
  {arg7 : Memref sig Kind.tc Space.vmem S1x2048x256 EltTy.bf16} {harg7 : arg7.IsWhole}
  {arg8 : Memref sig Kind.tc Space.vmem S1x2048x256 EltTy.bf16} {harg8 : arg8.IsWhole}
  {arg9 : Memref sig Kind.tc Space.vmem S256x2048 EltTy.bf16} {harg9 : arg9.IsWhole}
  {arg10 : Memref sig Kind.tc Space.vmem S1024x2048 EltTy.bf16} {harg10 : arg10.IsWhole}
  {x0 : FVec Ideal S1024x2048 .f32} {x1 : FVec Ideal S1x2048 .f32} {x2 x3 : FVec Ideal S2048x256 .f32} {x4 : FVec Ideal S256x2048 .f32}
  {xo : FVec Ideal S1024x2048 .f32} {xs : FVec Ideal S1024x2048 .bf16}

/-- The hidden units of the four groups of 256 rows. -/
theorem unitsA0 (r : Fin 256) (r' : Fin 1024) (hr : r'.val = 0 + r) (q : Fin 256) :
    kernelRun0_A.sl.r (F := Ideal) c arg1 harg1 arg2 harg2 arg3 harg3 arg4 harg4 arg7 arg8 x0 x1 x2 x3 (ix2 r q) = unitT (HN x0 x1 r') x2 x3 q :=
  (pay16_at _ _ _ _ r q).trans (hidden_read (funext fun k => (pay14_at _ _ r k).trans (rows_read _ _ r r' hr k)) _ _ q)
theorem unitsA1 (r : Fin 256) (r' : Fin 1024) (hr : r'.val = 256 + r) (q : Fin 256) :
    k0_pay23 (F := Ideal) (kernelRun0_A.sl.r_1 c arg1 harg1 arg2 harg2 x0 x1) (kernelRun0_A.sl.v47 c arg3 harg3 arg7 x2) (kernelRun0_A.sl.v50 c arg4 harg4 arg8 x3) (ix2 r q)
      = unitT (HN x0 x1 r') x2 x3 q :=
  (pay23_at _ _ _ r q).trans (hidden_read (funext fun k => (pay21_at _ _ r k).trans (rows_read _ _ r r' hr k)) _ _ q)
theorem unitsA2 (r : Fin 256) (r' : Fin 1024) (hr : r'.val = 512 + r) (q : Fin 256) :
    kernelRun0_A.sl.r_3 (F := Ideal) c arg1 harg1 arg2 harg2 arg3 harg3 arg4 harg4 arg7 arg8 x0 x1 x2 x3 (ix2 r q) = unitT (HN x0 x1 r') x2 x3 q :=
  (pay31_at _ _ _ _ r q).trans (hidden_read (funext fun k => (pay29_at _ _ r k).trans (rows_read _ _ r r' hr k)) _ _ q)
theorem unitsA3 (r : Fin 256) (r' : Fin 1024) (hr : r'.val = 768 + r) (q : Fin 256) :
    k0_pay4 (F := Ideal) (kernelRun0_A.sl.r_5 c arg1 harg1 arg2 harg2 x0 x1) (kernelRun0_A.sl.r_6 c arg3 harg3 arg7 x2) kernelRun0_A.sl.cst_135 (kernelRun0_A.sl.v188 c arg4 harg4 arg8 x3) (ix2 r q)
      = unitT (HN x0 x1 r') x2 x3 q :=
  (pay4_at _ _ _ r q).trans (hidden_read (funext fun k => (pay36_at _ _ r k).trans (rows_read _ _ r r' hr k)) _ _ q)

section

variable {hc0 : cond0_0 i} {hc1 : ¬ cond0_1 i} {hc2 : ¬ cond0_2 i}

/-- What the first point stores into the output is the first tile's share, -/
theorem piecesA :
    View.PiecesOf (tileA x0 x1 x2 x3 x4) (kernelRun0_A (F := Ideal) c i arg1 harg1 arg2 harg2 arg3 harg3 arg4 harg4 arg5 harg5 arg6 harg6 arg7 harg7 arg8 harg8 arg9 harg9 arg10 harg10 hc0 hc1 hc2 x0 x1 x2 x3 x4).1 := by
  unfold kernelRun0_A
  dsimp only
  refine ⟨piece_of _ (by decide) _ fun r q r' q' hr hq => (pay8_at _ _ _ _ _ r q).trans (tile_read _ _ (unitsA3 (c := c) r r' hr) q q' hq),
    piece_of _ (by decide) _ fun r q r' q' hr hq => (pay7_at _ _ _ _ _ r q).trans (tile_read _ _ (unitsA3 (c := c) r r' hr) q q' hq),
    piece_of _ (by decide) _ fun r q r' q' hr hq => (pay6_at _ _ _ _ _ r q).trans (tile_read _ _ (unitsA3 (c := c) r r' hr) q q' hq),
    piece_of _ (by decide) _ fun r q r' q' hr hq => (pay5_at _ _ _ _ _ r q).trans (tile_read _ _ (unitsA3 (c := c) r r' hr) q q' hq),
    piece_of _ (by decide) _ fun r q r' q' hr hq => (pay35_at _ _ r q).trans (tile_read _ _ (unitsA2 (c := c) r r' hr) q q' hq),
    piece_of _ (by decide) _ fun r q r' q' hr hq => (pay34_at _ _ r q).trans (tile_read _ _ (unitsA2 (c := c) r r' hr) q q' hq),
    piece_of _ (by decide) _ fun r q r' q' hr hq => (pay33_at _ _ _ _ _ r q).trans (tile_read _ _ (unitsA2 (c := c) r r' hr) q q' hq),
    piece_of _ (by decide) _ fun r q r' q' hr hq => (pay32_at _ _ _ _ _ r q).trans (tile_read _ _ (unitsA2 (c := c) r r' hr) q q' hq),
    piece_of _ (by decide) _ fun r q r' q' hr hq => (pay27_at _ _ _ _ r q).trans (tile_read _ _ (unitsA1 (c := c) r r' hr) q q' hq),
    piece_of _ (by decide) _ fun r q r' q' hr hq => (pay26_at _ _ _ _ r q).trans (tile_read _ _ (unitsA1 (c := c) r r' hr) q q' hq),
    piece_of _ (by decide) _ fun r q r' q' hr hq => (pay25_at _ _ _ _ r q).trans (tile_read _ _ (unitsA1 (c := c) r r' hr) q q' hq),
    piece_of _ (by decide) _ fun r q r' q' hr hq => (pay24_at _ _ _ _ r q).trans (tile_read _ _ (unitsA1 (c := c) r r' hr) q q' hq),
    piece_of _ (by decide) _ fun r q r' q' hr hq => (pay20_at _ _ r q).trans (tile_read _ _ (unitsA0 (c := c) r r' hr) q q' hq),
    piece_of _ (by decide) _ fun r q r' q' hr hq => (pay19_at _ _ r q).trans (tile_read _ _ (unitsA0 (c := c) r r' hr) q q' hq),
    piece_of _ (by decide) _ fun r q r' q' hr hq => (pay18_at _ _ r q).trans (tile_read _ _ (unitsA0 (c := c) r r' hr) q q' hq),
    piece_of _ (by decide) _ fun r q r' q' hr hq => (pay17_at _ _ _ _ _ r q).trans (tile_read _ _ (unitsA0 (c := c) r r' hr) q q' hq), trivial⟩

/-- and what it stores into the scratch are the normalized rows. -/
theorem spiecesA :
    View.PiecesOf (rowsG x0 x1) (kernelRun0_A (F := Ideal) c i arg1 harg1 arg2 harg2 arg3 harg3 arg4 harg4 arg5 harg5 arg6 harg6 arg7 harg7 arg8 harg8 arg9 harg9 arg10 harg10 hc0 hc1 hc2 x0 x1 x2 x3 x4).2.2.2.2.1 := by
  unfold kernelRun0_A
  dsimp only
  have hq0 : ∀ {r' : Fin 1024} {q' q : Fin 2048}, q'.val = 0 + q → HN x0 x1 r' q = rowsG x0 x1 (ix2 r' q') := fun {r' q' q} h => by
    rw [show q = q' from Fin.ext (by omega)]; rfl
  refine ⟨piece_of _ (by decide) _ fun r q r' q' hr hq => (pay37_at _ _ r q).trans ((pay36_at _ _ r q).trans ((rows_read _ _ r r' hr q).trans (hq0 hq))),
    piece_of _ (by decide) _ fun r q r' q' hr hq => (pay30_at _ _ r q).trans ((pay29_at _ _ r q).trans ((rows_read _ _ r r' hr q).trans (hq0 hq))),
    piece_of _ (by decide) _ fun r q r' q' hr hq => (pay22_at _ _ r q).trans ((pay21_at _ _ r q).trans ((rows_read _ _ r r' hr q).trans (hq0 hq))),
    piece_of _ (by decide) _ fun r q r' q' hr hq => (pay15_at _ _ r q).trans ((pay14_at _ _ r q).trans ((rows_read _ _ r r' hr q).trans (hq0 hq))), trivial⟩

/-- Its tiles of weights, -/
theorem weightsA :
    View.PiecesOf (weightG x2) (kernelRun0_A (F := Ideal) c i arg1 harg1 arg2 harg2 arg3 harg3 arg4 harg4 arg5 harg5 arg6 harg6 arg7 harg7 arg8 harg8 arg9 harg9 arg10 harg10 hc0 hc1 hc2 x0 x1 x2 x3 x4).2.1
      ∧ View.PiecesOf (weightG x3) (kernelRun0_A (F := Ideal) c i arg1 harg1 arg2 harg2 arg3 harg3 arg4 harg4 arg5 harg5 arg6 harg6 arg7 harg7 arg8 harg8 arg9 harg9 arg10 harg10 hc0 hc1 hc2 x0 x1 x2 x3 x4).2.2.1
      ∧ View.PiecesOf (secondG x4) (kernelRun0_A (F := Ideal) c i arg1 harg1 arg2 harg2 arg3 harg3 arg4 harg4 arg5 harg5 arg6 harg6 arg7 harg7 arg8 harg8 arg9 harg9 arg10 harg10 hc0 hc1 hc2 x0 x1 x2 x3 x4).2.2.2.1 := by
  unfold kernelRun0_A
  dsimp only
  exact ⟨weight_piece _ _ fun k q => pay1_read _ k q, weight_piece _ _ fun k q => pay2_read _ k q, second_piece _⟩

end

/-- The hidden units at a middle point and at the last point. -/
theorem unitsB (r r' : Fin 1024) (hr : r'.val = 0 + r) (q : Fin 256) :
    kernelRun0_B.sl.r (F := Ideal) c arg3 harg3 arg4 harg4 arg7 arg8 arg10 harg10 x2 x3 xs (ix2 r q) = unitT (fun k => xs (ix2 r' k)) x2 x3 q :=
  (pay39_at _ _ _ r q).trans (hidden_read (scratch_read _ r r' hr) _ _ q)
theorem unitsC (r r' : Fin 1024) (hr : r'.val = 0 + r) (q : Fin 256) :
    kernelRun0_C.sl.r (F := Ideal) c arg3 harg3 arg4 harg4 arg7 arg8 arg10 harg10 x2 x3 xs (ix2 r q) = unitT (fun k => xs (ix2 r' k)) x2 x3 q :=
  (pay43_at _ _ _ r q).trans (hidden_read (scratch_read _ r r' hr) _ _ q)

section

variable {hc0 : ¬ cond0_0 i} {hc1 : cond0_1 i} {hc2 : ¬ cond0_2 i}

/-- What a middle point stores is the output with one more tile's share, -/
theorem piecesB :
    View.PiecesOf (tileB x2 x3 x4 xo xs) (kernelRun0_B (F := Ideal) c i arg1 harg1 arg2 harg2 arg3 harg3 arg4 harg4 arg5 harg5 arg6 harg6 arg7 harg7 arg8 harg8 arg9 harg9 arg10 harg10 hc0 hc1 hc2 x0 x1 x2 x3 x4 xo xs).1 := by
  unfold kernelRun0_B
  dsimp only
  refine ⟨piece_of _ (by decide) _ fun r q r' q' hr hq => (pay10_at _ _ _ r q).trans (Ideal.add_congr (readAt_at (Val := Elt Ideal) harg6 xo _ r' q' r q hr hq) (tile_read _ _ (unitsB (c := c) r r' hr) q q' hq)),
    piece_of _ (by decide) _ fun r q r' q' hr hq => (pay9_at _ _ _ _ _ r q).trans (Ideal.add_congr (readAt_at (Val := Elt Ideal) harg6 xo _ r' q' r q hr hq) (tile_read _ _ (unitsB (c := c) r r' hr) q q' hq)),
    piece_of _ (by decide) _ fun r q r' q' hr hq => (pay41_at _ _ _ _ _ r q).trans (Ideal.add_congr (readAt_at (Val := Elt Ideal) harg6 xo _ r' q' r q hr hq) (tile_read _ _ (unitsB (c := c) r r' hr) q q' hq)),
    piece_of _ (by decide) _ fun r q r' q' hr hq => (pay40_at _ _ _ _ _ r q).trans (Ideal.add_congr (readAt_at (Val := Elt Ideal) harg6 xo _ r' q' r q hr hq) (tile_read _ _ (unitsB (c := c) r r' hr) q q' hq)), trivial⟩

/-- and the tiles of weights, -/
theorem weightsB :
    View.PiecesOf (weightG x2) (kernelRun0_B (F := Ideal) c i arg1 harg1 arg2 harg2 arg3 harg3 arg4 harg4 arg5 harg5 arg6 harg6 arg7 harg7 arg8 harg8 arg9 harg9 arg10 harg10 hc0 hc1 hc2 x0 x1 x2 x3 x4 xo xs).2.1
      ∧ View.PiecesOf (weightG x3) (kernelRun0_B (F := Ideal) c i arg1 harg1 arg2 harg2 arg3 harg3 arg4 harg4 arg5 harg5 arg6 harg6 arg7 harg7 arg8 harg8 arg9 harg9 arg10 harg10 hc0 hc1 hc2 x0 x1 x2 x3 x4 xo xs).2.2.1
      ∧ View.PiecesOf (secondG x4) (kernelRun0_B (F := Ideal) c i arg1 harg1 arg2 harg2 arg3 harg3 arg4 harg4 arg5 harg5 arg6 harg6 arg7 harg7 arg8 harg8 arg9 harg9 arg10 harg10 hc0 hc1 hc2 x0 x1 x2 x3 x4 xo xs).2.2.2.1 := by
  unfold kernelRun0_B
  dsimp only
  exact ⟨weight_piece _ _ fun k q => pay1_read _ k q, weight_piece _ _ fun k q => pay2_read _ k q, second_piece _⟩

end

section

variable {hc0 : ¬ cond0_0 i} {hc1 : ¬ cond0_1 i} {hc2 : cond0_2 i}

/-- What the last point stores are the rows with half of the second projection added, -/
theorem piecesC :
    View.PiecesOf (tileC x0 x2 x3 x4 xo xs) (kernelRun0_C (F := Ideal) c i arg1 harg1 arg2 harg2 arg3 harg3 arg4 harg4 arg5 harg5 arg6 harg6 arg7 harg7 arg8 harg8 arg9 harg9 arg10 harg10 hc0 hc1 hc2 x0 x1 x2 x3 x4 xo xs).1 := by
  unfold kernelRun0_C
  dsimp only
  have cong : ∀ {r' : Fin 1024} {q' : Fin 2048} {a b d : EReal}, a = x0 (ix2 r' q') → b = xo (ix2 r' q') → d = partT (fun k => xs (ix2 r' k)) x2 x3 x4 q' →
      a + Ideal.ofBits .f32 0x3F000000#32 * (b + d) = tileC x0 x2 x3 x4 xo xs (ix2 r' q') := by
    rintro _ _ _ _ _ rfl rfl rfl; rfl
  refine ⟨piece_of _ (by decide) _ fun r q r' q' hr hq => (pay13_at _ _ _ _ r q).trans (cong (readAt_at (Val := Elt Ideal) harg1 x0 _ r' q' r q hr hq) (readAt_at (Val := Elt Ideal) harg6 xo _ r' q' r q hr hq) (tile_read _ _ (unitsC (c := c) r r' hr) q q' hq)),
    piece_of _ (by decide) _ fun r q r' q' hr hq => (pay12_at _ _ _ _ r q).trans (cong (readAt_at (Val := Elt Ideal) harg1 x0 _ r' q' r q hr hq) (readAt_at (Val := Elt Ideal) harg6 xo _ r' q' r q hr hq) (tile_read _ _ (unitsC (c := c) r r' hr) q q' hq)),
    piece_of _ (by decide) _ fun r q r' q' hr hq => (pay11_at _ _ _ _ _ _ r q).trans (cong (readAt_at (Val := Elt Ideal) harg1 x0 _ r' q' r q hr hq) (readAt_at (Val := Elt Ideal) harg6 xo _ r' q' r q hr hq) (tile_read _ _ (unitsC (c := c) r r' hr) q q' hq)),
    piece_of _ (by decide) _ fun r q r' q' hr hq => (pay44_at _ _ _ _ _ _ r q).trans (cong (readAt_at (Val := Elt Ideal) harg1 x0 _ r' q' r q hr hq) (readAt_at (Val := Elt Ideal) harg6 xo _ r' q' r q hr hq) (tile_read _ _ (unitsC (c := c) r r' hr) q q' hq)), trivial⟩

/-- and the tiles of weights. -/
theorem weightsC :
    View.PiecesOf (weightG x2) (kernelRun0_C (F := Ideal) c i arg1 harg1 arg2 harg2 arg3 harg3 arg4 harg4 arg5 harg5 arg6 harg6 arg7 harg7 arg8 harg8 arg9 harg9 arg10 harg10 hc0 hc1 hc2 x0 x1 x2 x3 x4 xo xs).2.1
      ∧ View.PiecesOf (weightG x3) (kernelRun0_C (F := Ideal) c i arg1 harg1 arg2 harg2 arg3 harg3 arg4 harg4 arg5 harg5 arg6 harg6 arg7 harg7 arg8 harg8 arg9 harg9 arg10 harg10 hc0 hc1 hc2 x0 x1 x2 x3 x4 xo xs).2.2.1
      ∧ View.PiecesOf (secondG x4) (kernelRun0_C (F := Ideal) c i arg1 harg1 arg2 harg2 arg3 harg3 arg4 harg4 arg5 harg5 arg6 harg6 arg7 harg7 arg8 harg8 arg9 harg9 arg10 harg10 hc0 hc1 hc2 x0 x1 x2 x3 x4 xo xs).2.2.2.1 := by
  unfold kernelRun0_C
  dsimp only
  exact ⟨weight_piece _ _ fun k q => pay1_read _ k q, weight_piece _ _ fun k q => pay2_read _ k q, second_piece _⟩

end

end

end Cert.HeadRun

end
-- ==== Proof.Head.Steps.lean ====
/- What each kind of grid point of the first row tile's call leaves in its outputs and in the scratch, from the point's blocks. -/
module

public import proofs.«01_k».proof.Proof.Head.Points
public import proofs.«01_k».proof.Proof.Gen.HeadIdeal.Frame

@[expose] public section

set_option maxRecDepth 16384

noncomputable section

namespace Cert.HeadRun

open Cert.FeedForward Cert.HeadIdeal Cert.HeadIdeal.Gen Cert.HeadBlock Cert.HeadTile Cert.Pieces
open Idealize.ShloMosaic Idealize.ShloMosaic.TcCoe Idealize.SL.Sem

attribute [local irreducible] kernelRun0_A kernelRun0_B kernelRun0_C

variable (m : (ℓ : Loc nD τ sig) → Buf (Elt Ideal) ℓ)

/-- Stores over an unknown buffer that are blocks of one array and cover the buffer leave that array. -/
theorem back_eq {s : Shape} {e : EltTy} {v : View sig .tc .vmem s e} (G : s.Idx → Elt Ideal e) (L : List (View.Piece (Elt Ideal) s e))
    (hL : View.PiecesOf G L) (hc : ∀ y, ∃ p ∈ L, y ∈ p.1.set) : v.read (Elt Ideal) (v.writes (Elt Ideal) v.junk L) = G :=
  (View.read_writes_junk_eq_canon v L).trans (funext fun y => View.canon_apply_of_pieces G L hL.mem y (hc y))

/-- The first point leaves the first tile's share in the output and the normalized rows in the scratch. -/
theorem outA (c : Dev nD) (t : Fin cfg0.N) (h0 : t.val % 22 = 0) :
    (outsAt0 m c t.val t.isLt).1 = tileA (iblk m c 0 t) (iblk m c 1 t) (iblk m c 2 t) (iblk m c 3 t) (iblk m c 4 t)
      ∧ (outsAt0 m c t.val t.isLt).2.2.2.2 = rowsG (iblk m c 0 t) (iblk m c 1 t) := by
  rw [outsAt0_A m c t h0 (by omega) (by omega)]
  dsimp only [out0_A_5, out0_A_6, out0_A_7, out0_A_8, sout0_A_0]
  exact ⟨back_eq _ _ piecesA fun y => by apply cover0_A_5,
    back_eq _ _ spiecesA fun y => by apply scover0_A_0⟩

/-- A middle point adds its tile's share and keeps the scratch. -/
theorem outB (c : Dev nD) (t : Fin cfg0.N) (h0 : t.val % 22 ≠ 0) (h21 : t.val % 22 ≠ 21) :
    (outsAt0 m c t.val t.isLt).1 = tileB (iblk m c 2 t) (iblk m c 3 t) (iblk m c 4 t)
        (outsAt0 m c (t.val - 1) (Nat.lt_of_le_of_lt (Nat.sub_le _ _) t.isLt)).1 (outsAt0 m c (t.val - 1) (Nat.lt_of_le_of_lt (Nat.sub_le _ _) t.isLt)).2.2.2.2
      ∧ (outsAt0 m c t.val t.isLt).2.2.2.2 = (outsAt0 m c (t.val - 1) (Nat.lt_of_le_of_lt (Nat.sub_le _ _) t.isLt)).2.2.2.2 := by
  rw [outsAt0_B m c t h0 (by omega) h21]
  dsimp only [out0_B_5, out0_B_6, out0_B_7, out0_B_8, sout0_B_0]
  exact ⟨back_eq _ _ piecesB fun y => by apply cover0_B_5, rfl⟩

/-- The last point adds its tile's share, and half of the sum to the activations. -/
theorem outC (c : Dev nD) (t : Fin cfg0.N) (h21 : t.val % 22 = 21) :
    (outsAt0 m c t.val t.isLt).1 = tileC (iblk m c 0 t) (iblk m c 2 t) (iblk m c 3 t) (iblk m c 4 t)
        (outsAt0 m c (t.val - 1) (Nat.lt_of_le_of_lt (Nat.sub_le _ _) t.isLt)).1 (outsAt0 m c (t.val - 1) (Nat.lt_of_le_of_lt (Nat.sub_le _ _) t.isLt)).2.2.2.2 := by
  rw [outsAt0_C m c t (by omega) (by omega) h21]
  dsimp only [out0_C_5, out0_C_6, out0_C_7, out0_C_8, sout0_C_0]
  exact back_eq _ _ piecesC fun y => by apply cover0_C_5

/-- Every point leaves its tiles of weights. -/
theorem outW (c : Dev nD) (t : Fin cfg0.N) :
    (outsAt0 m c t.val t.isLt).2.1 = weightG (iblk m c 2 t) ∧ (outsAt0 m c t.val t.isLt).2.2.1 = weightG (iblk m c 3 t)
      ∧ (outsAt0 m c t.val t.isLt).2.2.2.1 = secondG (iblk m c 4 t) := by
  by_cases h0 : t.val % 22 = 0
  · rw [outsAt0_A m c t h0 (by omega) (by omega)]
    dsimp only [out0_A_5, out0_A_6, out0_A_7, out0_A_8, sout0_A_0]
    exact ⟨back_eq _ _ weightsA.1 fun y => by apply cover0_A_6,
      back_eq _ _ weightsA.2.1 fun y => by apply cover0_A_7,
      back_eq _ _ weightsA.2.2 fun y => by apply cover0_A_8⟩
  · by_cases h21 : t.val % 22 = 21
    · rw [outsAt0_C m c t (by omega) (by omega) h21]
      dsimp only [out0_C_5, out0_C_6, out0_C_7, out0_C_8, sout0_C_0]
      exact ⟨back_eq _ _ weightsC.1 fun y => by apply cover0_C_6,
        back_eq _ _ weightsC.2.1 fun y => by apply cover0_C_7,
        back_eq _ _ weightsC.2.2 fun y => by apply cover0_C_8⟩
    · rw [outsAt0_B m c t h0 (by omega) h21]
      dsimp only [out0_B_5, out0_B_6, out0_B_7, out0_B_8, sout0_B_0]
      exact ⟨back_eq _ _ weightsB.1 fun y => by apply cover0_B_6,
        back_eq _ _ weightsB.2.1 fun y => by apply cover0_B_7,
        back_eq _ _ weightsB.2.2 fun y => by apply cover0_B_8⟩

end Cert.HeadRun

end
-- ==== Proof.Head.Spec.lean ====
/- The first row tile's call's results as functions of the argument arrays: the first 1024 tokens with half of a gated feed-forward
   layer added, and the layer's weights as the later row tiles read them. -/
module

public import proofs.«01_k».proof.Proof.FeedForward
public import proofs.«01_k».proof.HeadIdeal

@[expose] public section

set_option maxRecDepth 16384

noncomputable section

namespace Cert.HeadSpec

open Cert.FeedForward Cert.HeadIdeal Idealize.ShloMosaic

variable (x : FVec Ideal S4x4096x2048 .f32) (g : FVec Ideal S1x2048 .f32) (w : FVec Ideal S1x2048x11264 .f32) (wo : FVec Ideal S1x5632x2048 .f32)

/-- The rows. -/
def rows : FVec Ideal S1024x2048 .f32 := fun i => row x g w wo 0 ⟨(i 0).val, by have : (i 0).val < 1024 := (i 0).isLt; omega⟩ (i 1)

/-- The gate's weights in tiles of 256 columns, -/
def gates : FVec Ideal S22x2048x256 .bf16 := fun i =>
  w (ix3 0 (i 1) ⟨256 * (i 0).val + (i 2).val, by have : (i 0).val < 22 := (i 0).isLt; have : (i 2).val < 256 := (i 2).isLt; omega⟩)

/-- the other projection's, -/
def ups : FVec Ideal S22x2048x256 .bf16 := fun i =>
  w (ix3 0 (i 1) ⟨5632 + (256 * (i 0).val + (i 2).val), by have : (i 0).val < 22 := (i 0).isLt; have : (i 2).val < 256 := (i 2).isLt; omega⟩)

/-- and the second projection's. -/
def seconds : FVec Ideal S5632x2048 .bf16 := fun i => wo (ix3 0 (i 0) (i 1))

end Cert.HeadSpec

end
-- ==== Proof.Head.Fold.lean ====
/- The blocks of the first row tile's call at a grid point as parts of the argument arrays, and what the output and the scratch hold
   after each point: the sum over the tiles so far, and after the last point the result's rows. -/
module

public import proofs.«01_k».proof.Proof.Head.Steps
public import proofs.«01_k».proof.Proof.Head.Spec
public import Idealize.ShloMosaic.Lib.Pipeline.ValueKit

@[expose] public section

set_option maxRecDepth 16384

noncomputable section

namespace Cert.HeadRun

open Cert.FeedForward Cert.HeadIdeal Cert.HeadIdeal.Gen Cert.HeadBlock Cert.HeadTile Cert.HeadSpec
open Idealize.ShloMosaic Idealize.ShloMosaic.TcCoe Idealize.SL.Sem

attribute [local irreducible] kernelRun0_A kernelRun0_B kernelRun0_C

variable (m : (ℓ : Loc nD τ sig) → Buf (Elt Ideal) ℓ)

/-- The argument arrays on core `c`: the activations, the gains and the two weights. -/
abbrev mx (c : Dev nD) : FVec Ideal S4x4096x2048 .f32 := m ((c : Thread nD τ).loc main_arg0)
abbrev mg (c : Dev nD) : FVec Ideal S1x2048 .f32 := m ((c : Thread nD τ).loc main_arg1)
abbrev mw (c : Dev nD) : FVec Ideal S1x2048x11264 .f32 := m ((c : Thread nD τ).loc main_arg2)
abbrev mo (c : Dev nD) : FVec Ideal S1x5632x2048 .f32 := m ((c : Thread nD τ).loc main_arg3)

/-- The blocks each grid point works on, by index. -/
theorem idx : ∀ t : Fin cfg0.N, win0_0.index t = ![0, 0] ∧ win0_1.index t = ![0, 0] ∧ win0_2.index t = ![0, t.val] ∧ win0_3.index t = ![0, t.val + 22]
    ∧ win0_4.index t = ![t.val, 0] ∧ win0_5.index t = ![0, 0] ∧ win0_6.index t = ![t.val, 0, 0] ∧ win0_7.index t = ![t.val, 0, 0] ∧ win0_8.index t = ![t.val, 0]
    ∧ t.val < 22 :=
  (by decide +kernel : ∀ t : Fin grid0.N, _)

theorem lt22 (t : Fin cfg0.N) : t.val < 22 := (idx t).2.2.2.2.2.2.2.2.2

/-- The tile's rows, in the activations. -/
theorem b0 (c : Dev nD) (t : Fin cfg0.N) (r : Fin 1024) (k : Fin 2048) :
    iblk m c 0 t (ix2 r k) = mx m c (ix3 0 ⟨r.val, by omega⟩ k) := by
  blk_point [iblk, V, idx t]

/-- The norm's gains. -/
theorem b1 (c : Dev nD) (t : Fin cfg0.N) (k : Fin 2048) : iblk m c 1 t (ix2 0 k) = mg m c (ix2 0 k) := by
  blk_point [iblk, V, idx t]

/-- The gate's weights of a tile. -/
theorem b2 (c : Dev nD) (t : Fin cfg0.N) (k : Fin 2048) (q : Fin 256) :
    iblk m c 2 t (ix2 k q) = mw m c (ix3 0 k ⟨256 * t.val + q.val, by have := lt22 t; omega⟩) := by
  have := lt22 t
  blk_point [iblk, V, idx t]

/-- The other projection's weights of a tile. -/
theorem b3 (c : Dev nD) (t : Fin cfg0.N) (k : Fin 2048) (q : Fin 256) :
    iblk m c 3 t (ix2 k q) = mw m c (ix3 0 k ⟨5632 + (256 * t.val + q.val), by have := lt22 t; omega⟩) := by
  have := lt22 t
  blk_point [iblk, V, idx t]

/-- The second projection's weights of a tile. -/
theorem b4 (c : Dev nD) (t : Fin cfg0.N) (q : Fin 256) (p : Fin 2048) :
    iblk m c 4 t (ix2 q p) = mo m c (ix3 0 ⟨256 * t.val + q.val, by have := lt22 t; omega⟩ p) := by
  have := lt22 t
  blk_point [iblk, V, idx t]

/-- Row `r` as a token of the first sequence. -/
abbrev tok (r : Fin 1024) : Fin 4096 := ⟨r.val, by omega⟩

/-- The tile's normalized row is the token's. -/
theorem HN_eq (c : Dev nD) (t : Fin cfg0.N) (r : Fin 1024) : HN (iblk m c 0 t) (iblk m c 1 t) r = normed (mx m c) (mg m c) 0 (tok r) := by
  funext k
  unfold HN normed
  exact congrFun (congrArg₂ nrm (funext fun l => b1 m c t l) (funext fun l => b0 m c t r l)) k

/-- The shares of the hidden units in the second projection of a token, from the arguments on core `c`. -/
abbrev termAt (c : Dev nD) (r : Fin 1024) (p : Fin 2048) : ℕ → EReal := term (mx m c) (mg m c) (mw m c) (mo m c) 0 (tok r) p

/-- A tile's share is the sum of its units' shares. -/
theorem partT_eq (c : Dev nD) (t : Fin cfg0.N) (r : Fin 1024) (p : Fin 2048) :
    partT (normed (mx m c) (mg m c) 0 (tok r)) (iblk m c 2 t) (iblk m c 3 t) (iblk m c 4 t) p = ∑ q ∈ Finset.range 256, termAt m c r p (256 * t.val + q) := by
  have ht := lt22 t
  unfold partT
  rw [Finset.sum_range]
  refine Finset.sum_congr rfl fun q _ => ?_
  have hu : 256 * t.val + q.val < 5632 := by omega
  unfold termAt term
  rw [dif_pos hu]
  exact Ideal.mul_congr (congrArg₂ (gated _) (funext fun k => b2 m c t k q) (funext fun k => b3 m c t k q)) (b4 m c t q p)

/-- After a point the scratch holds the normalized rows, and before the last point the output holds the sum over the tiles so far. -/
theorem fold (c : Dev nD) (n : ℕ) (hn : n < cfg0.N) (r : Fin 1024) :
    (∀ k : Fin 2048, (outsAt0 m c n hn).2.2.2.2 (ix2 r k) = normed (mx m c) (mg m c) 0 (tok r) k ∨ n = 21)
      ∧ (n ≠ 21 → ∀ p : Fin 2048, (outsAt0 m c n hn).1 (ix2 r p) = ∑ u ∈ Finset.range (256 * (n + 1)), termAt m c r p u) := by
  induction n with
  | zero =>
    have hA := outA m c ⟨0, hn⟩ rfl
    refine ⟨fun k => Or.inl ?_, fun _ p => ?_⟩
    · refine (congrFun hA.2 (ix2 r k)).trans ?_
      exact congrFun (HN_eq m c ⟨0, hn⟩ r) k
    · refine (congrFun hA.1 (ix2 r p)).trans ?_
      show partT (HN (iblk m c 0 ⟨0, hn⟩) (iblk m c 1 ⟨0, hn⟩) r) _ _ _ p = _
      rw [HN_eq m c ⟨0, hn⟩ r, partT_eq m c ⟨0, hn⟩ r p]
      simp only [Nat.mul_zero, Nat.zero_add, Nat.mul_one]
  | succ n ih =>
    have hN : n + 1 < 22 := lt22 ⟨n + 1, hn⟩
    by_cases h21 : n + 1 = 21
    · exact ⟨fun k => Or.inr h21, fun e => absurd h21 e⟩
    · have hi := ih (by omega)
      have hs : ∀ k : Fin 2048, (outsAt0 m c n (by omega)).2.2.2.2 (ix2 r k) = normed (mx m c) (mg m c) 0 (tok r) k := fun k => (hi.1 k).resolve_right (by omega)
      have hB := outB m c ⟨n + 1, hn⟩ (by show (n + 1) % 22 ≠ 0; omega) (by show (n + 1) % 22 ≠ 21; omega)
      refine ⟨fun k => Or.inl ?_, fun _ p => ?_⟩
      · exact (congrFun hB.2 (ix2 r k)).trans (hs k)
      · refine (congrFun hB.1 (ix2 r p)).trans ?_
        show (outsAt0 m c n (by omega)).1 (ix2 r p) + partT (fun k => (outsAt0 m c n (by omega)).2.2.2.2 (ix2 r k)) _ _ _ p = _
        rw [funext hs, partT_eq m c ⟨n + 1, hn⟩ r p, hi.2 (by omega) p, show 256 * (n + 1 + 1) = 256 * (n + 1) + 256 by ring, Finset.sum_range_add]

/-- After the last point the output holds the tokens' results. -/
theorem last (c : Dev nD) (t : Fin cfg0.N) (h21 : t.val % 22 = 21) (r : Fin 1024) (p : Fin 2048) :
    (outsAt0 m c t.val t.isLt).1 (ix2 r p) = HeadSpec.rows (mx m c) (mg m c) (mw m c) (mo m c) (ix2 r p) := by
  have ht := lt22 t
  have hi := fold m c (t.val - 1) (Nat.lt_of_le_of_lt (Nat.sub_le _ _) t.isLt) r
  refine (congrFun (outC m c t h21) (ix2 r p)).trans ?_
  unfold tileC HeadSpec.rows FeedForward.row
  refine Ideal.add_congr (b0 m c t r p) (Ideal.mul_congr rfl ?_)
  show (outsAt0 m c (t.val - 1) _).1 (ix2 r p) + partT (fun k => (outsAt0 m c (t.val - 1) _).2.2.2.2 (ix2 r k)) _ _ _ p = proj (mx m c) (mg m c) (mw m c) (mo m c) 0 (tok r) p
  rw [funext fun k => (hi.1 k).resolve_right (by omega), partT_eq m c t r p, hi.2 (by omega) p, proj_eq, show t.val = 21 by omega]
  exact (Finset.sum_range_add _ 5376 256).symm

end Cert.HeadRun

end
-- ==== Proof.Head.Ref.lean ====
/- The reference's results: the first tokens' rows and the weights' tiles. -/
module

public import proofs.«01_k».proof.Proof.Head.Spec
public import proofs.«01_k».proof.Proof.Gen.HeadRefIdeal.Read
public import Idealize.ShloMosaic.Lib.Pipeline.ValueKit
public import Idealize.ShloMosaic.Lib.KernelVsHost

@[expose] public section

set_option maxRecDepth 16384

noncomputable section

namespace Cert.HeadRefIdeal.Ref

open Cert.HeadRefIdeal Cert.HeadRefIdeal.Gen Cert.HeadRefIdeal.Read Idealize.ShloMosaic Idealize.ShloMosaic.TcCoe Idealize.SL.Sem

variable (x : FVec Ideal S4x4096x2048 .f32) (g : FVec Ideal S1x2048 .f32) (w : FVec Ideal S1x2048x11264 .f32) (wo : FVec Ideal S1x5632x2048 .f32)

/-- The normalized tokens. -/
theorem v16_at (a : Fin 4) (s : Fin 4096) (k : Fin 2048) : val_main_v16 (F := Ideal) x g (ix3 a s k) = FeedForward.normed x g a s k := by
  pointwise [val_main_v16, val_main_v15, val_main_v14, val_main_v13, val_main_v12, val_main_v11, val_main_v10, val_main_v9, val_main_v8, val_main_v7,
    val_main_v6, val_main_v5, val_main_v4, val_main_v3, val_main_cst, val_main_cst_0, val_main_cst_1, FeedForward.normed, FeedForward.nrm]

/-- The first projection. -/
theorem v19_at (a : Fin 4) (s : Fin 4096) (p : Fin 11264) :
    val_main_v19 (F := Ideal) x g w (ix3 a s p) = ∑ k : Fin 2048, FeedForward.normed x g a s k * w (ix3 0 k p) := by
  pointwise [val_main_v19, val_main_v17]
  exact Finset.sum_congr rfl fun k _ => Ideal.mul_congr (v16_at x g a s k) rfl

/-- The hidden units. -/
theorem v23_at (a : Fin 4) (s : Fin 4096) (u : Fin 5632) : val_main_v23 (F := Ideal) x g w (ix3 a s u) = FeedForward.unit x g w a s u := by
  pointwise [val_main_v23, val_main_v22, val_main_v21, val_main_v20, val_main_call0_v5, val_main_call0_v4, val_main_call0_v3, val_main_call0_v2,
    val_main_call0_v1, val_main_call0_v0, val_main_call0_cst, val_main_call0_cst_0]
  rw [v19_at, v19_at]
  rfl

/-- The tokens with half of the layer's output added. -/
theorem v27_at (a : Fin 4) (s : Fin 4096) (p : Fin 2048) : val_main_v27 (F := Ideal) x g w wo (ix3 a s p) = FeedForward.row x g w wo a s p := by
  pointwise [val_main_v27, val_main_v26, val_main_v25, val_main_v24, val_main_v18, val_main_cst_2]
  unfold FeedForward.row FeedForward.proj
  exact Ideal.add_congr rfl (Ideal.mul_congr rfl (Finset.sum_congr rfl fun u _ => Ideal.mul_congr (v23_at x g w a s u) rfl))

/-- The rows. -/
theorem v29_eq : val_main_v29 (F := Ideal) x g w wo = HeadSpec.rows x g w wo := by
  funext i
  obtain ⟨r, p, rfl⟩ : ∃ (r : Fin 1024) (p : Fin 2048), i = ix2 r p := ⟨i 0, i 1, eq_ix2 i⟩
  unfold HeadSpec.rows
  pointwise [val_main_v29, val_main_v28]
  rw [v27_at]
  congr 1
  · exact Fin.ext (by show r.val / 4096 = 0; omega)
  · exact Fin.ext (by show r.val % 4096 = r.val; omega)

/-- The gate's weights in tiles, -/
theorem v32_eq : val_main_v32 (F := Ideal) w = HeadSpec.gates w := by
  funext i
  obtain ⟨j, k, q, rfl⟩ : ∃ (j : Fin 22) (k : Fin 2048) (q : Fin 256), i = ix3 j k q := ⟨i 0, i 1, i 2, eq_ix3 i⟩
  unfold HeadSpec.gates
  pointwise [val_main_v32, val_main_v31, val_main_v30, val_main_v1, val_main_v0]
  exact congrArg w (congrArg (ix3 0 k) (Fin.ext (by show j.val * 256 + q.val = 256 * j.val + q.val; omega)))

/-- the other projection's, -/
theorem v35_eq : val_main_v35 (F := Ideal) w = HeadSpec.ups w := by
  funext i
  obtain ⟨j, k, q, rfl⟩ : ∃ (j : Fin 22) (k : Fin 2048) (q : Fin 256), i = ix3 j k q := ⟨i 0, i 1, i 2, eq_ix3 i⟩
  unfold HeadSpec.ups
  pointwise [val_main_v35, val_main_v34, val_main_v33, val_main_v2, val_main_v0]
  exact congrArg w (congrArg (ix3 0 k) (Fin.ext (by show 5632 + (j.val * 256 + q.val) = 5632 + (256 * j.val + q.val); omega)))

/-- and the second projection's. -/
theorem v37_eq : val_main_v37 (F := Ideal) wo = HeadSpec.seconds wo := by
  funext i
  obtain ⟨u, p, rfl⟩ : ∃ (u : Fin 5632) (p : Fin 2048), i = ix2 u p := ⟨i 0, i 1, eq_ix2 i⟩
  unfold HeadSpec.seconds
  pointwise [val_main_v37, val_main_v36]

end Cert.HeadRefIdeal.Ref

end
-- ==== Proof.Head.Final.lean ====
/- The first row tile's call's claims: both frames from one run, the reference's frame, and the results against the reference. -/
module

public import proofs.«01_k».proof.Defs
public import proofs.«01_k».proof.Proof.Head.Fold
public import proofs.«01_k».proof.Proof.Head.Ref
public import proofs.«01_k».proof.Proof.Gen.Head
public import proofs.«01_k».proof.Proof.Gen.HeadIdeal.Value
public import proofs.«01_k».proof.Proof.Gen.HeadRefIdeal.Run
public import Idealize.ShloMosaic.Lib.Pipeline.ValueKit
public import Idealize.ShloMosaic.Lib.Claim

@[expose] public section

set_option maxRecDepth 16384

noncomputable section

namespace Cert.HeadFinal

open Idealize.ShloMosaic Idealize.ShloMosaic.TcCoe Idealize.SL.Sem

section
open Cert.FeedForward Cert.HeadIdeal Cert.HeadIdeal.Gen Cert.HeadRun
open Idealize.ShloMosaic.Pipeline (Dat)

attribute [local irreducible] kernelRun0_A kernelRun0_B kernelRun0_C outsAt0

variable (m : (ℓ : Loc nD τ sig) → Buf (Elt Ideal) ℓ) (c : Dev nD)

/-- The write-back of the output leaves the tokens' rows, -/
theorem arr5 : (dats m 0 c).arrAt 5 cfg0.N = HeadSpec.rows (mx m c) (mg m c) (mw m c) (mo m c) := by
  refine Dat.arrAt_eq_of_covers _ 5 _ (by decide +kernel) fun t hf y => ?_
  have h21 := (flush0_5 t).mp hf
  blk_simp
  idx_vars y
  rw [after0_5]
  refine (last m c t h21 _ _).trans ?_
  blk_point [idx t]

/-- those of the weights' tiles leave the gate's weights, -/
theorem arr6 : (dats m 0 c).arrAt 6 cfg0.N = HeadSpec.gates (mw m c) := by
  refine Dat.arrAt_eq_of_covers _ 6 _ (by decide +kernel) fun t hf y => ?_
  have ht := lt22 t
  blk_simp
  idx_vars y
  rw [after0_6, (outW m c t).1]
  refine (b2 m c t _ _).trans ?_
  unfold HeadSpec.gates
  blk_point [idx t]

/-- the other projection's, -/
theorem arr7 : (dats m 0 c).arrAt 7 cfg0.N = HeadSpec.ups (mw m c) := by
  refine Dat.arrAt_eq_of_covers _ 7 _ (by decide +kernel) fun t hf y => ?_
  have ht := lt22 t
  blk_simp
  idx_vars y
  rw [after0_7, (outW m c t).2.1]
  refine (b3 m c t _ _).trans ?_
  unfold HeadSpec.ups
  blk_point [idx t]

/-- and the second projection's. -/
theorem arr8 : (dats m 0 c).arrAt 8 cfg0.N = HeadSpec.seconds (mo m c) := by
  refine Dat.arrAt_eq_of_covers _ 8 _ (by decide +kernel) fun t hf y => ?_
  have ht := lt22 t
  blk_simp
  idx_vars y
  rw [after0_8, (outW m c t).2.2]
  refine (b4 m c t _ _).trans ?_
  unfold HeadSpec.seconds
  blk_point [idx t]

/-- The call's four result arrays after the run, as functions of the arguments, which end as they were. -/
theorem result (ρ : Dev nD → PrngReg) : θ_run defs (onTc (τ := τ) (main (F := Ideal))) ⟨m, fun _ => 0, ρ⟩ (fun r => ∀ c : Dev nD,
      r.2.mem ((c.tc : Thread nD τ).loc main_v5_0) = HeadSpec.rows (mx m c) (mg m c) (mw m c) (mo m c)
      ∧ r.2.mem ((c.tc : Thread nD τ).loc main_v5_1) = HeadSpec.gates (mw m c)
      ∧ r.2.mem ((c.tc : Thread nD τ).loc main_v5_2) = HeadSpec.ups (mw m c)
      ∧ r.2.mem ((c.tc : Thread nD τ).loc main_v5_3) = HeadSpec.seconds (mo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (arr5 m c), (h c).2.1.trans (arr6 m c), (h c).2.2.1.trans (arr7 m c),
    (h c).2.2.2.1.trans (arr8 m c), (h c).2.2.2.2⟩) (Value.run_blocks m ρ)

end

section
open Cert.HeadRefIdeal Cert.HeadRefIdeal.Read StableHlo

/-- What the reference leaves, as its stages over the arguments. -/
theorem runRef (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = val_main_v29 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v32) = val_main_v32 (F := Ideal) (m ((c.tc : Thread nD τ).loc main_arg2))
      ∧ r.2.mem ((c.tc : Thread nD τ).loc main_v35) = val_main_v35 (F := Ideal) (m ((c.tc : Thread nD τ).loc main_arg2))
      ∧ r.2.mem ((c.tc : Thread nD τ).loc main_v37) = val_main_v37 (F := Ideal) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v29_eq _ _ _ _), (h c).2.1.trans (val_main_v32_eq _),
    (h c).2.2.1.trans (val_main_v35_eq _), (h c).2.2.2.1.trans (val_main_v37_eq _), (h c).2.2.2.2⟩) (Value.run m ρ)

end

/-- The program as printed and the idealized one run the same body, read at the formats' words. -/
theorem body_eq : Cert.Head.defs₀ (F := Bits) = Cert.HeadIdeal.defs₀ (F := Bits) := by
  unfold Cert.Head.defs₀ Cert.HeadIdeal.defs₀
  refine congrArg _ (funext fun l => funext fun a => ?_)
  match l, a with
  | 0, (t, s) => rfl

/-- So they have the same table of bodies. -/
theorem defs_eq : Cert.Head.defs (F := Bits) = Cert.HeadIdeal.defs (F := Bits) :=
  congrArg (Pipeline.defs (Cert.HeadIdeal.pcfgs (F := Bits))) body_eq

/-- The program as printed keeps its arguments: it is the text the run is about. -/
theorem frame_kernel : Cert.quiescent_Head := fun m ρ _ => by
  rw [defs_eq]
  exact Cert.HeadIdeal.Gen.frame (F := Bits) m ρ

/-- So does the idealized one. -/
theorem frame_ideal : Cert.quiescent_HeadIdeal := fun m ρ _ => Cert.HeadIdeal.Gen.frame (F := Ideal) m ρ

/-- And the reference. -/
theorem frame_ref : Cert.quiescent_HeadRefIdeal := fun m ρ _ =>
  (θ_run Cert.HeadRefIdeal.defs _ _).mono (fun r h => ⟨fun c => (h c).2.2.2.2, sem_eq_zero_of_no_sems (by decide) r.2⟩) (runRef m ρ)

/-- The kernel's results are the reference's. -/
theorem algebraic : Cert.algebraic_HeadIdeal_HeadRefIdeal := by
  pair_intro
  · run_from result m g
  · run_from runRef m' g'
    · exact Cert.HeadRefIdeal.Ref.v29_eq _ _ _ _
    · exact Cert.HeadRefIdeal.Ref.v32_eq _
    · exact Cert.HeadRefIdeal.Ref.v35_eq _
    · exact Cert.HeadRefIdeal.Ref.v37_eq _

end Cert.HeadFinal

end
-- ==== Proof.HeadLast.Points.lean ====
/- What each kind of grid point of the first row tile's call in the second feed-forward half stores, at an index, over the extended
   reals. The body is the one of the call without the closing normalization, whose lemmas serve here, and at the last point a loop that
   normalizes the rows. -/
module

public import proofs.«01_k».proof.Proof.Head.Tile
public import proofs.«01_k».proof.Proof.Gen.HeadLastIdeal.Frame.RunA
public import proofs.«01_k».proof.Proof.Gen.HeadLastIdeal.Frame.RunB
public import proofs.«01_k».proof.Proof.Gen.HeadLastIdeal.Frame.RunC

@[expose] public section

set_option maxRecDepth 16384

noncomputable section

namespace Cert.HeadLastRun

open Cert.FeedForward Cert.HeadLastIdeal Cert.HeadLastIdeal.Gen Cert.HeadBlock Cert.HeadTile Cert.Pieces
open Idealize.ShloMosaic Idealize.ShloMosaic.TcCoe Idealize.SL.Sem

section

variable {c : Dev nD} {i : grid0.Coords}
  {arg1 : Memref sig Kind.tc Space.vmem S1024x2048 EltTy.f32} {harg1 : arg1.IsWhole}
  {arg2 : Memref sig Kind.tc Space.vmem S1x2048 EltTy.f32} {harg2 : arg2.IsWhole}
  {arg3 : Memref sig Kind.tc Space.vmem S2048x256 EltTy.f32} {harg3 : arg3.IsWhole}
  {arg4 : Memref sig Kind.tc Space.vmem S2048x256 EltTy.f32} {harg4 : arg4.IsWhole}
  {arg5 : Memref sig Kind.tc Space.vmem S256x2048 EltTy.f32} {harg5 : arg5.IsWhole}
  {arg6 : Memref sig Kind.tc Space.vmem S1x2048 EltTy.f32} {harg6 : arg6.IsWhole}
  {arg7 : Memref sig Kind.tc Space.vmem S1024x2048 EltTy.f32} {harg7 : arg7.IsWhole}
  {arg8 : Memref sig Kind.tc Space.vmem S1x2048x256 EltTy.bf16} {harg8 : arg8.IsWhole}
  {arg9 : Memref sig Kind.tc Space.vmem S1x2048x256 EltTy.bf16} {harg9 : arg9.IsWhole}
  {arg10 : Memref sig Kind.tc Space.vmem S256x2048 EltTy.bf16} {harg10 : arg10.IsWhole}
  {arg11 : Memref sig Kind.tc Space.vmem S1024x2048 EltTy.bf16} {harg11 : arg11.IsWhole}
  {x0 : FVec Ideal S1024x2048 .f32} {x1 : FVec Ideal S1x2048 .f32} {x2 x3 : FVec Ideal S2048x256 .f32} {x4 : FVec Ideal S256x2048 .f32} {x5 : FVec Ideal S1x2048 .f32}
  {xo : FVec Ideal S1024x2048 .f32} {xs : FVec Ideal S1024x2048 .bf16}

/-- The hidden units of the four groups of 256 rows. -/
theorem unitsA0 (r : Fin 256) (r' : Fin 1024) (hr : r'.val = 0 + r) (q : Fin 256) :
    kernelRun0_A.sl.r (F := Ideal) c arg1 harg1 arg2 harg2 arg3 harg3 arg4 harg4 arg8 arg9 x0 x1 x2 x3 (ix2 r q) = unitT (HN x0 x1 r') x2 x3 q :=
  (pay16_at _ _ _ _ r q).trans (hidden_read (funext fun k => (pay14_at _ _ r k).trans (rows_read _ _ r r' hr k)) _ _ q)
theorem unitsA1 (r : Fin 256) (r' : Fin 1024) (hr : r'.val = 256 + r) (q : Fin 256) :
    k0_pay20 (F := Ideal) (kernelRun0_A.sl.r_1 c arg1 harg1 arg2 harg2 x0 x1) (kernelRun0_A.sl.v47 c arg3 harg3 arg8 x2) (kernelRun0_A.sl.v50 c arg4 harg4 arg9 x3) (ix2 r q)
      = unitT (HN x0 x1 r') x2 x3 q :=
  (pay23_at _ _ _ r q).trans (hidden_read (funext fun k => (pay21_at _ _ r k).trans (rows_read _ _ r r' hr k)) _ _ q)
theorem unitsA2 (r : Fin 256) (r' : Fin 1024) (hr : r'.val = 512 + r) (q : Fin 256) :
    kernelRun0_A.sl.r_3 (F := Ideal) c arg1 harg1 arg2 harg2 arg3 harg3 arg4 harg4 arg8 arg9 x0 x1 x2 x3 (ix2 r q) = unitT (HN x0 x1 r') x2 x3 q :=
  (pay31_at _ _ _ _ r q).trans (hidden_read (funext fun k => (pay29_at _ _ r k).trans (rows_read _ _ r r' hr k)) _ _ q)
theorem unitsA3 (r : Fin 256) (r' : Fin 1024) (hr : r'.val = 768 + r) (q : Fin 256) :
    k0_pay4 (F := Ideal) (kernelRun0_A.sl.r_5 c arg1 harg1 arg2 harg2 x0 x1) (kernelRun0_A.sl.r_6 c arg3 harg3 arg8 x2) kernelRun0_A.sl.cst_135 (kernelRun0_A.sl.v188 c arg4 harg4 arg9 x3) (ix2 r q)
      = unitT (HN x0 x1 r') x2 x3 q :=
  (pay4_at _ _ _ r q).trans (hidden_read (funext fun k => (pay36_at _ _ r k).trans (rows_read _ _ r r' hr k)) _ _ q)

section

variable {hc0 : cond0_0 i} {hc1 : ¬ cond0_1 i} {hc2 : ¬ cond0_2 i}

/-- What the first point stores into the output is the first tile's share, -/
theorem piecesA :
    View.PiecesOf (tileA x0 x1 x2 x3 x4) (kernelRun0_A (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5).1 := by
  unfold kernelRun0_A
  dsimp only
  refine ⟨piece_of _ (by decide) _ fun r q r' q' hr hq => (pay8_at _ _ _ _ _ r q).trans (tile_read _ _ (unitsA3 (c := c) r r' hr) q q' hq),
    piece_of _ (by decide) _ fun r q r' q' hr hq => (pay7_at _ _ _ _ _ r q).trans (tile_read _ _ (unitsA3 (c := c) r r' hr) q q' hq),
    piece_of _ (by decide) _ fun r q r' q' hr hq => (pay6_at _ _ _ _ _ r q).trans (tile_read _ _ (unitsA3 (c := c) r r' hr) q q' hq),
    piece_of _ (by decide) _ fun r q r' q' hr hq => (pay5_at _ _ _ _ _ r q).trans (tile_read _ _ (unitsA3 (c := c) r r' hr) q q' hq),
    piece_of _ (by decide) _ fun r q r' q' hr hq => (pay35_at _ _ r q).trans (tile_read _ _ (unitsA2 (c := c) r r' hr) q q' hq),
    piece_of _ (by decide) _ fun r q r' q' hr hq => (pay34_at _ _ r q).trans (tile_read _ _ (unitsA2 (c := c) r r' hr) q q' hq),
    piece_of _ (by decide) _ fun r q r' q' hr hq => (pay33_at _ _ _ _ _ r q).trans (tile_read _ _ (unitsA2 (c := c) r r' hr) q q' hq),
    piece_of _ (by decide) _ fun r q r' q' hr hq => (pay32_at _ _ _ _ _ r q).trans (tile_read _ _ (unitsA2 (c := c) r r' hr) q q' hq),
    piece_of _ (by decide) _ fun r q r' q' hr hq => (pay27_at _ _ _ _ r q).trans (tile_read _ _ (unitsA1 (c := c) r r' hr) q q' hq),
    piece_of _ (by decide) _ fun r q r' q' hr hq => (pay26_at _ _ _ _ r q).trans (tile_read _ _ (unitsA1 (c := c) r r' hr) q q' hq),
    piece_of _ (by decide) _ fun r q r' q' hr hq => (pay25_at _ _ _ _ r q).trans (tile_read _ _ (unitsA1 (c := c) r r' hr) q q' hq),
    piece_of _ (by decide) _ fun r q r' q' hr hq => (pay24_at _ _ _ _ r q).trans (tile_read _ _ (unitsA1 (c := c) r r' hr) q q' hq),
    piece_of _ (by decide) _ fun r q r' q' hr hq => (pay20_at _ _ r q).trans (tile_read _ _ (unitsA0 (c := c) r r' hr) q q' hq),
    piece_of _ (by decide) _ fun r q r' q' hr hq => (pay19_at _ _ r q).trans (tile_read _ _ (unitsA0 (c := c) r r' hr) q q' hq),
    piece_of _ (by decide) _ fun r q r' q' hr hq => (pay18_at _ _ r q).trans (tile_read _ _ (unitsA0 (c := c) r r' hr) q q' hq),
    piece_of _ (by decide) _ fun r q r' q' hr hq => (pay17_at _ _ _ _ _ r q).trans (tile_read _ _ (unitsA0 (c := c) r r' hr) q q' hq), trivial⟩

/-- and what it stores into the scratch are the normalized rows. -/
theorem spiecesA :
    View.PiecesOf (rowsG x0 x1) (kernelRun0_A (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5).2.2.2.2.1 := by
  unfold kernelRun0_A
  dsimp only
  have hq0 : ∀ {r' : Fin 1024} {q' q : Fin 2048}, q'.val = 0 + q → HN x0 x1 r' q = rowsG x0 x1 (ix2 r' q') := fun {r' q' q} h => by
    rw [show q = q' from Fin.ext (by omega)]; rfl
  refine ⟨piece_of _ (by decide) _ fun r q r' q' hr hq => (pay37_at _ _ r q).trans ((pay36_at _ _ r q).trans ((rows_read _ _ r r' hr q).trans (hq0 hq))),
    piece_of _ (by decide) _ fun r q r' q' hr hq => (pay30_at _ _ r q).trans ((pay29_at _ _ r q).trans ((rows_read _ _ r r' hr q).trans (hq0 hq))),
    piece_of _ (by decide) _ fun r q r' q' hr hq => (pay22_at _ _ r q).trans ((pay21_at _ _ r q).trans ((rows_read _ _ r r' hr q).trans (hq0 hq))),
    piece_of _ (by decide) _ fun r q r' q' hr hq => (pay15_at _ _ r q).trans ((pay14_at _ _ r q).trans ((rows_read _ _ r r' hr q).trans (hq0 hq))), trivial⟩

/-- Its tiles of weights, -/
theorem weightsA :
    View.PiecesOf (weightG x2) (kernelRun0_A (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5).2.1
      ∧ View.PiecesOf (weightG x3) (kernelRun0_A (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5).2.2.1
      ∧ View.PiecesOf (secondG x4) (kernelRun0_A (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5).2.2.2.1 := by
  unfold kernelRun0_A
  dsimp only
  exact ⟨weight_piece _ _ fun k q => pay1_read _ k q, weight_piece _ _ fun k q => pay2_read _ k q, second_piece _⟩

end

/-- The hidden units at a middle point and at the last point. -/
theorem unitsB (r r' : Fin 1024) (hr : r'.val = 0 + r) (q : Fin 256) :
    kernelRun0_B.sl.r (F := Ideal) c arg3 harg3 arg4 harg4 arg8 arg9 arg11 harg11 x2 x3 xs (ix2 r q) = unitT (fun k => xs (ix2 r' k)) x2 x3 q :=
  (pay39_at _ _ _ r q).trans (hidden_read (scratch_read _ r r' hr) _ _ q)
theorem unitsC (r r' : Fin 1024) (hr : r'.val = 0 + r) (q : Fin 256) :
    kernelRun0_C.sl.r (F := Ideal) c arg3 harg3 arg4 harg4 arg8 arg9 arg11 harg11 x2 x3 xs (ix2 r q) = unitT (fun k => xs (ix2 r' k)) x2 x3 q :=
  (pay43_at _ _ _ r q).trans (hidden_read (scratch_read _ r r' hr) _ _ q)

section

variable {hc0 : ¬ cond0_0 i} {hc1 : cond0_1 i} {hc2 : ¬ cond0_2 i}

/-- What a middle point stores is the output with one more tile's share, -/
theorem piecesB :
    View.PiecesOf (tileB x2 x3 x4 xo xs) (kernelRun0_B (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xo xs).1 := by
  unfold kernelRun0_B
  dsimp only
  refine ⟨piece_of _ (by decide) _ fun r q r' q' hr hq => (pay10_at _ _ _ r q).trans (Ideal.add_congr (readAt_at (Val := Elt Ideal) harg7 xo _ r' q' r q hr hq) (tile_read _ _ (unitsB (c := c) r r' hr) q q' hq)),
    piece_of _ (by decide) _ fun r q r' q' hr hq => (pay9_at _ _ _ _ _ r q).trans (Ideal.add_congr (readAt_at (Val := Elt Ideal) harg7 xo _ r' q' r q hr hq) (tile_read _ _ (unitsB (c := c) r r' hr) q q' hq)),
    piece_of _ (by decide) _ fun r q r' q' hr hq => (pay41_at _ _ _ _ _ r q).trans (Ideal.add_congr (readAt_at (Val := Elt Ideal) harg7 xo _ r' q' r q hr hq) (tile_read _ _ (unitsB (c := c) r r' hr) q q' hq)),
    piece_of _ (by decide) _ fun r q r' q' hr hq => (pay40_at _ _ _ _ _ r q).trans (Ideal.add_congr (readAt_at (Val := Elt Ideal) harg7 xo _ r' q' r q hr hq) (tile_read _ _ (unitsB (c := c) r r' hr) q q' hq)), trivial⟩

/-- and the tiles of weights, -/
theorem weightsB :
    View.PiecesOf (weightG x2) (kernelRun0_B (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xo xs).2.1
      ∧ View.PiecesOf (weightG x3) (kernelRun0_B (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xo xs).2.2.1
      ∧ View.PiecesOf (secondG x4) (kernelRun0_B (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xo xs).2.2.2.1 := by
  unfold kernelRun0_B
  dsimp only
  exact ⟨weight_piece _ _ fun k q => pay1_read _ k q, weight_piece _ _ fun k q => pay2_read _ k q, second_piece _⟩

end

section

variable {hc0 : ¬ cond0_0 i} {hc1 : ¬ cond0_1 i} {hc2 : cond0_2 i}

/-- What the last point stores before its loop are the rows with half of the second projection added. -/
theorem piecesC :
    View.PiecesOf (tileC x0 x2 x3 x4 xo xs) (kernelRun0_C.sl.H6_4 (F := Ideal) c arg1 harg1 arg3 harg3 arg4 harg4 arg5 harg5 arg7 harg7 arg8 arg9 arg10 arg11 harg11 x0 x2 x3 x4 xo xs) := by
  unfold kernelRun0_C.sl.H6_4
  have cong : ∀ {r' : Fin 1024} {q' : Fin 2048} {a b d : EReal}, a = x0 (ix2 r' q') → b = xo (ix2 r' q') → d = partT (fun k => xs (ix2 r' k)) x2 x3 x4 q' →
      a + Ideal.ofBits .f32 0x3F000000#32 * (b + d) = tileC x0 x2 x3 x4 xo xs (ix2 r' q') := by
    rintro _ _ _ _ _ rfl rfl rfl; rfl
  refine ⟨piece_of _ (by decide) _ fun r q r' q' hr hq => (pay13_at _ _ _ _ r q).trans (cong (readAt_at (Val := Elt Ideal) harg1 x0 _ r' q' r q hr hq) (readAt_at (Val := Elt Ideal) harg7 xo _ r' q' r q hr hq) (tile_read _ _ (unitsC (c := c) r r' hr) q q' hq)),
    piece_of _ (by decide) _ fun r q r' q' hr hq => (pay12_at _ _ _ _ r q).trans (cong (readAt_at (Val := Elt Ideal) harg1 x0 _ r' q' r q hr hq) (readAt_at (Val := Elt Ideal) harg7 xo _ r' q' r q hr hq) (tile_read _ _ (unitsC (c := c) r r' hr) q q' hq)),
    piece_of _ (by decide) _ fun r q r' q' hr hq => (pay11_at _ _ _ _ _ _ r q).trans (cong (readAt_at (Val := Elt Ideal) harg1 x0 _ r' q' r q hr hq) (readAt_at (Val := Elt Ideal) harg7 xo _ r' q' r q hr hq) (tile_read _ _ (unitsC (c := c) r r' hr) q q' hq)),
    piece_of _ (by decide) _ fun r q r' q' hr hq => (pay44_at _ _ _ _ _ _ r q).trans (cong (readAt_at (Val := Elt Ideal) harg1 x0 _ r' q' r q hr hq) (readAt_at (Val := Elt Ideal) harg7 xo _ r' q' r q hr hq) (tile_read _ _ (unitsC (c := c) r r' hr) q q' hq)), trivial⟩

/-- A row normalized by the closing loop. -/
theorem pay47_at (v : FVec Ideal S128x2048 .f32) (g : FVec Ideal S1x2048 .f32) (r : Fin 128) (k : Fin 2048) :
    k0_pay47 (F := Ideal) v g (ix2 r k) = nrm (fun k => g (ix2 0 k)) (fun k => v (ix2 r k)) k := by
  pointwise [k0_pay47, nrm]

/-- The loop's row offsets. -/
theorem off_eq : ∀ k : Fin k0_t1_loop.trips, k0_off1 k = ![128 * k.val, 0] := by decide +kernel

/-- What one trip of the loop stores: its 128 rows as found, normalized. -/
theorem trip_pieces (k : Fin k0_t1_loop.trips) (f : BufTy.Contents (Elt Ideal) arg7.view.ty)
    (inb : ∀ a, (![128 * k.val, 0] : Fin 2 → ℕ) a + (![128, 2048] : Fin 2 → ℕ) a ≤ S1024x2048.size a) :
    tripL_k0_t1 (F := Ideal) Variants.none c none i arg1 harg1 arg2 harg2 arg3 harg3 arg4 harg4 arg5 harg5 arg6 harg6 arg7 harg7 arg8 harg8 arg9 harg9 arg10 harg10 arg11 harg11 hc2 (harg6.unread x5) k f
      = [⟨Rect.unit (s := S1024x2048) ![128 * k.val, 0] ![128, 2048] inb,
          k0_pay47 (View.readAt (Elt Ideal) arg7.view (Rect.unit (s := S1024x2048) ![128 * k.val, 0] ![128, 2048] inb).toLoadRect f)
            (View.readAt (Elt Ideal) arg6.view (Rect.unit (s := S1x2048) ![0, 0] ![1, 2048] inb_S1x2048_S1x2048_0_0).toLoadRect (harg6.unread x5))⟩] := by
  have key : ∀ (off : Fin 2 → ℕ) (e : off = ![128 * k.val, 0]) (inb₀ : ∀ a, off a + S128x2048.size a ≤ S1024x2048.size a),
      ([⟨Rect.unit (s := S1024x2048) off S128x2048.size inb₀,
          k0_pay47 (View.readAt (Elt Ideal) arg7.view (Rect.unit (s := S1024x2048) off S128x2048.size inb₀).toLoadRect f)
            (View.readAt (Elt Ideal) arg6.view (Rect.unit (s := S1x2048) ![0, 0] ![1, 2048] inb_S1x2048_S1x2048_0_0).toLoadRect (harg6.unread x5))⟩] : List (View.Piece (Elt Ideal) S1024x2048 .f32))
      = [⟨Rect.unit (s := S1024x2048) ![128 * k.val, 0] ![128, 2048] inb,
          k0_pay47 (View.readAt (Elt Ideal) arg7.view (Rect.unit (s := S1024x2048) ![128 * k.val, 0] ![128, 2048] inb).toLoadRect f)
            (View.readAt (Elt Ideal) arg6.view (Rect.unit (s := S1x2048) ![0, 0] ![1, 2048] inb_S1x2048_S1x2048_0_0).toLoadRect (harg6.unread x5))⟩] := by
    rintro _ rfl _; rfl
  unfold tripL_k0_t1 trip_k0_t1
  exact key _ (off_eq k) _

/-- After the trips before `k`, the rows before `128 k` are normalized and the later ones are as the loop found them. -/
theorem loop_at (L : List (View.Piece (Elt Ideal) S1024x2048 .f32)) (k : ℕ) (hk : k ≤ 8) (r : Fin 1024) (p : Fin 2048) :
    View.canon (pb_k0_t1 (F := Ideal) Variants.none c none i arg1 harg1 arg2 harg2 arg3 harg3 arg4 harg4 arg5 harg5 arg6 harg6 arg7 harg7 arg8 harg8 arg9 harg9 arg10 harg10 arg11 harg11 hc2 (harg6.unread x5)
        (arg7.view.writes (Elt Ideal) arg7.view.junk L) k ++ L) (ix2 r p)
      = if r.val < 128 * k then nrm (fun l => x5 (ix2 0 l)) (fun l => View.canon L (ix2 r l)) p else View.canon L (ix2 r p) := by
  induction k generalizing r p with
  | zero => rw [if_neg (by omega)]; rfl
  | succ k ih =>
    have hk' : k < k0_t1_loop.trips := by have : k0_t1_loop.trips = 8 := by decide +kernel
                                          omega
    have inb : ∀ a, (![128 * k, 0] : Fin 2 → ℕ) a + (![128, 2048] : Fin 2 → ℕ) a ≤ S1024x2048.size a := by
      intro a
      match a with
      | 0 => show 128 * k + 128 ≤ 1024; omega
      | 1 => show 0 + 2048 ≤ 2048; omega
    rw [pb_k0_t1_succ (k := ⟨k, hk'⟩), trip_pieces ⟨k, hk'⟩ _ inb, List.append_assoc, List.singleton_append]
    by_cases h : 128 * k ≤ r.val ∧ r.val < 128 * k + 128
    · refine (canon_hit inb _ _ r p (⟨r.val - 128 * k, by omega⟩ : Fin 128) p (by show r.val = 128 * k + (r.val - 128 * k); omega) (by simp)).trans ?_
      rw [if_pos (by omega)]
      refine (pay47_at _ _ _ _).trans ?_
      congr 1
      · funext l; exact readAt_at (Val := Elt Ideal) harg6 x5 _ 0 l 0 l (by simp) (by simp)
      · funext l
        rw [← View.writes_append]
        refine (readCov_at arg7.view inb _ r l (⟨r.val - 128 * k, by omega⟩ : Fin 128) l (by show r.val = 128 * k + (r.val - 128 * k); omega) (by simp)).trans ?_
        rw [ih (by omega) r l, if_neg (by omega)]
    · refine (canon_miss inb _ _ r p (by omega)).trans ?_
      rw [ih (by omega) r p]
      by_cases h2 : r.val < 128 * k
      · rw [if_pos h2, if_pos (by omega)]
      · rw [if_neg h2, if_neg (by omega)]

/-- The last point's stores: the loop's over those before it. -/
theorem runC_list :
    (kernelRun0_C (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xo xs).1
      = pb_k0_t1 (F := Ideal) Variants.none c none i arg1 harg1 arg2 harg2 arg3 harg3 arg4 harg4 arg5 harg5 arg6 harg6 arg7 harg7 arg8 harg8 arg9 harg9 arg10 harg10 arg11 harg11 hc2 (harg6.unread x5)
          (arg7.view.writes (Elt Ideal) arg7.view.junk (kernelRun0_C.sl.H6_4 (F := Ideal) c arg1 harg1 arg3 harg3 arg4 harg4 arg5 harg5 arg7 harg7 arg8 arg9 arg10 arg11 harg11 x0 x2 x3 x4 xo xs)) k0_t1_loop.trips
        ++ kernelRun0_C.sl.H6_4 (F := Ideal) c arg1 harg1 arg3 harg3 arg4 harg4 arg5 harg5 arg7 harg7 arg8 arg9 arg10 arg11 harg11 x0 x2 x3 x4 xo xs := by
  unfold kernelRun0_C
  rfl

/-- The loop runs eight times. -/
theorem trips_eq : k0_t1_loop.trips = 8 := by decide +kernel

/-- The last point leaves the rows normalized. -/
theorem runC_at
    (hcov : ∀ y : S1024x2048.Idx, ∃ pc ∈ kernelRun0_C.sl.H6_4 (F := Ideal) c arg1 harg1 arg3 harg3 arg4 harg4 arg5 harg5 arg7 harg7 arg8 arg9 arg10 arg11 harg11 x0 x2 x3 x4 xo xs, y ∈ pc.1.set)
    (r : Fin 1024) (p : Fin 2048) :
    View.canon (kernelRun0_C (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xo xs).1 (ix2 r p)
      = nrm (fun l => x5 (ix2 0 l)) (fun l => tileC x0 x2 x3 x4 xo xs (ix2 r l)) p := by
  rw [runC_list]
  refine (loop_at _ k0_t1_loop.trips (le_of_eq trips_eq) r p).trans ?_
  rw [if_pos (by rw [trips_eq]; omega)]
  refine congrArg (fun v => nrm (fun l => x5 (ix2 0 l)) v p) (funext fun l => ?_)
  exact View.canon_apply_of_pieces (tileC x0 x2 x3 x4 xo xs) _ piecesC.mem _ (hcov _)

/-- It stores the tiles of weights too. -/
theorem weightsC :
    View.PiecesOf (weightG x2) (kernelRun0_C (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xo xs).2.1
      ∧ View.PiecesOf (weightG x3) (kernelRun0_C (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xo xs).2.2.1
      ∧ View.PiecesOf (secondG x4) (kernelRun0_C (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xo xs).2.2.2.1 := by
  unfold kernelRun0_C
  dsimp only
  exact ⟨weight_piece _ _ fun k q => pay1_read _ k q, weight_piece _ _ fun k q => pay2_read _ k q, second_piece _⟩

end

end

end Cert.HeadLastRun

end
-- ==== Proof.HeadLast.Steps.lean ====
/- What each kind of grid point of the first row tile's call in the second feed-forward half leaves in its outputs and in the scratch,
   from the point's blocks. -/
module

public import proofs.«01_k».proof.Proof.HeadLast.Points
public import proofs.«01_k».proof.Proof.Gen.HeadLastIdeal.Frame

@[expose] public section

set_option maxRecDepth 16384

noncomputable section

namespace Cert.HeadLastRun

open Cert.FeedForward Cert.HeadLastIdeal Cert.HeadLastIdeal.Gen Cert.HeadBlock Cert.HeadTile Cert.Pieces
open Idealize.ShloMosaic Idealize.ShloMosaic.TcCoe Idealize.SL.Sem

attribute [local irreducible] kernelRun0_A kernelRun0_B kernelRun0_C

variable (m : (ℓ : Loc nD τ sig) → Buf (Elt Ideal) ℓ)

/-- Stores over an unknown buffer that are blocks of one array and cover the buffer leave that array. -/
theorem back_eq {s : Shape} {e : EltTy} {v : View sig .tc .vmem s e} (G : s.Idx → Elt Ideal e) (L : List (View.Piece (Elt Ideal) s e))
    (hL : View.PiecesOf G L) (hc : ∀ y, ∃ p ∈ L, y ∈ p.1.set) : v.read (Elt Ideal) (v.writes (Elt Ideal) v.junk L) = G :=
  (View.read_writes_junk_eq_canon v L).trans (funext fun y => View.canon_apply_of_pieces G L hL.mem y (hc y))

/-- The first point leaves the first tile's share in the output and the normalized rows in the scratch. -/
theorem outA (c : Dev nD) (t : Fin cfg0.N) (h0 : t.val % 22 = 0) :
    (outsAt0 m c t.val t.isLt).1 = tileA (iblk m c 0 t) (iblk m c 1 t) (iblk m c 2 t) (iblk m c 3 t) (iblk m c 4 t)
      ∧ (outsAt0 m c t.val t.isLt).2.2.2.2 = rowsG (iblk m c 0 t) (iblk m c 1 t) := by
  rw [outsAt0_A m c t h0 (by omega) (by omega)]
  dsimp only [out0_A_6, out0_A_7, out0_A_8, out0_A_9, sout0_A_0]
  exact ⟨back_eq _ _ piecesA fun y => by apply cover0_A_6,
    back_eq _ _ spiecesA fun y => by apply scover0_A_0⟩

/-- A middle point adds its tile's share and keeps the scratch. -/
theorem outB (c : Dev nD) (t : Fin cfg0.N) (h0 : t.val % 22 ≠ 0) (h21 : t.val % 22 ≠ 21) :
    (outsAt0 m c t.val t.isLt).1 = tileB (iblk m c 2 t) (iblk m c 3 t) (iblk m c 4 t)
        (outsAt0 m c (t.val - 1) (Nat.lt_of_le_of_lt (Nat.sub_le _ _) t.isLt)).1 (outsAt0 m c (t.val - 1) (Nat.lt_of_le_of_lt (Nat.sub_le _ _) t.isLt)).2.2.2.2
      ∧ (outsAt0 m c t.val t.isLt).2.2.2.2 = (outsAt0 m c (t.val - 1) (Nat.lt_of_le_of_lt (Nat.sub_le _ _) t.isLt)).2.2.2.2 := by
  rw [outsAt0_B m c t h0 (by omega) h21]
  dsimp only [out0_B_6, out0_B_7, out0_B_8, out0_B_9, sout0_B_0]
  exact ⟨back_eq _ _ piecesB fun y => by apply cover0_B_6, rfl⟩

/-- The pieces stored before the loop of the last point cover the output. -/
theorem coverH (c : Dev nD) (t : Fin cfg0.N) (xo : FVec Ideal S1024x2048 .f32) (xs : FVec Ideal S1024x2048 .bf16) (y : S1024x2048.Idx) :
    ∃ pc ∈ kernelRun0_C.sl.H6_4 (F := Ideal) c (ms0_0 t) (hs0_0 t) (ms0_2 t) (hs0_2 t) (ms0_3 t) (hs0_3 t) (ms0_4 t) (hs0_4 t) (ms0_6 t) (hs0_6 t)
      (ms0_7 t) (ms0_8 t) (ms0_9 t) scM0_0 (Memref.isWhole_whole _) (iblk m c 0 t) (iblk m c 2 t) (iblk m c 3 t) (iblk m c 4 t) xo xs, y ∈ pc.1.set :=
  View.cover_of_tiledL (s := S1024x2048) _ ![1024, 512] (by sl_kernel_rfl) y

/-- The last point adds its tile's share, adds half of the sum to the activations and normalizes the rows. -/
theorem outC (c : Dev nD) (t : Fin cfg0.N) (h21 : t.val % 22 = 21) (r : Fin 1024) (p : Fin 2048) :
    (outsAt0 m c t.val t.isLt).1 (ix2 r p) = nrm (fun l => (iblk m c 5 t : FVec Ideal S1x2048 .f32) (ix2 0 l))
      (fun l => tileC (iblk m c 0 t) (iblk m c 2 t) (iblk m c 3 t) (iblk m c 4 t)
        (outsAt0 m c (t.val - 1) (Nat.lt_of_le_of_lt (Nat.sub_le _ _) t.isLt)).1 (outsAt0 m c (t.val - 1) (Nat.lt_of_le_of_lt (Nat.sub_le _ _) t.isLt)).2.2.2.2 (ix2 r l)) p := by
  rw [outsAt0_C m c t (by omega) (by omega) h21]
  dsimp only [out0_C_6, out0_C_7, out0_C_8, out0_C_9, sout0_C_0]
  refine (congrFun (View.read_writes_junk_eq_canon _ _) _).trans ?_
  exact runC_at (coverH m c t _ _) r p

/-- Every point leaves its tiles of weights. -/
theorem outW (c : Dev nD) (t : Fin cfg0.N) :
    (outsAt0 m c t.val t.isLt).2.1 = weightG (iblk m c 2 t) ∧ (outsAt0 m c t.val t.isLt).2.2.1 = weightG (iblk m c 3 t)
      ∧ (outsAt0 m c t.val t.isLt).2.2.2.1 = secondG (iblk m c 4 t) := by
  by_cases h0 : t.val % 22 = 0
  · rw [outsAt0_A m c t h0 (by omega) (by omega)]
    dsimp only [out0_A_6, out0_A_7, out0_A_8, out0_A_9, sout0_A_0]
    exact ⟨back_eq _ _ weightsA.1 fun y => by apply cover0_A_7,
      back_eq _ _ weightsA.2.1 fun y => by apply cover0_A_8,
      back_eq _ _ weightsA.2.2 fun y => by apply cover0_A_9⟩
  · by_cases h21 : t.val % 22 = 21
    · rw [outsAt0_C m c t (by omega) (by omega) h21]
      dsimp only [out0_C_6, out0_C_7, out0_C_8, out0_C_9, sout0_C_0]
      exact ⟨back_eq _ _ weightsC.1 fun y => by apply cover0_C_7,
        back_eq _ _ weightsC.2.1 fun y => by apply cover0_C_8,
        back_eq _ _ weightsC.2.2 fun y => by apply cover0_C_9⟩
    · rw [outsAt0_B m c t h0 (by omega) h21]
      dsimp only [out0_B_6, out0_B_7, out0_B_8, out0_B_9, sout0_B_0]
      exact ⟨back_eq _ _ weightsB.1 fun y => by apply cover0_B_7,
        back_eq _ _ weightsB.2.1 fun y => by apply cover0_B_8,
        back_eq _ _ weightsB.2.2 fun y => by apply cover0_B_9⟩

end Cert.HeadLastRun

end
-- ==== Proof.HeadLast.Spec.lean ====
/- The rows of the first row tile's call in the second feed-forward half as a function of the argument arrays: the first 1024 tokens
   with half of a gated feed-forward layer added, normalized. Its other results are those of the call without the closing
   normalization. -/
module

public import proofs.«01_k».proof.Proof.Head.Spec
public import proofs.«01_k».proof.HeadLastIdeal

@[expose] public section

set_option maxRecDepth 16384

noncomputable section

namespace Cert.HeadLastSpec

open Cert.FeedForward Cert.HeadLastIdeal Idealize.ShloMosaic

/-- The rows. -/
def rows (x : FVec Ideal S4x4096x2048 .f32) (g : FVec Ideal S1x2048 .f32) (w : FVec Ideal S1x2048x11264 .f32) (wo : FVec Ideal S1x5632x2048 .f32)
    (fg : FVec Ideal S2048 .f32) : FVec Ideal S1024x2048 .f32 := fun i =>
  nrm (fun k => fg (ix1 k)) (row x g w wo 0 ⟨(i 0).val, by have : (i 0).val < 1024 := (i 0).isLt; omega⟩) (i 1)

end Cert.HeadLastSpec

end
-- ==== Proof.HeadLast.Fold.lean ====
/- The blocks of the first row tile's call in the second half at a grid point as parts of the argument arrays, and what the output and the scratch hold
   after each point: the sum over the tiles so far, and after the last point the result's rows. -/
module

public import proofs.«01_k».proof.Proof.HeadLast.Steps
public import proofs.«01_k».proof.Proof.HeadLast.Spec
public import Idealize.ShloMosaic.Lib.Pipeline.ValueKit

@[expose] public section

set_option maxRecDepth 16384

noncomputable section

namespace Cert.HeadLastRun

open Cert.FeedForward Cert.HeadLastIdeal Cert.HeadLastIdeal.Gen Cert.HeadBlock Cert.HeadTile Cert.HeadLastSpec
open Idealize.ShloMosaic Idealize.ShloMosaic.TcCoe Idealize.SL.Sem

attribute [local irreducible] kernelRun0_A kernelRun0_B kernelRun0_C

variable (m : (ℓ : Loc nD τ sig) → Buf (Elt Ideal) ℓ)

/-- The argument arrays on core `c`: the activations, the gains, the two weights and the closing gains. -/
abbrev mx (c : Dev nD) : FVec Ideal S4x4096x2048 .f32 := m ((c : Thread nD τ).loc main_arg0)
abbrev mg (c : Dev nD) : FVec Ideal S1x2048 .f32 := m ((c : Thread nD τ).loc main_arg1)
abbrev mw (c : Dev nD) : FVec Ideal S1x2048x11264 .f32 := m ((c : Thread nD τ).loc main_arg2)
abbrev mo (c : Dev nD) : FVec Ideal S1x5632x2048 .f32 := m ((c : Thread nD τ).loc main_arg3)
abbrev mf (c : Dev nD) : FVec Ideal S2048 .f32 := m ((c : Thread nD τ).loc main_arg4)

/-- The blocks each grid point works on, by index. -/
theorem idx : ∀ t : Fin cfg0.N, win0_0.index t = ![0, 0] ∧ win0_1.index t = ![0, 0] ∧ win0_2.index t = ![0, t.val] ∧ win0_3.index t = ![0, t.val + 22]
    ∧ win0_4.index t = ![t.val, 0] ∧ win0_5.index t = ![0, 0] ∧ win0_6.index t = ![0, 0] ∧ win0_7.index t = ![t.val, 0, 0] ∧ win0_8.index t = ![t.val, 0, 0] ∧ win0_9.index t = ![t.val, 0]
    ∧ t.val < 22 :=
  (by decide +kernel : ∀ t : Fin grid0.N, _)

theorem lt22 (t : Fin cfg0.N) : t.val < 22 := (idx t).2.2.2.2.2.2.2.2.2.2

/-- The tile's rows, in the activations. -/
theorem b0 (c : Dev nD) (t : Fin cfg0.N) (r : Fin 1024) (k : Fin 2048) :
    iblk m c 0 t (ix2 r k) = mx m c (ix3 0 ⟨r.val, by omega⟩ k) := by
  blk_point [iblk, V, idx t]

/-- The norm's gains. -/
theorem b1 (c : Dev nD) (t : Fin cfg0.N) (k : Fin 2048) : iblk m c 1 t (ix2 0 k) = mg m c (ix2 0 k) := by
  blk_point [iblk, V, idx t]

/-- The gate's weights of a tile. -/
theorem b2 (c : Dev nD) (t : Fin cfg0.N) (k : Fin 2048) (q : Fin 256) :
    iblk m c 2 t (ix2 k q) = mw m c (ix3 0 k ⟨256 * t.val + q.val, by have := lt22 t; omega⟩) := by
  have := lt22 t
  blk_point [iblk, V, idx t]

/-- The other projection's weights of a tile. -/
theorem b3 (c : Dev nD) (t : Fin cfg0.N) (k : Fin 2048) (q : Fin 256) :
    iblk m c 3 t (ix2 k q) = mw m c (ix3 0 k ⟨5632 + (256 * t.val + q.val), by have := lt22 t; omega⟩) := by
  have := lt22 t
  blk_point [iblk, V, idx t]

/-- The second projection's weights of a tile. -/
theorem b4 (c : Dev nD) (t : Fin cfg0.N) (q : Fin 256) (p : Fin 2048) :
    iblk m c 4 t (ix2 q p) = mo m c (ix3 0 ⟨256 * t.val + q.val, by have := lt22 t; omega⟩ p) := by
  have := lt22 t
  blk_point [iblk, V, idx t]

/-- The closing norm's gains. -/
theorem b5 (c : Dev nD) (t : Fin cfg0.N) (k : Fin 2048) : iblk m c 5 t (ix2 0 k) = mf m c (ix1 k) := by
  blk_point [iblk, V, idx t]

/-- Row `r` as a token of the first sequence. -/
abbrev tok (r : Fin 1024) : Fin 4096 := ⟨r.val, by omega⟩

/-- The tile's normalized row is the token's. -/
theorem HN_eq (c : Dev nD) (t : Fin cfg0.N) (r : Fin 1024) : HN (iblk m c 0 t) (iblk m c 1 t) r = normed (mx m c) (mg m c) 0 (tok r) := by
  funext k
  unfold HN normed
  exact congrFun (congrArg₂ nrm (funext fun l => b1 m c t l) (funext fun l => b0 m c t r l)) k

/-- The shares of the hidden units in the second projection of a token, from the arguments on core `c`. -/
abbrev termAt (c : Dev nD) (r : Fin 1024) (p : Fin 2048) : ℕ → EReal := term (mx m c) (mg m c) (mw m c) (mo m c) 0 (tok r) p

/-- A tile's share is the sum of its units' shares. -/
theorem partT_eq (c : Dev nD) (t : Fin cfg0.N) (r : Fin 1024) (p : Fin 2048) :
    partT (normed (mx m c) (mg m c) 0 (tok r)) (iblk m c 2 t) (iblk m c 3 t) (iblk m c 4 t) p = ∑ q ∈ Finset.range 256, termAt m c r p (256 * t.val + q) := by
  have ht := lt22 t
  unfold partT
  rw [Finset.sum_range]
  refine Finset.sum_congr rfl fun q _ => ?_
  have hu : 256 * t.val + q.val < 5632 := by omega
  unfold termAt term
  rw [dif_pos hu]
  exact Ideal.mul_congr (congrArg₂ (gated _) (funext fun k => b2 m c t k q) (funext fun k => b3 m c t k q)) (b4 m c t q p)

/-- After a point the scratch holds the normalized rows, and before the last point the output holds the sum over the tiles so far. -/
theorem fold (c : Dev nD) (n : ℕ) (hn : n < cfg0.N) (r : Fin 1024) :
    (∀ k : Fin 2048, (outsAt0 m c n hn).2.2.2.2 (ix2 r k) = normed (mx m c) (mg m c) 0 (tok r) k ∨ n = 21)
      ∧ (n ≠ 21 → ∀ p : Fin 2048, (outsAt0 m c n hn).1 (ix2 r p) = ∑ u ∈ Finset.range (256 * (n + 1)), termAt m c r p u) := by
  induction n with
  | zero =>
    have hA := outA m c ⟨0, hn⟩ rfl
    refine ⟨fun k => Or.inl ?_, fun _ p => ?_⟩
    · refine (congrFun hA.2 (ix2 r k)).trans ?_
      exact congrFun (HN_eq m c ⟨0, hn⟩ r) k
    · refine (congrFun hA.1 (ix2 r p)).trans ?_
      show partT (HN (iblk m c 0 ⟨0, hn⟩) (iblk m c 1 ⟨0, hn⟩) r) _ _ _ p = _
      rw [HN_eq m c ⟨0, hn⟩ r, partT_eq m c ⟨0, hn⟩ r p]
      simp only [Nat.mul_zero, Nat.zero_add, Nat.mul_one]
  | succ n ih =>
    have hN : n + 1 < 22 := lt22 ⟨n + 1, hn⟩
    by_cases h21 : n + 1 = 21
    · exact ⟨fun k => Or.inr h21, fun e => absurd h21 e⟩
    · have hi := ih (by omega)
      have hs : ∀ k : Fin 2048, (outsAt0 m c n (by omega)).2.2.2.2 (ix2 r k) = normed (mx m c) (mg m c) 0 (tok r) k := fun k => (hi.1 k).resolve_right (by omega)
      have hB := outB m c ⟨n + 1, hn⟩ (by show (n + 1) % 22 ≠ 0; omega) (by show (n + 1) % 22 ≠ 21; omega)
      refine ⟨fun k => Or.inl ?_, fun _ p => ?_⟩
      · exact (congrFun hB.2 (ix2 r k)).trans (hs k)
      · refine (congrFun hB.1 (ix2 r p)).trans ?_
        show (outsAt0 m c n (by omega)).1 (ix2 r p) + partT (fun k => (outsAt0 m c n (by omega)).2.2.2.2 (ix2 r k)) _ _ _ p = _
        rw [funext hs, partT_eq m c ⟨n + 1, hn⟩ r p, hi.2 (by omega) p, show 256 * (n + 1 + 1) = 256 * (n + 1) + 256 by ring, Finset.sum_range_add]

/-- After the last point the output holds the tokens' results. -/
theorem last (c : Dev nD) (t : Fin cfg0.N) (h21 : t.val % 22 = 21) (r : Fin 1024) (p : Fin 2048) :
    (outsAt0 m c t.val t.isLt).1 (ix2 r p) = HeadLastSpec.rows (mx m c) (mg m c) (mw m c) (mo m c) (mf m c) (ix2 r p) := by
  have ht := lt22 t
  have hi := fold m c (t.val - 1) (Nat.lt_of_le_of_lt (Nat.sub_le _ _) t.isLt) r
  refine (outC m c t h21 r p).trans ?_
  unfold HeadLastSpec.rows
  refine congrArg₂ (fun g v => nrm g v p) (funext fun l => b5 m c t l) (funext fun l => ?_)
  unfold tileC FeedForward.row
  refine Ideal.add_congr (b0 m c t r l) (Ideal.mul_congr rfl ?_)
  show (outsAt0 m c (t.val - 1) _).1 (ix2 r l) + partT (fun k => (outsAt0 m c (t.val - 1) _).2.2.2.2 (ix2 r k)) _ _ _ l = proj (mx m c) (mg m c) (mw m c) (mo m c) 0 (tok r) l
  rw [funext fun k => (hi.1 k).resolve_right (by omega), partT_eq m c t r l, hi.2 (by omega) l, proj_eq, show t.val = 21 by omega]
  exact (Finset.sum_range_add _ 5376 256).symm

end Cert.HeadLastRun

end
-- ==== Proof.HeadLast.Ref.lean ====
/- The reference's results in the second half: the first tokens' normalized rows and the weights' tiles. -/
module

public import proofs.«01_k».proof.Proof.HeadLast.Spec
public import proofs.«01_k».proof.Proof.Gen.HeadLastRefIdeal.Read
public import Idealize.ShloMosaic.Lib.Pipeline.ValueKit
public import Idealize.ShloMosaic.Lib.KernelVsHost

@[expose] public section

set_option maxRecDepth 16384

noncomputable section

namespace Cert.HeadLastRefIdeal.Ref

open Cert.HeadLastRefIdeal Cert.HeadLastRefIdeal.Gen Cert.HeadLastRefIdeal.Read Idealize.ShloMosaic Idealize.ShloMosaic.TcCoe Idealize.SL.Sem

variable (x : FVec Ideal S4x4096x2048 .f32) (g : FVec Ideal S1x2048 .f32) (w : FVec Ideal S1x2048x11264 .f32) (wo : FVec Ideal S1x5632x2048 .f32)
  (fg : FVec Ideal S2048 .f32)

/-- The normalized tokens. -/
theorem v16_at (a : Fin 4) (s : Fin 4096) (k : Fin 2048) : val_main_v16 (F := Ideal) x g (ix3 a s k) = FeedForward.normed x g a s k := by
  pointwise [val_main_v16, val_main_v15, val_main_v14, val_main_v13, val_main_v12, val_main_v11, val_main_v10, val_main_v9, val_main_v8, val_main_v7,
    val_main_v6, val_main_v5, val_main_v4, val_main_v3, val_main_cst, val_main_cst_0, val_main_cst_1, FeedForward.normed, FeedForward.nrm]

/-- The first projection. -/
theorem v19_at (a : Fin 4) (s : Fin 4096) (p : Fin 11264) :
    val_main_v19 (F := Ideal) x g w (ix3 a s p) = ∑ k : Fin 2048, FeedForward.normed x g a s k * w (ix3 0 k p) := by
  pointwise [val_main_v19, val_main_v17]
  exact Finset.sum_congr rfl fun k _ => Ideal.mul_congr (v16_at x g a s k) rfl

/-- The hidden units. -/
theorem v23_at (a : Fin 4) (s : Fin 4096) (u : Fin 5632) : val_main_v23 (F := Ideal) x g w (ix3 a s u) = FeedForward.unit x g w a s u := by
  pointwise [val_main_v23, val_main_v22, val_main_v21, val_main_v20, val_main_call0_v5, val_main_call0_v4, val_main_call0_v3, val_main_call0_v2,
    val_main_call0_v1, val_main_call0_v0, val_main_call0_cst, val_main_call0_cst_0]
  rw [v19_at, v19_at]
  rfl

/-- The tokens with half of the layer's output added. -/
theorem v27_at (a : Fin 4) (s : Fin 4096) (p : Fin 2048) : val_main_v27 (F := Ideal) x g w wo (ix3 a s p) = FeedForward.row x g w wo a s p := by
  pointwise [val_main_v27, val_main_v26, val_main_v25, val_main_v24, val_main_v18, val_main_cst_2]
  unfold FeedForward.row FeedForward.proj
  exact Ideal.add_congr rfl (Ideal.mul_congr rfl (Finset.sum_congr rfl fun u _ => Ideal.mul_congr (v23_at x g w a s u) rfl))

/-- Those tokens, normalized. -/
theorem v40_at (a : Fin 4) (s : Fin 4096) (p : Fin 2048) : val_main_v40 (F := Ideal) x g w wo fg (ix3 a s p) =
    FeedForward.nrm (fun k => fg (ix1 k)) (FeedForward.row x g w wo a s) p := by
  pointwise [val_main_v40, val_main_v39, val_main_v38, val_main_v37, val_main_v36, val_main_v35, val_main_v34, val_main_v33, val_main_v32, val_main_v31,
    val_main_v30, val_main_v29, val_main_v28, val_main_cst_3, val_main_cst_4, val_main_cst_5]
  simp only [v27_at]
  rfl

/-- The rows. -/
theorem v42_eq : val_main_v42 (F := Ideal) x g w wo fg = HeadLastSpec.rows x g w wo fg := by
  funext i
  obtain ⟨r, p, rfl⟩ : ∃ (r : Fin 1024) (p : Fin 2048), i = ix2 r p := ⟨i 0, i 1, eq_ix2 i⟩
  unfold HeadLastSpec.rows
  pointwise [val_main_v42, val_main_v41]
  rw [v40_at]
  congr 2
  · exact Fin.ext (by show r.val / 4096 = 0; omega)
  · exact Fin.ext (by show r.val % 4096 = r.val; omega)

/-- The gate's weights in tiles, -/
theorem v45_eq : val_main_v45 (F := Ideal) w = HeadSpec.gates w := by
  funext i
  obtain ⟨j, k, q, rfl⟩ : ∃ (j : Fin 22) (k : Fin 2048) (q : Fin 256), i = ix3 j k q := ⟨i 0, i 1, i 2, eq_ix3 i⟩
  unfold HeadSpec.gates
  pointwise [val_main_v45, val_main_v44, val_main_v43, val_main_v1, val_main_v0]
  exact congrArg w (congrArg (ix3 0 k) (Fin.ext (by show j.val * 256 + q.val = 256 * j.val + q.val; omega)))

/-- the other projection's, -/
theorem v48_eq : val_main_v48 (F := Ideal) w = HeadSpec.ups w := by
  funext i
  obtain ⟨j, k, q, rfl⟩ : ∃ (j : Fin 22) (k : Fin 2048) (q : Fin 256), i = ix3 j k q := ⟨i 0, i 1, i 2, eq_ix3 i⟩
  unfold HeadSpec.ups
  pointwise [val_main_v48, val_main_v47, val_main_v46, val_main_v2, val_main_v0]
  exact congrArg w (congrArg (ix3 0 k) (Fin.ext (by show 5632 + (j.val * 256 + q.val) = 5632 + (256 * j.val + q.val); omega)))

/-- and the second projection's. -/
theorem v50_eq : val_main_v50 (F := Ideal) wo = HeadSpec.seconds wo := by
  funext i
  obtain ⟨u, p, rfl⟩ : ∃ (u : Fin 5632) (p : Fin 2048), i = ix2 u p := ⟨i 0, i 1, eq_ix2 i⟩
  unfold HeadSpec.seconds
  pointwise [val_main_v50, val_main_v49]

end Cert.HeadLastRefIdeal.Ref

end
-- ==== Proof.HeadLast.Final.lean ====
/- The claims of the first row tile's call in the second half: both frames from one run, the reference's frame, and the results against the reference. -/
module

public import proofs.«01_k».proof.Defs
public import proofs.«01_k».proof.Proof.HeadLast.Fold
public import proofs.«01_k».proof.Proof.HeadLast.Ref
public import proofs.«01_k».proof.Proof.Gen.HeadLast
public import proofs.«01_k».proof.Proof.Gen.HeadLastIdeal.Value
public import proofs.«01_k».proof.Proof.Gen.HeadLastRefIdeal.Run
public import Idealize.ShloMosaic.Lib.Pipeline.ValueKit
public import Idealize.ShloMosaic.Lib.Claim

@[expose] public section

set_option maxRecDepth 16384

noncomputable section

namespace Cert.HeadLastFinal

open Idealize.ShloMosaic Idealize.ShloMosaic.TcCoe Idealize.SL.Sem

section
open Cert.FeedForward Cert.HeadLastIdeal Cert.HeadLastIdeal.Gen Cert.HeadLastRun
open Idealize.ShloMosaic.Pipeline (Dat)

attribute [local irreducible] kernelRun0_A kernelRun0_B kernelRun0_C outsAt0

variable (m : (ℓ : Loc nD τ sig) → Buf (Elt Ideal) ℓ) (c : Dev nD)

/-- The output's write-back after the last point carries whatever that point leaves in the buffer, -/
theorem arr6_of (G : FVec Ideal S1024x2048 .f32)
    (hG : ∀ (t : Fin cfg0.N), t.val % 22 = 21 → ∀ (r : Fin 1024) (p : Fin 2048), (outsAt0 m c t.val t.isLt).1 (ix2 r p) = G (ix2 r p)) :
    (dats m 0 c).arrAt 6 cfg0.N = G := by
  refine Dat.arrAt_eq_of_covers _ 6 _ (by decide +kernel) fun t hf y => ?_
  have h21 := (flush0_6 t).mp hf
  blk_simp
  idx_vars y
  rw [after0_6]
  refine (hG t h21 _ _).trans ?_
  blk_point [idx t]

/-- so the output array holds the tokens' rows, -/
theorem arr6 : (dats m 0 c).arrAt 6 cfg0.N = HeadLastSpec.rows (mx m c) (mg m c) (mw m c) (mo m c) (mf m c) :=
  arr6_of m c _ (last m c)

/-- the tiles' arrays hold the gate's weights, -/
theorem arr7 : (dats m 0 c).arrAt 7 cfg0.N = HeadSpec.gates (mw m c) := by
  refine Dat.arrAt_eq_of_covers _ 7 _ (by decide +kernel) fun t hf y => ?_
  have ht := lt22 t
  blk_simp
  idx_vars y
  rw [after0_7, (outW m c t).1]
  refine (b2 m c t _ _).trans ?_
  unfold HeadSpec.gates
  blk_point [idx t]

/-- the other projection's, -/
theorem arr8 : (dats m 0 c).arrAt 8 cfg0.N = HeadSpec.ups (mw m c) := by
  refine Dat.arrAt_eq_of_covers _ 8 _ (by decide +kernel) fun t hf y => ?_
  have ht := lt22 t
  blk_simp
  idx_vars y
  rw [after0_8, (outW m c t).2.1]
  refine (b3 m c t _ _).trans ?_
  unfold HeadSpec.ups
  blk_point [idx t]

/-- and the second projection's. -/
theorem arr9 : (dats m 0 c).arrAt 9 cfg0.N = HeadSpec.seconds (mo m c) := by
  refine Dat.arrAt_eq_of_covers _ 9 _ (by decide +kernel) fun t hf y => ?_
  have ht := lt22 t
  blk_simp
  idx_vars y
  rw [after0_9, (outW m c t).2.2]
  refine (b4 m c t _ _).trans ?_
  unfold HeadSpec.seconds
  blk_point [idx t]

/-- The call's four result arrays after the run, as functions of the arguments, which end as they were. -/
theorem result (ρ : Dev nD → PrngReg) : θ_run defs (onTc (τ := τ) (main (F := Ideal))) ⟨m, fun _ => 0, ρ⟩ (fun r => ∀ c : Dev nD,
      r.2.mem ((c.tc : Thread nD τ).loc main_v6_0) = HeadLastSpec.rows (mx m c) (mg m c) (mw m c) (mo m c) (mf m c)
      ∧ r.2.mem ((c.tc : Thread nD τ).loc main_v6_1) = HeadSpec.gates (mw m c)
      ∧ r.2.mem ((c.tc : Thread nD τ).loc main_v6_2) = HeadSpec.ups (mw m c)
      ∧ r.2.mem ((c.tc : Thread nD τ).loc main_v6_3) = HeadSpec.seconds (mo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (arr6 m c), (h c).2.1.trans (arr7 m c), (h c).2.2.1.trans (arr8 m c),
    (h c).2.2.2.1.trans (arr9 m c), (h c).2.2.2.2⟩) (Value.run_blocks m ρ)

end

section
open Cert.HeadLastRefIdeal Cert.HeadLastRefIdeal.Read StableHlo

/-- What the reference leaves, as its stages over the arguments. -/
theorem runRef (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v45) = val_main_v45 (F := Ideal) (m ((c.tc : Thread nD τ).loc main_arg2))
      ∧ r.2.mem ((c.tc : Thread nD τ).loc main_v48) = val_main_v48 (F := Ideal) (m ((c.tc : Thread nD τ).loc main_arg2))
      ∧ r.2.mem ((c.tc : Thread nD τ).loc main_v50) = val_main_v50 (F := Ideal) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v42_eq m c), (h c).2.1.trans (val_main_v45_eq _),
    (h c).2.2.1.trans (val_main_v48_eq _), (h c).2.2.2.1.trans (val_main_v50_eq _), (h c).2.2.2.2⟩) (Value.run m ρ)

end

/-- The program as printed and the idealized one run the same body, read at the formats' words. -/
theorem body_eq : Cert.HeadLast.defs₀ (F := Bits) = Cert.HeadLastIdeal.defs₀ (F := Bits) := by
  unfold Cert.HeadLast.defs₀ Cert.HeadLastIdeal.defs₀
  refine congrArg _ (funext fun l => funext fun a => ?_)
  match l, a with
  | 0, (t, s) => rfl

/-- So they have the same table of bodies. -/
theorem defs_eq : Cert.HeadLast.defs (F := Bits) = Cert.HeadLastIdeal.defs (F := Bits) :=
  congrArg (Pipeline.defs (Cert.HeadLastIdeal.pcfgs (F := Bits))) body_eq

/-- The program as printed keeps its arguments: it is the text the run is about. -/
theorem frame_kernel : Cert.quiescent_HeadLast := fun m ρ _ => by
  rw [defs_eq]
  exact Cert.HeadLastIdeal.Gen.frame (F := Bits) m ρ

/-- So does the idealized one. -/
theorem frame_ideal : Cert.quiescent_HeadLastIdeal := fun m ρ _ => Cert.HeadLastIdeal.Gen.frame (F := Ideal) m ρ

/-- And the reference. -/
theorem frame_ref : Cert.quiescent_HeadLastRefIdeal := fun m ρ _ =>
  (θ_run Cert.HeadLastRefIdeal.defs _ _).mono (fun r h => ⟨fun c => (h c).2.2.2.2, sem_eq_zero_of_no_sems (by decide) r.2⟩) (runRef m ρ)

/-- The kernel's results are the reference's. -/
theorem algebraic : Cert.algebraic_HeadLastIdeal_HeadLastRefIdeal := by
  pair_intro
  · run_from result m g
  · run_from runRef m' g'
    · exact Cert.HeadLastRefIdeal.Ref.v42_eq _ _ _ _ _
    · exact Cert.HeadLastRefIdeal.Ref.v45_eq _
    · exact Cert.HeadLastRefIdeal.Ref.v48_eq _
    · exact Cert.HeadLastRefIdeal.Ref.v50_eq _

end Cert.HeadLastFinal

end
-- ==== Proof.lean ====
/- The certificate of five calls: the two of each feed-forward half and the pooling mixer's first one. Each runs and leaves its arguments alone, at the machine's floats and at exact
   ones, and at exact floats its results are the reference's. -/
module

public import proofs.«01_k».proof.Defs
public import proofs.«01_k».proof.Proof.Gen.MixIn
public import proofs.«01_k».proof.Proof.Gen.MixIn.Frame
public import proofs.«01_k».proof.Proof.Gen.MixInIdeal
public import proofs.«01_k».proof.Proof.Gen.MixInIdeal.Frame
public import proofs.«01_k».proof.Proof.Gen.MixInRefIdeal
public import proofs.«01_k».proof.Proof.MixIn.Final
public import proofs.«01_k».proof.Proof.Gen.Tail
public import proofs.«01_k».proof.Proof.Gen.TailIdeal
public import proofs.«01_k».proof.Proof.Gen.TailRefIdeal
public import proofs.«01_k».proof.Proof.Tail.Final
public import proofs.«01_k».proof.Proof.Gen.Half
public import proofs.«01_k».proof.Proof.Gen.HalfIdeal
public import proofs.«01_k».proof.Proof.Gen.HalfRefIdeal
public import proofs.«01_k».proof.Proof.Half.Final
public import proofs.«01_k».proof.Proof.Gen.Head
public import proofs.«01_k».proof.Proof.Gen.HeadIdeal
public import proofs.«01_k».proof.Proof.Gen.HeadIdeal.Frame
public import proofs.«01_k».proof.Proof.Gen.HeadIdeal.Skeleton
public import proofs.«01_k».proof.Proof.Gen.HeadIdeal.Value
public import proofs.«01_k».proof.Proof.Gen.HeadRefIdeal
public import proofs.«01_k».proof.Proof.Gen.HeadRefIdeal.Read
public import proofs.«01_k».proof.Proof.Gen.HeadRefIdeal.Run
public import proofs.«01_k».proof.Proof.Head.Final
public import proofs.«01_k».proof.Proof.Gen.HeadLast
public import proofs.«01_k».proof.Proof.Gen.HeadLastIdeal
public import proofs.«01_k».proof.Proof.Gen.HeadLastIdeal.Frame
public import proofs.«01_k».proof.Proof.Gen.HeadLastIdeal.Skeleton
public import proofs.«01_k».proof.Proof.Gen.HeadLastIdeal.Value
public import proofs.«01_k».proof.Proof.Gen.HeadLastRefIdeal
public import proofs.«01_k».proof.Proof.Gen.HeadLastRefIdeal.Read
public import proofs.«01_k».proof.Proof.Gen.HeadLastRefIdeal.Run
public import proofs.«01_k».proof.Proof.HeadLast.Final
public import Idealize.ShloMosaic.Lib.Claim
public import Idealize.ShloMosaic.Adequacy
public import Idealize.ShloMosaic.Init

@[expose] public section

noncomputable section

namespace Cert.Proof

open Idealize.ShloMosaic Idealize.SL.Sem

/-- The reference runs, leaves its arguments alone and ends with every semaphore at zero. -/
theorem refFrame : Cert.quiescent_MixInRefIdeal (hMixInRefIdeal := Cert.MixInRefIdeal.Gen.facts) :=
  fun m g _ => (θ_run Cert.MixInRefIdeal.defs _ _).mono (fun r h => ⟨fun c => (h c).2.2, sem_eq_zero_of_no_sems (by decide) r.2⟩)
    (Cert.MixFinal.runRef m g)

/-- Every claim of the certificate. -/
theorem claim : Cert.Claim := ⟨Cert.MixIn.Gen.facts, Cert.MixInIdeal.Gen.facts, Cert.MixInRefIdeal.Gen.facts,
  Cert.Tail.Gen.facts, Cert.TailIdeal.Gen.facts, Cert.TailRefIdeal.Gen.facts,
  Cert.Half.Gen.facts, Cert.HalfIdeal.Gen.facts, Cert.HalfRefIdeal.Gen.facts,
  Cert.Head.Gen.facts, Cert.HeadIdeal.Gen.facts, Cert.HeadRefIdeal.Gen.facts,
  Cert.HeadLast.Gen.facts, Cert.HeadLastIdeal.Gen.facts, Cert.HeadLastRefIdeal.Gen.facts, Cert.MixFinal.preFacts,
  fun m g _ => Cert.MixIn.Gen.frame m g, fun m g _ => Cert.MixInIdeal.Gen.frame m g, fun m g _ => Cert.MixInIdeal.Gen.frame m g,
  refFrame, fun m g _ => refFrame m g trivial,
  Cert.TailFinal.frame_kernel, Cert.TailFinal.frame_ideal, Cert.TailFinal.frame_ref,
  Cert.HalfFinal.frame_kernel, Cert.HalfFinal.frame_ideal, Cert.HalfFinal.frame_ref,
  Cert.HeadFinal.frame_kernel, Cert.HeadFinal.frame_ideal, Cert.HeadFinal.frame_ref,
  Cert.HeadLastFinal.frame_kernel, Cert.HeadLastFinal.frame_ideal, Cert.HeadLastFinal.frame_ref,
  trivial, Cert.MixFinal.algebraic, trivial, Cert.TailFinal.algebraic, trivial, Cert.HalfFinal.algebraic,
  trivial, Cert.HeadFinal.algebraic, trivial, Cert.HeadLastFinal.algebraic⟩

end Cert.Proof

end
